-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2 = (fun _ => 1#1)

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12)
      ∧ r.2.mem ((c.tc : Thread Cert.Ffn.nD Cert.Ffn.τ).loc Cert.Ffn.main_arg13) = m ((c.tc : Thread Cert.Ffn.nD Cert.Ffn.τ).loc Cert.Ffn.main_arg13)
      ∧ r.2.mem ((c.tc : Thread Cert.Ffn.nD Cert.Ffn.τ).loc Cert.Ffn.main_arg14) = m ((c.tc : Thread Cert.Ffn.nD Cert.Ffn.τ).loc Cert.Ffn.main_arg14)
      ∧ r.2.mem ((c.tc : Thread Cert.Ffn.nD Cert.Ffn.τ).loc Cert.Ffn.main_arg15) = m ((c.tc : Thread Cert.Ffn.nD Cert.Ffn.τ).loc Cert.Ffn.main_arg15)
      ∧ r.2.mem ((c.tc : Thread Cert.Ffn.nD Cert.Ffn.τ).loc Cert.Ffn.main_arg16) = m ((c.tc : Thread Cert.Ffn.nD Cert.Ffn.τ).loc Cert.Ffn.main_arg16)
      ∧ r.2.mem ((c.tc : Thread Cert.Ffn.nD Cert.Ffn.τ).loc Cert.Ffn.main_arg17) = m ((c.tc : Thread Cert.Ffn.nD Cert.Ffn.τ).loc Cert.Ffn.main_arg17)
      ∧ r.2.mem ((c.tc : Thread Cert.Ffn.nD Cert.Ffn.τ).loc Cert.Ffn.main_arg18) = m ((c.tc : Thread Cert.Ffn.nD Cert.Ffn.τ).loc Cert.Ffn.main_arg18)
      ∧ r.2.mem ((c.tc : Thread Cert.Ffn.nD Cert.Ffn.τ).loc Cert.Ffn.main_arg19) = m ((c.tc : Thread Cert.Ffn.nD Cert.Ffn.τ).loc Cert.Ffn.main_arg19)
      ∧ r.2.mem ((c.tc : Thread Cert.Ffn.nD Cert.Ffn.τ).loc Cert.Ffn.main_arg20) = m ((c.tc : Thread Cert.Ffn.nD Cert.Ffn.τ).loc Cert.Ffn.main_arg20)
      ∧ r.2.mem ((c.tc : Thread Cert.Ffn.nD Cert.Ffn.τ).loc Cert.Ffn.main_arg21) = m ((c.tc : Thread Cert.Ffn.nD Cert.Ffn.τ).loc Cert.Ffn.main_arg21)
      ∧ r.2.mem ((c.tc : Thread Cert.Ffn.nD Cert.Ffn.τ).loc Cert.Ffn.main_arg22) = m ((c.tc : Thread Cert.Ffn.nD Cert.Ffn.τ).loc Cert.Ffn.main_arg22)
      ∧ r.2.mem ((c.tc : Thread Cert.Ffn.nD Cert.Ffn.τ).loc Cert.Ffn.main_arg23) = m ((c.tc : Thread Cert.Ffn.nD Cert.Ffn.τ).loc Cert.Ffn.main_arg23)
      ∧ r.2.mem ((c.tc : Thread Cert.Ffn.nD Cert.Ffn.τ).loc Cert.Ffn.main_arg24) = m ((c.tc : Thread Cert.Ffn.nD Cert.Ffn.τ).loc Cert.Ffn.main_arg24))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
      ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13)
      ∧ r.2.mem ((c.tc : Thread Cert.FfnIdeal.nD Cert.FfnIdeal.τ).loc Cert.FfnIdeal.main_arg14) = m ((c.tc : Thread Cert.FfnIdeal.nD Cert.FfnIdeal.τ).loc Cert.FfnIdeal.main_arg14)
      ∧ r.2.mem ((c.tc : Thread Cert.FfnIdeal.nD Cert.FfnIdeal.τ).loc Cert.FfnIdeal.main_arg15) = m ((c.tc : Thread Cert.FfnIdeal.nD Cert.FfnIdeal.τ).loc Cert.FfnIdeal.main_arg15)
      ∧ r.2.mem ((c.tc : Thread Cert.FfnIdeal.nD Cert.FfnIdeal.τ).loc Cert.FfnIdeal.main_arg16) = m ((c.tc : Thread Cert.FfnIdeal.nD Cert.FfnIdeal.τ).loc Cert.FfnIdeal.main_arg16)
      ∧ r.2.mem ((c.tc : Thread Cert.FfnIdeal.nD Cert.FfnIdeal.τ).loc Cert.FfnIdeal.main_arg17) = m ((c.tc : Thread Cert.FfnIdeal.nD Cert.FfnIdeal.τ).loc Cert.FfnIdeal.main_arg17)
      ∧ r.2.mem ((c.tc : Thread Cert.FfnIdeal.nD Cert.FfnIdeal.τ).loc Cert.FfnIdeal.main_arg18) = m ((c.tc : Thread Cert.FfnIdeal.nD Cert.FfnIdeal.τ).loc Cert.FfnIdeal.main_arg18)
      ∧ r.2.mem ((c.tc : Thread Cert.FfnIdeal.nD Cert.FfnIdeal.τ).loc Cert.FfnIdeal.main_arg19) = m ((c.tc : Thread Cert.FfnIdeal.nD Cert.FfnIdeal.τ).loc Cert.FfnIdeal.main_arg19)
      ∧ r.2.mem ((c.tc : Thread Cert.FfnIdeal.nD Cert.FfnIdeal.τ).loc Cert.FfnIdeal.main_arg20) = m ((c.tc : Thread Cert.FfnIdeal.nD Cert.FfnIdeal.τ).loc Cert.FfnIdeal.main_arg20)
      ∧ r.2.mem ((c.tc : Thread Cert.FfnIdeal.nD Cert.FfnIdeal.τ).loc Cert.FfnIdeal.main_arg21) = m ((c.tc : Thread Cert.FfnIdeal.nD Cert.FfnIdeal.τ).loc Cert.FfnIdeal.main_arg21)
      ∧ r.2.mem ((c.tc : Thread Cert.FfnIdeal.nD Cert.FfnIdeal.τ).loc Cert.FfnIdeal.main_arg22) = m ((c.tc : Thread Cert.FfnIdeal.nD Cert.FfnIdeal.τ).loc Cert.FfnIdeal.main_arg22)
      ∧ r.2.mem ((c.tc : Thread Cert.FfnIdeal.nD Cert.FfnIdeal.τ).loc Cert.FfnIdeal.main_arg23) = m ((c.tc : Thread Cert.FfnIdeal.nD Cert.FfnIdeal.τ).loc Cert.FfnIdeal.main_arg23)
      ∧ r.2.mem ((c.tc : Thread Cert.FfnIdeal.nD Cert.FfnIdeal.τ).loc Cert.FfnIdeal.main_arg24) = m ((c.tc : Thread Cert.FfnIdeal.nD Cert.FfnIdeal.τ).loc Cert.FfnIdeal.main_arg24))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11)
      ∧ r.2.mem ((c.tc : Thread Cert.FfnRefIdeal.nD Cert.FfnRefIdeal.τ).loc Cert.FfnRefIdeal.main_arg12) = m ((c.tc : Thread Cert.FfnRefIdeal.nD Cert.FfnRefIdeal.τ).loc Cert.FfnRefIdeal.main_arg12)
      ∧ r.2.mem ((c.tc : Thread Cert.FfnRefIdeal.nD Cert.FfnRefIdeal.τ).loc Cert.FfnRefIdeal.main_arg13) = m ((c.tc : Thread Cert.FfnRefIdeal.nD Cert.FfnRefIdeal.τ).loc Cert.FfnRefIdeal.main_arg13)
      ∧ r.2.mem ((c.tc : Thread Cert.FfnRefIdeal.nD Cert.FfnRefIdeal.τ).loc Cert.FfnRefIdeal.main_arg14) = m ((c.tc : Thread Cert.FfnRefIdeal.nD Cert.FfnRefIdeal.τ).loc Cert.FfnRefIdeal.main_arg14)
      ∧ r.2.mem ((c.tc : Thread Cert.FfnRefIdeal.nD Cert.FfnRefIdeal.τ).loc Cert.FfnRefIdeal.main_arg15) = m ((c.tc : Thread Cert.FfnRefIdeal.nD Cert.FfnRefIdeal.τ).loc Cert.FfnRefIdeal.main_arg15)
      ∧ r.2.mem ((c.tc : Thread Cert.FfnRefIdeal.nD Cert.FfnRefIdeal.τ).loc Cert.FfnRefIdeal.main_arg16) = m ((c.tc : Thread Cert.FfnRefIdeal.nD Cert.FfnRefIdeal.τ).loc Cert.FfnRefIdeal.main_arg16)
      ∧ r.2.mem ((c.tc : Thread Cert.FfnRefIdeal.nD Cert.FfnRefIdeal.τ).loc Cert.FfnRefIdeal.main_arg17) = m ((c.tc : Thread Cert.FfnRefIdeal.nD Cert.FfnRefIdeal.τ).loc Cert.FfnRefIdeal.main_arg17)
      ∧ r.2.mem ((c.tc : Thread Cert.FfnRefIdeal.nD Cert.FfnRefIdeal.τ).loc Cert.FfnRefIdeal.main_arg18) = m ((c.tc : Thread Cert.FfnRefIdeal.nD Cert.FfnRefIdeal.τ).loc Cert.FfnRefIdeal.main_arg18)
      ∧ r.2.mem ((c.tc : Thread Cert.FfnRefIdeal.nD Cert.FfnRefIdeal.τ).loc Cert.FfnRefIdeal.main_arg19) = m ((c.tc : Thread Cert.FfnRefIdeal.nD Cert.FfnRefIdeal.τ).loc Cert.FfnRefIdeal.main_arg19)
      ∧ r.2.mem ((c.tc : Thread Cert.FfnRefIdeal.nD Cert.FfnRefIdeal.τ).loc Cert.FfnRefIdeal.main_arg20) = m ((c.tc : Thread Cert.FfnRefIdeal.nD Cert.FfnRefIdeal.τ).loc Cert.FfnRefIdeal.main_arg20)
      ∧ r.2.mem ((c.tc : Thread Cert.FfnRefIdeal.nD Cert.FfnRefIdeal.τ).loc Cert.FfnRefIdeal.main_arg21) = m ((c.tc : Thread Cert.FfnRefIdeal.nD Cert.FfnRefIdeal.τ).loc Cert.FfnRefIdeal.main_arg21)
      ∧ r.2.mem ((c.tc : Thread Cert.FfnRefIdeal.nD Cert.FfnRefIdeal.τ).loc Cert.FfnRefIdeal.main_arg22) = m ((c.tc : Thread Cert.FfnRefIdeal.nD Cert.FfnRefIdeal.τ).loc Cert.FfnRefIdeal.main_arg22)
      ∧ r.2.mem ((c.tc : Thread Cert.FfnRefIdeal.nD Cert.FfnRefIdeal.τ).loc Cert.FfnRefIdeal.main_arg23) = m ((c.tc : Thread Cert.FfnRefIdeal.nD Cert.FfnRefIdeal.τ).loc Cert.FfnRefIdeal.main_arg23)
      ∧ r.2.mem ((c.tc : Thread Cert.FfnRefIdeal.nD Cert.FfnRefIdeal.τ).loc Cert.FfnRefIdeal.main_arg24) = m ((c.tc : Thread Cert.FfnRefIdeal.nD Cert.FfnRefIdeal.τ).loc Cert.FfnRefIdeal.main_arg24))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e_gate" .f32 0x3DB8AA3B#32 (((1 / 16) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Sample_SampleIdeal : Prop :=
  IdealRules.named_const.Statement Cert.SampleIdeal.κ "neg_log2e" .f32 0xBFB8AA3B#32 ((-((Real.log 2)⁻¹) : ℝ) : EReal)
  ∧ IdealRules.named_const.Statement Cert.SampleIdeal.κ "log2e_gate" .f32 0x3DB8AA3B#32 (((1 / 16) * (Real.log 2)⁻¹ : ℝ) : EReal)

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)
      ∧ m' ((c.tc : Thread Cert.SampleRefIdeal.nD Cert.SampleRefIdeal.τ).loc Cert.SampleRefIdeal.main_arg9) = m ((c.tc : Thread Cert.SampleIdeal.nD Cert.SampleIdeal.τ).loc Cert.SampleIdeal.main_arg9)
      ∧ m' ((c.tc : Thread Cert.SampleRefIdeal.nD Cert.SampleRefIdeal.τ).loc Cert.SampleRefIdeal.main_arg10) = m ((c.tc : Thread Cert.SampleIdeal.nD Cert.SampleIdeal.τ).loc Cert.SampleIdeal.main_arg10)) →
    ∃ (v0 : (c : Dev Cert.SampleIdeal.nD) → Buf (Elt Ideal) ((c.tc : Thread Cert.SampleIdeal.nD Cert.SampleIdeal.τ).loc Cert.SampleIdeal.main_v4_0)) (v1 : (c : Dev Cert.SampleIdeal.nD) → Buf (Elt Ideal) ((c.tc : Thread Cert.SampleIdeal.nD Cert.SampleIdeal.τ).loc Cert.SampleIdeal.main_v4_1)) (v2 : (c : Dev Cert.SampleIdeal.nD) → Buf (Elt Ideal) ((c.tc : Thread Cert.SampleIdeal.nD Cert.SampleIdeal.τ).loc Cert.SampleIdeal.main_v4_2)) (v3 : (c : Dev Cert.SampleIdeal.nD) → Buf (Elt Ideal) ((c.tc : Thread Cert.SampleIdeal.nD Cert.SampleIdeal.τ).loc Cert.SampleIdeal.main_v4_3)) (v4 : (c : Dev Cert.SampleIdeal.nD) → Buf (Elt Ideal) ((c.tc : Thread Cert.SampleIdeal.nD Cert.SampleIdeal.τ).loc Cert.SampleIdeal.main_v4_4)) (v5 : (c : Dev Cert.SampleIdeal.nD) → Buf (Elt Ideal) ((c.tc : Thread Cert.SampleIdeal.nD Cert.SampleIdeal.τ).loc Cert.SampleIdeal.main_v4_5)) (v6 : (c : Dev Cert.SampleIdeal.nD) → Buf (Elt Ideal) ((c.tc : Thread Cert.SampleIdeal.nD Cert.SampleIdeal.τ).loc Cert.SampleIdeal.main_v4_6)) (v7 : (c : Dev Cert.SampleIdeal.nD) → Buf (Elt Ideal) ((c.tc : Thread Cert.SampleIdeal.nD Cert.SampleIdeal.τ).loc Cert.SampleIdeal.main_v4_7)) (v8 : (c : Dev Cert.SampleIdeal.nD) → Buf (Elt Ideal) ((c.tc : Thread Cert.SampleIdeal.nD Cert.SampleIdeal.τ).loc Cert.SampleIdeal.main_v4_8)) (v9 : (c : Dev Cert.SampleIdeal.nD) → Buf (Elt Ideal) ((c.tc : Thread Cert.SampleIdeal.nD Cert.SampleIdeal.τ).loc Cert.SampleIdeal.main_v4_9)) (v10 : (c : Dev Cert.SampleIdeal.nD) → Buf (Elt Ideal) ((c.tc : Thread Cert.SampleIdeal.nD Cert.SampleIdeal.τ).loc Cert.SampleIdeal.main_v4_10)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v4_0) = v0 c
          ∧ r.2.mem ((c.tc : Thread Cert.SampleIdeal.nD Cert.SampleIdeal.τ).loc Cert.SampleIdeal.main_v4_1) = v1 c
          ∧ r.2.mem ((c.tc : Thread Cert.SampleIdeal.nD Cert.SampleIdeal.τ).loc Cert.SampleIdeal.main_v4_2) = v2 c
          ∧ r.2.mem ((c.tc : Thread Cert.SampleIdeal.nD Cert.SampleIdeal.τ).loc Cert.SampleIdeal.main_v4_3) = v3 c
          ∧ r.2.mem ((c.tc : Thread Cert.SampleIdeal.nD Cert.SampleIdeal.τ).loc Cert.SampleIdeal.main_v4_4) = v4 c
          ∧ r.2.mem ((c.tc : Thread Cert.SampleIdeal.nD Cert.SampleIdeal.τ).loc Cert.SampleIdeal.main_v4_5) = v5 c
          ∧ r.2.mem ((c.tc : Thread Cert.SampleIdeal.nD Cert.SampleIdeal.τ).loc Cert.SampleIdeal.main_v4_6) = v6 c
          ∧ r.2.mem ((c.tc : Thread Cert.SampleIdeal.nD Cert.SampleIdeal.τ).loc Cert.SampleIdeal.main_v4_7) = v7 c
          ∧ r.2.mem ((c.tc : Thread Cert.SampleIdeal.nD Cert.SampleIdeal.τ).loc Cert.SampleIdeal.main_v4_8) = v8 c
          ∧ r.2.mem ((c.tc : Thread Cert.SampleIdeal.nD Cert.SampleIdeal.τ).loc Cert.SampleIdeal.main_v4_9) = v9 c
          ∧ r.2.mem ((c.tc : Thread Cert.SampleIdeal.nD Cert.SampleIdeal.τ).loc Cert.SampleIdeal.main_v4_10) = v10 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v51) = v0 c
          ∧ r.2.mem ((c.tc : Thread Cert.SampleRefIdeal.nD Cert.SampleRefIdeal.τ).loc Cert.SampleRefIdeal.main_v65) = v1 c
          ∧ r.2.mem ((c.tc : Thread Cert.SampleRefIdeal.nD Cert.SampleRefIdeal.τ).loc Cert.SampleRefIdeal.main_v66) = v2 c
          ∧ r.2.mem ((c.tc : Thread Cert.SampleRefIdeal.nD Cert.SampleRefIdeal.τ).loc Cert.SampleRefIdeal.main_v67) = v3 c
          ∧ r.2.mem ((c.tc : Thread Cert.SampleRefIdeal.nD Cert.SampleRefIdeal.τ).loc Cert.SampleRefIdeal.main_v68) = v4 c
          ∧ r.2.mem ((c.tc : Thread Cert.SampleRefIdeal.nD Cert.SampleRefIdeal.τ).loc Cert.SampleRefIdeal.main_v69) = v5 c
          ∧ r.2.mem ((c.tc : Thread Cert.SampleRefIdeal.nD Cert.SampleRefIdeal.τ).loc Cert.SampleRefIdeal.main_v70) = v6 c
          ∧ r.2.mem ((c.tc : Thread Cert.SampleRefIdeal.nD Cert.SampleRefIdeal.τ).loc Cert.SampleRefIdeal.main_v71) = v7 c
          ∧ r.2.mem ((c.tc : Thread Cert.SampleRefIdeal.nD Cert.SampleRefIdeal.τ).loc Cert.SampleRefIdeal.main_v72) = v8 c
          ∧ r.2.mem ((c.tc : Thread Cert.SampleRefIdeal.nD Cert.SampleRefIdeal.τ).loc Cert.SampleRefIdeal.main_v73) = v9 c
          ∧ r.2.mem ((c.tc : Thread Cert.SampleRefIdeal.nD Cert.SampleRefIdeal.τ).loc Cert.SampleRefIdeal.main_v74) = v10 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8)
          ∧ r.2.mem ((c.tc : Thread Cert.SampleRefIdeal.nD Cert.SampleRefIdeal.τ).loc Cert.SampleRefIdeal.main_arg9) = m' ((c.tc : Thread Cert.SampleRefIdeal.nD Cert.SampleRefIdeal.τ).loc Cert.SampleRefIdeal.main_arg9)
          ∧ r.2.mem ((c.tc : Thread Cert.SampleRefIdeal.nD Cert.SampleRefIdeal.τ).loc Cert.SampleRefIdeal.main_arg10) = m' ((c.tc : Thread Cert.SampleRefIdeal.nD Cert.SampleRefIdeal.τ).loc Cert.SampleRefIdeal.main_arg10))

def preserves_Ffn_FfnIdeal : Prop :=
  IdealRules.named_const.Statement Cert.FfnIdeal.κ "neg_log2e" .f32 0xBFB8AA3B#32 ((-((Real.log 2)⁻¹) : ℝ) : EReal)

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)
      ∧ m' ((c.tc : Thread Cert.FfnRefIdeal.nD Cert.FfnRefIdeal.τ).loc Cert.FfnRefIdeal.main_arg12) = m ((c.tc : Thread Cert.FfnIdeal.nD Cert.FfnIdeal.τ).loc Cert.FfnIdeal.main_arg12)
      ∧ m' ((c.tc : Thread Cert.FfnRefIdeal.nD Cert.FfnRefIdeal.τ).loc Cert.FfnRefIdeal.main_arg13) = m ((c.tc : Thread Cert.FfnIdeal.nD Cert.FfnIdeal.τ).loc Cert.FfnIdeal.main_arg13)
      ∧ m' ((c.tc : Thread Cert.FfnRefIdeal.nD Cert.FfnRefIdeal.τ).loc Cert.FfnRefIdeal.main_arg14) = m ((c.tc : Thread Cert.FfnIdeal.nD Cert.FfnIdeal.τ).loc Cert.FfnIdeal.main_arg14)
      ∧ m' ((c.tc : Thread Cert.FfnRefIdeal.nD Cert.FfnRefIdeal.τ).loc Cert.FfnRefIdeal.main_arg15) = m ((c.tc : Thread Cert.FfnIdeal.nD Cert.FfnIdeal.τ).loc Cert.FfnIdeal.main_arg15)
      ∧ m' ((c.tc : Thread Cert.FfnRefIdeal.nD Cert.FfnRefIdeal.τ).loc Cert.FfnRefIdeal.main_arg16) = m ((c.tc : Thread Cert.FfnIdeal.nD Cert.FfnIdeal.τ).loc Cert.FfnIdeal.main_arg16)
      ∧ m' ((c.tc : Thread Cert.FfnRefIdeal.nD Cert.FfnRefIdeal.τ).loc Cert.FfnRefIdeal.main_arg17) = m ((c.tc : Thread Cert.FfnIdeal.nD Cert.FfnIdeal.τ).loc Cert.FfnIdeal.main_arg17)
      ∧ m' ((c.tc : Thread Cert.FfnRefIdeal.nD Cert.FfnRefIdeal.τ).loc Cert.FfnRefIdeal.main_arg18) = m ((c.tc : Thread Cert.FfnIdeal.nD Cert.FfnIdeal.τ).loc Cert.FfnIdeal.main_arg18)
      ∧ m' ((c.tc : Thread Cert.FfnRefIdeal.nD Cert.FfnRefIdeal.τ).loc Cert.FfnRefIdeal.main_arg19) = m ((c.tc : Thread Cert.FfnIdeal.nD Cert.FfnIdeal.τ).loc Cert.FfnIdeal.main_arg19)
      ∧ m' ((c.tc : Thread Cert.FfnRefIdeal.nD Cert.FfnRefIdeal.τ).loc Cert.FfnRefIdeal.main_arg20) = m ((c.tc : Thread Cert.FfnIdeal.nD Cert.FfnIdeal.τ).loc Cert.FfnIdeal.main_arg20)
      ∧ m' ((c.tc : Thread Cert.FfnRefIdeal.nD Cert.FfnRefIdeal.τ).loc Cert.FfnRefIdeal.main_arg21) = m ((c.tc : Thread Cert.FfnIdeal.nD Cert.FfnIdeal.τ).loc Cert.FfnIdeal.main_arg21)
      ∧ m' ((c.tc : Thread Cert.FfnRefIdeal.nD Cert.FfnRefIdeal.τ).loc Cert.FfnRefIdeal.main_arg22) = m ((c.tc : Thread Cert.FfnIdeal.nD Cert.FfnIdeal.τ).loc Cert.FfnIdeal.main_arg22)
      ∧ m' ((c.tc : Thread Cert.FfnRefIdeal.nD Cert.FfnRefIdeal.τ).loc Cert.FfnRefIdeal.main_arg23) = m ((c.tc : Thread Cert.FfnIdeal.nD Cert.FfnIdeal.τ).loc Cert.FfnIdeal.main_arg23)
      ∧ m' ((c.tc : Thread Cert.FfnRefIdeal.nD Cert.FfnRefIdeal.τ).loc Cert.FfnRefIdeal.main_arg24) = m ((c.tc : Thread Cert.FfnIdeal.nD Cert.FfnIdeal.τ).loc Cert.FfnIdeal.main_arg24)) →
    ∃ (v0 : (c : Dev Cert.FfnIdeal.nD) → Buf (Elt Ideal) ((c.tc : Thread Cert.FfnIdeal.nD Cert.FfnIdeal.τ).loc Cert.FfnIdeal.main_v5_0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
          ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13)
          ∧ r.2.mem ((c.tc : Thread Cert.FfnIdeal.nD Cert.FfnIdeal.τ).loc Cert.FfnIdeal.main_arg14) = m ((c.tc : Thread Cert.FfnIdeal.nD Cert.FfnIdeal.τ).loc Cert.FfnIdeal.main_arg14)
          ∧ r.2.mem ((c.tc : Thread Cert.FfnIdeal.nD Cert.FfnIdeal.τ).loc Cert.FfnIdeal.main_arg15) = m ((c.tc : Thread Cert.FfnIdeal.nD Cert.FfnIdeal.τ).loc Cert.FfnIdeal.main_arg15)
          ∧ r.2.mem ((c.tc : Thread Cert.FfnIdeal.nD Cert.FfnIdeal.τ).loc Cert.FfnIdeal.main_arg16) = m ((c.tc : Thread Cert.FfnIdeal.nD Cert.FfnIdeal.τ).loc Cert.FfnIdeal.main_arg16)
          ∧ r.2.mem ((c.tc : Thread Cert.FfnIdeal.nD Cert.FfnIdeal.τ).loc Cert.FfnIdeal.main_arg17) = m ((c.tc : Thread Cert.FfnIdeal.nD Cert.FfnIdeal.τ).loc Cert.FfnIdeal.main_arg17)
          ∧ r.2.mem ((c.tc : Thread Cert.FfnIdeal.nD Cert.FfnIdeal.τ).loc Cert.FfnIdeal.main_arg18) = m ((c.tc : Thread Cert.FfnIdeal.nD Cert.FfnIdeal.τ).loc Cert.FfnIdeal.main_arg18)
          ∧ r.2.mem ((c.tc : Thread Cert.FfnIdeal.nD Cert.FfnIdeal.τ).loc Cert.FfnIdeal.main_arg19) = m ((c.tc : Thread Cert.FfnIdeal.nD Cert.FfnIdeal.τ).loc Cert.FfnIdeal.main_arg19)
          ∧ r.2.mem ((c.tc : Thread Cert.FfnIdeal.nD Cert.FfnIdeal.τ).loc Cert.FfnIdeal.main_arg20) = m ((c.tc : Thread Cert.FfnIdeal.nD Cert.FfnIdeal.τ).loc Cert.FfnIdeal.main_arg20)
          ∧ r.2.mem ((c.tc : Thread Cert.FfnIdeal.nD Cert.FfnIdeal.τ).loc Cert.FfnIdeal.main_arg21) = m ((c.tc : Thread Cert.FfnIdeal.nD Cert.FfnIdeal.τ).loc Cert.FfnIdeal.main_arg21)
          ∧ r.2.mem ((c.tc : Thread Cert.FfnIdeal.nD Cert.FfnIdeal.τ).loc Cert.FfnIdeal.main_arg22) = m ((c.tc : Thread Cert.FfnIdeal.nD Cert.FfnIdeal.τ).loc Cert.FfnIdeal.main_arg22)
          ∧ r.2.mem ((c.tc : Thread Cert.FfnIdeal.nD Cert.FfnIdeal.τ).loc Cert.FfnIdeal.main_arg23) = m ((c.tc : Thread Cert.FfnIdeal.nD Cert.FfnIdeal.τ).loc Cert.FfnIdeal.main_arg23)
          ∧ r.2.mem ((c.tc : Thread Cert.FfnIdeal.nD Cert.FfnIdeal.τ).loc Cert.FfnIdeal.main_arg24) = m ((c.tc : Thread Cert.FfnIdeal.nD Cert.FfnIdeal.τ).loc Cert.FfnIdeal.main_arg24))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v59) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11)
          ∧ r.2.mem ((c.tc : Thread Cert.FfnRefIdeal.nD Cert.FfnRefIdeal.τ).loc Cert.FfnRefIdeal.main_arg12) = m' ((c.tc : Thread Cert.FfnRefIdeal.nD Cert.FfnRefIdeal.τ).loc Cert.FfnRefIdeal.main_arg12)
          ∧ r.2.mem ((c.tc : Thread Cert.FfnRefIdeal.nD Cert.FfnRefIdeal.τ).loc Cert.FfnRefIdeal.main_arg13) = m' ((c.tc : Thread Cert.FfnRefIdeal.nD Cert.FfnRefIdeal.τ).loc Cert.FfnRefIdeal.main_arg13)
          ∧ r.2.mem ((c.tc : Thread Cert.FfnRefIdeal.nD Cert.FfnRefIdeal.τ).loc Cert.FfnRefIdeal.main_arg14) = m' ((c.tc : Thread Cert.FfnRefIdeal.nD Cert.FfnRefIdeal.τ).loc Cert.FfnRefIdeal.main_arg14)
          ∧ r.2.mem ((c.tc : Thread Cert.FfnRefIdeal.nD Cert.FfnRefIdeal.τ).loc Cert.FfnRefIdeal.main_arg15) = m' ((c.tc : Thread Cert.FfnRefIdeal.nD Cert.FfnRefIdeal.τ).loc Cert.FfnRefIdeal.main_arg15)
          ∧ r.2.mem ((c.tc : Thread Cert.FfnRefIdeal.nD Cert.FfnRefIdeal.τ).loc Cert.FfnRefIdeal.main_arg16) = m' ((c.tc : Thread Cert.FfnRefIdeal.nD Cert.FfnRefIdeal.τ).loc Cert.FfnRefIdeal.main_arg16)
          ∧ r.2.mem ((c.tc : Thread Cert.FfnRefIdeal.nD Cert.FfnRefIdeal.τ).loc Cert.FfnRefIdeal.main_arg17) = m' ((c.tc : Thread Cert.FfnRefIdeal.nD Cert.FfnRefIdeal.τ).loc Cert.FfnRefIdeal.main_arg17)
          ∧ r.2.mem ((c.tc : Thread Cert.FfnRefIdeal.nD Cert.FfnRefIdeal.τ).loc Cert.FfnRefIdeal.main_arg18) = m' ((c.tc : Thread Cert.FfnRefIdeal.nD Cert.FfnRefIdeal.τ).loc Cert.FfnRefIdeal.main_arg18)
          ∧ r.2.mem ((c.tc : Thread Cert.FfnRefIdeal.nD Cert.FfnRefIdeal.τ).loc Cert.FfnRefIdeal.main_arg19) = m' ((c.tc : Thread Cert.FfnRefIdeal.nD Cert.FfnRefIdeal.τ).loc Cert.FfnRefIdeal.main_arg19)
          ∧ r.2.mem ((c.tc : Thread Cert.FfnRefIdeal.nD Cert.FfnRefIdeal.τ).loc Cert.FfnRefIdeal.main_arg20) = m' ((c.tc : Thread Cert.FfnRefIdeal.nD Cert.FfnRefIdeal.τ).loc Cert.FfnRefIdeal.main_arg20)
          ∧ r.2.mem ((c.tc : Thread Cert.FfnRefIdeal.nD Cert.FfnRefIdeal.τ).loc Cert.FfnRefIdeal.main_arg21) = m' ((c.tc : Thread Cert.FfnRefIdeal.nD Cert.FfnRefIdeal.τ).loc Cert.FfnRefIdeal.main_arg21)
          ∧ r.2.mem ((c.tc : Thread Cert.FfnRefIdeal.nD Cert.FfnRefIdeal.τ).loc Cert.FfnRefIdeal.main_arg22) = m' ((c.tc : Thread Cert.FfnRefIdeal.nD Cert.FfnRefIdeal.τ).loc Cert.FfnRefIdeal.main_arg22)
          ∧ r.2.mem ((c.tc : Thread Cert.FfnRefIdeal.nD Cert.FfnRefIdeal.τ).loc Cert.FfnRefIdeal.main_arg23) = m' ((c.tc : Thread Cert.FfnRefIdeal.nD Cert.FfnRefIdeal.τ).loc Cert.FfnRefIdeal.main_arg23)
          ∧ r.2.mem ((c.tc : Thread Cert.FfnRefIdeal.nD Cert.FfnRefIdeal.τ).loc Cert.FfnRefIdeal.main_arg24) = m' ((c.tc : Thread Cert.FfnRefIdeal.nD Cert.FfnRefIdeal.τ).loc Cert.FfnRefIdeal.main_arg24))

def Claim : Prop :=
  ∃ (hKernel : Cert.Kernel.Facts) (hKernelIdeal : Cert.KernelIdeal.Facts) (hReferenceIdeal : Cert.ReferenceIdeal.Facts) (hSample : Cert.Sample.Facts) (hSampleIdeal : Cert.SampleIdeal.Facts) (hSampleRefIdeal : Cert.SampleRefIdeal.Facts) (hFfn : Cert.Ffn.Facts) (hFfnIdeal : Cert.FfnIdeal.Facts) (hFfnRefIdeal : Cert.FfnRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Sample (hSample := hSample)
    ∧ quiescent_SampleIdeal (hSampleIdeal := hSampleIdeal)
    ∧ quiescent_SampleRefIdeal (hSampleRefIdeal := hSampleRefIdeal)
    ∧ quiescent_Ffn (hFfn := hFfn)
    ∧ quiescent_FfnIdeal (hFfnIdeal := hFfnIdeal)
    ∧ quiescent_FfnRefIdeal (hFfnRefIdeal := hFfnRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Sample_SampleIdeal
    ∧ algebraic_SampleIdeal_SampleRefIdeal (hSampleIdeal := hSampleIdeal) (hSampleRefIdeal := hSampleRefIdeal)
    ∧ preserves_Ffn_FfnIdeal
    ∧ algebraic_FfnIdeal_FfnRefIdeal (hFfnIdeal := hFfnIdeal) (hFfnRefIdeal := hFfnRefIdeal)
-- ==== Pre_finite.lean ====
abbrev S8x2048x1024 : Shape := ⟨3, ![8, 2048, 1024]⟩
abbrev S1024 : Shape := ⟨1, ![1024]⟩
abbrev S1024x6144 : Shape := ⟨2, ![1024, 6144]⟩
abbrev S1024x2048 : Shape := ⟨2, ![1024, 2048]⟩
abbrev S1024x128 : Shape := ⟨2, ![1024, 128]⟩
abbrev S16x512 : Shape := ⟨2, ![16, 512]⟩
abbrev S512 : Shape := ⟨1, ![512]⟩
abbrev S3x1024 : Shape := ⟨2, ![3, 1024]⟩
abbrev S1024x1024 : Shape := ⟨2, ![1024, 1024]⟩
abbrev S256 : Shape := ⟨1, ![256]⟩
abbrev S_ : Shape := ⟨0, ![]⟩

class Facts : Prop where
  bcast_S_S8x2048x1024 : S_.BroadcastsInDim S8x2048x1024 (![] : Fin 0 → Fin S8x2048x1024.rank)
  bcast_S_S1024 : S_.BroadcastsInDim S1024 (![] : Fin 0 → Fin S1024.rank)
  bitsLt_bf16_f32 : FTy.bits .bf16 < FTy.bits .f32
  bcast_S_S1024x6144 : S_.BroadcastsInDim S1024x6144 (![] : Fin 0 → Fin S1024x6144.rank)
  bcast_S_S1024x128 : S_.BroadcastsInDim S1024x128 (![] : Fin 0 → Fin S1024x128.rank)
  bcast_S_S16x512 : S_.BroadcastsInDim S16x512 (![] : Fin 0 → Fin S16x512.rank)
  bcast_S_S512 : S_.BroadcastsInDim S512 (![] : Fin 0 → Fin S512.rank)

variable [Facts]

def fn_part1 {F : FTy → Type} [FloatOps F] (main_v2 : IVec S8x2048x1024 1) (main_v5 : IVec S1024 1) (main_v9 : IVec S1024x6144 1) (main_v13 : IVec S1024x128 1) (main_v16 : IVec S16x512 1) (main_v17 : FVec F S512 .f32) (main_cst_4 : FVec F S_ .f32) : IVec S8x2048x1024 1 × IVec S1024 1 × IVec S1024x6144 1 × IVec S1024x128 1 × IVec S16x512 1 × IVec S512 1 :=
  let main_v18 : FVec F S512 .f32 := broadcastInDim S512 ![] bcast_S_S512 main_cst_4
  let main_v19 : IVec S512 1 := cmpf .olt main_v17 main_v18
  (main_v2, main_v5, main_v9, main_v13, main_v16, main_v19)

def fn {F : FTy → Type} [FloatOps F] (main_arg0 : FVec F S8x2048x1024 .f32) (main_arg1 : FVec F S1024 .f32) (main_arg2 : FVec F S1024x6144 .bf16) (main_arg3 : FVec F S1024x2048 .bf16) (main_arg4 : FVec F S1024x128 .bf16) (main_arg5 : FVec F S16x512 .f32) (main_arg6 : FVec F S512 .f32) (main_arg7 : FVec F S3x1024 .f32) (main_arg8 : FVec F S1024x1024 .bf16) (main_arg9 : FVec F S256 .f32) (main_arg10 : FVec F S1024x1024 .bf16) (main_arg11 : FVec F S1024x1024 .bf16) (main_arg12 : FVec F S1024 .f32) : IVec S8x2048x1024 1 × IVec S1024 1 × IVec S1024x6144 1 × IVec S1024x128 1 × IVec S16x512 1 × IVec S512 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x6144 .f32 := (extf .f32 · bitsLt_bf16_f32) main_arg2
  let main_v7 : FVec F S1024x6144 .f32 := Host.absf main_v6
  let main_cst_1 : FVec F S_ .f32 := constant S_ .f32 0x7F800000#32
  let main_v8 : FVec F S1024x6144 .f32 := broadcastInDim S1024x6144 ![] bcast_S_S1024x6144 main_cst_1
  let main_v9 : IVec S1024x6144 1 := cmpf .olt main_v7 main_v8
  let main_v10 : FVec F S1024x128 .f32 := (extf .f32 · bitsLt_bf16_f32) main_arg4
  let main_v11 : FVec F S1024x128 .f32 := Host.absf main_v10
  let main_cst_2 : FVec F S_ .f32 := constant S_ .f32 0x7F800000#32
  let main_v12 : FVec F S1024x128 .f32 := broadcastInDim S1024x128 ![] bcast_S_S1024x128 main_cst_2
  let main_v13 : IVec S1024x128 1 := cmpf .olt main_v11 main_v12
  let main_v14 : FVec F S16x512 .f32 := Host.absf main_arg5
  let main_cst_3 : FVec F S_ .f32 := constant S_ .f32 0x7F800000#32
  let main_v15 : FVec F S16x512 .f32 := broadcastInDim S16x512 ![] bcast_S_S16x512 main_cst_3
  let main_v16 : IVec S16x512 1 := cmpf .olt main_v14 main_v15
  let main_v17 : FVec F S512 .f32 := Host.absf main_arg6
  let main_cst_4 : FVec F S_ .f32 := constant S_ .f32 0x7F800000#32
  fn_part1 (F := F) main_v2 main_v5 main_v9 main_v13 main_v16 main_v17 main_cst_4
-- ==== Kernel.lean ====
abbrev S8x2048x1024 : Shape := ⟨3, ![8, 2048, 1024]⟩
abbrev S1024 : Shape := ⟨1, ![1024]⟩
abbrev S1024x6144 : Shape := ⟨2, ![1024, 6144]⟩
abbrev S1024x2048 : Shape := ⟨2, ![1024, 2048]⟩
abbrev S1024x128 : Shape := ⟨2, ![1024, 128]⟩
abbrev S16x512 : Shape := ⟨2, ![16, 512]⟩
abbrev S512 : Shape := ⟨1, ![512]⟩
abbrev S3x1024 : Shape := ⟨2, ![3, 1024]⟩
abbrev S1024x1024 : Shape := ⟨2, ![1024, 1024]⟩
abbrev S256 : Shape := ⟨1, ![256]⟩
abbrev S_ : Shape := ⟨0, ![]⟩
abbrev S128x512 : Shape := ⟨2, ![128, 512]⟩
abbrev S1x1024 : Shape := ⟨2, ![1, 1024]⟩
abbrev S1x512 : Shape := ⟨2, ![1, 512]⟩
abbrev S1x256 : Shape := ⟨2, ![1, 256]⟩
abbrev S256x256 : Shape := ⟨2, ![256, 256]⟩
abbrev S1x256x1x256 : Shape := ⟨4, ![1, 256, 1, 256]⟩
abbrev S1x256x2x256 : Shape := ⟨4, ![1, 256, 2, 256]⟩
abbrev S256x512 : Shape := ⟨2, ![256, 512]⟩
abbrev S128x128 : Shape := ⟨2, ![128, 128]⟩
abbrev S1x8x2x1024 : Shape := ⟨4, ![1, 8, 2, 1024]⟩
abbrev S1x8x4x128x256 : Shape := ⟨5, ![1, 8, 4, 128, 256]⟩
abbrev S1x512x1024 : Shape := ⟨3, ![1, 512, 1024]⟩
abbrev S1x1x2x1024 : Shape := ⟨4, ![1, 1, 2, 1024]⟩
abbrev S1x1x4x128x256 : Shape := ⟨5, ![1, 1, 4, 128, 256]⟩
abbrev S2x2x256x512 : Shape := ⟨4, ![2, 2, 256, 512]⟩
abbrev S512x1024 : Shape := ⟨2, ![512, 1024]⟩
abbrev S512x1 : Shape := ⟨2, ![512, 1]⟩
abbrev S512x128 : Shape := ⟨2, ![512, 128]⟩
abbrev S512x512 : Shape := ⟨2, ![512, 512]⟩
abbrev S1x1x1x1024 : Shape := ⟨4, ![1, 1, 1, 1024]⟩
abbrev S2x1024 : Shape := ⟨2, ![2, 1024]⟩
abbrev S1024x512 : Shape := ⟨2, ![1024, 512]⟩
abbrev S256x1024 : Shape := ⟨2, ![256, 1024]⟩
abbrev S1x2x256x512 : Shape := ⟨4, ![1, 2, 256, 512]⟩
abbrev S2x256x512 : Shape := ⟨3, ![2, 256, 512]⟩
abbrev S1x256x512 : Shape := ⟨3, ![1, 256, 512]⟩
abbrev S1x1x512 : Shape := ⟨3, ![1, 1, 512]⟩
abbrev S8x512 : Shape := ⟨2, ![8, 512]⟩
abbrev S32x512 : Shape := ⟨2, ![32, 512]⟩
abbrev S64x512 : Shape := ⟨2, ![64, 512]⟩
abbrev S256x128 : Shape := ⟨2, ![256, 128]⟩
abbrev S128x256 : Shape := ⟨2, ![128, 256]⟩
abbrev S1x1x1x128x256 : Shape := ⟨5, ![1, 1, 1, 128, 256]⟩
abbrev S256x384 : Shape := ⟨2, ![256, 384]⟩
abbrev S384x256 : Shape := ⟨2, ![384, 256]⟩
abbrev S1x128 : Shape := ⟨2, ![1, 128]⟩
abbrev S512x256 : Shape := ⟨2, ![512, 256]⟩

abbrev nBuf : Space → Nat
  | .hbm => 84
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6144, .bf16⟩
  | .hbm, ⟨3, _⟩ => ⟨S1024x2048, .bf16⟩
  | .hbm, ⟨4, _⟩ => ⟨S1024x128, .bf16⟩
  | .hbm, ⟨5, _⟩ => ⟨S16x512, .f32⟩
  | .hbm, ⟨6, _⟩ => ⟨S512, .f32⟩
  | .hbm, ⟨7, _⟩ => ⟨S3x1024, .f32⟩
  | .hbm, ⟨8, _⟩ => ⟨S1024x1024, .bf16⟩
  | .hbm, ⟨9, _⟩ => ⟨S256, .f32⟩
  | .hbm, ⟨10, _⟩ => ⟨S1024x1024, .bf16⟩
  | .hbm, ⟨11, _⟩ => ⟨S1024x1024, .bf16⟩
  | .hbm, ⟨12, _⟩ => ⟨S1024, .f32⟩
  | .hbm, ⟨13, _⟩ => ⟨S_, .i32⟩
  | .hbm, ⟨14, _⟩ => ⟨S_, .f32⟩
  | .hbm, ⟨15, _⟩ => ⟨S128x512, .f32⟩
  | .hbm, ⟨16, _⟩ => ⟨S128x512, .bf16⟩
  | .hbm, ⟨17, _⟩ => ⟨S1x1024, .f32⟩
  | .hbm, ⟨18, _⟩ => ⟨S1x512, .f32⟩
  | .hbm, ⟨19, _⟩ => ⟨S1x256, .f32⟩
  | .hbm, ⟨20, _⟩ => ⟨S1x1024, .f32⟩
  | .hbm, ⟨21, _⟩ => ⟨S_, .f32⟩
  | .hbm, ⟨22, _⟩ => ⟨S256x256, .f32⟩
  | .hbm, ⟨23, _⟩ => ⟨S256x256, .i32⟩
  | .hbm, ⟨24, _⟩ => ⟨S_, .i32⟩
  | .hbm, ⟨25, _⟩ => ⟨S256x256, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S1x256x1x256, .f32⟩
  | .hbm, ⟨33, _⟩ => ⟨S1x256x2x256, .f32⟩
  | .hbm, ⟨34, _⟩ => ⟨S256x512, .f32⟩
  | .hbm, ⟨35, _⟩ => ⟨S256x512, .bf16⟩
  | .hbm, ⟨36, _⟩ => ⟨S128x128, .i32⟩
  | .hbm, ⟨37, _⟩ => ⟨S128x128, .i32⟩
  | .hbm, ⟨38, _⟩ => ⟨S128x128, .i32⟩
  | .hbm, ⟨39, _⟩ => ⟨S_, .i32⟩
  | .hbm, ⟨40, _⟩ => ⟨S128x128, .i32⟩
  | .hbm, ⟨41, _⟩ => ⟨S128x128, .i1⟩
  | .hbm, ⟨42, _⟩ => ⟨S128x128, .i32⟩
  | .hbm, ⟨43, _⟩ => ⟨S_, .i32⟩
  | .hbm, ⟨44, _⟩ => ⟨S128x128, .i32⟩
  | .hbm, ⟨45, _⟩ => ⟨S128x128, .i32⟩
  | .hbm, ⟨46, _⟩ => ⟨S_, .i32⟩
  | .hbm, ⟨47, _⟩ => ⟨S128x128, .i32⟩
  | .hbm, ⟨48, _⟩ => ⟨S128x128, .i1⟩
  | .hbm, ⟨49, _⟩ => ⟨S128x128, .i32⟩
  | .hbm, ⟨50, _⟩ => ⟨S128x128, .i32⟩
  | .hbm, ⟨51, _⟩ => ⟨S_, .i32⟩
  | .hbm, ⟨52, _⟩ => ⟨S128x128, .i32⟩
  | .hbm, ⟨53, _⟩ => ⟨S128x128, .i1⟩
  | .hbm, ⟨54, _⟩ => ⟨S128x128, .i32⟩
  | .hbm, ⟨55, _⟩ => ⟨S128x128, .i32⟩
  | .hbm, ⟨56, _⟩ => ⟨S_, .i32⟩
  | .hbm, ⟨57, _⟩ => ⟨S128x128, .i32⟩
  | .hbm, ⟨58, _⟩ => ⟨S128x128, .i1⟩
  | .hbm, ⟨59, _⟩ => ⟨S128x128, .i32⟩
  | .hbm, ⟨60, _⟩ => ⟨S128x128, .i32⟩
  | .hbm, ⟨61, _⟩ => ⟨S_, .i32⟩
  | .hbm, ⟨62, _⟩ => ⟨S128x128, .i32⟩
  | .hbm, ⟨63, _⟩ => ⟨S128x128, .i1⟩
  | .hbm, ⟨64, _⟩ => ⟨S128x128, .i32⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i1⟩
  | .hbm, ⟨69, _⟩ => ⟨S128x128, .i32⟩
  | .hbm, ⟨70, _⟩ => ⟨S128x128, .i32⟩
  | .hbm, ⟨71, _⟩ => ⟨S128x128, .i1⟩
  | .hbm, ⟨72, _⟩ => ⟨S_, .i32⟩
  | .hbm, ⟨73, _⟩ => ⟨S_, .i32⟩
  | .hbm, ⟨74, _⟩ => ⟨S128x128, .i32⟩
  | .hbm, ⟨75, _⟩ => ⟨S128x128, .i32⟩
  | .hbm, ⟨76, _⟩ => ⟨S128x128, .i1⟩
  | .hbm, ⟨77, _⟩ => ⟨S_, .i32⟩
  | .hbm, ⟨78, _⟩ => ⟨S_, .i32⟩
  | .hbm, ⟨79, _⟩ => ⟨S128x128, .i32⟩
  | .hbm, ⟨80, _⟩ => ⟨S128x128, .i32⟩
  | .hbm, ⟨81, _⟩ => ⟨S8x2048x1024, .f32⟩
  | .hbm, ⟨82, _⟩ => ⟨S1x8x2x1024, .f32⟩
  | .hbm, ⟨83, _⟩ => ⟨S1x8x4x128x256, .f32⟩
  | .local _ .vmem, ⟨0, _⟩ => ⟨S1x512x1024, .f32⟩
  | .local _ .vmem, ⟨1, _⟩ => ⟨S1x512x1024, .f32⟩
  | .local _ .vmem, ⟨2, _⟩ => ⟨S128x128, .i32⟩
  | .local _ .vmem, ⟨3, _⟩ => ⟨S256x512, .bf16⟩
  | .local _ .vmem, ⟨4, _⟩ => ⟨S1x1024, .f32⟩
  | .local _ .vmem, ⟨5, _⟩ => ⟨S1024x6144, .bf16⟩
  | .local _ .vmem, ⟨6, _⟩ => ⟨S1024x2048, .bf16⟩
  | .local _ .vmem, ⟨7, _⟩ => ⟨S1024x128, .bf16⟩
  | .local _ .vmem, ⟨8, _⟩ => ⟨S128x512, .bf16⟩
  | .local _ .vmem, ⟨9, _⟩ => ⟨S1x512, .f32⟩
  | .local _ .vmem, ⟨10, _⟩ => ⟨S3x1024, .f32⟩
  | .local _ .vmem, ⟨11, _⟩ => ⟨S1024x1024, .bf16⟩
  | .local _ .vmem, ⟨12, _⟩ => ⟨S1x256, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x1x2x1024, .f32⟩
  | .local _ .vmem, ⟨19, _⟩ => ⟨S1x1x2x1024, .f32⟩
  | .local _ .vmem, ⟨20, _⟩ => ⟨S1x1x4x128x256, .f32⟩
  | .local _ .vmem, ⟨21, _⟩ => ⟨S1x1x4x128x256, .f32⟩
  | .local _ .vmem, ⟨22, _⟩ => ⟨S2x2x256x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_cst : Ref sig .tc := ⟨.hbm, 29, rfl⟩
abbrev main_call1_v5 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c_0 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_1 : Ref sig .tc := ⟨.hbm, 43, rfl⟩
abbrev main_v18 : Ref sig .tc := ⟨.hbm, 44, rfl⟩
abbrev main_v19 : Ref sig .tc := ⟨.hbm, 45, rfl⟩
abbrev main_c_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_3 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_4 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_6 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_7 : Ref sig .tc := ⟨.hbm, 72, rfl⟩
abbrev main_call2_v0 : Ref sig .tc := ⟨.hbm, 73, rfl⟩
abbrev main_call2_v1 : Ref sig .tc := ⟨.hbm, 74, rfl⟩
abbrev main_v41 : Ref sig .tc := ⟨.hbm, 75, rfl⟩
abbrev main_v42 : Ref sig .tc := ⟨.hbm, 76, rfl⟩
abbrev main_c_8 : Ref sig .tc := ⟨.hbm, 77, rfl⟩
abbrev main_call3_v0 : Ref sig .tc := ⟨.hbm, 78, rfl⟩
abbrev main_call3_v1 : Ref sig .tc := ⟨.hbm, 79, rfl⟩
abbrev main_v43 : Ref sig .tc := ⟨.hbm, 80, rfl⟩
abbrev main_v44_0 : Ref sig .tc := ⟨.hbm, 81, rfl⟩
abbrev main_v44_1 : Ref sig .tc := ⟨.hbm, 82, rfl⟩
abbrev main_v44_2 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_17 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x2x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x4x128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== KernelIdeal.lean ====
variable {F : FTy → Type} [FloatOps F] [Named F]
def κ : String → Option EReal := fun
  | "log2e_gate" => some (((1 / 16) * (Real.log 2)⁻¹ : ℝ) : EReal)
  | "neg_log2e" => some ((-((Real.log 2)⁻¹) : ℝ) : EReal)
  | _ => none
-- ==== ReferenceIdeal.lean ====
abbrev S8x2048x1024 : Shape := ⟨3, ![8, 2048, 1024]⟩
abbrev S1024 : Shape := ⟨1, ![1024]⟩
abbrev S1024x6144 : Shape := ⟨2, ![1024, 6144]⟩
abbrev S1024x2048 : Shape := ⟨2, ![1024, 2048]⟩
abbrev S1024x128 : Shape := ⟨2, ![1024, 128]⟩
abbrev S16x512 : Shape := ⟨2, ![16, 512]⟩
abbrev S512 : Shape := ⟨1, ![512]⟩
abbrev S3x1024 : Shape := ⟨2, ![3, 1024]⟩
abbrev S1024x1024 : Shape := ⟨2, ![1024, 1024]⟩
abbrev S256 : Shape := ⟨1, ![256]⟩
abbrev S1024x16 : Shape := ⟨2, ![1024, 16]⟩
abbrev S1024x8208 : Shape := ⟨2, ![1024, 8208]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8208 : Shape := ⟨3, ![8, 2048, 8208]⟩
abbrev S8x2048x512 : Shape := ⟨3, ![8, 2048, 512]⟩
abbrev S8x2048x16 : Shape := ⟨3, ![8, 2048, 16]⟩
abbrev S8x2x1024 : Shape := ⟨3, ![8, 2, 1024]⟩
abbrev S8x2050x1024 : Shape := ⟨3, ![8, 2050, 1024]⟩
abbrev S1x1024 : Shape := ⟨2, ![1, 1024]⟩
abbrev S8x2048x4x128 : Shape := ⟨4, ![8, 2048, 4, 128]⟩
abbrev S8x4x2048x128 : Shape := ⟨4, ![8, 4, 2048, 128]⟩
abbrev S8x2048x4x256 : Shape := ⟨4, ![8, 2048, 4, 256]⟩
abbrev S8x4x2048x256 : Shape := ⟨4, ![8, 4, 2048, 256]⟩
abbrev S1x1x512 : Shape := ⟨3, ![1, 1, 512]⟩
abbrev S2048x2048 : Shape := ⟨2, ![2048, 2048]⟩
abbrev S8x4x2048x1x128 : Shape := ⟨5, ![8, 4, 2048, 1, 128]⟩
abbrev S8x4x1x2048x128 : Shape := ⟨5, ![8, 4, 1, 2048, 128]⟩
abbrev S8x4x2048x2048x128 : Shape := ⟨5, ![8, 4, 2048, 2048, 128]⟩
abbrev S2048x2048x1 : Shape := ⟨3, ![2048, 2048, 1]⟩
abbrev S8x4x2048x2048 : Shape := ⟨4, ![8, 4, 2048, 2048]⟩
abbrev S8x4x1x128 : Shape := ⟨4, ![8, 4, 1, 128]⟩
abbrev S8x4x128x256 : Shape := ⟨4, ![8, 4, 128, 256]⟩
abbrev S8x2048x4 : Shape := ⟨3, ![8, 2048, 4]⟩
abbrev S8x2048x4x1 : Shape := ⟨4, ![8, 2048, 4, 1]⟩
abbrev S1x1x1x256 : Shape := ⟨4, ![1, 1, 1, 256]⟩
abbrev S1x8x2x1024 : Shape := ⟨4, ![1, 8, 2, 1024]⟩
abbrev S1x8x4x128x256 : Shape := ⟨5, ![1, 8, 4, 128, 256]⟩

abbrev nBuf : Space → Nat
  | .hbm => 222
  | .vmem => 0
  | .smem => 0
  | _ => 0

abbrev hbmTy0_0 (i : Nat) : BufTy := match i % 128 with
  | 0 => ⟨S8x2048x1024, .f32⟩
  | 1 => ⟨S1024, .f32⟩
  | 2 => ⟨S1024x6144, .bf16⟩
  | 3 => ⟨S1024x2048, .bf16⟩
  | 4 => ⟨S1024x128, .bf16⟩
  | 5 => ⟨S16x512, .f32⟩
  | 6 => ⟨S512, .f32⟩
  | 7 => ⟨S3x1024, .f32⟩
  | 8 => ⟨S1024x1024, .bf16⟩
  | 9 => ⟨S256, .f32⟩
  | 10 => ⟨S1024x1024, .bf16⟩
  | 11 => ⟨S1024x1024, .bf16⟩
  | 12 => ⟨S1024, .f32⟩
  | 13 => ⟨S1024x6144, .f32⟩
  | 14 => ⟨S1024x128, .f32⟩
  | 15 => ⟨S1024x16, .f32⟩
  | 16 => ⟨S1024x2048, .f32⟩
  | 17 => ⟨S1024x8208, .f32⟩
  | 18 => ⟨S8x2048x1024, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S_, .f32⟩
  | 26 => ⟨S8x2048x1, .f32⟩
  | 27 => ⟨S8x2048x1, .f32⟩
  | 28 => ⟨S8x2048x1, .f32⟩
  | 29 => ⟨S8x2048x1024, .f32⟩
  | 30 => ⟨S8x2048x1024, .f32⟩
  | 31 => ⟨S1x1x1024, .f32⟩
  | 32 => ⟨S8x2048x1024, .f32⟩
  | 33 => ⟨S8x2048x1024, .f32⟩
  | 34 => ⟨S8x2048x8208, .f32⟩
  | 35 => ⟨S8x2048x1024, .f32⟩
  | 36 => ⟨S8x2048x1024, .f32⟩
  | 37 => ⟨S8x2048x1024, .f32⟩
  | 38 => ⟨S8x2048x512, .f32⟩
  | 39 => ⟨S8x2048x512, .f32⟩
  | 40 => ⟨S8x2048x1024, .f32⟩
  | 41 => ⟨S8x2048x1024, .f32⟩
  | 42 => ⟨S8x2048x16, .f32⟩
  | 43 => ⟨S8x2048x1024, .f32⟩
  | 44 => ⟨S8x2048x1024, .f32⟩
  | 45 => ⟨S8x2048x1024, .f32⟩
  | 46 => ⟨S_, .f32⟩
  | 47 => ⟨S8x2x1024, .f32⟩
  | 48 => ⟨S8x2050x1024, .f32⟩
  | 49 => ⟨S1x1024, .f32⟩
  | 50 => ⟨S1024, .f32⟩
  | 51 => ⟨S8x2048x1024, .f32⟩
  | 52 => ⟨S1x1x1024, .f32⟩
  | 53 => ⟨S8x2048x1024, .f32⟩
  | 54 => ⟨S8x2048x1024, .f32⟩
  | 55 => ⟨S1x1024, .f32⟩
  | 56 => ⟨S1024, .f32⟩
  | 57 => ⟨S8x2048x1024, .f32⟩
  | 58 => ⟨S1x1x1024, .f32⟩
  | 59 => ⟨S8x2048x1024, .f32⟩
  | 60 => ⟨S8x2048x1024, .f32⟩
  | 61 => ⟨S8x2048x1024, .f32⟩
  | 62 => ⟨S1x1024, .f32⟩
  | 63 => ⟨S1024, .f32⟩
  | 64 => ⟨S8x2048x1024, .f32⟩
  | 65 => ⟨S1x1x1024, .f32⟩
  | 66 => ⟨S8x2048x1024, .f32⟩
  | 67 => ⟨S8x2048x1024, .f32⟩
  | 68 => ⟨S8x2048x1024, .f32⟩
  | 69 => ⟨S8x2x1024, .f32⟩
  | 70 => ⟨S8x2048x1024, .f32⟩
  | 71 => ⟨S1024x1024, .f32⟩
  | 72 => ⟨S8x2048x1024, .f32⟩
  | 73 => ⟨S8x2048x4x128, .f32⟩
  | 74 => ⟨S8x4x2048x128, .f32⟩
  | 75 => ⟨S_, .f32⟩
  | 76 => ⟨S8x4x2048x128, .f32⟩
  | 77 => ⟨S8x4x2048x128, .f32⟩
  | 78 => ⟨S8x2048x4x128, .f32⟩
  | 79 => ⟨S8x4x2048x128, .f32⟩
  | 80 => ⟨S8x2048x4x256, .f32⟩
  | 81 => ⟨S8x4x2048x256, .f32⟩
  | 82 => ⟨S8x2048x512, .f32⟩
  | 83 => ⟨S1x1x512, .f32⟩
  | 84 => ⟨S8x2048x512, .f32⟩
  | 85 => ⟨S8x2048x512, .f32⟩
  | 86 => ⟨S8x2048x512, .f32⟩
  | 87 => ⟨S_, .f32⟩
  | 88 => ⟨S8x2048x512, .f32⟩
  | 89 => ⟨S8x2048x512, .f32⟩
  | 90 => ⟨S8x2048x512, .f32⟩
  | 91 => ⟨S8x2048x512, .f32⟩
  | 92 => ⟨S8x2048x512, .i1⟩
  | 93 => ⟨S8x2048x512, .f32⟩
  | 94 => ⟨S8x2048x512, .f32⟩
  | 95 => ⟨S8x2048x512, .f32⟩
  | 96 => ⟨S8x2048x512, .f32⟩
  | 97 => ⟨S8x2048x512, .f32⟩
  | 98 => ⟨S8x2048x512, .f32⟩
  | 99 => ⟨S8x2048x512, .f32⟩
  | 100 => ⟨S8x2048x512, .f32⟩
  | 101 => ⟨S8x2048x512, .f32⟩
  | 102 => ⟨S_, .f32⟩
  | 103 => ⟨S8x2048x512, .f32⟩
  | 104 => ⟨S8x2048x512, .f32⟩
  | 105 => ⟨S8x2048x4x128, .f32⟩
  | 106 => ⟨S8x4x2048x128, .f32⟩
  | 107 => ⟨S_, .i1⟩
  | 108 => ⟨S2048x2048, .i1⟩
  | 109 => ⟨S2048x2048, .i32⟩
  | 110 => ⟨S_, .i32⟩
  | 111 => ⟨S2048x2048, .i32⟩
  | 112 => ⟨S2048x2048, .i32⟩
  | 113 => ⟨S2048x2048, .i32⟩
  | 114 => ⟨S2048x2048, .i1⟩
  | 115 => ⟨S_, .i1⟩
  | 116 => ⟨S2048x2048, .i1⟩
  | 117 => ⟨S2048x2048, .i1⟩
  | 118 => ⟨S_, .f32⟩
  | 119 => ⟨S_, .f32⟩
  | 120 => ⟨S8x4x2048x128, .f32⟩
  | 121 => ⟨S8x4x2048x1x128, .f32⟩
  | 122 => ⟨S8x4x1x2048x128, .f32⟩
  | 123 => ⟨S8x4x2048x2048x128, .f32⟩
  | 124 => ⟨S8x4x2048x2048x128, .f32⟩
  | 125 => ⟨S8x4x2048x2048x128, .f32⟩
  | 126 => ⟨S2048x2048x1, .i1⟩
  | 127 => ⟨S_, .f32⟩
  | _ => ⟨S8x2048x1024, .f32⟩

abbrev hbmTy0_1 (i : Nat) : BufTy := match i % 128 with
  | 0 => ⟨S8x4x2048x2048x128, .f32⟩
  | 1 => ⟨S8x4x2048x2048x128, .f32⟩
  | 2 => ⟨S8x4x2048x2048x128, .f32⟩
  | 3 => ⟨S_, .f32⟩
  | 4 => ⟨S_, .f32⟩
  | 5 => ⟨S8x4x2048x2048x128, .i1⟩
  | 6 => ⟨S8x4x2048x2048x128, .f32⟩
  | 7 => ⟨S8x4x2048x2048x128, .f32⟩
  | 8 => ⟨S8x4x2048x1x128, .f32⟩
  | 9 => ⟨S8x4x1x2048x128, .f32⟩
  | 10 => ⟨S8x4x2048x2048x128, .f32⟩
  | 11 => ⟨S8x4x2048x2048x128, .f32⟩
  | 12 => ⟨S8x4x2048x2048x128, .f32⟩
  | 13 => ⟨S8x4x2048x2048x128, .f32⟩
  | 14 => ⟨S_, .f32⟩
  | 15 => ⟨S8x4x2048x2048, .f32⟩
  | 16 => ⟨S8x4x2048x256, .f32⟩
  | 17 => ⟨S8x4x1x128, .f32⟩
  | 18 => ⟨S8x4x2048x128, .f32⟩
  | 19 => ⟨S8x4x2048x128, .f32⟩
  | 20 => ⟨S8x4x2048x128, .f32⟩
  | 21 => ⟨S8x4x2048x128, .f32⟩
  | 22 => ⟨S8x4x128x256, .f32⟩
  | 23 => ⟨S8x2048x4x256, .f32⟩
  | 24 => ⟨S8x2048x4x256, .f32⟩
  | 25 => ⟨S_, .f32⟩
  | 26 => ⟨S8x2048x4, .f32⟩
  | 27 => ⟨S8x2048x4x1, .f32⟩
  | 28 => ⟨S_, .f32⟩
  | 29 => ⟨S8x2048x4x1, .f32⟩
  | 30 => ⟨S8x2048x4x1, .f32⟩
  | 31 => ⟨S_, .f32⟩
  | 32 => ⟨S8x2048x4x1, .f32⟩
  | 33 => ⟨S8x2048x4x1, .f32⟩
  | 34 => ⟨S8x2048x4x1, .f32⟩
  | 35 => ⟨S8x2048x4x256, .f32⟩
  | 36 => ⟨S8x2048x4x256, .f32⟩
  | 37 => ⟨S1x1x1x256, .f32⟩
  | 38 => ⟨S8x2048x4x256, .f32⟩
  | 39 => ⟨S8x2048x4x256, .f32⟩
  | 40 => ⟨S8x2048x4x256, .f32⟩
  | 41 => ⟨S8x2048x4x256, .f32⟩
  | 42 => ⟨S8x2048x4x256, .f32⟩
  | 43 => ⟨S_, .f32⟩
  | 44 => ⟨S8x2048x4x256, .f32⟩
  | 45 => ⟨S8x2048x4x256, .f32⟩
  | 46 => ⟨S_, .f32⟩
  | 47 => ⟨S8x2048x4x256, .f32⟩
  | 48 => ⟨S8x2048x4x256, .f32⟩
  | 49 => ⟨S8x2048x4x256, .f32⟩
  | 50 => ⟨S8x2048x4x256, .f32⟩
  | 51 => ⟨S8x2048x1024, .f32⟩
  | 52 => ⟨S1024x1024, .f32⟩
  | 53 => ⟨S8x2048x1024, .f32⟩
  | 54 => ⟨S8x2048x1024, .f32⟩
  | 55 => ⟨S8x2048x1024, .f32⟩
  | 56 => ⟨S_, .f32⟩
  | 57 => ⟨S8x2048x1024, .f32⟩
  | 58 => ⟨S8x2048x1024, .f32⟩
  | 59 => ⟨S_, .f32⟩
  | 60 => ⟨S8x2048x1024, .f32⟩
  | 61 => ⟨S8x2048x1024, .f32⟩
  | 62 => ⟨S8x2048x1024, .f32⟩
  | 63 => ⟨S8x2048x1024, .f32⟩
  | 64 => ⟨S8x2048x1024, .f32⟩
  | 65 => ⟨S_, .f32⟩
  | 66 => ⟨S8x2048x1024, .f32⟩
  | 67 => ⟨S8x2048x1024, .f32⟩
  | 68 => ⟨S_, .f32⟩
  | 69 => ⟨S8x2048x1024, .f32⟩
  | 70 => ⟨S8x2048x1024, .f32⟩
  | 71 => ⟨S8x2048x1024, .f32⟩
  | 72 => ⟨S8x2048x1024, .f32⟩
  | 73 => ⟨S1024x1024, .f32⟩
  | 74 => ⟨S8x2048x1024, .f32⟩
  | 75 => ⟨S8x2048x1024, .f32⟩
  | 76 => ⟨S_, .f32⟩
  | 77 => ⟨S8x2048, .f32⟩
  | 78 => ⟨S8x2048x1, .f32⟩
  | 79 => ⟨S_, .f32⟩
  | 80 => ⟨S8x2048x1, .f32⟩
  | 81 => ⟨S8x2048x1, .f32⟩
  | 82 => ⟨S_, .f32⟩
  | 83 => ⟨S8x2048x1, .f32⟩
  | 84 => ⟨S8x2048x1, .f32⟩
  | 85 => ⟨S8x2048x1, .f32⟩
  | 86 => ⟨S8x2048x1024, .f32⟩
  | 87 => ⟨S8x2048x1024, .f32⟩
  | 88 => ⟨S1x1x1024, .f32⟩
  | 89 => ⟨S8x2048x1024, .f32⟩
  | 90 => ⟨S8x2048x1024, .f32⟩
  | 91 => ⟨S8x2048x1024, .f32⟩
  | 92 => ⟨S1x8x2x1024, .f32⟩
  | 93 => ⟨S1x8x4x128x256, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_3 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_call0_v0 : Ref sig .tc := ⟨.hbm, 86, rfl⟩
abbrev main_call0_call0_cst : Ref sig .tc := ⟨.hbm, 87, rfl⟩
abbrev main_call0_call0_v0 : Ref sig .tc := ⟨.hbm, 88, rfl⟩
abbrev main_call0_call0_v1 : Ref sig .tc := ⟨.hbm, 89, rfl⟩
abbrev main_call0_call0_v2 : Ref sig .tc := ⟨.hbm, 90, rfl⟩
abbrev main_call0_call0_v3 : Ref sig .tc := ⟨.hbm, 91, rfl⟩
abbrev main_call0_call0_v4 : Ref sig .tc := ⟨.hbm, 92, rfl⟩
abbrev main_call0_call0_v5 : Ref sig .tc := ⟨.hbm, 93, rfl⟩
abbrev main_call0_call0_v6 : Ref sig .tc := ⟨.hbm, 94, rfl⟩
abbrev main_call0_call0_v7 : Ref sig .tc := ⟨.hbm, 95, rfl⟩
abbrev main_call0_call0_v8 : Ref sig .tc := ⟨.hbm, 96, rfl⟩
abbrev main_call0_call0_v9 : Ref sig .tc := ⟨.hbm, 97, rfl⟩
abbrev main_call0_call0_v10 : Ref sig .tc := ⟨.hbm, 98, rfl⟩
abbrev main_call0_call0_v11 : Ref sig .tc := ⟨.hbm, 99, rfl⟩
abbrev main_call0_v1 : Ref sig .tc := ⟨.hbm, 100, rfl⟩
abbrev main_v68 : Ref sig .tc := ⟨.hbm, 101, rfl⟩
abbrev main_cst_4 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c : Ref sig .tc := ⟨.hbm, 107, rfl⟩
abbrev main_v73 : Ref sig .tc := ⟨.hbm, 108, rfl⟩
abbrev main_call1_v0 : Ref sig .tc := ⟨.hbm, 109, rfl⟩
abbrev main_call1_c : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_c_0 : Ref sig .tc := ⟨.hbm, 115, rfl⟩
abbrev main_call1_v5 : Ref sig .tc := ⟨.hbm, 116, rfl⟩
abbrev main_v74 : Ref sig .tc := ⟨.hbm, 117, rfl⟩
abbrev main_call2_call0_cst : Ref sig .tc := ⟨.hbm, 118, rfl⟩
abbrev main_call2_call0_v0 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_5 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_6 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_7 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_cst_8 : Ref sig .tc := ⟨.hbm, 153, rfl⟩
abbrev main_v102 : Ref sig .tc := ⟨.hbm, 154, rfl⟩
abbrev main_v103 : Ref sig .tc := ⟨.hbm, 155, rfl⟩
abbrev main_cst_9 : Ref sig .tc := ⟨.hbm, 156, rfl⟩
abbrev main_v104 : Ref sig .tc := ⟨.hbm, 157, rfl⟩
abbrev main_v105 : Ref sig .tc := ⟨.hbm, 158, rfl⟩
abbrev main_cst_10 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_call4_v0 : Ref sig .tc := ⟨.hbm, 169, rfl⟩
abbrev main_call4_v1 : Ref sig .tc := ⟨.hbm, 170, rfl⟩
abbrev main_call4_cst : Ref sig .tc := ⟨.hbm, 171, rfl⟩
abbrev main_call4_v2 : Ref sig .tc := ⟨.hbm, 172, rfl⟩
abbrev main_call4_v3 : Ref sig .tc := ⟨.hbm, 173, rfl⟩
abbrev main_call4_cst_0 : Ref sig .tc := ⟨.hbm, 174, rfl⟩
abbrev main_call4_v4 : Ref sig .tc := ⟨.hbm, 175, rfl⟩
abbrev main_call4_v5 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_cst_11 : Ref sig .tc := ⟨.hbm, 184, rfl⟩
abbrev main_v122 : Ref sig .tc := ⟨.hbm, 185, rfl⟩
abbrev main_v123 : Ref sig .tc := ⟨.hbm, 186, rfl⟩
abbrev main_cst_12 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_cst_13 : Ref sig .tc := ⟨.hbm, 193, rfl⟩
abbrev main_v129 : Ref sig .tc := ⟨.hbm, 194, rfl⟩
abbrev main_v130 : Ref sig .tc := ⟨.hbm, 195, rfl⟩
abbrev main_cst_14 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_cst_15 : Ref sig .tc := ⟨.hbm, 204, rfl⟩
abbrev main_v138 : Ref sig .tc := ⟨.hbm, 205, rfl⟩
abbrev main_v139 : Ref sig .tc := ⟨.hbm, 206, rfl⟩
abbrev main_cst_16 : Ref sig .tc := ⟨.hbm, 207, rfl⟩
abbrev main_v140 : Ref sig .tc := ⟨.hbm, 208, rfl⟩
abbrev main_v141 : Ref sig .tc := ⟨.hbm, 209, rfl⟩
abbrev main_cst_17 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩

abbrev nD : Nat := 1
abbrev τ : Topo := Topo.v7x

variable {F : FTy → Type} [FloatOps F]
-- ==== Sample.lean ====
abbrev S128x1x1024 : Shape := ⟨3, ![128, 1, 1024]⟩
abbrev S128x2x1024 : Shape := ⟨3, ![128, 2, 1024]⟩
abbrev S128x1x256 : Shape := ⟨3, ![128, 1, 256]⟩
abbrev S1024 : Shape := ⟨1, ![1024]⟩
abbrev S1024x6144 : Shape := ⟨2, ![1024, 6144]⟩
abbrev S1024x2048 : Shape := ⟨2, ![1024, 2048]⟩
abbrev S1024x128 : Shape := ⟨2, ![1024, 128]⟩
abbrev S16x512 : Shape := ⟨2, ![16, 512]⟩
abbrev S512 : Shape := ⟨1, ![512]⟩
abbrev S3x1024 : Shape := ⟨2, ![3, 1024]⟩
abbrev S1024x1024 : Shape := ⟨2, ![1024, 1024]⟩
abbrev S_ : Shape := ⟨0, ![]⟩
abbrev S128x512 : Shape := ⟨2, ![128, 512]⟩
abbrev S1x1024 : Shape := ⟨2, ![1, 1024]⟩
abbrev S1x512 : Shape := ⟨2, ![1, 512]⟩
abbrev S16x8x512 : Shape := ⟨3, ![16, 8, 512]⟩
abbrev S16x8x1024 : Shape := ⟨3, ![16, 8, 1024]⟩
abbrev S128x1024 : Shape := ⟨2, ![128, 1024]⟩
abbrev S128x256 : Shape := ⟨2, ![128, 256]⟩
abbrev S128 : Shape := ⟨1, ![128]⟩
abbrev S128x1 : Shape := ⟨2, ![128, 1]⟩
abbrev S128x128 : Shape := ⟨2, ![128, 128]⟩
abbrev S1024x512 : Shape := ⟨2, ![1024, 512]⟩

abbrev nBuf : Space → Nat
  | .hbm => 28
  | .vmem => 22
  | .smem => 0
  | _ => 0

abbrev bufTy : (tb : Table) → Fin (tcTables nBuf tb) → BufTy
  | .hbm, ⟨0, _⟩ => ⟨S128x1x1024, .f32⟩
  | .hbm, ⟨1, _⟩ => ⟨S128x2x1024, .f32⟩
  | .hbm, ⟨2, _⟩ => ⟨S128x1x256, .f32⟩
  | .hbm, ⟨3, _⟩ => ⟨S1024, .f32⟩
  | .hbm, ⟨4, _⟩ => ⟨S1024x6144, .bf16⟩
  | .hbm, ⟨5, _⟩ => ⟨S1024x2048, .bf16⟩
  | .hbm, ⟨6, _⟩ => ⟨S1024x128, .bf16⟩
  | .hbm, ⟨7, _⟩ => ⟨S16x512, .f32⟩
  | .hbm, ⟨8, _⟩ => ⟨S512, .f32⟩
  | .hbm, ⟨9, _⟩ => ⟨S3x1024, .f32⟩
  | .hbm, ⟨10, _⟩ => ⟨S1024x1024, .bf16⟩
  | .hbm, ⟨11, _⟩ => ⟨S_, .i32⟩
  | .hbm, ⟨12, _⟩ => ⟨S_, .f32⟩
  | .hbm, ⟨13, _⟩ => ⟨S128x512, .f32⟩
  | .hbm, ⟨14, _⟩ => ⟨S128x512, .bf16⟩
  | .hbm, ⟨15, _⟩ => ⟨S1x1024, .f32⟩
  | .hbm, ⟨16, _⟩ => ⟨S1x512, .f32⟩
  | .hbm, ⟨17, _⟩ => ⟨S128x2x1024, .f32⟩
  | .hbm, ⟨18, _⟩ => ⟨S16x8x512, .f32⟩
  | .hbm, ⟨19, _⟩ => ⟨S16x8x512, .f32⟩
  | .hbm, ⟨20, _⟩ => ⟨S16x8x512, .f32⟩
  | .hbm, ⟨21, _⟩ => ⟨S16x8x1024, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S128x256, .f32⟩
  | .local _ .vmem, ⟨0, _⟩ => ⟨S128x1x1024, .f32⟩
  | .local _ .vmem, ⟨1, _⟩ => ⟨S128x2x1024, .f32⟩
  | .local _ .vmem, ⟨2, _⟩ => ⟨S1x1024, .f32⟩
  | .local _ .vmem, ⟨3, _⟩ => ⟨S1024x6144, .bf16⟩
  | .local _ .vmem, ⟨4, _⟩ => ⟨S1024x2048, .bf16⟩
  | .local _ .vmem, ⟨5, _⟩ => ⟨S1024x128, .bf16⟩
  | .local _ .vmem, ⟨6, _⟩ => ⟨S128x512, .bf16⟩
  | .local _ .vmem, ⟨7, _⟩ => ⟨S1x512, .f32⟩
  | .local _ .vmem, ⟨8, _⟩ => ⟨S3x1024, .f32⟩
  | .local _ .vmem, ⟨9, _⟩ => ⟨S1024x1024, .bf16⟩
  | .local _ .vmem, ⟨10, _⟩ => ⟨S128x1x256, .f32⟩
  | .local _ .vmem, ⟨11, _⟩ => ⟨S128x2x1024, .f32⟩
  | .local _ .vmem, ⟨12, _⟩ => ⟨S16x8x512, .f32⟩
  | .local _ .vmem, ⟨13, _⟩ => ⟨S16x8x512, .f32⟩
  | .local _ .vmem, ⟨14, _⟩ => ⟨S16x8x512, .f32⟩
  | .local _ .vmem, ⟨15, _⟩ => ⟨S16x8x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x256, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_v4_4 : Ref sig .tc := ⟨.hbm, 21, rfl⟩
abbrev main_v4_5 : Ref sig .tc := ⟨.hbm, 22, rfl⟩
abbrev main_v4_6 : Ref sig .tc := ⟨.hbm, 23, rfl⟩
abbrev main_v4_7 : Ref sig .tc := ⟨.hbm, 24, rfl⟩
abbrev main_v4_8 : Ref sig .tc := ⟨.hbm, 25, rfl⟩
abbrev main_v4_9 : Ref sig .tc := ⟨.hbm, 26, rfl⟩
abbrev main_v4_10 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== SampleIdeal.lean ====
variable {F : FTy → Type} [FloatOps F] [Named F]
def κ : String → Option EReal := fun
  | "log2e_gate" => some (((1 / 16) * (Real.log 2)⁻¹ : ℝ) : EReal)
  | "neg_log2e" => some ((-((Real.log 2)⁻¹) : ℝ) : EReal)
  | _ => none
-- ==== SampleRefIdeal.lean ====
abbrev S128x1x1024 : Shape := ⟨3, ![128, 1, 1024]⟩
abbrev S128x2x1024 : Shape := ⟨3, ![128, 2, 1024]⟩
abbrev S128x1x256 : Shape := ⟨3, ![128, 1, 256]⟩
abbrev S1024 : Shape := ⟨1, ![1024]⟩
abbrev S1024x6144 : Shape := ⟨2, ![1024, 6144]⟩
abbrev S1024x2048 : Shape := ⟨2, ![1024, 2048]⟩
abbrev S1024x128 : Shape := ⟨2, ![1024, 128]⟩
abbrev S16x512 : Shape := ⟨2, ![16, 512]⟩
abbrev S512 : Shape := ⟨1, ![512]⟩
abbrev S3x1024 : Shape := ⟨2, ![3, 1024]⟩
abbrev S1024x1024 : Shape := ⟨2, ![1024, 1024]⟩
abbrev S1024x16 : Shape := ⟨2, ![1024, 16]⟩
abbrev S1024x8208 : Shape := ⟨2, ![1024, 8208]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x8208 : Shape := ⟨3, ![128, 1, 8208]⟩
abbrev S128x1x512 : Shape := ⟨3, ![128, 1, 512]⟩
abbrev S128x1x16 : Shape := ⟨3, ![128, 1, 16]⟩
abbrev S128x3x1024 : Shape := ⟨3, ![128, 3, 1024]⟩
abbrev S1x1024 : Shape := ⟨2, ![1, 1024]⟩
abbrev S1x1x512 : Shape := ⟨3, ![1, 1, 512]⟩
abbrev S16x8x512 : Shape := ⟨3, ![16, 8, 512]⟩
abbrev S16x8x1024 : Shape := ⟨3, ![16, 8, 1024]⟩
abbrev S128x1024 : Shape := ⟨2, ![128, 1024]⟩
abbrev S128x256 : Shape := ⟨2, ![128, 256]⟩

abbrev nBuf : Space → Nat
  | .hbm => 106
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x2x1024, .f32⟩
  | .hbm, ⟨2, _⟩ => ⟨S128x1x256, .f32⟩
  | .hbm, ⟨3, _⟩ => ⟨S1024, .f32⟩
  | .hbm, ⟨4, _⟩ => ⟨S1024x6144, .bf16⟩
  | .hbm, ⟨5, _⟩ => ⟨S1024x2048, .bf16⟩
  | .hbm, ⟨6, _⟩ => ⟨S1024x128, .bf16⟩
  | .hbm, ⟨7, _⟩ => ⟨S16x512, .f32⟩
  | .hbm, ⟨8, _⟩ => ⟨S512, .f32⟩
  | .hbm, ⟨9, _⟩ => ⟨S3x1024, .f32⟩
  | .hbm, ⟨10, _⟩ => ⟨S1024x1024, .bf16⟩
  | .hbm, ⟨11, _⟩ => ⟨S1024x6144, .f32⟩
  | .hbm, ⟨12, _⟩ => ⟨S1024x128, .f32⟩
  | .hbm, ⟨13, _⟩ => ⟨S1024x16, .f32⟩
  | .hbm, ⟨14, _⟩ => ⟨S1024x2048, .f32⟩
  | .hbm, ⟨15, _⟩ => ⟨S1024x8208, .f32⟩
  | .hbm, ⟨16, _⟩ => ⟨S128x1x1024, .f32⟩
  | .hbm, ⟨17, _⟩ => ⟨S_, .f32⟩
  | .hbm, ⟨18, _⟩ => ⟨S128x1, .f32⟩
  | .hbm, ⟨19, _⟩ => ⟨S128x1x1, .f32⟩
  | .hbm, ⟨20, _⟩ => ⟨S_, .f32⟩
  | .hbm, ⟨21, _⟩ => ⟨S128x1x1, .f32⟩
  | .hbm, ⟨22, _⟩ => ⟨S128x1x1, .f32⟩
  | .hbm, ⟨23, _⟩ => ⟨S_, .f32⟩
  | .hbm, ⟨24, _⟩ => ⟨S128x1x1, .f32⟩
  | .hbm, ⟨25, _⟩ => ⟨S128x1x1, .f32⟩
  | .hbm, ⟨26, _⟩ => ⟨S128x1x1, .f32⟩
  | .hbm, ⟨27, _⟩ => ⟨S128x1x1024, .f32⟩
  | .hbm, ⟨28, _⟩ => ⟨S128x1x1024, .f32⟩
  | .hbm, ⟨29, _⟩ => ⟨S1x1x1024, .f32⟩
  | .hbm, ⟨30, _⟩ => ⟨S128x1x1024, .f32⟩
  | .hbm, ⟨31, _⟩ => ⟨S128x1x1024, .f32⟩
  | .hbm, ⟨32, _⟩ => ⟨S128x1x8208, .f32⟩
  | .hbm, ⟨33, _⟩ => ⟨S128x1x1024, .f32⟩
  | .hbm, ⟨34, _⟩ => ⟨S128x1x1024, .f32⟩
  | .hbm, ⟨35, _⟩ => ⟨S128x1x1024, .f32⟩
  | .hbm, ⟨36, _⟩ => ⟨S128x1x512, .f32⟩
  | .hbm, ⟨37, _⟩ => ⟨S128x1x512, .f32⟩
  | .hbm, ⟨38, _⟩ => ⟨S128x1x1024, .f32⟩
  | .hbm, ⟨39, _⟩ => ⟨S128x1x1024, .f32⟩
  | .hbm, ⟨40, _⟩ => ⟨S128x1x16, .f32⟩
  | .hbm, ⟨41, _⟩ => ⟨S128x1x1024, .f32⟩
  | .hbm, ⟨42, _⟩ => ⟨S128x1x1024, .f32⟩
  | .hbm, ⟨43, _⟩ => ⟨S128x1x1024, .f32⟩
  | .hbm, ⟨44, _⟩ => ⟨S128x3x1024, .f32⟩
  | .hbm, ⟨45, _⟩ => ⟨S1x1024, .f32⟩
  | .hbm, ⟨46, _⟩ => ⟨S1024, .f32⟩
  | .hbm, ⟨47, _⟩ => ⟨S128x1x1024, .f32⟩
  | .hbm, ⟨48, _⟩ => ⟨S1x1x1024, .f32⟩
  | .hbm, ⟨49, _⟩ => ⟨S128x1x1024, .f32⟩
  | .hbm, ⟨50, _⟩ => ⟨S128x1x1024, .f32⟩
  | .hbm, ⟨51, _⟩ => ⟨S1x1024, .f32⟩
  | .hbm, ⟨52, _⟩ => ⟨S1024, .f32⟩
  | .hbm, ⟨53, _⟩ => ⟨S128x1x1024, .f32⟩
  | .hbm, ⟨54, _⟩ => ⟨S1x1x1024, .f32⟩
  | .hbm, ⟨55, _⟩ => ⟨S128x1x1024, .f32⟩
  | .hbm, ⟨56, _⟩ => ⟨S128x1x1024, .f32⟩
  | .hbm, ⟨57, _⟩ => ⟨S128x1x1024, .f32⟩
  | .hbm, ⟨58, _⟩ => ⟨S1x1024, .f32⟩
  | .hbm, ⟨59, _⟩ => ⟨S1024, .f32⟩
  | .hbm, ⟨60, _⟩ => ⟨S128x1x1024, .f32⟩
  | .hbm, ⟨61, _⟩ => ⟨S1x1x1024, .f32⟩
  | .hbm, ⟨62, _⟩ => ⟨S128x1x1024, .f32⟩
  | .hbm, ⟨63, _⟩ => ⟨S128x1x1024, .f32⟩
  | .hbm, ⟨64, _⟩ => ⟨S128x1x1024, .f32⟩
  | .hbm, ⟨65, _⟩ => ⟨S128x2x1024, .f32⟩
  | .hbm, ⟨66, _⟩ => ⟨S128x1x1024, .f32⟩
  | .hbm, ⟨67, _⟩ => ⟨S1024x1024, .f32⟩
  | .hbm, ⟨68, _⟩ => ⟨S128x1x1024, .f32⟩
  | .hbm, ⟨69, _⟩ => ⟨S128x1x512, .f32⟩
  | .hbm, ⟨70, _⟩ => ⟨S1x1x512, .f32⟩
  | .hbm, ⟨71, _⟩ => ⟨S128x1x512, .f32⟩
  | .hbm, ⟨72, _⟩ => ⟨S128x1x512, .f32⟩
  | .hbm, ⟨73, _⟩ => ⟨S128x1x512, .f32⟩
  | .hbm, ⟨74, _⟩ => ⟨S_, .f32⟩
  | .hbm, ⟨75, _⟩ => ⟨S128x1x512, .f32⟩
  | .hbm, ⟨76, _⟩ => ⟨S128x1x512, .f32⟩
  | .hbm, ⟨77, _⟩ => ⟨S128x1x512, .f32⟩
  | .hbm, ⟨78, _⟩ => ⟨S128x1x512, .f32⟩
  | .hbm, ⟨79, _⟩ => ⟨S128x1x512, .i1⟩
  | .hbm, ⟨80, _⟩ => ⟨S128x1x512, .f32⟩
  | .hbm, ⟨81, _⟩ => ⟨S128x1x512, .f32⟩
  | .hbm, ⟨82, _⟩ => ⟨S128x1x512, .f32⟩
  | .hbm, ⟨83, _⟩ => ⟨S128x1x512, .f32⟩
  | .hbm, ⟨84, _⟩ => ⟨S128x1x512, .f32⟩
  | .hbm, ⟨85, _⟩ => ⟨S128x1x512, .f32⟩
  | .hbm, ⟨86, _⟩ => ⟨S128x1x512, .f32⟩
  | .hbm, ⟨87, _⟩ => ⟨S128x1x512, .f32⟩
  | .hbm, ⟨88, _⟩ => ⟨S128x1x512, .f32⟩
  | .hbm, ⟨89, _⟩ => ⟨S_, .f32⟩
  | .hbm, ⟨90, _⟩ => ⟨S128x1x512, .f32⟩
  | .hbm, ⟨91, _⟩ => ⟨S128x1x512, .f32⟩
  | .hbm, ⟨92, _⟩ => ⟨S128x1x512, .f32⟩
  | .hbm, ⟨93, _⟩ => ⟨S_, .f32⟩
  | .hbm, ⟨94, _⟩ => ⟨S128x1x512, .f32⟩
  | .hbm, ⟨95, _⟩ => ⟨S128x1x512, .f32⟩
  | .hbm, ⟨96, _⟩ => ⟨S16x8x512, .f32⟩
  | .hbm, ⟨97, _⟩ => ⟨S16x8x512, .f32⟩
  | .hbm, ⟨98, _⟩ => ⟨S16x8x512, .f32⟩
  | .hbm, ⟨99, _⟩ => ⟨S16x8x1024, .f32⟩
  | .hbm, ⟨100, _⟩ => ⟨S128x1024, .f32⟩
  | .hbm, ⟨101, _⟩ => ⟨S128x1024, .f32⟩
  | .hbm, ⟨102, _⟩ => ⟨S128x1024, .f32⟩
  | .hbm, ⟨103, _⟩ => ⟨S128x1024, .f32⟩
  | .hbm, ⟨104, _⟩ => ⟨S128x1024, .f32⟩
  | .hbm, ⟨105, _⟩ => ⟨S128x256, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_call0_v0 : Ref sig .tc := ⟨.hbm, 73, rfl⟩
abbrev main_call0_call0_cst : Ref sig .tc := ⟨.hbm, 74, rfl⟩
abbrev main_call0_call0_v0 : Ref sig .tc := ⟨.hbm, 75, rfl⟩
abbrev main_call0_call0_v1 : Ref sig .tc := ⟨.hbm, 76, rfl⟩
abbrev main_call0_call0_v2 : Ref sig .tc := ⟨.hbm, 77, rfl⟩
abbrev main_call0_call0_v3 : Ref sig .tc := ⟨.hbm, 78, rfl⟩
abbrev main_call0_call0_v4 : Ref sig .tc := ⟨.hbm, 79, rfl⟩
abbrev main_call0_call0_v5 : Ref sig .tc := ⟨.hbm, 80, rfl⟩
abbrev main_call0_call0_v6 : Ref sig .tc := ⟨.hbm, 81, rfl⟩
abbrev main_call0_call0_v7 : Ref sig .tc := ⟨.hbm, 82, rfl⟩
abbrev main_call0_call0_v8 : Ref sig .tc := ⟨.hbm, 83, rfl⟩
abbrev main_call0_call0_v9 : Ref sig .tc := ⟨.hbm, 84, rfl⟩
abbrev main_call0_call0_v10 : Ref sig .tc := ⟨.hbm, 85, rfl⟩
abbrev main_call0_call0_v11 : Ref sig .tc := ⟨.hbm, 86, rfl⟩
abbrev main_call0_v1 : Ref sig .tc := ⟨.hbm, 87, rfl⟩
abbrev main_v59 : Ref sig .tc := ⟨.hbm, 88, rfl⟩
abbrev main_cst_2 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_3 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩

abbrev nD : Nat := 1
abbrev τ : Topo := Topo.v7x

variable {F : FTy → Type} [FloatOps F]
-- ==== Ffn.lean ====
abbrev S16384x1024 : Shape := ⟨2, ![16384, 1024]⟩
abbrev S16384x256 : Shape := ⟨2, ![16384, 256]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1024x1024 : Shape := ⟨2, ![1024, 1024]⟩
abbrev S128x4x128x256 : Shape := ⟨4, ![128, 4, 128, 256]⟩
abbrev S16x8x512 : Shape := ⟨3, ![16, 8, 512]⟩
abbrev S16x8x1024 : Shape := ⟨3, ![16, 8, 1024]⟩
abbrev S128x1024 : Shape := ⟨2, ![128, 1024]⟩
abbrev S128x256 : Shape := ⟨2, ![128, 256]⟩
abbrev S256 : Shape := ⟨1, ![256]⟩
abbrev S1x1024 : Shape := ⟨2, ![1, 1024]⟩
abbrev S1x256 : Shape := ⟨2, ![1, 256]⟩
abbrev S512x1024 : Shape := ⟨2, ![512, 1024]⟩
abbrev S512x256 : Shape := ⟨2, ![512, 256]⟩
abbrev S4x4x128x256 : Shape := ⟨4, ![4, 4, 128, 256]⟩
abbrev S512 : Shape := ⟨1, ![512]⟩
abbrev S512x1 : Shape := ⟨2, ![512, 1]⟩
abbrev S512x2816 : Shape := ⟨2, ![512, 2816]⟩
abbrev S8x1024 : Shape := ⟨2, ![8, 1024]⟩
abbrev S1x8x1024 : Shape := ⟨3, ![1, 8, 1024]⟩
abbrev S1x1x512 : Shape := ⟨3, ![1, 1, 512]⟩
abbrev S1x512 : Shape := ⟨2, ![1, 512]⟩
abbrev S1x1x1024 : Shape := ⟨3, ![1, 1, 1024]⟩
abbrev S1x128 : Shape := ⟨2, ![1, 128]⟩
abbrev S128x128 : Shape := ⟨2, ![128, 128]⟩
abbrev S1x1x128x128 : Shape := ⟨4, ![1, 1, 128, 128]⟩
abbrev S128 : Shape := ⟨1, ![128]⟩
abbrev S128x1 : Shape := ⟨2, ![128, 1]⟩
abbrev S128x2816 : Shape := ⟨2, ![128, 2816]⟩

abbrev nBuf : Space → Nat
  | .hbm => 33
  | .vmem => 34
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1024, .f32⟩
  | .hbm, ⟨7, _⟩ => ⟨S256x1024, .bf16⟩
  | .hbm, ⟨8, _⟩ => ⟨S1024x1024, .bf16⟩
  | .hbm, ⟨9, _⟩ => ⟨S1024, .f32⟩
  | .hbm, ⟨10, _⟩ => ⟨S128x4x128x256, .f32⟩
  | .hbm, ⟨11, _⟩ => ⟨S16x8x512, .f32⟩
  | .hbm, ⟨12, _⟩ => ⟨S16x8x512, .f32⟩
  | .hbm, ⟨13, _⟩ => ⟨S16x8x512, .f32⟩
  | .hbm, ⟨14, _⟩ => ⟨S16x8x1024, .f32⟩
  | .hbm, ⟨15, _⟩ => ⟨S128x1024, .f32⟩
  | .hbm, ⟨16, _⟩ => ⟨S128x256, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S256, .f32⟩
  | .hbm, ⟨22, _⟩ => ⟨S1024x1024, .bf16⟩
  | .hbm, ⟨23, _⟩ => ⟨S1024x1024, .bf16⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x256, .f32⟩
  | .hbm, ⟨29, _⟩ => ⟨S1x1024, .f32⟩
  | .hbm, ⟨30, _⟩ => ⟨S16384x1024, .f32⟩
  | .hbm, ⟨31, _⟩ => ⟨S128x4x128x256, .f32⟩
  | .hbm, ⟨32, _⟩ => ⟨S128x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S256x1024, .bf16⟩
  | .local _ .vmem, ⟨10, _⟩ => ⟨S1024x1024, .bf16⟩
  | .local _ .vmem, ⟨11, _⟩ => ⟨S1x1024, .f32⟩
  | .local _ .vmem, ⟨12, _⟩ => ⟨S4x4x128x256, .f32⟩
  | .local _ .vmem, ⟨13, _⟩ => ⟨S4x4x128x256, .f32⟩
  | .local _ .vmem, ⟨14, _⟩ => ⟨S16x8x512, .f32⟩
  | .local _ .vmem, ⟨15, _⟩ => ⟨S16x8x512, .f32⟩
  | .local _ .vmem, ⟨16, _⟩ => ⟨S16x8x512, .f32⟩
  | .local _ .vmem, ⟨17, _⟩ => ⟨S16x8x1024, .f32⟩
  | .local _ .vmem, ⟨18, _⟩ => ⟨S128x1024, .f32⟩
  | .local _ .vmem, ⟨19, _⟩ => ⟨S128x256, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S1x256, .f32⟩
  | .local _ .vmem, ⟨25, _⟩ => ⟨S1024x1024, .bf16⟩
  | .local _ .vmem, ⟨26, _⟩ => ⟨S1024x1024, .bf16⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S4x4x128x256, .f32⟩
  | .local _ .vmem, ⟨31, _⟩ => ⟨S4x4x128x256, .f32⟩
  | .local _ .vmem, ⟨32, _⟩ => ⟨S128x1024, .f32⟩
  | .local _ .vmem, ⟨33, _⟩ => ⟨S16x8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5_0 : Ref sig .tc := ⟨.hbm, 30, rfl⟩
abbrev main_v5_1 : Ref sig .tc := ⟨.hbm, 31, rfl⟩
abbrev main_v5_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg25_0 : Ref sig .tc := ⟨.vmem, 28, rfl⟩
abbrev cc0_stg25_1 : Ref sig .tc := ⟨.vmem, 29, rfl⟩
abbrev cc0_stg26_0 : Ref sig .tc := ⟨.vmem, 30, rfl⟩
abbrev cc0_stg26_1 : Ref sig .tc := ⟨.vmem, 31, rfl⟩
abbrev cc0_stg27_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem25_0 : DmaSem sig := 28
abbrev cc0_sem25_1 : DmaSem sig := 29
abbrev cc0_sem26_0 : DmaSem sig := 30
abbrev cc0_sem26_1 : DmaSem sig := 31
abbrev cc0_sem27_0 : DmaSem sig := 32

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let c0_i32_44 : BitVec 32 := 0#32
  let v88 : BitVec 1 := Scalar.cmpi .sgt arg0 c0_i32_44
  let v89 : BitVec 32 := Scalar.extui v88
  let c0_i32_45 : BitVec 32 := 0#32
  let v90 : BitVec 1 := Scalar.cmpi .slt arg0 c0_i32_45
  let v91 : BitVec 32 := Scalar.extui v90
  let v92 : BitVec 32 := Scalar.subi v89 v91
  let c2_i32 : BitVec 32 := 2#32
  let c0_i32_46 : BitVec 32 := 0#32
  let v93 : BitVec 1 := Scalar.cmpi .sgt c2_i32 c0_i32_46
  let v94 : BitVec 32 := Scalar.extui v93
  let c0_i32_47 : BitVec 32 := 0#32
  let v95 : BitVec 1 := Scalar.cmpi .slt c2_i32 c0_i32_47
  let v96 : BitVec 32 := Scalar.extui v95
  let v97 : BitVec 32 := Scalar.subi v94 v96
  let v98 : BitVec 1 := Scalar.cmpi .ne v92 v97
  let v99 : BitVec 32 := Scalar.remsi arg0 c2_i32
  let c0_i32_48 : BitVec 32 := 0#32
  let v100 : BitVec 1 := Scalar.cmpi .ne v99 c0_i32_48
  let v101 : BitVec 1 := Scalar.andi v98 v100
  let v87 : BitVec 32 := Scalar.divsi arg0 c2_i32
  let c1_i32 : BitVec 32 := 1#32
  let v102 : BitVec 32 := Scalar.subi v87 c1_i32
  let v103 : BitVec 32 := Scalar.select v101 v102 v87
  let v116 : Index := Scalar.indexCast v103
  let c0_55 : Index := 0#32
  let c0_56 : Index := 0#32
  ![v116.toNat, 0, 0]
def k0_off2 (i : grid0.Coords) (c0_i32_57 : BitVec 32) : Fin 3 → Nat :=
  let arg0 : BitVec 32 := BitVec.ofNat 32 (i 0).val
  let c0_i32_44 : BitVec 32 := 0#32
  let v88 : BitVec 1 := Scalar.cmpi .sgt arg0 c0_i32_44
  let v89 : BitVec 32 := Scalar.extui v88
  let c0_i32_45 : BitVec 32 := 0#32
  let v90 : BitVec 1 := Scalar.cmpi .slt arg0 c0_i32_45
  let v91 : BitVec 32 := Scalar.extui v90
  let v92 : BitVec 32 := Scalar.subi v89 v91
  let c2_i32 : BitVec 32 := 2#32
  let c0_i32_46 : BitVec 32 := 0#32
  let v93 : BitVec 1 := Scalar.cmpi .sgt c2_i32 c0_i32_46
  let v94 : BitVec 32 := Scalar.extui v93
  let c0_i32_47 : BitVec 32 := 0#32
  let v95 : BitVec 1 := Scalar.cmpi .slt c2_i32 c0_i32_47
  let v96 : BitVec 32 := Scalar.extui v95
  let v97 : BitVec 32 := Scalar.subi v94 v96
  let v98 : BitVec 1 := Scalar.cmpi .ne v92 v97
  let v99 : BitVec 32 := Scalar.remsi arg0 c2_i32
  let c0_i32_48 : BitVec 32 := 0#32
  let v100 : BitVec 1 := Scalar.cmpi .ne v99 c0_i32_48
  let v101 : BitVec 1 := Scalar.andi v98 v100
  let v87 : BitVec 32 := Scalar.divsi arg0 c2_i32
  let c1_i32 : BitVec 32 := 1#32
  let v102 : BitVec 32 := Scalar.subi v87 c1_i32
  let v103 : BitVec 32 := Scalar.select v101 v102 v87
  let v120 : Index := Scalar.indexCast v103
  let c2_i32_49 : BitVec 32 := 2#32
  let c0_i32_50 : BitVec 32 := 0#32
  let v104 : BitVec 1 := Scalar.cmpi .eq c2_i32_49 c0_i32_50
  let c1_i32_51 : BitVec 32 := 1#32
  let v105 : BitVec 32 := Scalar.select v104 c1_i32_51 c2_i32_49
  let v106 : BitVec 32 := Scalar.remsi arg0 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let c4_i32 : BitVec 32 := 4#32
  let v114 : BitVec 32 := Scalar.muli v113 c4_i32
  let v119 : BitVec 32 := Scalar.addi v114 c0_i32_57
  let v121 : Index := Scalar.indexCast v119
  let c0_58 : Index := 0#32
  ![v120.toNat, v121.toNat, 0]
def k0_off3 (i : grid0.Coords) (c0_i32_57 : BitVec 32) : Fin 3 → Nat :=
  let arg0 : BitVec 32 := BitVec.ofNat 32 (i 0).val
  let c0_i32_44 : BitVec 32 := 0#32
  let v88 : BitVec 1 := Scalar.cmpi .sgt arg0 c0_i32_44
  let v89 : BitVec 32 := Scalar.extui v88
  let c0_i32_45 : BitVec 32 := 0#32
  let v90 : BitVec 1 := Scalar.cmpi .slt arg0 c0_i32_45
  let v91 : BitVec 32 := Scalar.extui v90
  let v92 : BitVec 32 := Scalar.subi v89 v91
  let c2_i32 : BitVec 32 := 2#32
  let c0_i32_46 : BitVec 32 := 0#32
  let v93 : BitVec 1 := Scalar.cmpi .sgt c2_i32 c0_i32_46
  let v94 : BitVec 32 := Scalar.extui v93
  let c0_i32_47 : BitVec 32 := 0#32
  let v95 : BitVec 1 := Scalar.cmpi .slt c2_i32 c0_i32_47
  let v96 : BitVec 32 := Scalar.extui v95
  let v97 : BitVec 32 := Scalar.subi v94 v96
  let v98 : BitVec 1 := Scalar.cmpi .ne v92 v97
  let v99 : BitVec 32 := Scalar.remsi arg0 c2_i32
  let c0_i32_48 : BitVec 32 := 0#32
  let v100 : BitVec 1 := Scalar.cmpi .ne v99 c0_i32_48
  let v101 : BitVec 1 := Scalar.andi v98 v100
  let v87 : BitVec 32 := Scalar.divsi arg0 c2_i32
  let c1_i32 : BitVec 32 := 1#32
  let v102 : BitVec 32 := Scalar.subi v87 c1_i32
  let v103 : BitVec 32 := Scalar.select v101 v102 v87
  let v132 : Index := Scalar.indexCast v103
  let c2_i32_49 : BitVec 32 := 2#32
  let c0_i32_50 : BitVec 32 := 0#32
  let v104 : BitVec 1 := Scalar.cmpi .eq c2_i32_49 c0_i32_50
  let c1_i32_51 : BitVec 32 := 1#32
  let v105 : BitVec 32 := Scalar.select v104 c1_i32_51 c2_i32_49
  let v106 : BitVec 32 := Scalar.remsi arg0 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let c4_i32 : BitVec 32 := 4#32
  let v114 : BitVec 32 := Scalar.muli v113 c4_i32
  let v119 : BitVec 32 := Scalar.addi v114 c0_i32_57
  let v133 : Index := Scalar.indexCast v119
  let c0_61 : Index := 0#32
  ![v132.toNat, v133.toNat, 0]
def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_26 (i : grid0.Coords) : Fin 4 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S16x8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1024x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S512x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S4x4x128x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 1 → Memref sig .tc .vmem S128x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== FfnIdeal.lean ====
variable {F : FTy → Type} [FloatOps F] [Named F]
def κ : String → Option EReal := fun
  | "log2e_gate" => some (((1 / 16) * (Real.log 2)⁻¹ : ℝ) : EReal)
  | "neg_log2e" => some ((-((Real.log 2)⁻¹) : ℝ) : EReal)
  | _ => none
-- ==== FfnRefIdeal.lean ====
abbrev S16384x1024 : Shape := ⟨2, ![16384, 1024]⟩
abbrev S16384x256 : Shape := ⟨2, ![16384, 256]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1024x1024 : Shape := ⟨2, ![1024, 1024]⟩
abbrev S128x4x128x256 : Shape := ⟨4, ![128, 4, 128, 256]⟩
abbrev S16x8x512 : Shape := ⟨3, ![16, 8, 512]⟩
abbrev S16x8x1024 : Shape := ⟨3, ![16, 8, 1024]⟩
abbrev S128x1024 : Shape := ⟨2, ![128, 1024]⟩
abbrev S128x256 : Shape := ⟨2, ![128, 256]⟩
abbrev S256 : Shape := ⟨1, ![256]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 104
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1024, .f32⟩
  | .hbm, ⟨7, _⟩ => ⟨S256x1024, .bf16⟩
  | .hbm, ⟨8, _⟩ => ⟨S1024x1024, .bf16⟩
  | .hbm, ⟨9, _⟩ => ⟨S1024, .f32⟩
  | .hbm, ⟨10, _⟩ => ⟨S128x4x128x256, .f32⟩
  | .hbm, ⟨11, _⟩ => ⟨S16x8x512, .f32⟩
  | .hbm, ⟨12, _⟩ => ⟨S16x8x512, .f32⟩
  | .hbm, ⟨13, _⟩ => ⟨S16x8x512, .f32⟩
  | .hbm, ⟨14, _⟩ => ⟨S16x8x1024, .f32⟩
  | .hbm, ⟨15, _⟩ => ⟨S128x1024, .f32⟩
  | .hbm, ⟨16, _⟩ => ⟨S128x256, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S256, .f32⟩
  | .hbm, ⟨22, _⟩ => ⟨S1024x1024, .bf16⟩
  | .hbm, ⟨23, _⟩ => ⟨S1024x1024, .bf16⟩
  | .hbm, ⟨24, _⟩ => ⟨S1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1024x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S_, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S1024x2816, .f32⟩
  | .hbm, ⟨53, _⟩ => ⟨S16384x2816, .f32⟩
  | .hbm, ⟨54, _⟩ => ⟨S16384x2816, .f32⟩
  | .hbm, ⟨55, _⟩ => ⟨S2816x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S1x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S256x1024, .f32⟩
  | .hbm, ⟨75, _⟩ => ⟨S16384x1024, .f32⟩
  | .hbm, ⟨76, _⟩ => ⟨S1024x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S_, .f32⟩
  | .hbm, ⟨89, _⟩ => ⟨S16384, .f32⟩
  | .hbm, ⟨90, _⟩ => ⟨S16384x1, .f32⟩
  | .hbm, ⟨91, _⟩ => ⟨S_, .f32⟩
  | .hbm, ⟨92, _⟩ => ⟨S16384x1, .f32⟩
  | .hbm, ⟨93, _⟩ => ⟨S16384x1, .f32⟩
  | .hbm, ⟨94, _⟩ => ⟨S_, .f32⟩
  | .hbm, ⟨95, _⟩ => ⟨S16384x1, .f32⟩
  | .hbm, ⟨96, _⟩ => ⟨S16384x1, .f32⟩
  | .hbm, ⟨97, _⟩ => ⟨S16384x1, .f32⟩
  | .hbm, ⟨98, _⟩ => ⟨S16384x1024, .f32⟩
  | .hbm, ⟨99, _⟩ => ⟨S16384x1024, .f32⟩
  | .hbm, ⟨100, _⟩ => ⟨S1x1024, .f32⟩
  | .hbm, ⟨101, _⟩ => ⟨S16384x1024, .f32⟩
  | .hbm, ⟨102, _⟩ => ⟨S16384x1024, .f32⟩
  | .hbm, ⟨103, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_cst_0 : Ref sig .tc := ⟨.hbm, 29, rfl⟩
abbrev main_v3 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_2 : Ref sig .tc := ⟨.hbm, 58, rfl⟩
abbrev main_v22 : Ref sig .tc := ⟨.hbm, 59, rfl⟩
abbrev main_v23 : Ref sig .tc := ⟨.hbm, 60, rfl⟩
abbrev main_cst_3 : Ref sig .tc := ⟨.hbm, 61, rfl⟩
abbrev main_v24 : Ref sig .tc := ⟨.hbm, 62, rfl⟩
abbrev main_v25 : Ref sig .tc := ⟨.hbm, 63, rfl⟩
abbrev main_cst_4 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_5 : Ref sig .tc := ⟨.hbm, 80, rfl⟩
abbrev main_v41 : Ref sig .tc := ⟨.hbm, 81, rfl⟩
abbrev main_v42 : Ref sig .tc := ⟨.hbm, 82, rfl⟩
abbrev main_cst_6 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_7 : Ref sig .tc := ⟨.hbm, 88, rfl⟩
abbrev main_v47 : Ref sig .tc := ⟨.hbm, 89, rfl⟩
abbrev main_v48 : Ref sig .tc := ⟨.hbm, 90, rfl⟩
abbrev main_cst_8 : Ref sig .tc := ⟨.hbm, 91, rfl⟩
abbrev main_v49 : Ref sig .tc := ⟨.hbm, 92, rfl⟩
abbrev main_v50 : Ref sig .tc := ⟨.hbm, 93, rfl⟩
abbrev main_cst_9 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩

abbrev nD : Nat := 1
abbrev τ : Topo := Topo.v7x

variable {F : FTy → Type} [FloatOps F]
-- ==== Proof.Tile.lean ====
/-
  One chunk of 256 tokens of the gated linear attention, spelled with the body's own operations: the decay of a pair of tokens is
  split at eight levels (the highest bit in which the two positions differ), each level one product of two scaled operands; the
  128-token halves meet in one more product; the carried state enters through the queries decayed from the chunk's start. The
  rows of the running sums that a level refers to are read through `rd` (row number to row), whatever buffer holds them.
-/
module

public import proofs.«01_k».proof.Proof.Gen.KernelIdeal.Skeleton

@[expose] public section

set_option maxRecDepth 16384

noncomputable section

namespace Cert.Mixer

open Idealize.ShloMosaic Cert.KernelIdeal Cert.KernelIdeal.Gen

variable {F : FTy → Type} [FloatOps F] [Named F]

/-- A row of the running sums, by its number. -/
abbrev Rows (F : FTy → Type) := (r : ℕ) → r < 256 → FVec F S1x1x512 .f32

/-- The row numbered `r`, as a row. -/
def rowAt (rd : Rows F) (r : ℕ) (h : r < 256) : FVec F S1x512 .f32 := shapeCast S1x512 (rd r h) shapeCasts_S1x1x512_S1x512

/-- The row numbered `r`, repeated over a block of 8. -/
def rep8 (rd : Rows F) (r : ℕ) (h : r < 256) : FVec F S8x512 .f32 :=
  broadcastTo S8x512 (shapeCast S1x512 (rowAt rd r h) shapeCasts_S1x512_S1x512) broadcasts_S1x512_S8x512

/-- The last row of each block's first half, over the block: blocks of 8 rows. -/
def mids8 (rd : Rows F) : FVec F S256x512 .f32 :=
  concatenate S256x512 0 [⟨S8x512, rep8 rd 3 (by decide)⟩, ⟨S8x512, rep8 rd 11 (by decide)⟩, ⟨S8x512, rep8 rd 19 (by decide)⟩, ⟨S8x512, rep8 rd 27 (by decide)⟩, ⟨S8x512, rep8 rd 35 (by decide)⟩, ⟨S8x512, rep8 rd 43 (by decide)⟩, ⟨S8x512, rep8 rd 51 (by decide)⟩, ⟨S8x512, rep8 rd 59 (by decide)⟩, ⟨S8x512, rep8 rd 67 (by decide)⟩, ⟨S8x512, rep8 rd 75 (by decide)⟩, ⟨S8x512, rep8 rd 83 (by decide)⟩, ⟨S8x512, rep8 rd 91 (by decide)⟩, ⟨S8x512, rep8 rd 99 (by decide)⟩, ⟨S8x512, rep8 rd 107 (by decide)⟩, ⟨S8x512, rep8 rd 115 (by decide)⟩, ⟨S8x512, rep8 rd 123 (by decide)⟩, ⟨S8x512, rep8 rd 131 (by decide)⟩, ⟨S8x512, rep8 rd 139 (by decide)⟩, ⟨S8x512, rep8 rd 147 (by decide)⟩, ⟨S8x512, rep8 rd 155 (by decide)⟩, ⟨S8x512, rep8 rd 163 (by decide)⟩, ⟨S8x512, rep8 rd 171 (by decide)⟩, ⟨S8x512, rep8 rd 179 (by decide)⟩, ⟨S8x512, rep8 rd 187 (by decide)⟩, ⟨S8x512, rep8 rd 195 (by decide)⟩, ⟨S8x512, rep8 rd 203 (by decide)⟩, ⟨S8x512, rep8 rd 211 (by decide)⟩, ⟨S8x512, rep8 rd 219 (by decide)⟩, ⟨S8x512, rep8 rd 227 (by decide)⟩, ⟨S8x512, rep8 rd 235 (by decide)⟩, ⟨S8x512, rep8 rd 243 (by decide)⟩, ⟨S8x512, rep8 rd 251 (by decide)⟩] concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S256x512_d0

/-- The decay factor towards those rows. -/
def fac8 (cum : FVec F S256x512 .f32) (rd : Rows F) : FVec F S256x512 .f32 :=
  exp2 (subf (broadcast S256x512 (Scalar.ofBits .f32 0x00000000#32)) (absf (subf cum (mids8 rd))))

/-- The row numbered `r`, repeated over a block of 16. -/
def rep16 (rd : Rows F) (r : ℕ) (h : r < 256) : FVec F S16x512 .f32 :=
  broadcastTo S16x512 (shapeCast S1x512 (rowAt rd r h) shapeCasts_S1x512_S1x512) broadcasts_S1x512_S16x512

/-- The last row of each block's first half, over the block: blocks of 16 rows. -/
def mids16 (rd : Rows F) : FVec F S256x512 .f32 :=
  concatenate S256x512 0 [⟨S16x512, rep16 rd 7 (by decide)⟩, ⟨S16x512, rep16 rd 23 (by decide)⟩, ⟨S16x512, rep16 rd 39 (by decide)⟩, ⟨S16x512, rep16 rd 55 (by decide)⟩, ⟨S16x512, rep16 rd 71 (by decide)⟩, ⟨S16x512, rep16 rd 87 (by decide)⟩, ⟨S16x512, rep16 rd 103 (by decide)⟩, ⟨S16x512, rep16 rd 119 (by decide)⟩, ⟨S16x512, rep16 rd 135 (by decide)⟩, ⟨S16x512, rep16 rd 151 (by decide)⟩, ⟨S16x512, rep16 rd 167 (by decide)⟩, ⟨S16x512, rep16 rd 183 (by decide)⟩, ⟨S16x512, rep16 rd 199 (by decide)⟩, ⟨S16x512, rep16 rd 215 (by decide)⟩, ⟨S16x512, rep16 rd 231 (by decide)⟩, ⟨S16x512, rep16 rd 247 (by decide)⟩] concatenates_S16x512_S16x512_S16x512_S16x512_S16x512_S16x512_S16x512_S16x512_S16x512_S16x512_S16x512_S16x512_S16x512_S16x512_S16x512_S16x512_S256x512_d0

/-- The decay factor towards those rows. -/
def fac16 (cum : FVec F S256x512 .f32) (rd : Rows F) : FVec F S256x512 .f32 :=
  exp2 (subf (broadcast S256x512 (Scalar.ofBits .f32 0x00000000#32)) (absf (subf cum (mids16 rd))))

/-- Queries from row `o` on, decayed from the row numbered `r`: 16 rows. -/
def qPart16 (o : ℕ) (hs : S256x512.Slices ![o, 0] S16x512) (q cum : FVec F S256x512 .f32) (rd : Rows F) (r : ℕ) (h : r < 256) : FVec F S16x512 .bf16 :=
  truncf .bf16 (mulf (extractStridedSlice S16x512 ![o, 0] q hs) (exp2 (subf (extractStridedSlice S16x512 ![o, 0] cum hs) (broadcastTo S16x512 (rowAt rd r h) broadcasts_S1x512_S16x512)))) bitsLt_bf16_f32

/-- Keys from row `o` on, decayed to the row numbered `r`: 16 rows. -/
def kPart16 (o : ℕ) (hs : S256x512.Slices ![o, 0] S16x512) (k cum : FVec F S256x512 .f32) (rd : Rows F) (r : ℕ) (h : r < 256) : FVec F S16x512 .bf16 :=
  truncf .bf16 (mulf (extractStridedSlice S16x512 ![o, 0] k hs) (exp2 (subf (broadcastTo S16x512 (rowAt rd r h) broadcasts_S1x512_S16x512) (extractStridedSlice S16x512 ![o, 0] cum hs)))) bitsLt_bf16_f32

/-- The queries of the level whose halves hold 16 tokens. -/
def qSplit16 (q cum : FVec F S256x512 .f32) (rd : Rows F) : FVec F S256x512 .bf16 :=
  concatenate S256x512 0 [⟨S16x512, extractStridedSlice S16x512 ![0, 0] (truncf .bf16 q bitsLt_bf16_f32) slices_S256x512_o0_0_S16x512⟩, ⟨S16x512, qPart16 16 slices_S256x512_o16_0_S16x512 q cum rd 15 (by decide)⟩, ⟨S16x512, extractStridedSlice S16x512 ![32, 0] (truncf .bf16 q bitsLt_bf16_f32) slices_S256x512_o32_0_S16x512⟩, ⟨S16x512, qPart16 48 slices_S256x512_o48_0_S16x512 q cum rd 47 (by decide)⟩, ⟨S16x512, extractStridedSlice S16x512 ![64, 0] (truncf .bf16 q bitsLt_bf16_f32) slices_S256x512_o64_0_S16x512⟩, ⟨S16x512, qPart16 80 slices_S256x512_o80_0_S16x512 q cum rd 79 (by decide)⟩, ⟨S16x512, extractStridedSlice S16x512 ![96, 0] (truncf .bf16 q bitsLt_bf16_f32) slices_S256x512_o96_0_S16x512⟩, ⟨S16x512, qPart16 112 slices_S256x512_o112_0_S16x512 q cum rd 111 (by decide)⟩, ⟨S16x512, extractStridedSlice S16x512 ![128, 0] (truncf .bf16 q bitsLt_bf16_f32) slices_S256x512_o128_0_S16x512⟩, ⟨S16x512, qPart16 144 slices_S256x512_o144_0_S16x512 q cum rd 143 (by decide)⟩, ⟨S16x512, extractStridedSlice S16x512 ![160, 0] (truncf .bf16 q bitsLt_bf16_f32) slices_S256x512_o160_0_S16x512⟩, ⟨S16x512, qPart16 176 slices_S256x512_o176_0_S16x512 q cum rd 175 (by decide)⟩, ⟨S16x512, extractStridedSlice S16x512 ![192, 0] (truncf .bf16 q bitsLt_bf16_f32) slices_S256x512_o192_0_S16x512⟩, ⟨S16x512, qPart16 208 slices_S256x512_o208_0_S16x512 q cum rd 207 (by decide)⟩, ⟨S16x512, extractStridedSlice S16x512 ![224, 0] (truncf .bf16 q bitsLt_bf16_f32) slices_S256x512_o224_0_S16x512⟩, ⟨S16x512, qPart16 240 slices_S256x512_o240_0_S16x512 q cum rd 239 (by decide)⟩] concatenates_S16x512_S16x512_S16x512_S16x512_S16x512_S16x512_S16x512_S16x512_S16x512_S16x512_S16x512_S16x512_S16x512_S16x512_S16x512_S16x512_S256x512_d0

/-- The keys of the level whose halves hold 16 tokens. -/
def kSplit16 (k cum : FVec F S256x512 .f32) (rd : Rows F) : FVec F S256x512 .bf16 :=
  concatenate S256x512 0 [⟨S16x512, kPart16 0 slices_S256x512_o0_0_S16x512 k cum rd 15 (by decide)⟩, ⟨S16x512, extractStridedSlice S16x512 ![16, 0] (truncf .bf16 k bitsLt_bf16_f32) slices_S256x512_o16_0_S16x512⟩, ⟨S16x512, kPart16 32 slices_S256x512_o32_0_S16x512 k cum rd 47 (by decide)⟩, ⟨S16x512, extractStridedSlice S16x512 ![48, 0] (truncf .bf16 k bitsLt_bf16_f32) slices_S256x512_o48_0_S16x512⟩, ⟨S16x512, kPart16 64 slices_S256x512_o64_0_S16x512 k cum rd 79 (by decide)⟩, ⟨S16x512, extractStridedSlice S16x512 ![80, 0] (truncf .bf16 k bitsLt_bf16_f32) slices_S256x512_o80_0_S16x512⟩, ⟨S16x512, kPart16 96 slices_S256x512_o96_0_S16x512 k cum rd 111 (by decide)⟩, ⟨S16x512, extractStridedSlice S16x512 ![112, 0] (truncf .bf16 k bitsLt_bf16_f32) slices_S256x512_o112_0_S16x512⟩, ⟨S16x512, kPart16 128 slices_S256x512_o128_0_S16x512 k cum rd 143 (by decide)⟩, ⟨S16x512, extractStridedSlice S16x512 ![144, 0] (truncf .bf16 k bitsLt_bf16_f32) slices_S256x512_o144_0_S16x512⟩, ⟨S16x512, kPart16 160 slices_S256x512_o160_0_S16x512 k cum rd 175 (by decide)⟩, ⟨S16x512, extractStridedSlice S16x512 ![176, 0] (truncf .bf16 k bitsLt_bf16_f32) slices_S256x512_o176_0_S16x512⟩, ⟨S16x512, kPart16 192 slices_S256x512_o192_0_S16x512 k cum rd 207 (by decide)⟩, ⟨S16x512, extractStridedSlice S16x512 ![208, 0] (truncf .bf16 k bitsLt_bf16_f32) slices_S256x512_o208_0_S16x512⟩, ⟨S16x512, kPart16 224 slices_S256x512_o224_0_S16x512 k cum rd 239 (by decide)⟩, ⟨S16x512, extractStridedSlice S16x512 ![240, 0] (truncf .bf16 k bitsLt_bf16_f32) slices_S256x512_o240_0_S16x512⟩] concatenates_S16x512_S16x512_S16x512_S16x512_S16x512_S16x512_S16x512_S16x512_S16x512_S16x512_S16x512_S16x512_S16x512_S16x512_S16x512_S16x512_S256x512_d0

/-- Queries from row `o` on, decayed from the row numbered `r`: 32 rows. -/
def qPart32 (o : ℕ) (hs : S256x512.Slices ![o, 0] S32x512) (q cum : FVec F S256x512 .f32) (rd : Rows F) (r : ℕ) (h : r < 256) : FVec F S32x512 .bf16 :=
  truncf .bf16 (mulf (extractStridedSlice S32x512 ![o, 0] q hs) (exp2 (subf (extractStridedSlice S32x512 ![o, 0] cum hs) (broadcastTo S32x512 (rowAt rd r h) broadcasts_S1x512_S32x512)))) bitsLt_bf16_f32

/-- Keys from row `o` on, decayed to the row numbered `r`: 32 rows. -/
def kPart32 (o : ℕ) (hs : S256x512.Slices ![o, 0] S32x512) (k cum : FVec F S256x512 .f32) (rd : Rows F) (r : ℕ) (h : r < 256) : FVec F S32x512 .bf16 :=
  truncf .bf16 (mulf (extractStridedSlice S32x512 ![o, 0] k hs) (exp2 (subf (broadcastTo S32x512 (rowAt rd r h) broadcasts_S1x512_S32x512) (extractStridedSlice S32x512 ![o, 0] cum hs)))) bitsLt_bf16_f32

/-- The queries of the level whose halves hold 32 tokens. -/
def qSplit32 (q cum : FVec F S256x512 .f32) (rd : Rows F) : FVec F S256x512 .bf16 :=
  concatenate S256x512 0 [⟨S32x512, extractStridedSlice S32x512 ![0, 0] (truncf .bf16 q bitsLt_bf16_f32) slices_S256x512_o0_0_S32x512⟩, ⟨S32x512, qPart32 32 slices_S256x512_o32_0_S32x512 q cum rd 31 (by decide)⟩, ⟨S32x512, extractStridedSlice S32x512 ![64, 0] (truncf .bf16 q bitsLt_bf16_f32) slices_S256x512_o64_0_S32x512⟩, ⟨S32x512, qPart32 96 slices_S256x512_o96_0_S32x512 q cum rd 95 (by decide)⟩, ⟨S32x512, extractStridedSlice S32x512 ![128, 0] (truncf .bf16 q bitsLt_bf16_f32) slices_S256x512_o128_0_S32x512⟩, ⟨S32x512, qPart32 160 slices_S256x512_o160_0_S32x512 q cum rd 159 (by decide)⟩, ⟨S32x512, extractStridedSlice S32x512 ![192, 0] (truncf .bf16 q bitsLt_bf16_f32) slices_S256x512_o192_0_S32x512⟩, ⟨S32x512, qPart32 224 slices_S256x512_o224_0_S32x512 q cum rd 223 (by decide)⟩] concatenates_S32x512_S32x512_S32x512_S32x512_S32x512_S32x512_S32x512_S32x512_S256x512_d0

/-- The keys of the level whose halves hold 32 tokens. -/
def kSplit32 (k cum : FVec F S256x512 .f32) (rd : Rows F) : FVec F S256x512 .bf16 :=
  concatenate S256x512 0 [⟨S32x512, kPart32 0 slices_S256x512_o0_0_S32x512 k cum rd 31 (by decide)⟩, ⟨S32x512, extractStridedSlice S32x512 ![32, 0] (truncf .bf16 k bitsLt_bf16_f32) slices_S256x512_o32_0_S32x512⟩, ⟨S32x512, kPart32 64 slices_S256x512_o64_0_S32x512 k cum rd 95 (by decide)⟩, ⟨S32x512, extractStridedSlice S32x512 ![96, 0] (truncf .bf16 k bitsLt_bf16_f32) slices_S256x512_o96_0_S32x512⟩, ⟨S32x512, kPart32 128 slices_S256x512_o128_0_S32x512 k cum rd 159 (by decide)⟩, ⟨S32x512, extractStridedSlice S32x512 ![160, 0] (truncf .bf16 k bitsLt_bf16_f32) slices_S256x512_o160_0_S32x512⟩, ⟨S32x512, kPart32 192 slices_S256x512_o192_0_S32x512 k cum rd 223 (by decide)⟩, ⟨S32x512, extractStridedSlice S32x512 ![224, 0] (truncf .bf16 k bitsLt_bf16_f32) slices_S256x512_o224_0_S32x512⟩] concatenates_S32x512_S32x512_S32x512_S32x512_S32x512_S32x512_S32x512_S32x512_S256x512_d0

/-- Queries from row `o` on, decayed from the row numbered `r`: 64 rows. -/
def qPart64 (o : ℕ) (hs : S256x512.Slices ![o, 0] S64x512) (q cum : FVec F S256x512 .f32) (rd : Rows F) (r : ℕ) (h : r < 256) : FVec F S64x512 .bf16 :=
  truncf .bf16 (mulf (extractStridedSlice S64x512 ![o, 0] q hs) (exp2 (subf (extractStridedSlice S64x512 ![o, 0] cum hs) (broadcastTo S64x512 (rowAt rd r h) broadcasts_S1x512_S64x512)))) bitsLt_bf16_f32

/-- Keys from row `o` on, decayed to the row numbered `r`: 64 rows. -/
def kPart64 (o : ℕ) (hs : S256x512.Slices ![o, 0] S64x512) (k cum : FVec F S256x512 .f32) (rd : Rows F) (r : ℕ) (h : r < 256) : FVec F S64x512 .bf16 :=
  truncf .bf16 (mulf (extractStridedSlice S64x512 ![o, 0] k hs) (exp2 (subf (broadcastTo S64x512 (rowAt rd r h) broadcasts_S1x512_S64x512) (extractStridedSlice S64x512 ![o, 0] cum hs)))) bitsLt_bf16_f32

/-- The queries of the level whose halves hold 64 tokens. -/
def qSplit64 (q cum : FVec F S256x512 .f32) (rd : Rows F) : FVec F S256x512 .bf16 :=
  concatenate S256x512 0 [⟨S64x512, extractStridedSlice S64x512 ![0, 0] (truncf .bf16 q bitsLt_bf16_f32) slices_S256x512_o0_0_S64x512⟩, ⟨S64x512, qPart64 64 slices_S256x512_o64_0_S64x512 q cum rd 63 (by decide)⟩, ⟨S64x512, extractStridedSlice S64x512 ![128, 0] (truncf .bf16 q bitsLt_bf16_f32) slices_S256x512_o128_0_S64x512⟩, ⟨S64x512, qPart64 192 slices_S256x512_o192_0_S64x512 q cum rd 191 (by decide)⟩] concatenates_S64x512_S64x512_S64x512_S64x512_S256x512_d0

/-- The keys of the level whose halves hold 64 tokens. -/
def kSplit64 (k cum : FVec F S256x512 .f32) (rd : Rows F) : FVec F S256x512 .bf16 :=
  concatenate S256x512 0 [⟨S64x512, kPart64 0 slices_S256x512_o0_0_S64x512 k cum rd 63 (by decide)⟩, ⟨S64x512, extractStridedSlice S64x512 ![64, 0] (truncf .bf16 k bitsLt_bf16_f32) slices_S256x512_o64_0_S64x512⟩, ⟨S64x512, kPart64 128 slices_S256x512_o128_0_S64x512 k cum rd 191 (by decide)⟩, ⟨S64x512, extractStridedSlice S64x512 ![192, 0] (truncf .bf16 k bitsLt_bf16_f32) slices_S256x512_o192_0_S64x512⟩] concatenates_S64x512_S64x512_S64x512_S64x512_S256x512_d0

/-- The queries of the two halves' own product. -/
def qTop (q cum : FVec F S256x512 .f32) (rd : Rows F) : FVec F S128x512 .bf16 :=
  truncf .bf16 (mulf (extractStridedSlice S128x512 ![128, 0] q slices_S256x512_o128_0_S128x512) (exp2 (subf (extractStridedSlice S128x512 ![128, 0] cum slices_S256x512_o128_0_S128x512) (broadcastTo S128x512 (rowAt rd 127 (by decide)) broadcasts_S1x512_S128x512)))) bitsLt_bf16_f32

/-- The keys of the two halves' own product. -/
def kTop (k cum : FVec F S256x512 .f32) (rd : Rows F) : FVec F S128x512 .bf16 :=
  truncf .bf16 (mulf (extractStridedSlice S128x512 ![0, 0] k slices_S256x512_o0_0_S128x512) (exp2 (subf (broadcastTo S128x512 (rowAt rd 127 (by decide)) broadcasts_S1x512_S128x512) (extractStridedSlice S128x512 ![0, 0] cum slices_S256x512_o0_0_S128x512)))) bitsLt_bf16_f32

/-- The step's decay. -/
def step (lw : FVec F S256x512 .f32) : FVec F S256x512 .f32 := exp2 lw

/-- Queries decayed by one step. -/
def q1 (q lw : FVec F S256x512 .f32) : FVec F S256x512 .f32 := mulf q (step lw)

/-- The row's position within its block of four. -/
def pos4 : IVec S256x512 32 := andi (iota .tc S256x512 32 [0] iota_S256x512_d0_w32) (broadcast S256x512 3#32)

/-- Queries of the level of pairs: the last of four also by the step before. -/
def q2 (q lw : FVec F S256x512 .f32) : FVec F S256x512 .f32 :=
  mulf (q1 q lw) (select (cmpi .eq pos4 (broadcast S256x512 3#32)) (dynamicRotate 0 1#32 none (step lw) rotates_S256x512_d0) (broadcast S256x512 (Scalar.ofBits .f32 0x3F800000#32)))

/-- Keys of the level of pairs: the first of four also by the step after. -/
def k2 (k lw : FVec F S256x512 .f32) : FVec F S256x512 .f32 :=
  mulf k (select (cmpi .eq pos4 (broadcast S256x512 0#32)) (dynamicRotate 0 255#32 none (step lw) rotates_S256x512_d0) (broadcast S256x512 (Scalar.ofBits .f32 0x3F800000#32)))

/-- The eight levels' queries. -/
def qLev (q lw cum : FVec F S256x512 .f32) (rd : Rows F) : ℕ → FVec F S256x512 .bf16
  | 0 => truncf .bf16 q bitsLt_bf16_f32
  | 1 => truncf .bf16 (q1 q lw) bitsLt_bf16_f32
  | 2 => truncf .bf16 (q2 q lw) bitsLt_bf16_f32
  | 3 => truncf .bf16 (mulf q (fac8 cum rd)) bitsLt_bf16_f32
  | 4 => truncf .bf16 (mulf q (fac16 cum rd)) bitsLt_bf16_f32
  | 5 => qSplit16 q cum rd
  | 6 => qSplit32 q cum rd
  | _ => qSplit64 q cum rd

/-- The eight levels' keys. -/
def kLev (k lw cum : FVec F S256x512 .f32) (rd : Rows F) : ℕ → FVec F S256x512 .bf16
  | 0 => truncf .bf16 k bitsLt_bf16_f32
  | 1 => truncf .bf16 k bitsLt_bf16_f32
  | 2 => truncf .bf16 (k2 k lw) bitsLt_bf16_f32
  | 3 => truncf .bf16 (mulf k (fac8 cum rd)) bitsLt_bf16_f32
  | 4 => truncf .bf16 (mulf k (fac16 cum rd)) bitsLt_bf16_f32
  | 5 => kSplit16 k cum rd
  | 6 => kSplit32 k cum rd
  | _ => kSplit64 k cum rd

/-- One level's products, all pairs of the chunk, for the head whose channels start at `o`. -/
def lvScore (o : ℕ) (hs : S256x512.Slices ![0, o] S256x128) (a b : FVec F S256x512 .bf16) : FVec F S256x256 .f32 :=
  matmul dot_S256x128_S256x128_S256x256_1_1_0_0_n_n none (extractStridedSlice S256x128 ![0, o] a hs) (extractStridedSlice S256x128 ![0, o] b hs) (constant S256x256 .f32 0x00000000#32)

/-- One half's own pairs: each from its level's product, `corner` the half. -/
def halfScores (corner : FVec F S256x256 .f32 → FVec F S128x128 .f32) (lev : IVec S128x128 32) (s : ℕ → FVec F S256x256 .f32) : FVec F S128x128 .f32 :=
  select (cmpi .eq lev (broadcast S128x128 6#32)) (corner (s 7))
   (select (cmpi .eq lev (broadcast S128x128 5#32)) (corner (s 6))
    (select (cmpi .eq lev (broadcast S128x128 4#32)) (corner (s 5))
     (select (cmpi .eq lev (broadcast S128x128 3#32)) (corner (s 4))
      (select (cmpi .eq lev (broadcast S128x128 2#32)) (corner (s 3))
       (select (cmpi .eq lev (broadcast S128x128 1#32)) (corner (s 2))
        (select (cmpi .eq lev (broadcast S128x128 0#32)) (corner (s 1))
         (select (cmpi .eq lev (broadcast S128x128 4294967295#32)) (corner (s 0))
          (broadcast S128x128 (Scalar.ofBits .f32 0x00000000#32)))))))))

/-- The first half's corner. -/
def corner0 (s : FVec F S256x256 .f32) : FVec F S128x128 .f32 := extractStridedSlice S128x128 ![0, 0] s slices_S256x256_o0_0_S128x128

/-- The second half's corner. -/
def corner1 (s : FVec F S256x256 .f32) : FVec F S128x128 .f32 := extractStridedSlice S128x128 ![128, 128] s slices_S256x256_o128_128_S128x128

/-- The chunk's scores for one head: its two halves' own pairs, and the second half against the first. -/
def scores (o : ℕ) (hs : S256x512.Slices ![0, o] S256x128) (ht : S128x512.Slices ![0, o] S128x128) (lev : IVec S128x128 32) (q k lw cum : FVec F S256x512 .f32) (rd : Rows F) : FVec F S256x256 .bf16 :=
  concatenate S256x256 0
    [⟨S128x256, concatenate S128x256 1 [⟨S128x128, truncf .bf16 (halfScores corner0 lev fun i => lvScore o hs (qLev q lw cum rd i) (kLev k lw cum rd i)) bitsLt_bf16_f32⟩,
      ⟨S128x128, broadcast S128x128 (Scalar.ofBits .bf16 0x0000#16)⟩] concatenates_S128x128_S128x128_S128x256_d1⟩,
     ⟨S128x256, concatenate S128x256 1 [⟨S128x128, truncf .bf16 (matmul dot_S128x128_S128x128_S128x128_1_1_0_0_n_n none (extractStridedSlice S128x128 ![0, o] (qTop q cum rd) ht) (extractStridedSlice S128x128 ![0, o] (kTop k cum rd) ht) (constant S128x128 .f32 0x00000000#32)) bitsLt_bf16_f32⟩,
      ⟨S128x128, truncf .bf16 (halfScores corner1 lev fun i => lvScore o hs (qLev q lw cum rd i) (kLev k lw cum rd i)) bitsLt_bf16_f32⟩] concatenates_S128x128_S128x128_S128x256_d1⟩]
    concatenates_S128x256_S128x256_S256x256_d0

/-- The chunk's outputs of one head: its scores against the values, and the decayed queries against the carried state `so`. -/
def headOut (o : ℕ) (hs : S256x512.Slices ![0, o] S256x128) (ht : S128x512.Slices ![0, o] S128x128) (o2 : ℕ) (hv : S256x1024.Slices ![0, o2] S256x256)
    (lev : IVec S128x128 32) (q k lw cum : FVec F S256x512 .f32) (v : FVec F S256x1024 .bf16) (rd : Rows F) (so : Vec F S1x1x1x128x256 .f32) : FVec F S256x256 .f32 :=
  matmul dot_S256x384_S384x256_S256x256_1_0_0_1_n_n none
    (concatenate S256x384 1 [⟨S256x256, scores o hs ht lev q k lw cum rd⟩, ⟨S256x128, extractStridedSlice S256x128 ![0, o] (truncf .bf16 (mulf q (exp2 cum)) bitsLt_bf16_f32) hs⟩] concatenates_S256x256_S256x128_S256x384_d1)
    (concatenate S384x256 0 [⟨S256x256, extractStridedSlice S256x256 ![0, o2] v hv⟩, ⟨S128x256, truncf .bf16 (shapeCast S128x256 so shapeCasts_S1x1x1x128x256_S128x256) bitsLt_bf16_f32⟩] concatenates_S256x256_S128x256_S384x256_d0)
    (constant S256x256 .f32 0x00000000#32)

/-- The chunk's decay, a row. -/
def lastRow (cum : FVec F S256x512 .f32) : FVec F S1x512 .f32 := extractStridedSlice S1x512 ![255, 0] cum slices_S256x512_o255_0_S1x512

/-- The decay of a head's channels, down the columns of a square. -/
def decayCols (o : ℕ) (h1 : S1x512.Slices ![0, o] S1x128) (cum : FVec F S256x512 .f32) : FVec F S128x128 .f32 :=
  transpose S128x128 [1, 0] (broadcastTo S128x128 (shapeCast S1x128 (extractStridedSlice S1x128 ![0, o] (exp2 (lastRow cum)) h1) shapeCasts_S1x128_S1x128) broadcasts_S1x128_S128x128) transposes_S128x128_p1_0_S128x128

/-- The state a head carries out of the chunk. -/
def headState (o : ℕ) (hs : S256x512.Slices ![0, o] S256x128) (h1 : S1x512.Slices ![0, o] S1x128) (o2 : ℕ) (hv : S256x1024.Slices ![0, o2] S256x256)
    (k cum : FVec F S256x512 .f32) (v : FVec F S256x1024 .bf16) (so : Vec F S1x1x1x128x256 .f32) : FVec F S1x1x1x128x256 .f32 :=
  shapeCast S1x1x1x128x256
    (addf
      (mulf (concatenate S128x256 1 [⟨S128x128, decayCols o h1 cum⟩, ⟨S128x128, decayCols o h1 cum⟩] concatenates_S128x128_S128x128_S128x256_d1) (shapeCast S128x256 so shapeCasts_S1x1x1x128x256_S128x256))
      (matmul dot_S128x256_S256x256_S128x256_1_0_0_1_n_n none
        (truncf .bf16 (transpose S128x256 [1, 0] (extractStridedSlice S256x128 ![0, o] (mulf k (exp2 (subf (broadcastTo S256x512 (lastRow cum) broadcasts_S1x512_S256x512) cum))) hs) transposes_S256x128_p1_0_S128x256) bitsLt_bf16_f32)
        (extractStridedSlice S256x256 ![0, o2] v hv) (constant S128x256 .f32 0x00000000#32)))
    shapeCasts_S128x256_S1x1x1x128x256

/-- The chunk's running sums, from the steps' logarithms `lw` and the triangle of ones laid twice side by side. -/
def cumOf (tri : FVec F S256x512 .bf16) (lw : FVec F S256x512 .f32) : FVec F S256x512 .f32 :=
  matmul dot_S256x512_S512x512_S256x512_1_0_0_1_n_n none tri
    (concatenate S512x512 0 [⟨S256x512, truncf .bf16 lw bitsLt_bf16_f32⟩, ⟨S256x512, truncf .bf16 (subf lw (extf .f32 (truncf .bf16 lw bitsLt_bf16_f32) bitsLt_bf16_f32)) bitsLt_bf16_f32⟩] concatenates_S256x512_S256x512_S512x512_d0)
    (constant S256x512 .f32 0x00000000#32)

end Cert.Mixer

end
-- ==== Proof.Buf.lean ====
/-
  The scratch buffer of a chunk: one page per chunk, holding the gates' logarithms in its first half and their running sums in
  its second. What is loaded back from it is what was stored last.
-/
module

public import proofs.«01_k».proof.Proof.Tile
public import proofs.«01_k».proof.Proof.Gen.KernelIdeal.Frame
public import Idealize.ShloMosaic.Lib.Pointwise

@[expose] public section

set_option maxRecDepth 16384

noncomputable section

namespace Cert.Mixer

open Idealize.ShloMosaic Cert.KernelIdeal Cert.KernelIdeal.Gen

variable {F : FTy → Type} [FloatOps F] [Named F]

/-- The page of chunk `c`. -/
def page (c : ℕ) (hc : c < 2) : Rect S2x2x256x512 :=
  Rect.unit ![c, 0, 0, 0] S1x2x256x512.size (by intro a; fin_cases a <;> simp [S1x2x256x512, S2x2x256x512]; omega)

/-- Half `p` of a page. -/
def half (p : ℕ) (hp : p < 2) : Rect S2x256x512 :=
  Rect.unit ![p, 0, 0] S1x256x512.size (by intro a; fin_cases a <;> simp [S1x256x512, S2x256x512]; omega)

variable (c : ℕ) (hc : c < 2)

/-- Half `p`, under the page's own leading axis. -/
def halfUp (p : ℕ) (hp : p < 2) : Rect (page c hc).shape :=
  (half p hp).consLift ![1, 2, 256, 512] rfl (by intro i; fin_cases i <;> rfl)

/-- Half `p` of the page of chunk `c`, within the buffer. -/
def pageHalf (p : ℕ) (hp : p < 2) : Rect S2x2x256x512 :=
  (page c hc).within (halfUp c hc p hp) (fun _ => rfl)

/-- The same box, to load from. -/
def pageHalfL (p : ℕ) (hp : p < 2) : LoadRect S2x2x256x512 :=
  (page c hc).withinL ((half p hp).toLoadRect.consLift ![1, 2, 256, 512] rfl (by intro i; fin_cases i <;> rfl)) (fun _ => rfl)

/-- Row `r` of the second half of a page. -/
def halfRow (r : ℕ) (h : r < 256) : Rect S2x256x512 :=
  Rect.unit ![1, r, 0] S1x1x512.size (by intro a; fin_cases a <;> simp [S1x1x512, S2x256x512]; omega)

/-- Row `r` of the second half of the page of chunk `c`, within the buffer. -/
def pageRow (r : ℕ) (h : r < 256) : LoadRect S2x2x256x512 :=
  (page c hc).withinL ((halfRow r h).toLoadRect.consLift ![1, 2, 256, 512] rfl (by intro i; fin_cases i <;> rfl)) (fun _ => rfl)

/-- A half of a page, stored. -/
def piece (p : ℕ) (hp : p < 2) (w : FVec F S256x512 .f32) : View.Piece (Elt F) S2x2x256x512 .f32 :=
  ⟨pageHalf c hc p hp, Rect.payAlong ((half p hp).numel_consLift ![1, 2, 256, 512] rfl (by intro i; fin_cases i <;> rfl)) (shapeCast S1x256x512 w shapeCasts_S256x512_S1x256x512)⟩

/-- The rows of the running sums, loaded from the buffer. -/
def rdOf (mr : Memref Cert.KernelIdeal.sig .tc .vmem S2x2x256x512 .f32) (L : List (View.Piece (Elt F) S2x2x256x512 .f32)) : Rows F :=
  fun r h => LoadRect.valAlong ((halfRow r h).toLoadRect.numel_consLift ![1, 2, 256, 512] rfl (by intro i; fin_cases i <;> rfl)) (mr.view.readCov L (pageRow c hc r h))

/-- A half loaded from the buffer. -/
def halfOf (p : ℕ) (hp : p < 2) (mr : Memref Cert.KernelIdeal.sig .tc .vmem S2x2x256x512 .f32) (L : List (View.Piece (Elt F) S2x2x256x512 .f32)) : (half p hp).toLoadRect.shape.Idx → Elt F .f32 :=
  LoadRect.valAlong ((half p hp).toLoadRect.numel_consLift ![1, 2, 256, 512] rfl (by intro i; fin_cases i <;> rfl)) (mr.view.readCov L (pageHalfL c hc p hp))

/-- The gates' logarithms, loaded from the buffer. -/
def lwOf (mr : Memref Cert.KernelIdeal.sig .tc .vmem S2x2x256x512 .f32) (L : List (View.Piece (Elt F) S2x2x256x512 .f32)) : FVec F S256x512 .f32 :=
  shapeCast S256x512 (halfOf c hc 0 (by decide) mr L) shapeCasts_S1x256x512_S256x512

open Idealize.ShloMosaic.View in
/-- What the buffer holds under the half stored last. -/
theorem canon_piece (p : ℕ) (hp : p < 2) (w : FVec F S256x512 .f32) (L : List (View.Piece (Elt F) S2x2x256x512 .f32)) (y : S2x2x256x512.Idx)
    (n : ℕ) (hn : n < 256) (j : Fin 512) (h0 : (y 0).val = c) (h1 : (y 1).val = p) (h2 : (y 2).val = n) (h3 : (y 3).val = j.val) :
    View.canon (piece c hc p hp w :: L) y = w (ix2 ⟨n, hn⟩ j) := by
  let x : (halfUp c hc p hp).shape.Idx := Fin.cons ⟨0, Nat.one_pos⟩ (ix3 (n0 := 1) (n1 := 256) (n2 := 512) 0 ⟨n, hn⟩ j)
  have hy : y = (page c hc).emb ((halfUp c hc p hp).emb x) := by
    funext a
    apply Fin.ext
    fin_cases a
    · show (y 0).val = c + 1 * (0 + 1 * 0)
      omega
    · show (y 1).val = 0 + 1 * (p + 1 * 0)
      omega
    · show (y 2).val = 0 + 1 * (0 + 1 * n)
      omega
    · show (y 3).val = 0 + 1 * (0 + 1 * j.val)
      omega
  rw [hy]
  refine (View.canon_cons_within_emb (page c hc) (halfUp c hc p hp) (fun _ => rfl) _ L x).trans ?_
  refine (Rect.payAlong_consLift (half p hp) _ rfl (by intro i; fin_cases i <;> rfl) _ _ x (ix3 (n0 := 1) (n1 := 256) (n2 := 512) 0 ⟨n, hn⟩ j) (fun _ => rfl)).trans ?_
  pointwise

/-- A row of the running sums loaded back is the row stored. -/
theorem rdOf_apply (mr : Memref Cert.KernelIdeal.sig .tc .vmem S2x2x256x512 .f32) (w : FVec F S256x512 .f32) (L : List (View.Piece (Elt F) S2x2x256x512 .f32))
    (r : ℕ) (h : r < 256) (j : Fin 512) :
    rdOf c hc mr (piece c hc 1 (by decide) w :: L) r h (ix3 0 0 j) = w (ix2 ⟨r, h⟩ j) := by
  unfold rdOf
  rw [View.readCov_eq_canon']
  have hx : Shape.reshapeEquiv ((halfRow r h).toLoadRect.numel_consLift ![1, 2, 256, 512] rfl (by intro i; fin_cases i <;> rfl)) (ix3 (n0 := 1) (n1 := 1) (n2 := 512) 0 0 j) = Fin.cons ⟨0, Nat.one_pos⟩ (ix3 (n0 := 1) (n1 := 1) (n2 := 512) 0 0 j) :=
    Shape.reshapeEquiv_cons_one (d := (halfRow r h).toLoadRect.size) _ _
  refine (congrArg (fun z => View.canon (piece c hc 1 (by decide) w :: L) ((pageRow c hc r h).idx z)) hx).trans ?_
  refine canon_piece c hc 1 (by decide) w L _ r h j ?_ ?_ ?_ ?_
  · show c + 0 + 1 * 0 = c
    omega
  · show 0 + 1 + 1 * 0 = 1
    omega
  · show 0 + r + 1 * 0 = r
    omega
  · show 0 + 0 + 1 * j.val = j.val
    omega

/-- A half loaded back is the half stored. -/
theorem halfOf_apply (p : ℕ) (hp : p < 2) (mr : Memref Cert.KernelIdeal.sig .tc .vmem S2x2x256x512 .f32) (w : FVec F S256x512 .f32) (L : List (View.Piece (Elt F) S2x2x256x512 .f32))
    (n : ℕ) (hn : n < 256) (j : Fin 512) (z : (half p hp).toLoadRect.shape.Idx) (h0 : (z 0).val = 0) (h1 : (z 1).val = n) (h2 : (z 2).val = j.val) :
    halfOf c hc p hp mr (piece c hc p hp w :: L) z = w (ix2 ⟨n, hn⟩ j) := by
  unfold halfOf
  rw [View.readCov_eq_canon']
  have hx : Shape.reshapeEquiv ((half p hp).toLoadRect.numel_consLift ![1, 2, 256, 512] rfl (by intro i; fin_cases i <;> rfl)) z = Fin.cons ⟨0, Nat.one_pos⟩ z :=
    Shape.reshapeEquiv_cons_one (d := (half p hp).toLoadRect.size) _ _
  refine (congrArg (fun z => View.canon (piece c hc p hp w :: L) ((pageHalfL c hc p hp).idx z)) hx).trans ?_
  refine canon_piece c hc p hp w L _ n hn j ?_ ?_ ?_ ?_
  · show c + 0 + 1 * 0 = c
    omega
  · show 0 + p + 1 * (z 0).val = p
    omega
  · show 0 + 0 + 1 * (z 1).val = n
    omega
  · show 0 + 0 + 1 * (z 2).val = j.val
    omega

/-- The gates' logarithms loaded back are those stored. -/
theorem lwOf_apply (mr : Memref Cert.KernelIdeal.sig .tc .vmem S2x2x256x512 .f32) (w : FVec F S256x512 .f32) (L : List (View.Piece (Elt F) S2x2x256x512 .f32))
    (n : ℕ) (hn : n < 256) (j : Fin 512) :
    lwOf c hc mr (piece c hc 0 (by decide) w :: L) (ix2 ⟨n, hn⟩ j) = w (ix2 ⟨n, hn⟩ j) := by
  have e : ∀ g : FVec F S1x256x512 .f32, shapeCast S256x512 g shapeCasts_S1x256x512_S256x512 (ix2 ⟨n, hn⟩ j) = g (ix3 0 ⟨n, hn⟩ j) := by
    intro g
    pointwise
  unfold lwOf
  exact (e _).trans (halfOf_apply c hc 0 (by decide) mr w L n hn j _ rfl rfl rfl)

end Cert.Mixer
-- ==== Proof.Layer.lean ====
/-
  One tile of 512 tokens of the prompt mixer, spelled with the body's own operations from what the body loads: two chunks of 256
  tokens, four heads each, the states passed from the first chunk to the second through the state buffer.
-/
module

public import proofs.«01_k».proof.Proof.Buf

@[expose] public section

set_option maxRecDepth 16384

noncomputable section

namespace Cert.Mixer

open Idealize.ShloMosaic Cert.KernelIdeal Cert.KernelIdeal.Gen

variable {F : FTy → Type} [FloatOps F] [Named F]

/-- What the body loads at one point of the grid. -/
structure Ins (F : FTy → Type) [FloatOps F] where
  X : Vec F S1x512x1024 .f32
  lev : Vec F S128x128 .i32
  tri : Vec F S256x512 .bf16
  wn : Vec F S1x1024 .f32
  wb : Vec F S1024x1024 .bf16
  wc : Vec F S1024x1024 .bf16
  wd : Vec F S1024x1024 .bf16
  wq : Vec F S1024x512 .bf16
  wk : Vec F S1024x512 .bf16
  wv : Vec F S1024x1024 .bf16
  wg : Vec F S1024x1024 .bf16
  ta : Vec F S1024x1024 .bf16
  tb : Vec F S1024x1024 .bf16
  lr : Vec F S1024x128 .bf16
  gk : Vec F S128x512 .bf16
  bgk : Vec F S1x512 .f32
  cv : Vec F S3x1024 .f32
  wa : Vec F S1024x1024 .bf16
  gn : Vec F S1x256 .f32
  wyb : Vec F S1024x1024 .bf16
  wo : Vec F S1024x1024 .bf16
  post : Vec F S1x1024 .f32
  c0 : Vec F S1x1x1x1024 .f32
  c1 : Vec F S1x1x1x1024 .f32
  s : Fin 4 → Vec F S1x1x1x128x256 .f32
  buf : Memref Cert.KernelIdeal.sig .tc .vmem S2x2x256x512 .f32
  sb : Memref Cert.KernelIdeal.sig .tc .vmem S1x1x4x128x256 .f32
  base : List (View.Piece (Elt F) S1x1x4x128x256 .f32)

namespace Ins

variable (I : Ins F)

/-- The tile's normed rows. -/
def hn : FVec F S512x1024 .bf16 := k0_pay5 I.X I.wn

/-- The scaled queries. -/
def q : FVec F S512x512 .f32 :=
  mulf (matmul dot_S512x1024_S1024x512_S512x512_1_0_0_1_n_n none I.hn I.wq (constant S512x512 .f32 0x00000000#32)) (broadcast S512x512 (FloatOps.ofBits .f32 1035273459#32))

/-- The keys. -/
def k : FVec F S512x512 .f32 :=
  matmul dot_S512x1024_S1024x512_S512x512_1_0_0_1_n_n none I.hn I.wk (constant S512x512 .f32 0x00000000#32)

/-- The values. -/
def v : FVec F S512x1024 .bf16 :=
  truncf .bf16 (matmul dot_S512x1024_S1024x1024_S512x1024_1_0_0_1_n_n none I.hn I.wv (constant S512x1024 .f32 0x00000000#32)) bitsLt_bf16_f32

/-- The gates' logarithms, to the base 2. -/
def g : FVec F S512x512 .f32 :=
  k0_pay9 (k0_pay7 I.X I.wn I.lr I.gk I.bgk) (k0_pay8 I.X I.wn I.lr I.gk I.bgk) (FloatOps.ofBits .f32 1065353216#32)

theorem slices_rows (c : Fin 2) : S512x512.Slices ![256 * c.val, 0] S256x512 := by
  fin_cases c <;> decide

theorem slices_rows2 (c : Fin 2) : S512x1024.Slices ![256 * c.val, 0] S256x1024 := by
  fin_cases c <;> decide

/-- The chunk's queries. -/
def qc (c : Fin 2) : FVec F S256x512 .f32 := extractStridedSlice S256x512 ![256 * c.val, 0] I.q (slices_rows c)

/-- The chunk's keys. -/
def kc (c : Fin 2) : FVec F S256x512 .f32 := extractStridedSlice S256x512 ![256 * c.val, 0] I.k (slices_rows c)

/-- The chunk's values. -/
def vc (c : Fin 2) : FVec F S256x1024 .bf16 := extractStridedSlice S256x1024 ![256 * c.val, 0] I.v (slices_rows2 c)

/-- The chunk's gates. -/
def gc (c : Fin 2) : FVec F S256x512 .f32 := extractStridedSlice S256x512 ![256 * c.val, 0] I.g (slices_rows c)

/-- The triangle's table, loaded. -/
def tri' : FVec F S256x512 .bf16 := shapeCast S256x512 I.tri shapeCasts_S256x512_S256x512

/-- The levels' table, loaded. -/
def lev' : IVec S128x128 32 := shapeCast S128x128 I.lev shapeCasts_S128x128_S128x128

/-- The chunk's gates as loaded back, over what the buffer held. -/
def lwFrom (L : List (View.Piece (Elt F) S2x2x256x512 .f32)) (c : Fin 2) : FVec F S256x512 .f32 :=
  lwOf c.val c.isLt I.buf (piece c.val c.isLt 0 (by decide) (I.gc c) :: L)

/-- What the buffer holds once the chunk's running sums are stored. -/
def heldFrom (L : List (View.Piece (Elt F) S2x2x256x512 .f32)) (c : Fin 2) : List (View.Piece (Elt F) S2x2x256x512 .f32) :=
  piece c.val c.isLt 1 (by decide) (cumOf I.tri' (I.lwFrom L c)) :: piece c.val c.isLt 0 (by decide) (I.gc c) :: L

/-- What the buffer held before the chunk. -/
def before : Fin 2 → List (View.Piece (Elt F) S2x2x256x512 .f32)
  | ⟨0, _⟩ => []
  | ⟨1, _⟩ => I.heldFrom [] 0

/-- The chunk's gates as loaded back. -/
def lw (c : Fin 2) : FVec F S256x512 .f32 := I.lwFrom (I.before c) c

/-- The chunk's running sums. -/
def cum (c : Fin 2) : FVec F S256x512 .f32 := cumOf I.tri' (I.lw c)

/-- The chunk's rows of running sums as loaded back. -/
def rd (c : Fin 2) : Rows F := rdOf c.val c.isLt I.buf (I.heldFrom (I.before c) c)

theorem slices_head (h : Fin 4) : S256x512.Slices ![0, 128 * h.val] S256x128 := by
  fin_cases h <;> decide

theorem slices_top (h : Fin 4) : S128x512.Slices ![0, 128 * h.val] S128x128 := by
  fin_cases h <;> decide

theorem slices_last (h : Fin 4) : S1x512.Slices ![0, 128 * h.val] S1x128 := by
  fin_cases h <;> decide

theorem slices_val (h : Fin 4) : S256x1024.Slices ![0, 256 * h.val] S256x256 := by
  fin_cases h <;> decide

/-- A head's rows out of a chunk, from the state it carries in. -/
def headAt (c : Fin 2) (h : Fin 4) (so : Vec F S1x1x1x128x256 .f32) : FVec F S256x256 .f32 :=
  headOut (128 * h.val) (slices_head h) (slices_top h) (256 * h.val) (slices_val h) I.lev' (I.qc c) (I.kc c) (I.lw c) (I.cum c) (I.vc c) (I.rd c) so

/-- A head's state out of a chunk, from the state it carries in. -/
def stateAt (c : Fin 2) (h : Fin 4) (so : Vec F S1x1x1x128x256 .f32) : FVec F S1x1x1x128x256 .f32 :=
  headState (128 * h.val) (slices_head h) (slices_last h) (256 * h.val) (slices_val h) (I.kc c) (I.cum c) (I.vc c) so

/-- A head's place in the state buffer. -/
def headBox (h : Fin 4) : Rect S1x1x4x128x256 :=
  Rect.unit ![0, 0, h.val, 0, 0] S1x1x1x128x256.size (by fin_cases h <;> decide)

/-- The states after the first chunk, stored. -/
def mids : List (View.Piece (Elt F) S1x1x4x128x256 .f32) :=
  ⟨headBox 3, I.stateAt 0 3 (I.s 3)⟩ :: ⟨headBox 2, I.stateAt 0 2 (I.s 2)⟩ :: ⟨headBox 1, I.stateAt 0 1 (I.s 1)⟩ :: ⟨headBox 0, I.stateAt 0 0 (I.s 0)⟩ :: I.base

/-- The state buffer once the heads before the `n`-th have stored their states of the second chunk. -/
def held : ℕ → List (View.Piece (Elt F) S1x1x4x128x256 .f32)
  | 0 => I.mids
  | n + 1 => if h : n < 4 then ⟨headBox ⟨n, h⟩, I.stateAt 1 ⟨n, h⟩ (I.sb.view.readCov (held n) (headBox ⟨n, h⟩).toLoadRect)⟩ :: held n else held n

/-- A head's state into the second chunk. -/
def mid (h : Fin 4) : Vec F S1x1x1x128x256 .f32 := I.sb.view.readCov (I.held h.val) (headBox h).toLoadRect

/-- A head's rows over the tile. -/
def rows (h : Fin 4) : FVec F S512x256 .f32 :=
  concatenate S512x256 0 [⟨S256x256, I.headAt 0 h (I.s h)⟩, ⟨S256x256, I.headAt 1 h (I.mid h)⟩] concatenates_S256x256_S256x256_S512x256_d0

/-- The convolution's input. -/
def u : FVec F S512x1024 .f32 := k0_pay10 I.hn I.wc I.wd

/-- The convolution. -/
def conv : FVec F S512x1024 .f32 :=
  addf (addf (k0_pay13 I.hn I.wc I.wd I.c0 I.c1 I.cv) (mulf (broadcastTo S512x1024 (k0_pay14 I.cv) broadcasts_S1x1024_S512x1024) (k0_pay12 I.hn I.wc I.wd I.c1)))
    (mulf (broadcastTo S512x1024 (extractStridedSlice S1x1024 ![2, 0] I.cv slices_S3x1024_o2_0_S1x1024) broadcasts_S1x1024_S512x1024) I.u)

/-- The convolution's branch. -/
def ya : FVec F S512x1024 .f32 :=
  matmul dot_S512x1024_S1024x1024_S512x1024_1_0_0_1_n_n none
    (truncf .bf16 (mulf (matmul dot_S512x1024_S1024x1024_S512x1024_1_0_0_1_n_n none I.hn I.wb (constant S512x1024 .f32 0x00000000#32)) I.conv) bitsLt_bf16_f32)
    I.wa (constant S512x1024 .f32 0x00000000#32)

/-- The carried rows of the convolution's input. -/
def carry : FVec F S1x1x2x1024 .f32 :=
  shapeCast S1x1x2x1024 (extractStridedSlice S2x1024 ![510, 0] I.u slices_S512x1024_o510_0_S2x1024) shapeCasts_S2x1024_S1x1x2x1024

/-- The output gates. -/
def og : FVec F S512x1024 .f32 := k0_pay456 I.hn I.wg

/-- The tile's merged and projected rows, normed. -/
def merged : FVec F S512x1024 .f32 :=
  k0_pay469 I.ya (k0_pay457 I.hn I.ta) (k0_pay458 I.hn I.tb)
    (k0_pay461 (I.rows 0) I.og I.gn) (k0_pay465 (k0_pay462 I.og) (k0_pay463 (I.rows 1)) (k0_pay464 I.gn)) (k0_pay466 (I.rows 2) I.og (k0_pay459 I.gn))
    (k0_pay467 I.og) (k0_pay468 (I.rows 3) (k0_pay459 I.gn)) (Named.named κ "neg_log2e" 3216550459#32) I.wyb I.wo

/-- The tile's rows out of the layer. -/
def out : FVec F S1x512x1024 .f32 := k0_pay1 (k0_pay4 I.X) (k0_pay460 I.post) I.merged

end Ins

end Cert.Mixer
-- ==== Proof.RunA.lean ====
/-
  The body's results at the first point of a sequence, in the tile's own words: each value the body computes there is the one `Ins` names, from
  what the body loads there.
-/
module

public import proofs.«01_k».proof.Proof.Layer

@[expose] public section

set_option maxRecDepth 16384

noncomputable section

namespace Cert.Mixer

open Idealize.ShloMosaic Cert.KernelIdeal Cert.KernelIdeal.Gen

variable {F : FTy → Type} [FloatOps F] [Named F]

variable (c : Dev nD) (i : grid0.Coords) (arg2 : Memref sig .tc .vmem S1x512x1024 .f32) (harg2 : arg2.IsWhole) (arg3 : Memref sig .tc .vmem S128x128 .i32) (harg3 : arg3.IsWhole) (arg4 : Memref sig .tc .vmem S256x512 .bf16) (harg4 : arg4.IsWhole) (arg5 : Memref sig .tc .vmem S1x1024 .f32) (harg5 : arg5.IsWhole) (arg6 : Memref sig .tc .vmem S1024x6144 .bf16) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S3x1024 .f32) (harg11 : arg11.IsWhole) (arg12 : Memref sig .tc .vmem S1024x1024 .bf16) (harg12 : arg12.IsWhole) (arg13 : Memref sig .tc .vmem S1x256 .f32) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x1x2x1024 .f32) (harg18 : arg18.IsWhole) (arg19 : Memref sig .tc .vmem S1x1x4x128x256 .f32) (harg19 : arg19.IsWhole) (arg20 : Memref sig .tc .vmem S2x2x256x512 .f32) (harg20 : arg20.IsWhole) (hc0 : cond0_0 i)
  (x0 : Vec F S1x512x1024 .f32) (x1 : Vec F S128x128 .i32) (x2 : Vec F S256x512 .bf16) (x3 : Vec F S1x1024 .f32) (x4 : Vec F S1024x6144 .bf16) (x5 : Vec F S1024x2048 .bf16) (x6 : Vec F S1024x128 .bf16) (x7 : Vec F S128x512 .bf16) (x8 : Vec F S1x512 .f32) (x9 : Vec F S3x1024 .f32) (x10 : Vec F S1024x1024 .bf16) (x11 : Vec F S1x256 .f32) (x12 : Vec F S1024x1024 .bf16) (x13 : Vec F S1024x1024 .bf16) (x14 : Vec F S1x1024 .f32)

/-- What the body loads at the first point of a sequence. -/
def insA : Ins F where
  X := View.readAt (Elt F) arg2.view (Rect.unit (s := S1x512x1024) ![0, 0, 0] S1x512x1024.size (by decide)).toLoadRect (harg2.unread x0)
  lev := View.readAt (Elt F) arg3.view (Rect.unit (s := S128x128) ![0, 0] S128x128.size (by decide)).toLoadRect (harg3.unread x1)
  tri := View.readAt (Elt F) arg4.view (Rect.unit (s := S256x512) ![0, 0] S256x512.size (by decide)).toLoadRect (harg4.unread x2)
  wn := View.readAt (Elt F) arg5.view (Rect.unit (s := S1x1024) ![0, 0] S1x1024.size (by decide)).toLoadRect (harg5.unread x3)
  wb := View.readAt (Elt F) arg6.view (Rect.unit (s := S1024x6144) ![0, 0] S1024x1024.size (by decide)).toLoadRect (harg6.unread x4)
  wc := View.readAt (Elt F) arg6.view (Rect.unit (s := S1024x6144) ![0, 1024] S1024x1024.size (by decide)).toLoadRect (harg6.unread x4)
  wd := View.readAt (Elt F) arg6.view (Rect.unit (s := S1024x6144) ![0, 2048] S1024x1024.size (by decide)).toLoadRect (harg6.unread x4)
  wq := View.readAt (Elt F) arg6.view (Rect.unit (s := S1024x6144) ![0, 3072] S1024x512.size (by decide)).toLoadRect (harg6.unread x4)
  wk := View.readAt (Elt F) arg6.view (Rect.unit (s := S1024x6144) ![0, 3584] S1024x512.size (by decide)).toLoadRect (harg6.unread x4)
  wv := View.readAt (Elt F) arg6.view (Rect.unit (s := S1024x6144) ![0, 4096] S1024x1024.size (by decide)).toLoadRect (harg6.unread x4)
  wg := View.readAt (Elt F) arg6.view (Rect.unit (s := S1024x6144) ![0, 5120] S1024x1024.size (by decide)).toLoadRect (harg6.unread x4)
  ta := View.readAt (Elt F) arg7.view (Rect.unit (s := S1024x2048) ![0, 0] S1024x1024.size (by decide)).toLoadRect (harg7.unread x5)
  tb := View.readAt (Elt F) arg7.view (Rect.unit (s := S1024x2048) ![0, 1024] S1024x1024.size (by decide)).toLoadRect (harg7.unread x5)
  lr := View.readAt (Elt F) arg8.view (Rect.unit (s := S1024x128) ![0, 0] S1024x128.size (by decide)).toLoadRect (harg8.unread x6)
  gk := View.readAt (Elt F) arg9.view (Rect.unit (s := S128x512) ![0, 0] S128x512.size (by decide)).toLoadRect (harg9.unread x7)
  bgk := View.readAt (Elt F) arg10.view (Rect.unit (s := S1x512) ![0, 0] S1x512.size (by decide)).toLoadRect (harg10.unread x8)
  cv := View.readAt (Elt F) arg11.view (Rect.unit (s := S3x1024) ![0, 0] S3x1024.size (by decide)).toLoadRect (harg11.unread x9)
  wa := View.readAt (Elt F) arg12.view (Rect.unit (s := S1024x1024) ![0, 0] S1024x1024.size (by decide)).toLoadRect (harg12.unread x10)
  gn := View.readAt (Elt F) arg13.view (Rect.unit (s := S1x256) ![0, 0] S1x256.size (by decide)).toLoadRect (harg13.unread x11)
  wyb := View.readAt (Elt F) arg14.view (Rect.unit (s := S1024x1024) ![0, 0] S1024x1024.size (by decide)).toLoadRect (harg14.unread x12)
  wo := View.readAt (Elt F) arg15.view (Rect.unit (s := S1024x1024) ![0, 0] S1024x1024.size (by decide)).toLoadRect (harg15.unread x13)
  post := View.readAt (Elt F) arg16.view (Rect.unit (s := S1x1024) ![0, 0] S1x1024.size (by decide)).toLoadRect (harg16.unread x14)
  c0 := kernelRun0_A.sl.v47 c arg18
  c1 := kernelRun0_A.sl.v49 c arg18
  s := fun h => match h with
    | ⟨0, _⟩ => kernelRun0_A.sl.v871 c arg19
    | ⟨1, _⟩ => kernelRun0_A.sl.v993 c arg2 harg2 arg4 harg4 arg5 harg5 arg6 harg6 arg8 harg8 arg9 harg9 arg10 harg10 arg19 arg20 x0 x2 x3 x4 x6 x7 x8
    | ⟨2, _⟩ => kernelRun0_A.sl.v1115 c arg2 harg2 arg4 harg4 arg5 harg5 arg6 harg6 arg8 harg8 arg9 harg9 arg10 harg10 arg19 arg20 x0 x2 x3 x4 x6 x7 x8
    | ⟨3, _⟩ => kernelRun0_A.sl.v1237 c arg2 harg2 arg4 harg4 arg5 harg5 arg6 harg6 arg8 harg8 arg9 harg9 arg10 harg10 arg19 arg20 x0 x2 x3 x4 x6 x7 x8
  base := kernelRun0_A.sl.H17_1
  buf := arg20
  sb := arg19

/-- The rows out. -/
theorem a_out : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).1 = [⟨Rect.unit ![0, 0, 0] S1x512x1024.size (by decide), (insA c arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14).out⟩] := by
  sl_kernel_rfl

/-- The carried rows out. -/
theorem a_carry : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.1 = ⟨Rect.unit ![0, 0, 0, 0] S1x1x2x1024.size (by decide), (insA c arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14).carry⟩ :: kernelRun0_A.sl.H16_1  := by
  sl_kernel_rfl

/-- The states out. -/
theorem a_state : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.1 = (insA c arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14).held 4 := by
  sl_kernel_rfl

end Cert.Mixer
-- ==== Proof.RunB.lean ====
/-
  The body's results at a later point of a sequence, in the tile's own words: each value the body computes there is the one `Ins` names, from
  what the body loads there.
-/
module

public import proofs.«01_k».proof.Proof.Layer

@[expose] public section

set_option maxRecDepth 16384

noncomputable section

namespace Cert.Mixer

open Idealize.ShloMosaic Cert.KernelIdeal Cert.KernelIdeal.Gen

variable {F : FTy → Type} [FloatOps F] [Named F]

variable (c : Dev nD) (i : grid0.Coords) (arg2 : Memref sig .tc .vmem S1x512x1024 .f32) (harg2 : arg2.IsWhole) (arg3 : Memref sig .tc .vmem S128x128 .i32) (harg3 : arg3.IsWhole) (arg4 : Memref sig .tc .vmem S256x512 .bf16) (harg4 : arg4.IsWhole) (arg5 : Memref sig .tc .vmem S1x1024 .f32) (harg5 : arg5.IsWhole) (arg6 : Memref sig .tc .vmem S1024x6144 .bf16) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S3x1024 .f32) (harg11 : arg11.IsWhole) (arg12 : Memref sig .tc .vmem S1024x1024 .bf16) (harg12 : arg12.IsWhole) (arg13 : Memref sig .tc .vmem S1x256 .f32) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x1x2x1024 .f32) (harg18 : arg18.IsWhole) (arg19 : Memref sig .tc .vmem S1x1x4x128x256 .f32) (harg19 : arg19.IsWhole) (arg20 : Memref sig .tc .vmem S2x2x256x512 .f32) (harg20 : arg20.IsWhole) (hc0 : ¬cond0_0 i)
  (x0 : Vec F S1x512x1024 .f32) (x1 : Vec F S128x128 .i32) (x2 : Vec F S256x512 .bf16) (x3 : Vec F S1x1024 .f32) (x4 : Vec F S1024x6144 .bf16) (x5 : Vec F S1024x2048 .bf16) (x6 : Vec F S1024x128 .bf16) (x7 : Vec F S128x512 .bf16) (x8 : Vec F S1x512 .f32) (x9 : Vec F S3x1024 .f32) (x10 : Vec F S1024x1024 .bf16) (x11 : Vec F S1x256 .f32) (x12 : Vec F S1024x1024 .bf16) (x13 : Vec F S1024x1024 .bf16) (x14 : Vec F S1x1024 .f32) (xo16 : Vec F S1x1x2x1024 .f32) (xo17 : Vec F S1x1x4x128x256 .f32)

/-- What the body loads at a later point of a sequence. -/
def insB : Ins F where
  X := View.readAt (Elt F) arg2.view (Rect.unit (s := S1x512x1024) ![0, 0, 0] S1x512x1024.size (by decide)).toLoadRect (harg2.unread x0)
  lev := View.readAt (Elt F) arg3.view (Rect.unit (s := S128x128) ![0, 0] S128x128.size (by decide)).toLoadRect (harg3.unread x1)
  tri := View.readAt (Elt F) arg4.view (Rect.unit (s := S256x512) ![0, 0] S256x512.size (by decide)).toLoadRect (harg4.unread x2)
  wn := View.readAt (Elt F) arg5.view (Rect.unit (s := S1x1024) ![0, 0] S1x1024.size (by decide)).toLoadRect (harg5.unread x3)
  wb := View.readAt (Elt F) arg6.view (Rect.unit (s := S1024x6144) ![0, 0] S1024x1024.size (by decide)).toLoadRect (harg6.unread x4)
  wc := View.readAt (Elt F) arg6.view (Rect.unit (s := S1024x6144) ![0, 1024] S1024x1024.size (by decide)).toLoadRect (harg6.unread x4)
  wd := View.readAt (Elt F) arg6.view (Rect.unit (s := S1024x6144) ![0, 2048] S1024x1024.size (by decide)).toLoadRect (harg6.unread x4)
  wq := View.readAt (Elt F) arg6.view (Rect.unit (s := S1024x6144) ![0, 3072] S1024x512.size (by decide)).toLoadRect (harg6.unread x4)
  wk := View.readAt (Elt F) arg6.view (Rect.unit (s := S1024x6144) ![0, 3584] S1024x512.size (by decide)).toLoadRect (harg6.unread x4)
  wv := View.readAt (Elt F) arg6.view (Rect.unit (s := S1024x6144) ![0, 4096] S1024x1024.size (by decide)).toLoadRect (harg6.unread x4)
  wg := View.readAt (Elt F) arg6.view (Rect.unit (s := S1024x6144) ![0, 5120] S1024x1024.size (by decide)).toLoadRect (harg6.unread x4)
  ta := View.readAt (Elt F) arg7.view (Rect.unit (s := S1024x2048) ![0, 0] S1024x1024.size (by decide)).toLoadRect (harg7.unread x5)
  tb := View.readAt (Elt F) arg7.view (Rect.unit (s := S1024x2048) ![0, 1024] S1024x1024.size (by decide)).toLoadRect (harg7.unread x5)
  lr := View.readAt (Elt F) arg8.view (Rect.unit (s := S1024x128) ![0, 0] S1024x128.size (by decide)).toLoadRect (harg8.unread x6)
  gk := View.readAt (Elt F) arg9.view (Rect.unit (s := S128x512) ![0, 0] S128x512.size (by decide)).toLoadRect (harg9.unread x7)
  bgk := View.readAt (Elt F) arg10.view (Rect.unit (s := S1x512) ![0, 0] S1x512.size (by decide)).toLoadRect (harg10.unread x8)
  cv := View.readAt (Elt F) arg11.view (Rect.unit (s := S3x1024) ![0, 0] S3x1024.size (by decide)).toLoadRect (harg11.unread x9)
  wa := View.readAt (Elt F) arg12.view (Rect.unit (s := S1024x1024) ![0, 0] S1024x1024.size (by decide)).toLoadRect (harg12.unread x10)
  gn := View.readAt (Elt F) arg13.view (Rect.unit (s := S1x256) ![0, 0] S1x256.size (by decide)).toLoadRect (harg13.unread x11)
  wyb := View.readAt (Elt F) arg14.view (Rect.unit (s := S1024x1024) ![0, 0] S1024x1024.size (by decide)).toLoadRect (harg14.unread x12)
  wo := View.readAt (Elt F) arg15.view (Rect.unit (s := S1024x1024) ![0, 0] S1024x1024.size (by decide)).toLoadRect (harg15.unread x13)
  post := View.readAt (Elt F) arg16.view (Rect.unit (s := S1x1024) ![0, 0] S1x1024.size (by decide)).toLoadRect (harg16.unread x14)
  c0 := View.readAt (Elt F) arg18.view (Rect.unit (s := S1x1x2x1024) ![0, 0, 0, 0] S1x1x1x1024.size (by decide)).toLoadRect (harg18.unread xo16)
  c1 := View.readAt (Elt F) arg18.view (Rect.unit (s := S1x1x2x1024) ![0, 0, 1, 0] S1x1x1x1024.size (by decide)).toLoadRect (harg18.unread xo16)
  s := fun h => View.readAt (Elt F) arg19.view (Ins.headBox h).toLoadRect (harg19.unread xo17)
  base := []
  buf := arg20
  sb := arg19

/-- The rows out. -/
theorem b_out : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo16 xo17).1 = [⟨Rect.unit ![0, 0, 0] S1x512x1024.size (by decide), (insB arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 x0 x1 x2 x3 x4 x5 x6 x7 x8 x9 x10 x11 x12 x13 x14 xo16 xo17).out⟩] := by
  sl_kernel_rfl

/-- The carried rows out. -/
theorem b_carry : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo16 xo17).2.1 = ⟨Rect.unit ![0, 0, 0, 0] S1x1x2x1024.size (by decide), (insB arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 x0 x1 x2 x3 x4 x5 x6 x7 x8 x9 x10 x11 x12 x13 x14 xo16 xo17).carry⟩ :: [] := by
  sl_kernel_rfl

/-- The states out. -/
theorem b_state : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo16 xo17).2.2.1 = (insB arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 x0 x1 x2 x3 x4 x5 x6 x7 x8 x9 x10 x11 x12 x13 x14 xo16 xo17).held 4 := by
  sl_kernel_rfl

end Cert.Mixer
-- ==== Proof.TileRead.lean ====
/- One chunk's vocabulary read at real operands: each level's queries and keys are the plain ones times a power of two whose
   exponent is written out by the row's number. -/
module

public import proofs.«01_k».proof.Proof.Tile
public import Idealize.ShloMosaic.Lib.Pointwise
public import Idealize.ShloMosaic.Lib.WordCmp

@[expose] public section

set_option maxRecDepth 16384

noncomputable section

namespace Cert.Mixer

open Idealize.ShloMosaic Cert.KernelIdeal Cert.KernelIdeal.Gen

/-- A power of two. -/
def p2 (x : ℝ) : ℝ := Real.rpow 2 x

theorem p2_zero : p2 0 = 1 := Real.rpow_zero 2
theorem p2_add (x y : ℝ) : p2 (x + y) = p2 x * p2 y := Real.rpow_add two_pos x y

theorem exp2_real (x : ℝ) : FloatOps.exp2 (F := Ideal) (φ := .f32) (x : EReal) = ((p2 x : ℝ) : EReal) := rfl

theorem abs_real (x : ℝ) : FloatOps.absf (F := Ideal) (φ := .f32) (x : EReal) = ((|x| : ℝ) : EReal) := by
  show max (x : EReal) (-(x : EReal)) = _
  rw [← EReal.coe_neg]
  exact (EReal.coe_strictMono.monotone.map_max).symm

/-- The first `n` steps' logarithms summed, one channel. -/
def csum (W : ℕ → Fin 512 → ℝ) (n : ℕ) (j : Fin 512) : ℝ := ∑ i ∈ Finset.range n, W i j

theorem csum_succ (W : ℕ → Fin 512 → ℝ) (n : ℕ) (j : Fin 512) : csum W (n + 1) j = csum W n j + W n j :=
  Finset.sum_range_succ _ _

/-- The chunk's operands are real: queries `Q`, keys `K`, steps' logarithms `W` (none positive), and the running sums. -/
structure Chunk (q k lw cum : FVec Ideal S256x512 .f32) (rd : Rows Ideal) (Q K W : ℕ → Fin 512 → ℝ) : Prop where
  hq : ∀ (n : ℕ) (h : n < 256) (j : Fin 512), q (ix2 ⟨n, h⟩ j) = ((Q n j : ℝ) : EReal)
  hk : ∀ (n : ℕ) (h : n < 256) (j : Fin 512), k (ix2 ⟨n, h⟩ j) = ((K n j : ℝ) : EReal)
  hlw : ∀ (n : ℕ) (h : n < 256) (j : Fin 512), lw (ix2 ⟨n, h⟩ j) = ((W n j : ℝ) : EReal)
  hcum : ∀ (n : ℕ) (h : n < 256) (j : Fin 512), cum (ix2 ⟨n, h⟩ j) = ((csum W (n + 1) j : ℝ) : EReal)
  hrd : ∀ (n : ℕ) (h : n < 256) (j : Fin 512), rd n h (ix3 0 0 j) = ((csum W (n + 1) j : ℝ) : EReal)
  neg : ∀ (n : ℕ) (j : Fin 512), W n j ≤ 0

/-- The exponent of a query at a level of halves of `m`. -/
def qs (W : ℕ → Fin 512 → ℝ) (m n : ℕ) (j : Fin 512) : ℝ :=
  if n / m % 2 = 0 then 0 else csum W (n + 1) j - csum W (n / (2 * m) * (2 * m) + m) j

/-- The exponent of a key at a level of halves of `m`. -/
def ks (W : ℕ → Fin 512 → ℝ) (m n : ℕ) (j : Fin 512) : ℝ :=
  if n / m % 2 = 0 then csum W (n / (2 * m) * (2 * m) + m) j - csum W (n + 1) j else 0

/-- Either's exponent at a level of halves of `m`, as a distance. -/
def ds (W : ℕ → Fin 512 → ℝ) (m n : ℕ) (j : Fin 512) : ℝ :=
  -|csum W (n + 1) j - csum W (n / (2 * m) * (2 * m) + m) j|

section sides
variable {Q W : ℕ → Fin 512 → ℝ} {j : Fin 512} {m n n' c : ℕ}

theorem qs_plain (hn : n' = n) (h : n / m % 2 = 0) : ((Q n' j : ℝ) : EReal) = ((Q n j * p2 (qs W m n j) : ℝ) : EReal) := by
  subst hn; rw [qs, if_pos h, p2_zero, mul_one]

theorem qs_decayed (hn : n' = n) (h : n / m % 2 ≠ 0) (hc : c = n / (2 * m) * (2 * m) + m) :
    ((Q n' j * p2 (csum W (n' + 1) j - csum W c j) : ℝ) : EReal) = ((Q n j * p2 (qs W m n j) : ℝ) : EReal) := by
  subst hn hc; rw [qs, if_neg h]

theorem ks_plain (hn : n' = n) (h : n / m % 2 ≠ 0) : ((Q n' j : ℝ) : EReal) = ((Q n j * p2 (ks W m n j) : ℝ) : EReal) := by
  subst hn; rw [ks, if_neg h, p2_zero, mul_one]

theorem ks_decayed (hn : n' = n) (h : n / m % 2 = 0) (hc : c = n / (2 * m) * (2 * m) + m) :
    ((Q n' j * p2 (csum W c j - csum W (n' + 1) j) : ℝ) : EReal) = ((Q n j * p2 (ks W m n j) : ℝ) : EReal) := by
  subst hn hc; rw [ks, if_pos h]

end sides

/-- The chunk cut into sixteen blocks of 16 rows. -/
theorem slices16 (b : Fin 16) : S256x512.Slices ![16 * b.val, 0] S16x512 := by
  revert b
  decide

variable {q k lw cum : FVec Ideal S256x512 .f32} {rd : Rows Ideal} {Q K W : ℕ → Fin 512 → ℝ}

theorem mids8_apply (rd : Rows Ideal) (n : ℕ) (h : n < 256) (j : Fin 512) : mids8 rd (ix2 ⟨n, h⟩ j) = rd (n / 8 * 8 + 3) (by omega) (ix3 0 0 j) := by
  have e := concatenate_ofFn_apply (α := Elt Ideal .f32) (t := S256x512) (s₁ := S8x512) 0 (fun b : Fin 32 => rep8 rd (b.val * 8 + 3) (by omega))
    concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S256x512_d0
    rfl 8 rfl (ix2 ⟨n, h⟩ j) ⟨n / 8, by omega⟩ rfl (ix2 ⟨n % 8, by omega⟩ j) rfl (fun b hb => by
      match b with
      | ⟨0, _⟩ => exact absurd rfl hb
      | ⟨1, _⟩ => rfl)
  refine Eq.trans e ?_
  unfold rep8
  pointwise [rowAt]

theorem fac8_apply (ch : Chunk q k lw cum rd Q K W) (n : ℕ) (h : n < 256) (j : Fin 512) :
    fac8 cum rd (ix2 ⟨n, h⟩ j) = ((p2 (ds W 4 n j) : ℝ) : EReal) := by
  unfold fac8
  pointwise
  rw [mids8_apply, ch.hcum, ch.hrd, ← EReal.coe_sub, abs_real, zero_sub, ← EReal.coe_neg, exp2_real]
  rfl

theorem mids16_apply (rd : Rows Ideal) (n : ℕ) (h : n < 256) (j : Fin 512) : mids16 rd (ix2 ⟨n, h⟩ j) = rd (n / 16 * 16 + 7) (by omega) (ix3 0 0 j) := by
  have e := concatenate_ofFn_apply (α := Elt Ideal .f32) (t := S256x512) (s₁ := S16x512) 0 (fun b : Fin 16 => rep16 rd (b.val * 16 + 7) (by omega))
    concatenates_S16x512_S16x512_S16x512_S16x512_S16x512_S16x512_S16x512_S16x512_S16x512_S16x512_S16x512_S16x512_S16x512_S16x512_S16x512_S16x512_S256x512_d0
    rfl 16 rfl (ix2 ⟨n, h⟩ j) ⟨n / 16, by omega⟩ rfl (ix2 ⟨n % 16, by omega⟩ j) rfl (fun b hb => by
      match b with
      | ⟨0, _⟩ => exact absurd rfl hb
      | ⟨1, _⟩ => rfl)
  refine Eq.trans e ?_
  unfold rep16
  pointwise [rowAt]

theorem fac16_apply (ch : Chunk q k lw cum rd Q K W) (n : ℕ) (h : n < 256) (j : Fin 512) :
    fac16 cum rd (ix2 ⟨n, h⟩ j) = ((p2 (ds W 8 n j) : ℝ) : EReal) := by
  unfold fac16
  pointwise
  rw [mids16_apply, ch.hcum, ch.hrd, ← EReal.coe_sub, abs_real, zero_sub, ← EReal.coe_neg, exp2_real]
  rfl

theorem qPart16_apply (ch : Chunk q k lw cum rd Q K W) (o : ℕ) (hs : S256x512.Slices ![o, 0] S16x512) (r : ℕ) (h : r < 256) (n : ℕ) (hn : n < 16) (ho : o + n < 256) (j : Fin 512) :
    qPart16 o hs q cum rd r h (ix2 ⟨n, hn⟩ j) = ((Q (o + n) j * p2 (csum W (o + n + 1) j - csum W (r + 1) j) : ℝ) : EReal) := by
  unfold qPart16
  pointwise [rowAt]
  simp only [ch.hq, ch.hcum, ch.hrd, ← EReal.coe_sub, exp2_real, ← EReal.coe_mul]

theorem qSplit16_apply (ch : Chunk q k lw cum rd Q K W) (n : ℕ) (h : n < 256) (j : Fin 512) :
    qSplit16 q cum rd (ix2 ⟨n, h⟩ j) = ((Q n j * p2 (qs W 16 n j) : ℝ) : EReal) := by
  have e := concatenate_ofFn_apply (α := Elt Ideal .bf16) (t := S256x512) (s₁ := S16x512) 0
    (fun b : Fin 16 => if b.val % 2 = 0 then extractStridedSlice S16x512 ![16 * b.val, 0] (truncf .bf16 q bitsLt_bf16_f32) (slices16 b)
      else qPart16 (16 * b.val) (slices16 b) q cum rd (16 * b.val - 1) (by omega))
    concatenates_S16x512_S16x512_S16x512_S16x512_S16x512_S16x512_S16x512_S16x512_S16x512_S16x512_S16x512_S16x512_S16x512_S16x512_S16x512_S16x512_S256x512_d0
    rfl 16 rfl (ix2 ⟨n, h⟩ j) ⟨n / 16, by omega⟩ rfl (ix2 ⟨n % 16, by omega⟩ j) rfl (fun b hb => by
      match b with
      | ⟨0, _⟩ => exact absurd rfl hb
      | ⟨1, _⟩ => rfl)
  refine Eq.trans e ?_
  dsimp only
  split_ifs with c
  · pointwise
    refine (ch.hq _ _ _).trans ?_
    exact qs_plain (by omega) (by omega)
  · refine (qPart16_apply ch _ _ _ _ _ _ (by omega) _).trans ?_
    exact qs_decayed (by omega) (by omega) (by omega)

theorem kPart16_apply (ch : Chunk q k lw cum rd Q K W) (o : ℕ) (hs : S256x512.Slices ![o, 0] S16x512) (r : ℕ) (h : r < 256) (n : ℕ) (hn : n < 16) (ho : o + n < 256) (j : Fin 512) :
    kPart16 o hs k cum rd r h (ix2 ⟨n, hn⟩ j) = ((K (o + n) j * p2 (csum W (r + 1) j - csum W (o + n + 1) j) : ℝ) : EReal) := by
  unfold kPart16
  pointwise [rowAt]
  simp only [ch.hk, ch.hcum, ch.hrd, ← EReal.coe_sub, exp2_real, ← EReal.coe_mul]

theorem kSplit16_apply (ch : Chunk q k lw cum rd Q K W) (n : ℕ) (h : n < 256) (j : Fin 512) :
    kSplit16 k cum rd (ix2 ⟨n, h⟩ j) = ((K n j * p2 (ks W 16 n j) : ℝ) : EReal) := by
  have e := concatenate_ofFn_apply (α := Elt Ideal .bf16) (t := S256x512) (s₁ := S16x512) 0
    (fun b : Fin 16 => if b.val % 2 = 1 then extractStridedSlice S16x512 ![16 * b.val, 0] (truncf .bf16 k bitsLt_bf16_f32) (slices16 b)
      else kPart16 (16 * b.val) (slices16 b) k cum rd (16 * b.val + 15) (by omega))
    concatenates_S16x512_S16x512_S16x512_S16x512_S16x512_S16x512_S16x512_S16x512_S16x512_S16x512_S16x512_S16x512_S16x512_S16x512_S16x512_S16x512_S256x512_d0
    rfl 16 rfl (ix2 ⟨n, h⟩ j) ⟨n / 16, by omega⟩ rfl (ix2 ⟨n % 16, by omega⟩ j) rfl (fun b hb => by
      match b with
      | ⟨0, _⟩ => exact absurd rfl hb
      | ⟨1, _⟩ => rfl)
  refine Eq.trans e ?_
  dsimp only
  split_ifs with c
  · pointwise
    refine (ch.hk _ _ _).trans ?_
    exact ks_plain (by omega) (by omega)
  · refine (kPart16_apply ch _ _ _ _ _ _ (by omega) _).trans ?_
    exact ks_decayed (by omega) (by omega) (by omega)

theorem qPart32_apply (ch : Chunk q k lw cum rd Q K W) (o : ℕ) (hs : S256x512.Slices ![o, 0] S32x512) (r : ℕ) (h : r < 256) (n : ℕ) (hn : n < 32) (ho : o + n < 256) (j : Fin 512) :
    qPart32 o hs q cum rd r h (ix2 ⟨n, hn⟩ j) = ((Q (o + n) j * p2 (csum W (o + n + 1) j - csum W (r + 1) j) : ℝ) : EReal) := by
  unfold qPart32
  pointwise [rowAt]
  simp only [ch.hq, ch.hcum, ch.hrd, ← EReal.coe_sub, exp2_real, ← EReal.coe_mul]

theorem qSplit32_apply (ch : Chunk q k lw cum rd Q K W) (n : ℕ) (h : n < 256) (j : Fin 512) :
    qSplit32 q cum rd (ix2 ⟨n, h⟩ j) = ((Q n j * p2 (qs W 32 n j) : ℝ) : EReal) := by
  unfold qSplit32
  pointwise
  split_ifs
  all_goals first
    | (refine (ch.hq _ _ _).trans ?_; exact qs_plain (by omega) (by omega))
    | (refine (qPart32_apply ch _ _ _ _ _ _ (by omega) _).trans ?_; exact qs_decayed (by omega) (by omega) (by omega))

theorem kPart32_apply (ch : Chunk q k lw cum rd Q K W) (o : ℕ) (hs : S256x512.Slices ![o, 0] S32x512) (r : ℕ) (h : r < 256) (n : ℕ) (hn : n < 32) (ho : o + n < 256) (j : Fin 512) :
    kPart32 o hs k cum rd r h (ix2 ⟨n, hn⟩ j) = ((K (o + n) j * p2 (csum W (r + 1) j - csum W (o + n + 1) j) : ℝ) : EReal) := by
  unfold kPart32
  pointwise [rowAt]
  simp only [ch.hk, ch.hcum, ch.hrd, ← EReal.coe_sub, exp2_real, ← EReal.coe_mul]

theorem kSplit32_apply (ch : Chunk q k lw cum rd Q K W) (n : ℕ) (h : n < 256) (j : Fin 512) :
    kSplit32 k cum rd (ix2 ⟨n, h⟩ j) = ((K n j * p2 (ks W 32 n j) : ℝ) : EReal) := by
  unfold kSplit32
  pointwise
  split_ifs
  all_goals first
    | (refine (ch.hk _ _ _).trans ?_; exact ks_plain (by omega) (by omega))
    | (refine (kPart32_apply ch _ _ _ _ _ _ (by omega) _).trans ?_; exact ks_decayed (by omega) (by omega) (by omega))

theorem qPart64_apply (ch : Chunk q k lw cum rd Q K W) (o : ℕ) (hs : S256x512.Slices ![o, 0] S64x512) (r : ℕ) (h : r < 256) (n : ℕ) (hn : n < 64) (ho : o + n < 256) (j : Fin 512) :
    qPart64 o hs q cum rd r h (ix2 ⟨n, hn⟩ j) = ((Q (o + n) j * p2 (csum W (o + n + 1) j - csum W (r + 1) j) : ℝ) : EReal) := by
  unfold qPart64
  pointwise [rowAt]
  simp only [ch.hq, ch.hcum, ch.hrd, ← EReal.coe_sub, exp2_real, ← EReal.coe_mul]

theorem qSplit64_apply (ch : Chunk q k lw cum rd Q K W) (n : ℕ) (h : n < 256) (j : Fin 512) :
    qSplit64 q cum rd (ix2 ⟨n, h⟩ j) = ((Q n j * p2 (qs W 64 n j) : ℝ) : EReal) := by
  unfold qSplit64
  pointwise
  split_ifs
  all_goals first
    | (refine (ch.hq _ _ _).trans ?_; exact qs_plain (by omega) (by omega))
    | (refine (qPart64_apply ch _ _ _ _ _ _ (by omega) _).trans ?_; exact qs_decayed (by omega) (by omega) (by omega))

theorem kPart64_apply (ch : Chunk q k lw cum rd Q K W) (o : ℕ) (hs : S256x512.Slices ![o, 0] S64x512) (r : ℕ) (h : r < 256) (n : ℕ) (hn : n < 64) (ho : o + n < 256) (j : Fin 512) :
    kPart64 o hs k cum rd r h (ix2 ⟨n, hn⟩ j) = ((K (o + n) j * p2 (csum W (r + 1) j - csum W (o + n + 1) j) : ℝ) : EReal) := by
  unfold kPart64
  pointwise [rowAt]
  simp only [ch.hk, ch.hcum, ch.hrd, ← EReal.coe_sub, exp2_real, ← EReal.coe_mul]

theorem kSplit64_apply (ch : Chunk q k lw cum rd Q K W) (n : ℕ) (h : n < 256) (j : Fin 512) :
    kSplit64 k cum rd (ix2 ⟨n, h⟩ j) = ((K n j * p2 (ks W 64 n j) : ℝ) : EReal) := by
  unfold kSplit64
  pointwise
  split_ifs
  all_goals first
    | (refine (ch.hk _ _ _).trans ?_; exact ks_plain (by omega) (by omega))
    | (refine (kPart64_apply ch _ _ _ _ _ _ (by omega) _).trans ?_; exact ks_decayed (by omega) (by omega) (by omega))

theorem qTop_apply (ch : Chunk q k lw cum rd Q K W) (n : ℕ) (h : n < 128) (j : Fin 512) :
    qTop q cum rd (ix2 ⟨n, h⟩ j) = ((Q (128 + n) j * p2 (csum W (128 + n + 1) j - csum W 128 j) : ℝ) : EReal) := by
  unfold qTop
  pointwise [rowAt]
  simp only [ch.hq, ch.hcum, ch.hrd, ← EReal.coe_sub, exp2_real, ← EReal.coe_mul]

theorem kTop_apply (ch : Chunk q k lw cum rd Q K W) (n : ℕ) (h : n < 128) (j : Fin 512) :
    kTop k cum rd (ix2 ⟨n, h⟩ j) = ((K n j * p2 (csum W 128 j - csum W (n + 1) j) : ℝ) : EReal) := by
  unfold kTop
  pointwise [rowAt]
  simp only [ch.hk, ch.hcum, ch.hrd, ← EReal.coe_sub, exp2_real, ← EReal.coe_mul, Nat.zero_add]

/-- A row's place in its block of four, as a word. -/
theorem and3 (n : ℕ) (h : n < 256) : IntOp.andi (BitVec.ofNat 32 n) 3#32 = BitVec.ofNat 32 (n % 4) := by
  revert h; revert n
  decide +kernel

theorem select_pos4 (n a : ℕ) (h : n < 256) (ha : a < 4) (x y : EReal) :
    Scalar.select (IntOp.cmpi CmpIPredicate.eq (IntOp.andi (BitVec.ofNat 32 n) 3#32) (BitVec.ofNat 32 a)) x y = if n % 4 = a then x else y := by
  rw [and3 n h, Idealize.ShloMosaic.WordCmp.cmpi_eq_ofNat (by omega) (by omega)]
  by_cases e : n % 4 = a <;> simp [e, Scalar.select]

theorem q1_apply (ch : Chunk q k lw cum rd Q K W) (n : ℕ) (h : n < 256) (j : Fin 512) :
    q1 q lw (ix2 ⟨n, h⟩ j) = ((Q n j * p2 (W n j) : ℝ) : EReal) := by
  unfold q1
  pointwise [step]
  simp only [ch.hq, ch.hlw, exp2_real, ← EReal.coe_mul]

theorem q2_apply (ch : Chunk q k lw cum rd Q K W) (n : ℕ) (h : n < 256) (j : Fin 512) :
    q2 q lw (ix2 ⟨n, h⟩ j) = ((Q n j * p2 (W n j + if n % 4 = 3 then W (n - 1) j else 0) : ℝ) : EReal) := by
  unfold q2
  pointwise [q1, step, pos4]
  simp only [ch.hq, ch.hlw, exp2_real, ← EReal.coe_mul]
  rw [select_pos4 n 3 h (by omega)]
  split_ifs with e
  · rw [← EReal.coe_mul, p2_add, mul_assoc, show (n + 256 - 1) % 256 = n - 1 by omega]
  · rw [mul_one, add_zero]

theorem k2_apply (ch : Chunk q k lw cum rd Q K W) (n : ℕ) (h : n < 256) (j : Fin 512) :
    k2 k lw (ix2 ⟨n, h⟩ j) = ((K n j * p2 (if n % 4 = 0 then W (n + 1) j else 0) : ℝ) : EReal) := by
  unfold k2
  pointwise [step, pos4]
  simp only [ch.hk, ch.hlw, exp2_real]
  rw [select_pos4 n 0 h (by omega)]
  split_ifs with e
  · rw [← EReal.coe_mul, show (n + 256 - 255) % 256 = n + 1 by omega]
  · rw [mul_one, p2_zero, mul_one]

/-- The exponents of the eight levels' queries and keys. -/
def qe (W : ℕ → Fin 512 → ℝ) : ℕ → ℕ → Fin 512 → ℝ
  | 0, _, _ => 0
  | 1, n, j => W n j
  | 2, n, j => W n j + if n % 4 = 3 then W (n - 1) j else 0
  | 3, n, j => ds W 4 n j
  | 4, n, j => ds W 8 n j
  | 5, n, j => qs W 16 n j
  | 6, n, j => qs W 32 n j
  | _, n, j => qs W 64 n j

def ke (W : ℕ → Fin 512 → ℝ) : ℕ → ℕ → Fin 512 → ℝ
  | 0, _, _ => 0
  | 1, _, _ => 0
  | 2, n, j => if n % 4 = 0 then W (n + 1) j else 0
  | 3, n, j => ds W 4 n j
  | 4, n, j => ds W 8 n j
  | 5, n, j => ks W 16 n j
  | 6, n, j => ks W 32 n j
  | _, n, j => ks W 64 n j

theorem qLev_apply (ch : Chunk q k lw cum rd Q K W) (i n : ℕ) (h : n < 256) (j : Fin 512) :
    qLev q lw cum rd i (ix2 ⟨n, h⟩ j) = ((Q n j * p2 (qe W i n j) : ℝ) : EReal) := by
  match i with
  | 0 => show q (ix2 ⟨n, h⟩ j) = ((Q n j * p2 0 : ℝ) : EReal); rw [ch.hq, p2_zero, mul_one]
  | 1 => exact q1_apply ch n h j
  | 2 => exact q2_apply ch n h j
  | 3 => show q (ix2 ⟨n, h⟩ j) * fac8 cum rd (ix2 ⟨n, h⟩ j) = ((Q n j * p2 (ds W 4 n j) : ℝ) : EReal); rw [ch.hq, fac8_apply ch, ← EReal.coe_mul]
  | 4 => show q (ix2 ⟨n, h⟩ j) * fac16 cum rd (ix2 ⟨n, h⟩ j) = ((Q n j * p2 (ds W 8 n j) : ℝ) : EReal); rw [ch.hq, fac16_apply ch, ← EReal.coe_mul]
  | 5 => exact qSplit16_apply ch n h j
  | 6 => exact qSplit32_apply ch n h j
  | i + 7 => exact qSplit64_apply ch n h j

theorem kLev_apply (ch : Chunk q k lw cum rd Q K W) (i n : ℕ) (h : n < 256) (j : Fin 512) :
    kLev k lw cum rd i (ix2 ⟨n, h⟩ j) = ((K n j * p2 (ke W i n j) : ℝ) : EReal) := by
  match i with
  | 0 => show k (ix2 ⟨n, h⟩ j) = ((K n j * p2 0 : ℝ) : EReal); rw [ch.hk, p2_zero, mul_one]
  | 1 => show k (ix2 ⟨n, h⟩ j) = ((K n j * p2 0 : ℝ) : EReal); rw [ch.hk, p2_zero, mul_one]
  | 2 => exact k2_apply ch n h j
  | 3 => show k (ix2 ⟨n, h⟩ j) * fac8 cum rd (ix2 ⟨n, h⟩ j) = ((K n j * p2 (ds W 4 n j) : ℝ) : EReal); rw [ch.hk, fac8_apply ch, ← EReal.coe_mul]
  | 4 => show k (ix2 ⟨n, h⟩ j) * fac16 cum rd (ix2 ⟨n, h⟩ j) = ((K n j * p2 (ds W 8 n j) : ℝ) : EReal); rw [ch.hk, fac16_apply ch, ← EReal.coe_mul]
  | 5 => exact kSplit16_apply ch n h j
  | 6 => exact kSplit32_apply ch n h j
  | i + 7 => exact kSplit64_apply ch n h j

end Cert.Mixer

end
-- ==== Proof.Levels.lean ====
/- The exponents at each level add up, for a pair of tokens that meets there, to the decay between the two. -/
module

public import proofs.«01_k».proof.Proof.TileRead

@[expose] public section

set_option maxRecDepth 16384

noncomputable section

namespace Cert.Mixer

open Idealize.ShloMosaic

variable (W : ℕ → Fin 512 → ℝ) (j : Fin 512)

theorem csum_anti (neg : ∀ n j, W n j ≤ 0) {a b : ℕ} (h : a ≤ b) : csum W b j ≤ csum W a j := by
  induction b, h using Nat.le_induction with
  | base => exact le_refl _
  | succ b _ ih => rw [csum_succ]; linarith [neg b j]

/-- The level at which a pair `s ≤ t` meets: 0 for the token itself, else one more than the place of the highest bit in which
    the two differ. -/
def Meets (i t s : ℕ) : Prop :=
  match i with
  | 0 => t = s
  | i + 1 => s < t ∧ t / 2 ^ (i + 1) = s / 2 ^ (i + 1) ∧ t / 2 ^ i ≠ s / 2 ^ i

theorem exps_add (neg : ∀ n j, W n j ≤ 0) (i t s : ℕ) (hi : i < 8) (h : Meets i t s) :
    qe W i t j + ke W i s j = csum W (t + 1) j - csum W (s + 1) j := by
  have split (m : ℕ) (hm : 0 < m) (h1 : t / (2 * m) = s / (2 * m)) (h2 : t / m % 2 = 1) (h3 : s / m % 2 = 0) :
      qs W m t j + ks W m s j = csum W (t + 1) j - csum W (s + 1) j := by
    rw [qs, ks, if_neg (by omega), if_pos h3, h1]; ring
  have dist (m : ℕ) (hm : 0 < m) (h1 : t / (2 * m) = s / (2 * m)) (h2 : s < t / (2 * m) * (2 * m) + m) (h3 : t / (2 * m) * (2 * m) + m ≤ t) :
      ds W m t j + ds W m s j = csum W (t + 1) j - csum W (s + 1) j := by
    have a := csum_anti W j neg (show t / (2 * m) * (2 * m) + m ≤ t + 1 by omega)
    have b := csum_anti W j neg (show s + 1 ≤ s / (2 * m) * (2 * m) + m by rw [← h1]; omega)
    rw [ds, ds, abs_of_nonpos (by linarith), abs_of_nonneg (by linarith), h1]; ring
  match i, hi with
  | 0, _ => obtain rfl : t = s := h; show (0 : ℝ) + 0 = _; ring
  | 1, _ =>
    obtain ⟨h0, h1, h2⟩ := h
    norm_num at h1 h2
    obtain rfl : t = s + 1 := by omega
    show W (s + 1) j + 0 = _
    rw [csum_succ W (s + 1)]; ring
  | 2, _ =>
    obtain ⟨h0, h1, h2⟩ := h
    norm_num at h1 h2
    show (W t j + if t % 4 = 3 then W (t - 1) j else 0) + (if s % 4 = 0 then W (s + 1) j else 0) = _
    obtain ⟨b, hb⟩ : ∃ b, s = 4 * b ∧ t = 4 * b + 2 ∨ s = 4 * b ∧ t = 4 * b + 3 ∨ s = 4 * b + 1 ∧ t = 4 * b + 2 ∨ s = 4 * b + 1 ∧ t = 4 * b + 3 :=
      ⟨s / 4, by omega⟩
    have c1 : csum W (4 * b + 2) j = csum W (4 * b + 1) j + W (4 * b + 1) j := csum_succ W (4 * b + 1) j
    have c2 : csum W (4 * b + 3) j = csum W (4 * b + 2) j + W (4 * b + 2) j := csum_succ W (4 * b + 2) j
    have c3 : csum W (4 * b + 4) j = csum W (4 * b + 3) j + W (4 * b + 3) j := csum_succ W (4 * b + 3) j
    rcases hb with ⟨rfl, rfl⟩ | ⟨rfl, rfl⟩ | ⟨rfl, rfl⟩ | ⟨rfl, rfl⟩
    · rw [if_neg (by omega), if_pos (by omega)]
      show W (4 * b + 2) j + 0 + W (4 * b + 1) j = csum W (4 * b + 3) j - csum W (4 * b + 1) j
      linarith
    · rw [if_pos (by omega), if_pos (by omega)]
      show W (4 * b + 3) j + W (4 * b + 2) j + W (4 * b + 1) j = csum W (4 * b + 4) j - csum W (4 * b + 1) j
      linarith
    · rw [if_neg (by omega), if_neg (by omega)]
      show W (4 * b + 2) j + 0 + 0 = csum W (4 * b + 3) j - csum W (4 * b + 2) j
      linarith
    · rw [if_pos (by omega), if_neg (by omega)]
      show W (4 * b + 3) j + W (4 * b + 2) j + 0 = csum W (4 * b + 4) j - csum W (4 * b + 2) j
      linarith
  | 3, _ => obtain ⟨h0, h1, h2⟩ := h; norm_num at h1 h2; exact dist 4 (by omega) (by omega) (by omega) (by omega)
  | 4, _ => obtain ⟨h0, h1, h2⟩ := h; norm_num at h1 h2; exact dist 8 (by omega) (by omega) (by omega) (by omega)
  | 5, _ => obtain ⟨h0, h1, h2⟩ := h; norm_num at h1 h2; exact split 16 (by omega) (by omega) (by omega) (by omega)
  | 6, _ => obtain ⟨h0, h1, h2⟩ := h; norm_num at h1 h2; exact split 32 (by omega) (by omega) (by omega) (by omega)
  | 7, _ => obtain ⟨h0, h1, h2⟩ := h; norm_num at h1 h2; exact split 64 (by omega) (by omega) (by omega) (by omega)

end Cert.Mixer

end
-- ==== Proof.Chunk.lean ====
/- One chunk as mathematics: the scores are each pair's decayed product, the output and the carried state the sums over them. -/
module

public import proofs.«01_k».proof.Proof.Levels

@[expose] public section

set_option maxRecDepth 16384

noncomputable section

namespace Cert.Mixer

open Idealize.ShloMosaic Cert.KernelIdeal Cert.KernelIdeal.Gen

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The table of levels: -1 for a token against itself, -2 above, else the level's number less one. -/
structure Table (lev : IVec S128x128 32) : Prop where
  diag : ∀ t : Fin 128, lev (ix2 t t) = 4294967295#32
  above : ∀ t s : Fin 128, t < s → lev (ix2 t s) = 4294967294#32
  below : ∀ (t s : Fin 128) (i : Fin 7), Meets (i.val + 1) t.val s.val → lev (ix2 t s) = BitVec.ofNat 32 i.val

theorem meets_exists (t s : ℕ) (ht : t < 128) (h : s < t) : ∃ i : Fin 7, Meets (i.val + 1) t s := by
  by_cases h1 : t / 2 = s / 2
  · exact ⟨0, h, by simpa using h1, by simp; omega⟩
  by_cases h2 : t / 4 = s / 4
  · exact ⟨1, h, by simpa using h2, by simpa using h1⟩
  by_cases h3 : t / 8 = s / 8
  · exact ⟨2, h, by simpa using h3, by simpa using h2⟩
  by_cases h4 : t / 16 = s / 16
  · exact ⟨3, h, by simpa using h4, by simpa using h3⟩
  by_cases h5 : t / 32 = s / 32
  · exact ⟨4, h, by simpa using h5, by simpa using h4⟩
  by_cases h6 : t / 64 = s / 64
  · exact ⟨5, h, by simpa using h6, by simpa using h5⟩
  exact ⟨6, h, by simp; omega, by simpa using h6⟩

theorem Meets.shift {i : ℕ} {t s : ℕ} (h : Meets i t s) (hi : i < 8) : Meets i (128 + t) (128 + s) := by
  match i, hi with
  | 0, _ => exact congrArg (128 + ·) h
  | 1, _ | 2, _ | 3, _ | 4, _ | 5, _ | 6, _ | 7, _ =>
    obtain ⟨h0, h1, h2⟩ := h
    norm_num at h1 h2
    refine ⟨by omega, ?_, ?_⟩ <;> norm_num <;> omega

variable (lev : IVec S128x128 32) (tb : Table lev) (s : ℕ → FVec Ideal S256x256 .f32)

section
variable (corner : FVec Ideal S256x256 .f32 → FVec Ideal S128x128 .f32)

include tb

theorem half_diag (t : Fin 128) : halfScores corner lev s (ix2 t t) = corner (s 0) (ix2 t t) := by
  unfold halfScores
  pointwise
  rw [tb.diag]
  rfl

theorem half_above (t u : Fin 128) (h : t < u) : halfScores corner lev s (ix2 t u) = 0 := by
  unfold halfScores
  pointwise
  rw [tb.above t u h]
  rfl

theorem half_below (t u : Fin 128) (i : Fin 7) (h : Meets (i.val + 1) t.val u.val) :
    halfScores corner lev s (ix2 t u) = corner (s (i.val + 1)) (ix2 t u) := by
  unfold halfScores
  pointwise
  rw [tb.below t u i h]
  match i with
  | 0 | 1 | 2 | 3 | 4 | 5 | 6 => rfl

end

/-- The decayed product of a pair, one head. -/
def pair (Q K W : ℕ → Fin 512 → ℝ) (o : ℕ) (ho : o + 128 ≤ 512) (t s : ℕ) : ℝ :=
  ∑ x : Fin 128, Q t ⟨o + x.val, by omega⟩ * K s ⟨o + x.val, by omega⟩ * p2 (csum W (t + 1) ⟨o + x.val, by omega⟩ - csum W (s + 1) ⟨o + x.val, by omega⟩)

/-- The same for tokens seen, nothing for tokens to come. -/
def seen (Q K W : ℕ → Fin 512 → ℝ) (o : ℕ) (ho : o + 128 ≤ 512) (t s : ℕ) : ℝ := if s ≤ t then pair Q K W o ho t s else 0

variable {lev} {q k lw cum : FVec Ideal S256x512 .f32} {rd : Rows Ideal} {Q K W : ℕ → Fin 512 → ℝ}

theorem lvScore_apply (ch : Chunk q k lw cum rd Q K W) (o : ℕ) (ho : o + 128 ≤ 512) (hs : S256x512.Slices ![0, o] S256x128) (i t s : ℕ) (hi : i < 8)
    (ht : t < 256) (hs' : s < 256) (h : Meets i t s) :
    lvScore o hs (qLev q lw cum rd i) (kLev k lw cum rd i) (ix2 ⟨t, ht⟩ ⟨s, hs'⟩) = ((pair Q K W o ho t s : ℝ) : EReal) := by
  unfold lvScore
  pointwise
  rw [pair, coe_sum]
  refine Finset.sum_congr rfl fun x _ => ?_
  rw [qLev_apply ch, kLev_apply ch, ← EReal.coe_mul, ← exps_add W _ ch.neg i t s hi h, p2_add]
  congr 1
  ring

theorem scores_apply (tb : Table lev) (ch : Chunk q k lw cum rd Q K W) (o : ℕ) (ho : o + 128 ≤ 512) (hs : S256x512.Slices ![0, o] S256x128)
    (ht : S128x512.Slices ![0, o] S128x128) (t s : ℕ) (h : t < 256) (h' : s < 256) :
    scores o hs ht lev q k lw cum rd (ix2 ⟨t, h⟩ ⟨s, h'⟩) = ((seen Q K W o ho t s : ℝ) : EReal) := by
  have e : scores o hs ht lev q k lw cum rd (ix2 ⟨t, h⟩ ⟨s, h'⟩)
      = (if h1 : t < 128 then
          if h2 : s < 128 then halfScores corner0 lev (fun i => lvScore o hs (qLev q lw cum rd i) (kLev k lw cum rd i)) (ix2 ⟨t, h1⟩ ⟨s, h2⟩) else 0
        else
          if h2 : s < 128 then ∑ x : Fin 128, qTop q cum rd (ix2 ⟨t - 128, by omega⟩ ⟨o + x.val, by omega⟩) * kTop k cum rd (ix2 ⟨s, h2⟩ ⟨o + x.val, by omega⟩)
          else halfScores corner1 lev (fun i => lvScore o hs (qLev q lw cum rd i) (kLev k lw cum rd i)) (ix2 ⟨t - 128, by omega⟩ ⟨s - 128, by omega⟩)) := by
    unfold scores
    pointwise
  rw [e]
  clear e
  split_ifs with h1 h2 h3
  · rcases lt_trichotomy s t with e | rfl | e
    · obtain ⟨i, hi⟩ := meets_exists t s h1 e
      rw [half_below lev tb _ _ _ _ i hi, seen, if_pos e.le]
      unfold corner0
      pointwise
      exact lvScore_apply ch o ho hs _ t s (by omega) _ _ hi
    · rw [half_diag lev tb, seen, if_pos le_rfl]
      unfold corner0
      pointwise
      exact lvScore_apply ch o ho hs 0 s s (by omega) _ _ rfl
    · rw [half_above lev tb _ _ _ _ (show (⟨t, _⟩ : Fin 128) < ⟨s, _⟩ from e), seen, if_neg (by omega)]
      rfl
  · rw [seen, if_neg (by omega)]; rfl
  · rw [seen, if_pos (by omega), pair, coe_sum]
    refine Finset.sum_congr rfl fun x _ => ?_
    rw [qTop_apply ch, kTop_apply ch, ← EReal.coe_mul, show 128 + (t - 128) = t by omega]
    congr 1
    rw [show csum W (t + 1) ⟨o + x.val, by omega⟩ - csum W (s + 1) ⟨o + x.val, by omega⟩
      = (csum W (t + 1) ⟨o + x.val, by omega⟩ - csum W 128 ⟨o + x.val, by omega⟩) + (csum W 128 ⟨o + x.val, by omega⟩ - csum W (s + 1) ⟨o + x.val, by omega⟩) by ring, p2_add]
    ring
  · obtain ⟨t, rfl⟩ : ∃ t', t = 128 + t' := ⟨t - 128, by omega⟩
    obtain ⟨s, rfl⟩ : ∃ s', s = 128 + s' := ⟨s - 128, by omega⟩
    simp only [Nat.add_sub_cancel_left]
    rcases lt_trichotomy s t with e | rfl | e
    · obtain ⟨i, hi⟩ := meets_exists t s (by omega) e
      rw [half_below lev tb _ _ _ _ i hi, seen, if_pos (by omega)]
      unfold corner1
      pointwise
      exact lvScore_apply ch o ho hs _ (128 + t) (128 + s) (by omega) _ _ (hi.shift (by omega))
    · rw [half_diag lev tb, seen, if_pos le_rfl]
      unfold corner1
      pointwise
      exact lvScore_apply ch o ho hs 0 (128 + s) (128 + s) (by omega) _ _ rfl
    · rw [half_above lev tb _ _ _ _ (show (⟨t, _⟩ : Fin 128) < ⟨s, _⟩ from e), seen, if_neg (by omega)]
      rfl

/-- What a chunk puts out for one head, from the values `V` and the carried state `S`. -/
def outR (Q K W : ℕ → Fin 512 → ℝ) (V : ℕ → Fin 256 → ℝ) (S : Fin 128 → Fin 256 → ℝ) (o : ℕ) (ho : o + 128 ≤ 512) (t : ℕ) (e : Fin 256) : ℝ :=
  (∑ s : Fin 256, seen Q K W o ho t s.val * V s.val e)
    + ∑ x : Fin 128, Q t ⟨o + x.val, by omega⟩ * p2 (csum W (t + 1) ⟨o + x.val, by omega⟩) * S x e

theorem headOut_apply (tb : Table lev) (ch : Chunk q k lw cum rd Q K W) (o : ℕ) (ho : o + 128 ≤ 512) (hs : S256x512.Slices ![0, o] S256x128)
    (ht : S128x512.Slices ![0, o] S128x128) (o2 : ℕ) (ho2 : o2 + 256 ≤ 1024) (hv : S256x1024.Slices ![0, o2] S256x256) (v : FVec Ideal S256x1024 .bf16) (V : ℕ → Fin 256 → ℝ)
    (so : Vec Ideal S1x1x1x128x256 .f32) (S : Fin 128 → Fin 256 → ℝ)
    (hV : ∀ (n : ℕ) (h : n < 256) (e : Fin 256), v (ix2 ⟨n, h⟩ ⟨o2 + e.val, by omega⟩) = ((V n e : ℝ) : EReal))
    (hS : ∀ (d : Fin 128) (e : Fin 256), so (ix5 0 0 0 d e) = ((S d e : ℝ) : EReal)) (t : ℕ) (h : t < 256) (e : Fin 256) :
    headOut o hs ht o2 hv lev q k lw cum v rd so (ix2 ⟨t, h⟩ e) = ((outR Q K W V S o ho t e : ℝ) : EReal) := by
  unfold headOut
  pointwise
  rw [outR, EReal.coe_add, coe_sum, coe_sum]
  congr 1
  · refine Finset.sum_congr rfl fun x _ => ?_
    rw [show x = ⟨x.val, x.isLt⟩ from rfl, scores_apply tb ch o ho, hV, ← EReal.coe_mul]
  · refine Finset.sum_congr rfl fun x _ => ?_
    rw [ch.hq, ch.hcum, exp2_real, hS, ← EReal.coe_mul, ← EReal.coe_mul]

/-- The state a chunk hands on for one head. -/
def stateR (K W : ℕ → Fin 512 → ℝ) (V : ℕ → Fin 256 → ℝ) (S : Fin 128 → Fin 256 → ℝ) (o : ℕ) (ho : o + 128 ≤ 512) (d : Fin 128) (e : Fin 256) : ℝ :=
  p2 (csum W 256 ⟨o + d.val, by omega⟩) * S d e
    + ∑ s : Fin 256, K s.val ⟨o + d.val, by omega⟩ * p2 (csum W 256 ⟨o + d.val, by omega⟩ - csum W (s.val + 1) ⟨o + d.val, by omega⟩) * V s.val e

theorem headState_apply (ch : Chunk q k lw cum rd Q K W) (o : ℕ) (ho : o + 128 ≤ 512) (hs : S256x512.Slices ![0, o] S256x128)
    (h1 : S1x512.Slices ![0, o] S1x128) (o2 : ℕ) (ho2 : o2 + 256 ≤ 1024) (hv : S256x1024.Slices ![0, o2] S256x256) (v : FVec Ideal S256x1024 .bf16) (V : ℕ → Fin 256 → ℝ)
    (so : Vec Ideal S1x1x1x128x256 .f32) (S : Fin 128 → Fin 256 → ℝ)
    (hV : ∀ (n : ℕ) (h : n < 256) (e : Fin 256), v (ix2 ⟨n, h⟩ ⟨o2 + e.val, by omega⟩) = ((V n e : ℝ) : EReal))
    (hS : ∀ (d : Fin 128) (e : Fin 256), so (ix5 0 0 0 d e) = ((S d e : ℝ) : EReal)) (d : Fin 128) (e : Fin 256) :
    headState o hs h1 o2 hv k cum v so (ix5 0 0 0 d e) = ((stateR K W V S o ho d e : ℝ) : EReal) := by
  have e : headState o hs h1 o2 hv k cum v so (ix5 0 0 0 d e)
      = FloatOps.exp2 (F := Ideal) (φ := .f32) (cum (ix2 ⟨255, by omega⟩ ⟨o + d.val, by omega⟩)) * so (ix5 0 0 0 d e)
        + ∑ x : Fin 256, k (ix2 x ⟨o + d.val, by omega⟩) * FloatOps.exp2 (F := Ideal) (φ := .f32) (cum (ix2 ⟨255, by omega⟩ ⟨o + d.val, by omega⟩) - cum (ix2 x ⟨o + d.val, by omega⟩)) * v (ix2 x ⟨o2 + e.val, by omega⟩) := by
    unfold headState
    pointwise [decayCols, lastRow]
    split_ifs <;> rfl
  rw [e, hS, stateR, EReal.coe_add, coe_sum, ch.hcum, exp2_real, ← EReal.coe_mul]
  congr 1
  refine Finset.sum_congr rfl fun x _ => ?_
  rw [show x = ⟨x.val, x.isLt⟩ from rfl, ch.hk, ch.hcum, ← EReal.coe_sub, exp2_real, hV, ← EReal.coe_mul, ← EReal.coe_mul]

/-- The running sums out of the triangle of ones: the second product, of what the narrower width drops, is nothing. -/
theorem cumOf_apply (tri : FVec Ideal S256x512 .bf16) (lw : FVec Ideal S256x512 .f32) (W : ℕ → Fin 512 → ℝ)
    (htri : ∀ (n : ℕ) (h : n < 256) (x : ℕ) (hx : x < 512), tri (ix2 ⟨n, h⟩ ⟨x, hx⟩) = ((if x % 256 ≤ n then 1 else 0 : ℝ) : EReal))
    (hlw : ∀ (n : ℕ) (h : n < 256) (j : Fin 512), lw (ix2 ⟨n, h⟩ j) = ((W n j : ℝ) : EReal)) (n : ℕ) (h : n < 256) (j : Fin 512) :
    cumOf tri lw (ix2 ⟨n, h⟩ j) = ((csum W (n + 1) j : ℝ) : EReal) := by
  unfold cumOf
  pointwise
  have e1 (x : Fin 256) : tri (ix2 ⟨n, h⟩ ⟨x.val, by omega⟩) * lw (ix2 x j) = (((if x.val ≤ n then W x.val j else 0 : ℝ)) : EReal) := by
    rw [htri, show x = ⟨x.val, x.isLt⟩ from rfl, hlw, ← EReal.coe_mul, Nat.mod_eq_of_lt x.isLt]
    split_ifs <;> simp
  have e2 (x : Fin 256) : tri (ix2 ⟨n, h⟩ ⟨256 + x.val, by omega⟩) * (lw (ix2 x j) - lw (ix2 x j)) = 0 := by
    rw [show x = ⟨x.val, x.isLt⟩ from rfl, hlw, ← EReal.coe_sub, sub_self]
    exact mul_zero _
  rw [Finset.sum_congr rfl fun x _ => e1 x, Finset.sum_congr rfl fun x _ => e2 x, Finset.sum_const_zero, add_zero, ← coe_sum]
  congr 1
  rw [Fin.sum_univ_eq_sum_range (fun x => if x ≤ n then W x j else 0) 256, csum, ← Finset.sum_filter]
  refine Finset.sum_congr ?_ fun _ _ => rfl
  ext x
  simp
  omega

end Cert.Mixer

end
-- ==== Proof.Recur.lean ====
/-
  The recurrence over a whole sequence, on the reals: what a head has seen before token `n`, and what it gives at a token; a chunk
  of 256 tokens takes the one to the next and gives the other.
-/
module

public import proofs.«01_k».proof.Proof.Chunk

@[expose] public section

noncomputable section

namespace Cert.Mixer

variable (Q K W : ℕ → Fin 512 → ℝ) (V : ℕ → Fin 1024 → ℝ)

/-- A channel of a head's keys. -/
abbrev kch (h : Fin 4) (d : Fin 128) : Fin 512 := ⟨128 * h.val + d.val, by omega⟩

/-- A channel of a head's values. -/
abbrev vch (h : Fin 4) (e : Fin 256) : Fin 1024 := ⟨256 * h.val + e.val, by omega⟩

/-- A head's state before token `n`. -/
def stateS (h : Fin 4) (n : ℕ) (d : Fin 128) (e : Fin 256) : ℝ :=
  ∑ s ∈ Finset.range n, K s (kch h d) * p2 (csum W n (kch h d) - csum W (s + 1) (kch h d)) * V s (vch h e)

/-- A head's score of a token for an earlier one. -/
def scoreS (h : Fin 4) (t s : ℕ) : ℝ :=
  ∑ d : Fin 128, Q t (kch h d) * K s (kch h d) * p2 (csum W (t + 1) (kch h d) - csum W (s + 1) (kch h d))

/-- A head's row at token `t`. -/
def outS (h : Fin 4) (t : ℕ) (e : Fin 256) : ℝ :=
  ∑ s ∈ Finset.range (t + 1), scoreS Q K W h t s * V s (vch h e)

/-- A sequence from token `B` on. -/
abbrev from' {n : ℕ} (B : ℕ) (f : ℕ → Fin n → ℝ) : ℕ → Fin n → ℝ := fun i => f (B + i)

theorem csum_from (B n : ℕ) (j : Fin 512) : csum (from' B W) n j = csum W (B + n) j - csum W B j := by
  unfold csum
  rw [Finset.sum_range_add]
  ring

theorem stateR_step (h : Fin 4) (B : ℕ) (ho : 128 * h.val + 128 ≤ 512) (d : Fin 128) (e : Fin 256) :
    stateR (from' B K) (from' B W) (fun n e => V (B + n) (vch h e)) (stateS K W V h B) (128 * h.val) ho d e = stateS K W V h (B + 256) d e := by
  unfold stateR stateS
  rw [Finset.sum_range_add, Finset.mul_sum]
  congr 1
  · refine Finset.sum_congr rfl fun s _ => ?_
    rw [csum_from, show csum W (B + 256) (kch h d) - csum W (s + 1) (kch h d)
      = (csum W (B + 256) (kch h d) - csum W B (kch h d)) + (csum W B (kch h d) - csum W (s + 1) (kch h d)) by ring, p2_add]
    ring
  · rw [Finset.sum_range]
    refine Finset.sum_congr rfl fun s _ => ?_
    rw [csum_from, csum_from, sub_sub_sub_cancel_right, Nat.add_assoc]

theorem outR_eq (h : Fin 4) (B : ℕ) (ho : 128 * h.val + 128 ≤ 512) (t : ℕ) (ht : t < 256) (e : Fin 256) :
    outR (from' B Q) (from' B K) (from' B W) (fun n e => V (B + n) (vch h e)) (stateS K W V h B) (128 * h.val) ho t e = outS Q K W V h (B + t) e := by
  unfold outR outS
  rw [show B + t + 1 = B + (t + 1) by omega, Finset.sum_range_add, add_comm]
  congr 1
  · have e1 : ∀ s, scoreS Q K W h (B + t) s * V s (vch h e) = ∑ x : Fin 128, Q (B + t) (kch h x) * p2 (csum (from' B W) (t + 1) (kch h x))
        * (K s (kch h x) * p2 (csum W B (kch h x) - csum W (s + 1) (kch h x)) * V s (vch h e)) := by
      intro s
      unfold scoreS
      rw [Finset.sum_mul]
      refine Finset.sum_congr rfl fun x _ => ?_
      rw [csum_from, show B + t + 1 = B + (t + 1) by omega, show csum W (B + (t + 1)) (kch h x) - csum W (s + 1) (kch h x)
        = (csum W (B + (t + 1)) (kch h x) - csum W B (kch h x)) + (csum W B (kch h x) - csum W (s + 1) (kch h x)) by ring, p2_add]
      ring
    rw [Finset.sum_congr rfl fun s _ => e1 s, Finset.sum_comm]
    refine Finset.sum_congr rfl fun x _ => ?_
    unfold stateS
    rw [Finset.mul_sum]
  · rw [← Finset.sum_range fun s => seen (from' B Q) (from' B K) (from' B W) (128 * h.val) ho t s * V (B + s) (vch h e),
      show 256 = (t + 1) + (255 - t) by omega, Finset.sum_range_add]
    rw [Finset.sum_eq_zero (s := Finset.range (255 - t)), add_zero]
    · refine Finset.sum_congr rfl fun s hs => ?_
      rw [seen, if_pos (by have := Finset.mem_range.mp hs; omega)]
      congr 1
      unfold pair scoreS
      refine Finset.sum_congr rfl fun x _ => ?_
      rw [csum_from, csum_from, sub_sub_sub_cancel_right]
      rfl
    · intro s _
      rw [seen, if_neg (by omega), zero_mul]

end Cert.Mixer
-- ==== Proof.TileCore.lean ====
/- The attention's core over one tile, on the reals: two chunks one after the other, from the state carried into the tile. -/
module

public import proofs.«01_k».proof.Proof.Recur
public import proofs.«01_k».proof.Proof.Layer

@[expose] public section

set_option maxRecDepth 16384

noncomputable section

namespace Cert.Mixer

open Idealize.ShloMosaic Cert.KernelIdeal Cert.KernelIdeal.Gen

/-- A tile's operands are real, its rows those of a sequence from token `T` on. -/
structure Core (I : Ins Ideal) (Q K W : ℕ → Fin 512 → ℝ) (V : ℕ → Fin 1024 → ℝ) (T : ℕ) : Prop where
  q : ∀ (r : Fin 512) (j : Fin 512), I.q (ix2 r j) = ((Q (T + r.val) j : ℝ) : EReal)
  k : ∀ (r : Fin 512) (j : Fin 512), I.k (ix2 r j) = ((K (T + r.val) j : ℝ) : EReal)
  g : ∀ (r : Fin 512) (j : Fin 512), I.g (ix2 r j) = ((W (T + r.val) j : ℝ) : EReal)
  v : ∀ (r : Fin 512) (j : Fin 1024), I.v (ix2 r j) = ((V (T + r.val) j : ℝ) : EReal)
  neg : ∀ (n : ℕ) (j : Fin 512), W n j ≤ 0
  tri : ∀ (n : ℕ) (h : n < 256) (x : ℕ) (hx : x < 512), I.tri (ix2 ⟨n, h⟩ ⟨x, hx⟩) = ((if x % 256 ≤ n then 1 else 0 : ℝ) : EReal)
  lev : Table I.lev
  s : ∀ (h : Fin 4) (d : Fin 128) (e : Fin 256), I.s h (ix5 0 0 0 d e) = ((stateS K W V h T d e : ℝ) : EReal)

/-- A head's place in the state buffer. -/
theorem headBox_emb (h : Fin 4) (d : Fin 128) (e : Fin 256) :
    (Ins.headBox h).emb (ix5 (n0 := 1) (n1 := 1) (n2 := 1) (n3 := 128) (n4 := 256) 0 0 0 d e) = ix5 0 0 h d e := by
  funext a
  apply Fin.ext
  fin_cases a
  · rfl
  · rfl
  · show h.val + 1 * 0 = h.val
    omega
  · show 0 + 1 * d.val = d.val
    omega
  · show 0 + 1 * e.val = e.val
    omega

/-- A piece read at an index of its rectangle. -/
theorem canon_at {S : Shape} {e : EltTy} (r : Rect S) (w : r.shape.Idx → Elt Ideal e) (L : List (View.Piece (Elt Ideal) S e)) (x : r.shape.Idx) (y : S.Idx)
    (h : r.emb x = y) : View.canon (⟨r, w⟩ :: L) y = w x := by
  subst h
  exact View.canon_cons_emb r w L x

/-- A head's piece of the state buffer, read under its box. -/
theorem canon_head (h : Fin 4) (w : FVec Ideal S1x1x1x128x256 .f32) (L : List (View.Piece (Elt Ideal) S1x1x4x128x256 .f32)) (d : Fin 128) (e : Fin 256) :
    View.canon (⟨Ins.headBox h, w⟩ :: L) (ix5 0 0 h d e) = w (ix5 0 0 0 d e) := by
  have e1 := canon_at (e := .f32) (Ins.headBox h) w L (ix5 (n0 := 1) (n1 := 1) (n2 := 1) (n3 := 128) (n4 := 256) 0 0 0 d e) (ix5 0 0 h d e) (headBox_emb h d e)
  exact e1

/-- A head's piece of the state buffer leaves the other heads. -/
theorem canon_other (h h' : Fin 4) (hh : h ≠ h') (w : FVec Ideal S1x1x1x128x256 .f32) (L : List (View.Piece (Elt Ideal) S1x1x4x128x256 .f32)) (d : Fin 128) (e : Fin 256) :
    View.canon (⟨Ins.headBox h, w⟩ :: L) (ix5 0 0 h' d e) = View.canon L (ix5 0 0 h' d e) := by
  refine View.canon_cons_of_not_mem _ _ fun hm => ?_
  have hm' : ix5 0 0 h' d e ∈ (Ins.headBox h).set := hm
  unfold Ins.headBox at hm'
  obtain ⟨e1, e2⟩ := Rect.mem_set_unit.mp hm' 2
  have e1' : h.val ≤ h'.val := e1
  have e2' : h'.val < h.val + 1 := e2
  apply hh
  apply Fin.ext
  omega

/-- A head's state loaded from the buffer. -/
theorem load_head (sb : Memref Cert.KernelIdeal.sig .tc .vmem S1x1x4x128x256 .f32) (h : Fin 4) (L : List (View.Piece (Elt Ideal) S1x1x4x128x256 .f32)) (d : Fin 128) (e : Fin 256) :
    sb.view.readCov L (Ins.headBox h).toLoadRect (ix5 0 0 0 d e) = View.canon L (ix5 0 0 h d e) := by
  rw [View.readCov_eq_canon']
  exact congrArg (View.canon L) (headBox_emb h d e)

namespace Core

variable {I : Ins Ideal} {Q K W : ℕ → Fin 512 → ℝ} {V : ℕ → Fin 1024 → ℝ} {T : ℕ} (H : Core I Q K W V T)
include H

/-- The first token of a chunk. -/
abbrev base (T : ℕ) (c : Fin 2) : ℕ := T + 256 * c.val

theorem rowq (c : Fin 2) (n : ℕ) (h : n < 256) (j : Fin 512) : I.qc c (ix2 ⟨n, h⟩ j) = ((Q (base T c + n) j : ℝ) : EReal) := by
  have e : I.qc c (ix2 ⟨n, h⟩ j) = I.q (ix2 ⟨256 * c.val + n, by omega⟩ j) := by
    unfold Ins.qc
    pointwise
  rw [e, H.q, Nat.add_assoc]

theorem rowk (c : Fin 2) (n : ℕ) (h : n < 256) (j : Fin 512) : I.kc c (ix2 ⟨n, h⟩ j) = ((K (base T c + n) j : ℝ) : EReal) := by
  have e : I.kc c (ix2 ⟨n, h⟩ j) = I.k (ix2 ⟨256 * c.val + n, by omega⟩ j) := by
    unfold Ins.kc
    pointwise
  rw [e, H.k, Nat.add_assoc]

theorem rowg (c : Fin 2) (n : ℕ) (h : n < 256) (j : Fin 512) : I.gc c (ix2 ⟨n, h⟩ j) = ((W (base T c + n) j : ℝ) : EReal) := by
  have e : I.gc c (ix2 ⟨n, h⟩ j) = I.g (ix2 ⟨256 * c.val + n, by omega⟩ j) := by
    unfold Ins.gc
    pointwise
  rw [e, H.g, Nat.add_assoc]

theorem rowv (c : Fin 2) (n : ℕ) (h : n < 256) (j : Fin 1024) : I.vc c (ix2 ⟨n, h⟩ j) = ((V (base T c + n) j : ℝ) : EReal) := by
  have e : I.vc c (ix2 ⟨n, h⟩ j) = I.v (ix2 ⟨256 * c.val + n, by omega⟩ j) := by
    unfold Ins.vc
    pointwise
  rw [e, H.v, Nat.add_assoc]

theorem tri' (n : ℕ) (h : n < 256) (x : ℕ) (hx : x < 512) : I.tri' (ix2 ⟨n, h⟩ ⟨x, hx⟩) = ((if x % 256 ≤ n then 1 else 0 : ℝ) : EReal) := by
  rw [← H.tri n h x hx]
  unfold Ins.tri'
  pointwise

theorem lev' : Table I.lev' := by
  have e : I.lev' = I.lev := by
    funext i
    rw [eq_ix2 i]
    unfold Ins.lev'
    pointwise
  rw [e]
  exact H.lev

theorem lw (c : Fin 2) (n : ℕ) (h : n < 256) (j : Fin 512) : I.lw c (ix2 ⟨n, h⟩ j) = ((W (base T c + n) j : ℝ) : EReal) :=
  (lwOf_apply c.val c.isLt I.buf (I.gc c) (I.before c) n h j).trans (H.rowg c n h j)

theorem cum (c : Fin 2) (n : ℕ) (h : n < 256) (j : Fin 512) : I.cum c (ix2 ⟨n, h⟩ j) = ((csum (from' (base T c) W) (n + 1) j : ℝ) : EReal) :=
  cumOf_apply I.tri' (I.lw c) (from' (base T c) W) H.tri' (H.lw c) n h j

theorem chunk (c : Fin 2) : Chunk (I.qc c) (I.kc c) (I.lw c) (I.cum c) (I.rd c) (from' (base T c) Q) (from' (base T c) K) (from' (base T c) W) where
  hq := H.rowq c
  hk := H.rowk c
  hlw := H.lw c
  hcum := H.cum c
  hrd n h j := (rdOf_apply c.val c.isLt I.buf (I.cum c) _ n h j).trans (H.cum c n h j)
  neg n j := H.neg _ j

theorem head (c : Fin 2) (h : Fin 4) (so : Vec Ideal S1x1x1x128x256 .f32)
    (hS : ∀ (d : Fin 128) (e : Fin 256), so (ix5 0 0 0 d e) = ((stateS K W V h (base T c) d e : ℝ) : EReal)) (t : ℕ) (ht : t < 256) (e : Fin 256) :
    I.headAt c h so (ix2 ⟨t, ht⟩ e) = ((outS Q K W V h (base T c + t) e : ℝ) : EReal) := by
  rw [← outR_eq Q K W V h (base T c) (by omega) t ht e]
  exact headOut_apply H.lev' (H.chunk c) (128 * h.val) (by omega) _ _ (256 * h.val) (by omega) _ (I.vc c) (fun n e => V (base T c + n) (vch h e)) so _
    (fun n hn e => H.rowv c n hn _) hS t ht e

theorem state (c : Fin 2) (h : Fin 4) (so : Vec Ideal S1x1x1x128x256 .f32)
    (hS : ∀ (d : Fin 128) (e : Fin 256), so (ix5 0 0 0 d e) = ((stateS K W V h (base T c) d e : ℝ) : EReal)) (d : Fin 128) (e : Fin 256) :
    I.stateAt c h so (ix5 0 0 0 d e) = ((stateS K W V h (base T c + 256) d e : ℝ) : EReal) := by
  rw [← stateR_step K W V h (base T c) (by omega) d e]
  exact headState_apply (H.chunk c) (128 * h.val) (by omega) _ _ (256 * h.val) (by omega) _ (I.vc c) (fun n e => V (base T c + n) (vch h e)) so _
    (fun n hn e => H.rowv c n hn _) hS d e

theorem mids (h : Fin 4) (d : Fin 128) (e : Fin 256) : View.canon I.mids (ix5 0 0 h d e) = ((stateS K W V h (T + 256) d e : ℝ) : EReal) := by
  unfold Ins.mids
  have hs := fun h' => H.state 0 h' (I.s h') (H.s h') d e
  fin_cases h
  · exact (canon_other 3 0 (by decide) _ _ d e).trans ((canon_other 2 0 (by decide) _ _ d e).trans ((canon_other 1 0 (by decide) _ _ d e).trans ((canon_head 0 _ _ d e).trans (hs 0))))
  · exact (canon_other 3 1 (by decide) _ _ d e).trans ((canon_other 2 1 (by decide) _ _ d e).trans ((canon_head 1 _ _ d e).trans (hs 1)))
  · exact (canon_other 3 2 (by decide) _ _ d e).trans ((canon_head 2 _ _ d e).trans (hs 2))
  · exact (canon_head 3 _ _ d e).trans (hs 3)

/-- After `n` heads' stores the others still hold their states after the first chunk. -/
theorem held (n : ℕ) (hn : n ≤ 4) (h : Fin 4) (d : Fin 128) (e : Fin 256) :
    View.canon (I.held n) (ix5 0 0 h d e) = ((stateS K W V h (T + if h.val < n then 512 else 256) d e : ℝ) : EReal) := by
  induction n generalizing h d e with
  | zero => exact H.mids h d e
  | succ n ih =>
    have hn4 : n < 4 := hn
    unfold Ins.held
    rw [dif_pos hn4]
    by_cases hh : h.val = n
    · obtain rfl : h = ⟨n, hn4⟩ := Fin.ext hh
      rw [canon_head, if_pos (Nat.lt_succ_self n)]
      refine (H.state 1 ⟨n, hn4⟩ _ (fun d e => ?_) d e).trans ?_
      · rw [load_head, ih (by omega), if_neg (lt_irrefl n)]
        rfl
      · rfl
    · rw [canon_other ⟨n, hn4⟩ h (fun e => hh (congrArg Fin.val e).symm), ih (by omega)]
      by_cases hl : h.val < n
      · rw [if_pos hl, if_pos (by omega)]
      · rw [if_neg hl, if_neg (by omega)]

theorem mid (h : Fin 4) (d : Fin 128) (e : Fin 256) : I.mid h (ix5 0 0 0 d e) = ((stateS K W V h (T + 256) d e : ℝ) : EReal) := by
  unfold Ins.mid
  rw [load_head, H.held h.val h.isLt.le, if_neg (lt_irrefl _)]

/-- The tile's rows of a head are the rows of the whole recurrence. -/
theorem rows (h : Fin 4) (r : Fin 512) (e : Fin 256) : I.rows h (ix2 r e) = ((outS Q K W V h (T + r.val) e : ℝ) : EReal) := by
  unfold Ins.rows
  by_cases hr : r.val < 256
  · refine Eq.trans ?_ (H.head 0 h (I.s h) (H.s h) r.val hr e)
    pointwise
    rw [dif_pos hr]
  · refine Eq.trans ?_ ((H.head 1 h (I.mid h) (H.mid h) (r.val - 256) (by omega) e).trans ?_)
    · pointwise
      rw [dif_neg hr]
    · rw [show base T 1 + (r.val - 256) = T + r.val by show T + 256 * 1 + (r.val - 256) = T + r.val; omega]

/-- The states after the tile. -/
theorem final (h : Fin 4) (d : Fin 128) (e : Fin 256) : View.canon (I.held 4) (ix5 0 0 h d e) = ((stateS K W V h (T + 512) d e : ℝ) : EReal) := by
  rw [H.held 4 le_rfl, if_pos h.isLt]

end Core

end Cert.Mixer
-- ==== Proof.Words.lean ====
/- The words in which both programs are read: for one token, as functions of its row of `x` and of the weights,
   the normed row, the projections, the convolution's input, the gate, and the last steps that lead from the
   attention's output to the row of the result. All are over extended reals, with no condition. -/
module

public import Idealize.ShloMosaic.Lib.Pointwise

@[expose] public section

set_option maxRecDepth 16384

noncomputable section

namespace Cert.Mixer

open Idealize.ShloMosaic

/-- The weights by coordinates; the second factor of the gate has 128 rows, of which the last 112 are zero. -/
structure Weights where
  wn : Fin 1024 → EReal
  head : Fin 1024 → Fin 6144 → EReal
  tail : Fin 1024 → Fin 2048 → EReal
  lr : Fin 1024 → Fin 128 → EReal
  gk : Fin 128 → Fin 512 → EReal
  bgk : Fin 512 → EReal
  cv : Fin 3 → Fin 1024 → EReal
  wa : Fin 1024 → Fin 1024 → EReal
  gn : Fin 256 → EReal
  wb : Fin 1024 → Fin 1024 → EReal
  wo : Fin 1024 → Fin 1024 → EReal
  post : Fin 1024 → EReal

/-- The small number added under the root. -/
def eps : EReal := Ideal.ofBits .f32 897988541#32
/-- The extents by which the means divide. -/
def n1024 : EReal := Ideal.ofBits .f32 1149239296#32
def n256 : EReal := Ideal.ofBits .f32 1132462080#32
/-- The scale of a query. -/
def qscale : EReal := Ideal.ofBits .f32 1035273459#32

/-- `1 / (1 + exp (-x))`. -/
def sig (x : EReal) : EReal := Ideal.div 1 (1 + Ideal.exp (-x))

/-- A row divided by the root of its mean square, times a gain. -/
def rms {n : Nat} (N : EReal) (x w : Fin n → EReal) (j : Fin n) : EReal :=
  x j * Ideal.rsqrt (Ideal.div (∑ k, x k * x k) N + eps) * w j

/-- A column of the attention's output (four heads of 256) taken apart and put together. -/
abbrev col (f : Fin 1024) (e : Fin 256) : Fin 1024 := ⟨f.val / 256 * 256 + e.val, by omega⟩

namespace Weights

variable (W : Weights) (x : Fin 1024 → EReal)

def hn (j : Fin 1024) : EReal := rms n1024 x W.wn j
def ph (c : Fin 6144) : EReal := ∑ k, W.hn x k * W.head k c
def pt (c : Fin 2048) : EReal := ∑ k, W.hn x k * W.tail k c
def u (j : Fin 1024) : EReal := W.ph x ⟨1024 + j.val, by omega⟩ * W.ph x ⟨2048 + j.val, by omega⟩
def q (j : Fin 512) : EReal := W.ph x ⟨3072 + j.val, by omega⟩ * qscale
def k (j : Fin 512) : EReal := W.ph x ⟨3584 + j.val, by omega⟩
def v (j : Fin 1024) : EReal := W.ph x ⟨4096 + j.val, by omega⟩
def g (j : Fin 1024) : EReal := W.ph x ⟨5120 + j.val, by omega⟩
def gate (j : Fin 512) : EReal := (∑ r, (∑ k, W.hn x k * W.lr k r) * W.gk r j) + W.bgk j

/-- The convolution from the inputs two steps back, one step back and here. -/
def ycv (u2 u1 u0 : Fin 1024 → EReal) (j : Fin 1024) : EReal :=
  W.cv 0 j * u2 j + W.cv 1 j * u1 j + W.cv 2 j * u0 j
/-- What the convolution's side adds, from its output `y`. -/
def ya (y : Fin 1024 → EReal) (j : Fin 1024) : EReal :=
  ∑ c : Fin 1024, (W.ph x ⟨c.val, by omega⟩ * y c) * W.wa c j

/-- One head's output normed and gated. -/
def normed (o : Fin 1024 → EReal) (f : Fin 1024) : EReal :=
  o f * Ideal.rsqrt (Ideal.div (∑ e, o (col f e) * o (col f e)) n256 + eps) * W.gn ⟨f.val % 256, by omega⟩
    * (W.g x f * sig (W.g x f))
def yb (o : Fin 1024 → EReal) (j : Fin 1024) : EReal := ∑ f, W.normed x o f * W.wb f j
def merged (o ya : Fin 1024 → EReal) (j : Fin 1024) : EReal :=
  sig (W.pt x ⟨j.val, by omega⟩) * ya j + sig (W.pt x ⟨1024 + j.val, by omega⟩) * W.yb x o j
def mix (o ya : Fin 1024 → EReal) (j : Fin 1024) : EReal := ∑ k, W.merged x o ya k * W.wo k j
/-- A row of the result from the attention's output `o` and the convolution's side `ya`. -/
def out (o ya : Fin 1024 → EReal) (j : Fin 1024) : EReal := x j + rms n1024 (W.mix x o ya) W.post j

end Weights

end Cert.Mixer
-- ==== Proof.TileWords.lean ====
/- What a tile of the prompt mixer computes from what it loads, in the words of `Words`: everything but the attention's core. -/
module

public import proofs.«01_k».proof.Proof.Words
public import proofs.«01_k».proof.Proof.Layer
public import Idealize.ShloMosaic.Lib.WordCmp

@[expose] public section

set_option maxRecDepth 16384

noncomputable section

namespace Cert.Mixer

open Idealize.ShloMosaic Cert.KernelIdeal Cert.KernelIdeal.Gen

/-- The logistic function as the tile takes it, through a power of two. -/
def sigK (x : EReal) : EReal := Ideal.div 1 (1 + Ideal.exp2 (x * Named.named (F := Ideal) (φ := .f32) κ "neg_log2e" 3216550459#32))

/-- The gate's logarithm to the base 2 as the tile takes it. -/
def gateK (g : EReal) : EReal :=
  (min g 0 - Ideal.log (1 + Ideal.exp2 (FloatOps.absf (F := Ideal) (φ := .f32) g * Named.named (F := Ideal) (φ := .f32) κ "neg_log2e" 3216550459#32))) * Named.named (F := Ideal) (φ := .f32) κ "log2e_gate" 0x3DB8AA3B#32

/-- The arrays a tile loads, by coordinates: rows `X`, weights `W`. -/
structure Reads (I : Ins Ideal) (W : Weights) (X : Fin 512 → Fin 1024 → EReal) : Prop where
  X : ∀ r j, I.X (ix3 0 r j) = X r j
  wn : ∀ j, I.wn (ix2 0 j) = W.wn j
  wb : ∀ k (c : Fin 1024), I.wb (ix2 k c) = W.head k ⟨c.val, by omega⟩
  wc : ∀ k (c : Fin 1024), I.wc (ix2 k c) = W.head k ⟨1024 + c.val, by omega⟩
  wd : ∀ k (c : Fin 1024), I.wd (ix2 k c) = W.head k ⟨2048 + c.val, by omega⟩
  wq : ∀ k (c : Fin 512), I.wq (ix2 k c) = W.head k ⟨3072 + c.val, by omega⟩
  wk : ∀ k (c : Fin 512), I.wk (ix2 k c) = W.head k ⟨3584 + c.val, by omega⟩
  wv : ∀ k (c : Fin 1024), I.wv (ix2 k c) = W.head k ⟨4096 + c.val, by omega⟩
  wg : ∀ k (c : Fin 1024), I.wg (ix2 k c) = W.head k ⟨5120 + c.val, by omega⟩
  ta : ∀ k (c : Fin 1024), I.ta (ix2 k c) = W.tail k ⟨c.val, by omega⟩
  tb : ∀ k (c : Fin 1024), I.tb (ix2 k c) = W.tail k ⟨1024 + c.val, by omega⟩
  lr : ∀ k c, I.lr (ix2 k c) = W.lr k c
  gk : ∀ k c, I.gk (ix2 k c) = W.gk k c
  bgk : ∀ j, I.bgk (ix2 0 j) = W.bgk j
  cv : ∀ i j, I.cv (ix2 i j) = W.cv i j
  wa : ∀ k c, I.wa (ix2 k c) = W.wa k c
  gn : ∀ e, I.gn (ix2 0 e) = W.gn e
  wyb : ∀ k c, I.wyb (ix2 k c) = W.wb k c
  wo : ∀ k c, I.wo (ix2 k c) = W.wo k c
  post : ∀ j, I.post (ix2 0 j) = W.post j

theorem sel (a : ℕ) (ha : a < 512) (b : ℕ) (hb : b < 512) (x y : EReal) :
    Scalar.select (IntOp.cmpi CmpIPredicate.eq (BitVec.ofNat 32 a) (BitVec.ofNat 32 b)) x y = if a = b then x else y := by
  rw [WordCmp.cmpi_eq_ofNat (by omega) (by omega)]
  by_cases h : a = b <;> simp [h, Scalar.select]

/-- The convolution's input by position from two before the tile: the carried rows, then the tile's own. -/
def inputs (W : Weights) (X : Fin 512 → Fin 1024 → EReal) (c0 c1 : Fin 1024 → EReal) (n : ℕ) (j : Fin 1024) : EReal :=
  if n = 0 then c0 j else if n = 1 then c1 j else if h : n - 2 < 512 then W.u (X ⟨n - 2, h⟩) j else 0

/-- The logistic function over an array, through a power of two. -/
def sgm {s : Shape} (a : FVec Ideal s .f32) : FVec Ideal s .f32 :=
  divf (broadcast s (Scalar.ofBits .f32 0x3F800000#32)) (addf (broadcast s (Scalar.ofBits .f32 0x3F800000#32)) (exp2 (mulf a (broadcast s (Named.named κ "neg_log2e" 0xBFB8AA3B#32)))))

/-- The branches gated, joined and projected, from the heads' rows `hs` side by side. -/
def mixOf (ya a b : FVec Ideal S512x1024 .f32) (hs : FVec Ideal S512x1024 .bf16) (wb wo : FVec Ideal S1024x1024 .bf16) : FVec Ideal S512x1024 .f32 :=
  matmul dot_S512x1024_S1024x1024_S512x1024_1_0_0_1_n_n none
    (truncf .bf16 (addf (mulf (sgm a) ya) (mulf (sgm b) (matmul dot_S512x1024_S1024x1024_S512x1024_1_0_0_1_n_n none hs wb (constant S512x1024 .f32 0x00000000#32)))) bitsLt_bf16_f32)
    wo (constant S512x1024 .f32 0x00000000#32)

/-- Rows divided by the root of their mean squares. -/
def rowNorm (m : FVec Ideal S512x1024 .f32) : FVec Ideal S512x1024 .f32 :=
  mulf m (broadcastTo S512x1024 (rsqrt (addf (divf (shapeCast S512x1 (multiReduction .add [1] S512 (mulf m m) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024)

/-- The last head's rows, gated. -/
def lastGated (o g : FVec Ideal S512x256 .f32) : FVec Ideal S512x256 .bf16 :=
  truncf .bf16 (mulf o (mulf g (sgm g))) bitsLt_bf16_f32

/-- Four heads' rows side by side. -/
def sides (a b c d : FVec Ideal S512x256 .bf16) : FVec Ideal S512x1024 .bf16 :=
  concatenate S512x1024 1 [⟨S512x256, a⟩, ⟨S512x256, b⟩, ⟨S512x256, c⟩, ⟨S512x256, d⟩] concatenates_S512x256_S512x256_S512x256_S512x256_S512x1024_d1

theorem sides_apply (a b c d : FVec Ideal S512x256 .bf16) (g : Fin 4 → Fin 256 → EReal) (r : Fin 512)
    (ha : ∀ e, a (ix2 r e) = g 0 e) (hb : ∀ e, b (ix2 r e) = g 1 e) (hc : ∀ e, c (ix2 r e) = g 2 e) (hd : ∀ e, d (ix2 r e) = g 3 e) (f : Fin 1024) :
    sides a b c d (ix2 r f) = g ⟨f.val / 256, by omega⟩ ⟨f.val % 256, by omega⟩ := by
  have e : sides a b c d (ix2 r f) = if h : f.val < 256 then a (ix2 r ⟨f.val, h⟩) else if h : f.val - 256 < 256 then b (ix2 r ⟨f.val - 256, h⟩)
      else if h : f.val - 256 - 256 < 256 then c (ix2 r ⟨f.val - 256 - 256, h⟩) else d (ix2 r ⟨f.val - 256 - 256 - 256, by omega⟩) := by
    unfold sides
    pointwise
  rw [e]
  have k : ∀ (i : Fin 4) (x : ℕ) (hx : x < 256), f.val = 256 * i.val + x → g i ⟨x, hx⟩ = g ⟨f.val / 256, by omega⟩ ⟨f.val % 256, by omega⟩ := by
    intro i x hx h
    have h1 : i = ⟨f.val / 256, by omega⟩ := Fin.ext (by simp only []; omega)
    have h2 : (⟨x, hx⟩ : Fin 256) = ⟨f.val % 256, by omega⟩ := Fin.ext (by simp only []; omega)
    rw [h1, h2]
  split_ifs with h1 h2 h3
  · rw [ha]; exact k 0 _ _ (by simp)
  · rw [hb]; exact k 1 _ _ (by simp; omega)
  · rw [hc]; exact k 2 _ _ (by simp; omega)
  · rw [hd]; exact k 3 _ _ (by simp; omega)

namespace Reads

variable {I : Ins Ideal} {W : Weights} {X : Fin 512 → Fin 1024 → EReal} (H : Reads I W X)
include H

theorem hn_apply (r : Fin 512) (j : Fin 1024) : I.hn (ix2 r j) = W.hn (X r) j := by
  unfold Ins.hn Weights.hn rms
  simp only [← H.X, ← H.wn]
  pointwise [k0_pay5, k0_pay4]
  rfl

theorem q_apply (r : Fin 512) (j : Fin 512) : I.q (ix2 r j) = W.q (X r) j := by
  unfold Ins.q Weights.q Weights.ph
  simp only [← H.hn_apply, ← H.wq]
  pointwise
  rfl

theorem k_apply (r : Fin 512) (j : Fin 512) : I.k (ix2 r j) = W.k (X r) j := by
  unfold Ins.k Weights.k Weights.ph
  simp only [← H.hn_apply, ← H.wk]
  pointwise

theorem v_apply (r : Fin 512) (j : Fin 1024) : I.v (ix2 r j) = W.v (X r) j := by
  unfold Ins.v Weights.v Weights.ph
  simp only [← H.hn_apply, ← H.wv]
  pointwise

theorem og_apply (r : Fin 512) (j : Fin 1024) : I.og (ix2 r j) = W.g (X r) j := by
  unfold Ins.og Weights.g Weights.ph
  simp only [← H.hn_apply, ← H.wg]
  pointwise [k0_pay456]

theorem u_apply (r : Fin 512) (j : Fin 1024) : I.u (ix2 r j) = W.u (X r) j := by
  unfold Ins.u Weights.u Weights.ph
  simp only [← H.hn_apply, ← H.wc, ← H.wd]
  pointwise [k0_pay10]

theorem gate_apply (r : Fin 512) (j : Fin 512) : k0_pay6 I.X I.wn I.lr I.gk I.bgk (ix2 r j) = W.gate (X r) j := by
  unfold Weights.gate
  simp only [← H.hn_apply, ← H.lr, ← H.gk, ← H.bgk]
  unfold Ins.hn
  pointwise [k0_pay6]

theorem g_apply (r : Fin 512) (j : Fin 512) : I.g (ix2 r j) = gateK (W.gate (X r) j) := by
  unfold Ins.g gateK
  simp only [← H.gate_apply]
  pointwise [k0_pay7, k0_pay8, k0_pay9]
  rfl

theorem back1_apply (r : Fin 512) (j : Fin 1024) :
    k0_pay12 I.hn I.wc I.wd I.c1 (ix2 r j) = inputs W X (fun j => I.c0 (ix4 0 0 0 j)) (fun j => I.c1 (ix4 0 0 0 j)) (r.val + 1) j := by
  have e : k0_pay12 I.hn I.wc I.wd I.c1 (ix2 r j) = Scalar.select (IntOp.cmpi CmpIPredicate.eq (BitVec.ofNat 32 r.val) 0#32) (I.c1 (ix4 0 0 0 j))
      (I.u (ix2 ⟨(r.val + 512 - 1) % 512, by omega⟩ j)) := by
    unfold Ins.u
    pointwise [k0_pay12, k0_pay11]
  rw [e, H.u_apply, sel r.val r.isLt 0 (by omega)]
  unfold inputs
  have hr := r.isLt
  by_cases h : r.val = 0
  · rw [if_pos h, if_neg (by omega), if_pos (by omega)]
  · rw [if_neg h, if_neg (by omega), if_neg (by omega), dif_pos (by omega)]
    congr 3
    omega

theorem back2_apply (r : Fin 512) (j : Fin 1024) :
    k0_pay13 I.hn I.wc I.wd I.c0 I.c1 I.cv (ix2 r j) = W.cv 0 j * inputs W X (fun j => I.c0 (ix4 0 0 0 j)) (fun j => I.c1 (ix4 0 0 0 j)) r j := by
  have e : k0_pay13 I.hn I.wc I.wd I.c0 I.c1 I.cv (ix2 r j) = I.cv (ix2 0 j) * Scalar.select (IntOp.cmpi CmpIPredicate.eq (BitVec.ofNat 32 r.val) 0#32) (I.c0 (ix4 0 0 0 j))
      (Scalar.select (IntOp.cmpi CmpIPredicate.eq (BitVec.ofNat 32 r.val) 1#32) (I.c1 (ix4 0 0 0 j)) (I.u (ix2 ⟨(r.val + 512 - 2) % 512, by omega⟩ j))) := by
    unfold Ins.u
    pointwise [k0_pay13, k0_pay11]
  rw [e, H.cv, H.u_apply, sel r.val r.isLt 0 (by omega), sel r.val r.isLt 1 (by omega)]
  unfold inputs
  have hr := r.isLt
  by_cases h : r.val = 0
  · rw [if_pos h, if_pos h]
  · rw [if_neg h, if_neg h]
    by_cases h1 : r.val = 1
    · rw [if_pos h1, if_pos h1]
    · rw [if_neg h1, if_neg h1, dif_pos (by omega)]
      congr 4
      omega

theorem conv_apply (r : Fin 512) (j : Fin 1024) :
    I.conv (ix2 r j) = W.ycv (inputs W X (fun j => I.c0 (ix4 0 0 0 j)) (fun j => I.c1 (ix4 0 0 0 j)) r.val)
      (inputs W X (fun j => I.c0 (ix4 0 0 0 j)) (fun j => I.c1 (ix4 0 0 0 j)) (r.val + 1))
      (inputs W X (fun j => I.c0 (ix4 0 0 0 j)) (fun j => I.c1 (ix4 0 0 0 j)) (r.val + 2)) j := by
  have e : I.conv (ix2 r j) = k0_pay13 I.hn I.wc I.wd I.c0 I.c1 I.cv (ix2 r j) + I.cv (ix2 1 j) * k0_pay12 I.hn I.wc I.wd I.c1 (ix2 r j) + I.cv (ix2 2 j) * I.u (ix2 r j) := by
    unfold Ins.conv
    generalize k0_pay13 I.hn I.wc I.wd I.c0 I.c1 I.cv = A
    generalize k0_pay12 I.hn I.wc I.wd I.c1 = B
    generalize I.u = C
    pointwise [k0_pay14]
  rw [e, H.back1_apply, H.back2_apply, H.cv, H.cv, H.u_apply]
  unfold Weights.ycv
  congr 2
  unfold inputs
  rw [if_neg (by omega), if_neg (by omega), dif_pos (by have := r.isLt; omega)]
  rfl

theorem ya_apply (r : Fin 512) (j : Fin 1024) : I.ya (ix2 r j) = W.ya (X r) (fun c => I.conv (ix2 r c)) j := by
  unfold Weights.ya Weights.ph Ins.ya
  simp only [← H.hn_apply, ← H.wb, ← H.wa]
  pointwise

theorem carry_apply (i : Fin 2) (j : Fin 1024) : I.carry (ix4 0 0 i j) = W.u (X ⟨510 + i.val, by omega⟩) j := by
  simp only [← H.u_apply]
  unfold Ins.carry
  pointwise

/-- A head's rows, normed and gated. -/
def normedK (I : Ins Ideal) (h : Fin 4) (r : Fin 512) (e : Fin 256) : EReal :=
  I.rows h (ix2 r e) * Ideal.rsqrt (Ideal.div (∑ e, I.rows h (ix2 r e) * I.rows h (ix2 r e)) n256 + eps) * I.gn (ix2 0 e)
    * (I.og (ix2 r ⟨256 * h.val + e.val, by omega⟩) * sigK (I.og (ix2 r ⟨256 * h.val + e.val, by omega⟩)))

theorem normed0 (r : Fin 512) (e : Fin 256) : k0_pay461 (I.rows 0) I.og I.gn (ix2 r e) = normedK I 0 r e := by
  unfold normedK sigK
  pointwise [k0_pay461, k0_pay459]
  rfl

theorem normed1 (r : Fin 512) (e : Fin 256) : k0_pay465 (k0_pay462 I.og) (k0_pay463 (I.rows 1)) (k0_pay464 I.gn) (ix2 r e) = normedK I 1 r e := by
  unfold normedK sigK
  pointwise [k0_pay465, k0_pay462, k0_pay463, k0_pay464, k0_pay459]
  rfl

theorem normed2 (r : Fin 512) (e : Fin 256) : k0_pay466 (I.rows 2) I.og (k0_pay459 I.gn) (ix2 r e) = normedK I 2 r e := by
  unfold normedK sigK
  pointwise [k0_pay466, k0_pay459]
  rfl

/-- All heads' rows. -/
theorem normed_apply (o : Fin 1024 → EReal) (r : Fin 512) (f : Fin 1024) (ho : ∀ (h : Fin 4) (e : Fin 256), I.rows h (ix2 r e) = o ⟨256 * h.val + e.val, by omega⟩)
    (hs : ∀ x, sigK x = sig x) :
    normedK I ⟨f.val / 256, by omega⟩ r ⟨f.val % 256, by omega⟩ = W.normed (X r) o f := by
  unfold normedK Weights.normed col
  rw [hs]
  simp only [ho, H.og_apply, H.gn]
  have e1 : ∀ e : Fin 256, 256 * (f.val / 256) + e.val = f.val / 256 * 256 + e.val := fun e => by omega
  have e2 : 256 * (f.val / 256) + f.val % 256 = f.val := by omega
  simp only [e1, e2]

theorem out_apply (o : Fin 1024 → EReal) (r : Fin 512) (j : Fin 1024) (ho : ∀ (h : Fin 4) (e : Fin 256), I.rows h (ix2 r e) = o ⟨256 * h.val + e.val, by omega⟩)
    (hs : ∀ x, sigK x = sig x) :
    I.out (ix3 0 r j) = W.out (X r) o (fun j => I.ya (ix2 r j)) j := by
  have hm : ∀ c : Fin 1024, (k0_pay457 I.hn I.ta) (ix2 r c) = W.pt (X r) ⟨c.val, by omega⟩ := by
    intro c
    unfold Weights.pt
    simp only [← H.hn_apply, ← H.ta]
    pointwise [k0_pay457]
  have hm' : ∀ c : Fin 1024, (k0_pay458 I.hn I.tb) (ix2 r c) = W.pt (X r) ⟨1024 + c.val, by omega⟩ := by
    intro c
    unfold Weights.pt
    simp only [← H.hn_apply, ← H.tb]
    pointwise [k0_pay458]
  have hl : ∀ e : Fin 256, lastGated (k0_pay468 (I.rows 3) (k0_pay459 I.gn)) (k0_pay467 I.og) (ix2 r e) = normedK I 3 r e := by
    intro e
    unfold normedK sigK lastGated
    pointwise [k0_pay468, k0_pay459, k0_pay467, sgm]
    rfl
  have hf : ∀ f : Fin 1024, sides (k0_pay461 (I.rows 0) I.og I.gn) (k0_pay465 (k0_pay462 I.og) (k0_pay463 (I.rows 1)) (k0_pay464 I.gn)) (k0_pay466 (I.rows 2) I.og (k0_pay459 I.gn))
      (lastGated (k0_pay468 (I.rows 3) (k0_pay459 I.gn)) (k0_pay467 I.og)) (ix2 r f) = W.normed (X r) o f := by
    intro f
    rw [← H.normed_apply o r f ho hs]
    exact sides_apply _ _ _ _ (fun h e => normedK I h r e) r (H.normed0 r) (H.normed1 r) (H.normed2 r) hl f
  have hmg : I.merged = rowNorm (mixOf I.ya (k0_pay457 I.hn I.ta) (k0_pay458 I.hn I.tb)
      (sides (k0_pay461 (I.rows 0) I.og I.gn) (k0_pay465 (k0_pay462 I.og) (k0_pay463 (I.rows 1)) (k0_pay464 I.gn)) (k0_pay466 (I.rows 2) I.og (k0_pay459 I.gn))
      (lastGated (k0_pay468 (I.rows 3) (k0_pay459 I.gn)) (k0_pay467 I.og))) I.wyb I.wo) := rfl
  have hx : ∀ c : Fin 1024, mixOf I.ya (k0_pay457 I.hn I.ta) (k0_pay458 I.hn I.tb)
      (sides (k0_pay461 (I.rows 0) I.og I.gn) (k0_pay465 (k0_pay462 I.og) (k0_pay463 (I.rows 1)) (k0_pay464 I.gn)) (k0_pay466 (I.rows 2) I.og (k0_pay459 I.gn))
      (lastGated (k0_pay468 (I.rows 3) (k0_pay459 I.gn)) (k0_pay467 I.og))) I.wyb I.wo (ix2 r c) = W.mix (X r) o (fun j => I.ya (ix2 r j)) c := by
    intro c
    unfold Weights.mix Weights.merged Weights.yb
    simp only [← hs, ← hf, ← hm, ← hm', ← H.wyb, ← H.wo]
    unfold sigK
    generalize k0_pay457 I.hn I.ta = A
    generalize k0_pay458 I.hn I.tb = B
    generalize sides _ _ _ _ = C
    pointwise [mixOf, sgm]
    rfl
  have ho' : I.out (ix3 0 r j) = I.X (ix3 0 r j) + rowNorm (mixOf I.ya (k0_pay457 I.hn I.ta) (k0_pay458 I.hn I.tb)
      (sides (k0_pay461 (I.rows 0) I.og I.gn) (k0_pay465 (k0_pay462 I.og) (k0_pay463 (I.rows 1)) (k0_pay464 I.gn)) (k0_pay466 (I.rows 2) I.og (k0_pay459 I.gn))
      (lastGated (k0_pay468 (I.rows 3) (k0_pay459 I.gn)) (k0_pay467 I.og))) I.wyb I.wo) (ix2 r j) * I.post (ix2 0 j) := by
    rw [← hmg]
    unfold Ins.out
    generalize I.merged = M
    pointwise [k0_pay1, k0_pay4, k0_pay460]
  rw [ho', H.X, H.post]
  unfold Weights.out rms
  simp only [← hx]
  generalize mixOf _ _ _ _ _ _ = M
  pointwise [rowNorm]
  rfl

end Reads

end Cert.Mixer
-- ==== Proof.RefRows.lean ====
/- What the reference computes, in the words of `Words`: everything but the attention's core. -/
module

public import proofs.«01_k».proof.Proof.Words
public import proofs.«01_k».proof.Proof.Gen.ReferenceIdeal.Read

@[expose] public section

set_option maxRecDepth 16384

noncomputable section

namespace Cert.Mixer

open Idealize.ShloMosaic Cert.ReferenceIdeal Cert.ReferenceIdeal.Read

variable (x0 : (⟨S8x2048x1024, .f32⟩ : BufTy).Contents (Elt Ideal)) (x1 : (⟨S1024, .f32⟩ : BufTy).Contents (Elt Ideal))
  (x2 : (⟨S1024x6144, .bf16⟩ : BufTy).Contents (Elt Ideal)) (x3 : (⟨S1024x2048, .bf16⟩ : BufTy).Contents (Elt Ideal))
  (x4 : (⟨S1024x128, .bf16⟩ : BufTy).Contents (Elt Ideal)) (x5 : (⟨S16x512, .f32⟩ : BufTy).Contents (Elt Ideal))
  (x6 : (⟨S512, .f32⟩ : BufTy).Contents (Elt Ideal)) (x7 : (⟨S3x1024, .f32⟩ : BufTy).Contents (Elt Ideal))
  (x8 : (⟨S1024x1024, .bf16⟩ : BufTy).Contents (Elt Ideal)) (x9 : (⟨S256, .f32⟩ : BufTy).Contents (Elt Ideal))
  (x10 x11 : (⟨S1024x1024, .bf16⟩ : BufTy).Contents (Elt Ideal)) (x12 : (⟨S1024, .f32⟩ : BufTy).Contents (Elt Ideal))

/-- The weights from the call's arguments. -/
def refW : Weights where
  wn j := x1 (ix1 j)
  head k c := x2 (ix2 k c)
  tail k c := x3 (ix2 k c)
  lr k c := x4 (ix2 k c)
  gk r j := if h : r.val < 16 then x5 (ix2 ⟨r.val, h⟩ j) else 0
  bgk j := x6 (ix1 j)
  cv i j := x7 (ix2 i j)
  wa k c := x8 (ix2 k c)
  gn e := x9 (ix1 e)
  wb k c := x10 (ix2 k c)
  wo k c := x11 (ix2 k c)
  post j := x12 (ix1 j)

/-- A token's row of `x`. -/
def row (b : Fin 8) (t : Fin 2048) (j : Fin 1024) : EReal := x0 (ix3 b t j)

theorem ref_hn (b : Fin 8) (t : Fin 2048) (j : Fin 1024) :
    val_main_v17 (F := Ideal) x0 x1 (ix3 b t j) = (refW x1 x2 x3 x4 x5 x6 x7 x8 x9 x10 x11 x12).hn (row x0 b t) j := by
  pointwise [val_main_v17, val_main_v16, val_main_v15, val_main_v14, val_main_v13, val_main_v12, val_main_v11,
    val_main_v10, val_main_v9, val_main_v8, val_main_v7, val_main_v6, val_main_v5, val_main_cst, val_main_cst_0,
    val_main_cst_1]
  rfl

theorem ref_win (k : Fin 1024) (c : Fin 8208) :
    val_main_v4 (F := Ideal) x2 x3 x4 (ix2 k c) =
      if h : c.val < 6144 then x2 (ix2 k ⟨c.val, h⟩)
      else if h' : c.val - 6144 < 16 then x4 (ix2 k ⟨c.val - 6144, by omega⟩)
      else x3 (ix2 k ⟨c.val - 6144 - 16, by omega⟩) := by
  pointwise [val_main_v4, val_main_v3, val_main_v2, val_main_v1, val_main_v0]

theorem ref_z (b : Fin 8) (t : Fin 2048) (c : Fin 8208) :
    val_main_v18 (F := Ideal) x0 x1 x2 x3 x4 (ix3 b t c) =
      ∑ k, (refW x1 x2 x3 x4 x5 x6 x7 x8 x9 x10 x11 x12).hn (row x0 b t) k * val_main_v4 (F := Ideal) x2 x3 x4 (ix2 k c) := by
  simp only [← ref_hn]
  unfold val_main_v18
  generalize val_main_v17 (F := Ideal) x0 x1 = y
  generalize val_main_v4 (F := Ideal) x2 x3 x4 = z
  pointwise

theorem ref_ph (b : Fin 8) (t : Fin 2048) (c : Nat) (h : c < 6144) (h' : c < 8208) :
    val_main_v18 (F := Ideal) x0 x1 x2 x3 x4 (ix3 b t ⟨c, h'⟩) = (refW x1 x2 x3 x4 x5 x6 x7 x8 x9 x10 x11 x12).ph (row x0 b t) ⟨c, h⟩ := by
  rw [ref_z (x5 := x5) (x6 := x6) (x7 := x7) (x8 := x8) (x9 := x9) (x10 := x10) (x11 := x11) (x12 := x12)]
  simp only [ref_win, dif_pos h]
  rfl

theorem ref_lr (b : Fin 8) (t : Fin 2048) (r : Nat) (h : r < 16) (h' : 6144 + r < 8208) :
    val_main_v18 (F := Ideal) x0 x1 x2 x3 x4 (ix3 b t ⟨6144 + r, h'⟩) =
      ∑ k, (refW x1 x2 x3 x4 x5 x6 x7 x8 x9 x10 x11 x12).hn (row x0 b t) k * (refW x1 x2 x3 x4 x5 x6 x7 x8 x9 x10 x11 x12).lr k ⟨r, by omega⟩ := by
  rw [ref_z (x5 := x5) (x6 := x6) (x7 := x7) (x8 := x8) (x9 := x9) (x10 := x10) (x11 := x11) (x12 := x12)]
  refine Finset.sum_congr rfl fun k _ => ?_
  rw [ref_win, dif_neg (by simp), dif_pos (by simp only []; omega)]
  refine congrArg (fun c => (refW x1 x2 x3 x4 x5 x6 x7 x8 x9 x10 x11 x12).hn (row x0 b t) k * x4 (ix2 k c)) (Fin.ext ?_)
  show 6144 + r - 6144 = r
  omega

theorem ref_pt (b : Fin 8) (t : Fin 2048) (c : Nat) (h : c < 2048) (h' : 6160 + c < 8208) :
    val_main_v18 (F := Ideal) x0 x1 x2 x3 x4 (ix3 b t ⟨6160 + c, h'⟩) = (refW x1 x2 x3 x4 x5 x6 x7 x8 x9 x10 x11 x12).pt (row x0 b t) ⟨c, h⟩ := by
  rw [ref_z (x5 := x5) (x6 := x6) (x7 := x7) (x8 := x8) (x9 := x9) (x10 := x10) (x11 := x11) (x12 := x12)]
  unfold Weights.pt
  refine Finset.sum_congr rfl fun k _ => ?_
  rw [ref_win, dif_neg (by simp only []; omega), dif_neg (by simp only []; omega)]
  refine congrArg (fun c => (refW x1 x2 x3 x4 x5 x6 x7 x8 x9 x10 x11 x12).hn (row x0 b t) k * x3 (ix2 k c)) (Fin.ext ?_)
  show 6160 + c - 6144 - 16 = c
  omega

theorem ref_u (b : Fin 8) (t : Fin 2048) (j : Fin 1024) :
    val_main_v29 (F := Ideal) x0 x1 x2 x3 x4 (ix3 b t j) = (refW x1 x2 x3 x4 x5 x6 x7 x8 x9 x10 x11 x12).u (row x0 b t) j := by
  unfold Weights.u
  rw [← ref_ph (h' := by omega), ← ref_ph (h' := by omega)]
  pointwise [val_main_v29, val_main_v20, val_main_v21]

/-- The convolution's inputs of one sequence, two zero rows first. -/
def ups (W' : Weights) (X : Fin 2048 → Fin 1024 → EReal) (n : Nat) (j : Fin 1024) : EReal :=
  if h : 2 ≤ n ∧ n < 2050 then W'.u (X ⟨n - 2, by omega⟩) j else 0

theorem ref_up (b : Fin 8) (n : Fin 2050) (j : Fin 1024) :
    val_main_v31 (F := Ideal) x0 x1 x2 x3 x4 (ix3 b n j) = ups (refW x1 x2 x3 x4 x5 x6 x7 x8 x9 x10 x11 x12) (row x0 b) n.val j := by
  have hl : val_main_v31 (F := Ideal) x0 x1 x2 x3 x4 (ix3 b n j) = if h : n.val < 2 then 0
      else val_main_v29 (F := Ideal) x0 x1 x2 x3 x4 (ix3 b ⟨n.val - 2, by omega⟩ j) := by
    pointwise [val_main_v31, val_main_v30, val_main_cst_2]
  rw [hl]
  unfold ups
  by_cases h : n.val < 2
  · rw [dif_pos h, dif_neg (by omega)]
  · rw [dif_neg h, dif_pos (by omega), ref_u]

theorem ref_ycv (b : Fin 8) (t : Fin 2048) (j : Fin 1024) :
    val_main_v51 (F := Ideal) x0 x1 x2 x3 x4 x7 (ix3 b t j) =
      (refW x1 x2 x3 x4 x5 x6 x7 x8 x9 x10 x11 x12).ycv (ups (refW x1 x2 x3 x4 x5 x6 x7 x8 x9 x10 x11 x12) (row x0 b) t.val) (ups (refW x1 x2 x3 x4 x5 x6 x7 x8 x9 x10 x11 x12) (row x0 b) (1 + t.val)) (ups (refW x1 x2 x3 x4 x5 x6 x7 x8 x9 x10 x11 x12) (row x0 b) (2 + t.val)) j := by
  have e (n : Nat) (hn : n < 2050) := ref_up x0 x1 x2 x3 x4 x5 x6 x7 x8 x9 x10 x11 x12 b ⟨n, hn⟩ j
  have e0 := e t.val (by omega)
  have e1 := e (1 + t.val) (by omega)
  have e2 := e (2 + t.val) (by omega)
  simp only [] at e0 e1 e2
  unfold Weights.ycv
  rw [← e0, ← e1, ← e2]
  pointwise [val_main_v51, val_main_v50, val_main_v49, val_main_v48, val_main_v47, val_main_v46, val_main_v45,
    val_main_v44, val_main_v43, val_main_v42, val_main_v41, val_main_v40, val_main_v39, val_main_v38, val_main_v37,
    val_main_v36, val_main_v35, val_main_v34, val_main_v33, val_main_v32]
  rfl

theorem ref_ya (b : Fin 8) (t : Fin 2048) (j : Fin 1024) :
    val_main_v55 (F := Ideal) x0 x1 x2 x3 x4 x7 x8 (ix3 b t j) =
      (refW x1 x2 x3 x4 x5 x6 x7 x8 x9 x10 x11 x12).ya (row x0 b t) (fun c => (refW x1 x2 x3 x4 x5 x6 x7 x8 x9 x10 x11 x12).ycv (ups (refW x1 x2 x3 x4 x5 x6 x7 x8 x9 x10 x11 x12) (row x0 b) t.val) (ups (refW x1 x2 x3 x4 x5 x6 x7 x8 x9 x10 x11 x12) (row x0 b) (1 + t.val))
        (ups (refW x1 x2 x3 x4 x5 x6 x7 x8 x9 x10 x11 x12) (row x0 b) (2 + t.val)) c) j := by
  unfold Weights.ya
  simp only [← ref_ycv]
  have e (c : Fin 1024) := ref_ph x0 x1 x2 x3 x4 x5 x6 x7 x8 x9 x10 x11 x12 b t c.val (by omega) (by omega)
  simp only [← e]
  unfold val_main_v55 val_main_v53
  generalize val_main_v51 (F := Ideal) x0 x1 x2 x3 x4 x7 = y
  pointwise [val_main_v19, val_main_v54]
  rfl

theorem ref_buf (b : Fin 8) (i : Fin 2) (j : Fin 1024) :
    val_main_v151 (F := Ideal) x0 x1 x2 x3 x4 (ix4 0 b i j) = ups (refW x1 x2 x3 x4 x5 x6 x7 x8 x9 x10 x11 x12) (row x0 b) (2048 + i.val) j := by
  rw [← ref_up x0 x1 x2 x3 x4 x5 x6 x7 x8 x9 x10 x11 x12 b ⟨2048 + i.val, by omega⟩ j]
  pointwise [val_main_v151, val_main_v52]

theorem ref_q (b : Fin 8) (h : Fin 4) (t : Fin 2048) (d : Fin 128) :
    val_main_v59 (F := Ideal) x0 x1 x2 x3 x4 (ix4 b h t d) = (refW x1 x2 x3 x4 x5 x6 x7 x8 x9 x10 x11 x12).q (row x0 b t) ⟨h.val * 128 + d.val, by omega⟩ := by
  unfold Weights.q
  rw [← ref_ph (h' := by omega)]
  pointwise [val_main_v59, val_main_v58, val_main_v57, val_main_v56, val_main_v22, val_main_cst_3]
  rfl

theorem ref_k (b : Fin 8) (h : Fin 4) (t : Fin 2048) (d : Fin 128) :
    val_main_v61 (F := Ideal) x0 x1 x2 x3 x4 (ix4 b h t d) = (refW x1 x2 x3 x4 x5 x6 x7 x8 x9 x10 x11 x12).k (row x0 b t) ⟨h.val * 128 + d.val, by omega⟩ := by
  unfold Weights.k
  rw [← ref_ph (h' := by omega)]
  pointwise [val_main_v61, val_main_v60, val_main_v23]

theorem ref_v (b : Fin 8) (h : Fin 4) (t : Fin 2048) (e : Fin 256) :
    val_main_v63 (F := Ideal) x0 x1 x2 x3 x4 (ix4 b h t e) = (refW x1 x2 x3 x4 x5 x6 x7 x8 x9 x10 x11 x12).v (row x0 b t) ⟨h.val * 256 + e.val, by omega⟩ := by
  unfold Weights.v
  rw [← ref_ph (h' := by omega)]
  pointwise [val_main_v63, val_main_v62, val_main_v24]

theorem ref_gate (b : Fin 8) (t : Fin 2048) (j : Fin 512) :
    val_main_v67 (F := Ideal) x0 x1 x2 x3 x4 x5 x6 (ix3 b t j) = (refW x1 x2 x3 x4 x5 x6 x7 x8 x9 x10 x11 x12).gate (row x0 b t) j := by
  have hs : ∀ f : Fin 128 → EReal, (∀ r : Fin 128, 16 ≤ r.val → f r = 0) →
      (∑ r, f r) = ∑ r : Fin 16, f ⟨r.val, by omega⟩ := by
    intro f hf
    rw [show (∑ r, f r) = ∑ r : Fin (16 + 112), f (Fin.cast (by norm_num) r) from rfl, Fin.sum_univ_add]
    rw [Finset.sum_eq_zero (s := (Finset.univ : Finset (Fin 112))), add_zero]
    · rfl
    · intro r _
      exact hf _ (by simp)
  unfold Weights.gate
  rw [hs _ (by
    intro r hr
    show _ * (dite _ _ _) = _
    rw [dif_neg (by omega), mul_zero])]
  have e (r : Fin 16) := ref_lr x0 x1 x2 x3 x4 x5 x6 x7 x8 x9 x10 x11 x12 b t r.val (by omega) (by omega)
  simp only [← e]
  have e' (r : Fin 16) : (refW x1 x2 x3 x4 x5 x6 x7 x8 x9 x10 x11 x12).gk ⟨r.val, by omega⟩ j = x5 (ix2 r j) := by
    show dite _ _ _ = _
    rw [dif_pos r.isLt]
  simp only [e']
  pointwise [val_main_v67, val_main_v66, val_main_v65, val_main_v64, val_main_v26]
  rfl

/-- `log (sigmoid g) / 16` as the reference takes it. -/
def lsg (g : EReal) : EReal :=
  Ideal.div (-(max (-g) 0 + Ideal.log1p (Ideal.exp (-FloatOps.absf (F := Ideal) (φ := .f32) (-g))))) (Ideal.ofBits .f32 1098907648#32)

theorem ref_wi (b : Fin 8) (h : Fin 4) (t : Fin 2048) (d : Fin 128) :
    val_main_v72 (F := Ideal) x0 x1 x2 x3 x4 x5 x6 (ix4 b h t d) =
      lsg ((refW x1 x2 x3 x4 x5 x6 x7 x8 x9 x10 x11 x12).gate (row x0 b t) ⟨h.val * 128 + d.val, by omega⟩) := by
  rw [← ref_gate]
  pointwise [val_main_v72, val_main_v71, val_main_v70, val_main_v69, val_main_v68,val_main_cst_4,
    val_main_call0_v1, val_main_call0_v0, val_main_call0_call0_cst, val_main_call0_call0_v0, val_main_call0_call0_v1,
    val_main_call0_call0_v2, val_main_call0_call0_v3, val_main_call0_call0_v4, val_main_call0_call0_v5, val_main_call0_call0_v6,
    val_main_call0_call0_v7, val_main_call0_call0_v8, val_main_call0_call0_v9, val_main_call0_call0_v10,
    val_main_call0_call0_v11]
  rw [if_neg (by simp)]
  rfl

theorem ref_dec (b : Fin 8) (h : Fin 4) (t s : Fin 2048) (d : Fin 128) :
    val_main_v85 (F := Ideal) x0 x1 x2 x3 x4 x5 x6 (ix5 b h t s d) =
      if s.val ≤ t.val then Ideal.exp (min (val_main_v75 (F := Ideal) x0 x1 x2 x3 x4 x5 x6 (ix4 b h t d)
        - val_main_v75 (F := Ideal) x0 x1 x2 x3 x4 x5 x6 (ix4 b h s d)) 0) else 0 := by
  pointwise [val_main_v85, val_main_call3_v0, val_main_call3_v1, val_main_call3_v2, val_main_cst_6, val_main_v84,
   val_main_v83, val_main_v82, val_main_cst_5, val_main_v81, val_main_v80, val_main_v79, val_main_v78, val_main_v77, val_main_v76,
   val_main_v74, val_main_v73, val_main_c, val_main_call1_v0, val_main_call1_v1, val_main_call1_v2, val_main_call1_v3,
   val_main_call1_v4, val_main_call1_v5, val_main_call1_c, val_main_call1_c_0]
  have hc : Scalar.select (IntOp.cmpi CmpIPredicate.sge (IntOp.addi (BitVec.ofNat 32 t.val) 0#32) (BitVec.ofNat 32 s.val)) (1#1) (0#1)
      = if s.val ≤ t.val then 1#1 else 0#1 := by
    have ht : (BitVec.ofNat 32 t.val).toInt = t.val := by
      rw [BitVec.toInt_eq_toNat_of_lt (by simp; omega)]; simp; omega
    have hs : (BitVec.ofNat 32 s.val).toInt = s.val := by
      rw [BitVec.toInt_eq_toNat_of_lt (by simp; omega)]; simp; omega
    simp only [IntOp.addi, BitVec.add_zero, IntOp.cmpi, BitVec.sle, ht, hs]
    by_cases hh : s.val ≤ t.val <;> simp [hh, Scalar.select]
  rw [hc]
  have hz : id (constant (F := Ideal) S_ FTy.f32 0#32) ix0 = (0 : EReal) := by
    show constant (F := Ideal) S_ FTy.f32 0#32 ix0 = (0 : EReal)
    pointwise
  rw [hz]
  by_cases hh : s.val ≤ t.val <;> simp [hh, Scalar.select]

theorem ref_cum (b : Fin 8) (h : Fin 4) (t : Fin 2048) (d : Fin 128) :
    val_main_v75 (F := Ideal) x0 x1 x2 x3 x4 x5 x6 (ix4 b h t d) =
      ∑ s ∈ Finset.range (t.val + 1), if hs : s < 2048 then
        val_main_v72 (F := Ideal) x0 x1 x2 x3 x4 x5 x6 (ix4 b h ⟨s, hs⟩ d) else 0 := by
  unfold val_main_v75 Host.reduceWindowAdd
  generalize val_main_v72 (F := Ideal) x0 x1 x2 x3 x4 x5 x6 = y
  have hz (i : S_.Idx) : val_main_call2_call0_v0 (F := Ideal) i = (0 : EReal) := by
    pointwise [val_main_call2_call0_v0, val_main_call2_call0_cst]
  simp only [hz, Ideal.hostReduceWindowAdd_def, Ideal.hostReduceWindowAdd, Host.reduceWindow]
  have hf (l : List (Fin (Shape.numel ⟨4, ![1, 1, 2048, 1]⟩))) (f : Fin (Shape.numel ⟨4, ![1, 1, 2048, 1]⟩) → EReal) (z : EReal) :
      l.foldl (fun r n => r + f n) z = z + (l.map f).sum := by
    induction l generalizing z with
    | nil => simp
    | cons a l ih => simp only [List.foldl_cons, ih, List.map_cons, List.sum_cons, add_assoc]
  rw [hf, zero_add, ← List.ofFn_eq_map, List.sum_ofFn]
  let T : Shape := ⟨4, ![1, 1, 2048, 1]⟩
  let G : T.Idx → EReal := fun w => if hs : 2047 ≤ t.val + (w 2).val ∧ t.val + (w 2).val - 2047 < 2048 then
    y (ix4 b h ⟨t.val + (w 2).val - 2047, hs.2⟩ d) else 0
  rw [Fintype.sum_equiv (T.rowMajor.symm) _ G (fun n => by
    let w := T.rowMajor.symm n
    have w0 : (w 0).val = 0 := by have : (w 0).val < 1 := (w 0).isLt; omega
    have w1 : (w 1).val = 0 := by have : (w 1).val < 1 := (w 1).isLt; omega
    have w3 : (w 3).val = 0 := by have : (w 3).val < 1 := (w 3).isLt; omega
    by_cases hs : 2047 ≤ t.val + (w 2).val ∧ t.val + (w 2).val - 2047 < 2048
    · rw [dif_pos (by
        intro a
        match a with
        | ⟨0, _⟩ => exact ⟨Nat.zero_le _, by show b.val * 1 + (w 0).val - 0 < 8; omega⟩
        | ⟨1, _⟩ => exact ⟨Nat.zero_le _, by show h.val * 1 + (w 1).val - 0 < 4; omega⟩
        | ⟨2, _⟩ => exact ⟨by show 2047 ≤ t.val * 1 + (w 2).val; omega, by show t.val * 1 + (w 2).val - 2047 < 2048; omega⟩
        | ⟨3, _⟩ => exact ⟨Nat.zero_le _, by show d.val * 1 + (w 3).val - 0 < 128; omega⟩)]
      show _ = dite _ _ _
      rw [dif_pos hs]
      refine congrArg y (funext fun a => ?_)
      match a with
      | ⟨0, _⟩ => exact Fin.ext (by show b.val * 1 + (w 0).val - 0 = b.val; omega)
      | ⟨1, _⟩ => exact Fin.ext (by show h.val * 1 + (w 1).val - 0 = h.val; omega)
      | ⟨2, _⟩ => exact Fin.ext (by show t.val * 1 + (w 2).val - 2047 = t.val + (w 2).val - 2047; omega)
      | ⟨3, _⟩ => exact Fin.ext (by show d.val * 1 + (w 3).val - 0 = d.val; omega)
    · rw [dif_neg (by
        intro hh
        have h2 := hh 2
        refine hs ⟨?_, ?_⟩
        · have : 2047 ≤ t.val * 1 + (w 2).val := h2.1
          omega
        · have : t.val * 1 + (w 2).val - 2047 < 2048 := h2.2
          omega)]
      show _ = dite _ _ _
      rw [dif_neg hs])]
  have hb : (∑ w, G w) = ∑ k : Fin 2048, G (ix4 0 0 k 0) := by
    symm
    refine Fintype.sum_bijective (fun k : Fin 2048 => (ix4 0 0 k 0 : T.Idx)) ⟨?_, ?_⟩ _ _ (fun _ => rfl)
    · intro k k' hk
      exact congrFun hk 2
    · intro w
      refine ⟨w 2, funext fun a => ?_⟩
      match a with
      | ⟨0, _⟩ => exact Fin.ext (by have : (w 0).val < 1 := (w 0).isLt; show 0 = (w 0).val; omega)
      | ⟨1, _⟩ => exact Fin.ext (by have : (w 1).val < 1 := (w 1).isLt; show 0 = (w 1).val; omega)
      | ⟨2, _⟩ => rfl
      | ⟨3, _⟩ => exact Fin.ext (by have : (w 3).val < 1 := (w 3).isLt; show 0 = (w 3).val; omega)
  rw [hb]
  let g : Nat → EReal := fun k => if hs : 2047 ≤ t.val + k ∧ t.val + k - 2047 < 2048 then
    y (ix4 b h ⟨t.val + k - 2047, hs.2⟩ d) else 0
  rw [show (∑ k : Fin 2048, G (ix4 0 0 k 0)) = ∑ k : Fin 2048, g k.val from rfl, Fin.sum_univ_eq_sum_range,
    show Finset.range 2048 = Finset.range ((2047 - t.val) + (t.val + 1)) from congrArg _ (by omega), Finset.sum_range_add, Finset.sum_eq_zero, zero_add]
  · refine Finset.sum_congr rfl fun s hs => ?_
    have hs := Finset.mem_range.mp hs
    show dite _ _ _ = _
    rw [dif_pos (by omega), dif_pos (by omega)]
    refine congrArg (fun n => y (ix4 b h n d)) (Fin.ext ?_)
    show t.val + (2047 - t.val + s) - 2047 = s
    omega
  · intro k hk
    have hk := Finset.mem_range.mp hk
    exact dif_neg (by omega)

theorem ref_scores (b : Fin 8) (h : Fin 4) (t s : Fin 2048) :
    val_main_v92 (F := Ideal) x0 x1 x2 x3 x4 x5 x6 (ix4 b h t s) =
     ∑ d, (refW x1 x2 x3 x4 x5 x6 x7 x8 x9 x10 x11 x12).q (row x0 b t) ⟨h.val * 128 + d.val, by omega⟩ * (refW x1 x2 x3 x4 x5 x6 x7 x8 x9 x10 x11 x12).k (row x0 b s) ⟨h.val * 128 + d.val, by omega⟩ *
       val_main_v85 (F := Ideal) x0 x1 x2 x3 x4 x5 x6 (ix5 b h t s d) := by
  simp only [← ref_q, ← ref_k]
  pointwise [val_main_v92, val_main_v91, val_main_v90, val_main_v89, val_main_v88, val_main_v87, val_main_v86, val_main_cst_7]

theorem ref_o (b : Fin 8) (h : Fin 4) (t : Fin 2048) (e : Fin 256) :
    val_main_v93 (F := Ideal) x0 x1 x2 x3 x4 x5 x6 (ix4 b h t e) =
     ∑ s, val_main_v92 (F := Ideal) x0 x1 x2 x3 x4 x5 x6 (ix4 b h t s) *
       (refW x1 x2 x3 x4 x5 x6 x7 x8 x9 x10 x11 x12).v (row x0 b s) ⟨h.val * 256 + e.val, by omega⟩ := by
  simp only [← ref_v]
  unfold val_main_v93
  generalize val_main_v92 (F := Ideal) x0 x1 x2 x3 x4 x5 x6 = y
  generalize val_main_v63 (F := Ideal) x0 x1 x2 x3 x4 = z
  pointwise

theorem ref_s (b : Fin 8) (h : Fin 4) (d : Fin 128) (e : Fin 256) :
    val_main_v152 (F := Ideal) x0 x1 x2 x3 x4 x5 x6 (ix5 0 b h d e) =
     ∑ s, (refW x1 x2 x3 x4 x5 x6 x7 x8 x9 x10 x11 x12).k (row x0 b s) ⟨h.val * 128 + d.val, by omega⟩ *
         Ideal.exp (val_main_v75 (F := Ideal) x0 x1 x2 x3 x4 x5 x6 (ix4 b h 2047 d)
           - val_main_v75 (F := Ideal) x0 x1 x2 x3 x4 x5 x6 (ix4 b h s d)) *
       (refW x1 x2 x3 x4 x5 x6 x7 x8 x9 x10 x11 x12).v (row x0 b s) ⟨h.val * 256 + e.val, by omega⟩ := by
  simp only [← ref_v, ← ref_k]
  unfold val_main_v152 val_main_v99 val_main_v98 val_main_v97 val_main_v96 val_main_v95 val_main_v94
  generalize val_main_v75 (F := Ideal) x0 x1 x2 x3 x4 x5 x6 = y
  generalize val_main_v61 (F := Ideal) x0 x1 x2 x3 x4 = k
  generalize val_main_v63 (F := Ideal) x0 x1 x2 x3 x4 = z
  pointwise

/-- The attention's output of one token, heads side by side. -/
def refO (b : Fin 8) (t : Fin 2048) (f : Fin 1024) : EReal :=
  val_main_v93 (F := Ideal) x0 x1 x2 x3 x4 x5 x6 (ix4 b ⟨f.val / 256, by omega⟩ t ⟨f.val % 256, by omega⟩)

theorem ref_normed (b : Fin 8) (t : Fin 2048) (f : Fin 1024) :
    val_main_v117 (F := Ideal) x0 x1 x2 x3 x4 x5 x6 x9 (ix3 b t f) =
      (refW x1 x2 x3 x4 x5 x6 x7 x8 x9 x10 x11 x12).normed (row x0 b t) (refO x0 x1 x2 x3 x4 x5 x6 b t) f := by
  unfold Weights.normed Weights.g sig refO
  rw [← ref_ph (h' := by omega)]
  pointwise [val_main_v117, val_main_v116, val_main_v115, val_main_v114, val_main_v113, val_main_v112, val_main_v111,
    val_main_v110, val_main_v109, val_main_v108, val_main_v107, val_main_v106, val_main_v105, val_main_v104,
    val_main_v103, val_main_v102, val_main_v101, val_main_v100, val_main_cst_8, val_main_cst_9, val_main_cst_10,
    val_main_call4_v0, val_main_call4_v1, val_main_call4_cst, val_main_call4_v2, val_main_call4_v3,
    val_main_call4_cst_0, val_main_call4_v4, val_main_call4_v5, val_main_v25]
  have e1 (x : Fin 256) : (⟨(f.val / 256 * 256 + x.val) / 256, by omega⟩ : Fin 4) = ⟨f.val / 256, by omega⟩ :=
    Fin.ext (by show (f.val / 256 * 256 + x.val) / 256 = f.val / 256; omega)
  have e2 (x : Fin 256) : (⟨(f.val / 256 * 256 + x.val) % 256, by omega⟩ : Fin 256) = x :=
    Fin.ext (by show (f.val / 256 * 256 + x.val) % 256 = x.val; omega)
  simp only [e1, e2]
  rfl

theorem ref_merged (b : Fin 8) (t : Fin 2048) (j : Fin 1024) :
    val_main_v134 (F := Ideal) x0 x1 x2 x3 x4 x5 x6 x7 x8 x9 x10 (ix3 b t j) =
      (refW x1 x2 x3 x4 x5 x6 x7 x8 x9 x10 x11 x12).merged (row x0 b t) (refO x0 x1 x2 x3 x4 x5 x6 b t) (fun j => val_main_v55 (F := Ideal) x0 x1 x2 x3 x4 x7 x8 (ix3 b t j)) j := by
  unfold Weights.merged Weights.yb sig
  rw [← ref_pt (h' := by omega), ← ref_pt (h' := by omega)]
  simp only [← ref_normed]
  unfold val_main_v134 val_main_v133 val_main_v126 val_main_v119
  generalize val_main_v55 (F := Ideal) x0 x1 x2 x3 x4 x7 x8 = y
  generalize val_main_v117 (F := Ideal) x0 x1 x2 x3 x4 x5 x6 x9 = z
  pointwise [val_main_v118, val_main_v120, val_main_v121, val_main_v122, val_main_v123, val_main_v124, val_main_v125,
    val_main_v127, val_main_v128, val_main_v129, val_main_v130, val_main_v131, val_main_v132, val_main_cst_11, val_main_cst_12,
    val_main_cst_13, val_main_cst_14, val_main_v27, val_main_v28]
  have e1 : (⟨6160 + (1024 + j.val), by omega⟩ : Fin 8208) = ⟨7184 + j.val, by omega⟩ := Fin.ext (by show 6160 + (1024 + j.val) = 7184 + j.val; omega)
  rw [e1]
  rfl

theorem ref_h (b : Fin 8) (t : Fin 2048) (j : Fin 1024) :
    val_main_v150 (F := Ideal) x0 x1 x2 x3 x4 x5 x6 x7 x8 x9 x10 x11 x12 (ix3 b t j) =
      (refW x1 x2 x3 x4 x5 x6 x7 x8 x9 x10 x11 x12).out (row x0 b t) (refO x0 x1 x2 x3 x4 x5 x6 b t) (fun j => val_main_v55 (F := Ideal) x0 x1 x2 x3 x4 x7 x8 (ix3 b t j)) j := by
  unfold Weights.out rms Weights.mix
  simp only [← ref_merged]
  have e (b : Fin 8) (t : Fin 2048) (j : Fin 1024) : val_main_v136 (F := Ideal) x0 x1 x2 x3 x4 x5 x6 x7 x8 x9 x10 x11 (ix3 b t j) =
      ∑ k, val_main_v134 (F := Ideal) x0 x1 x2 x3 x4 x5 x6 x7 x8 x9 x10 (ix3 b t k) * x11 (ix2 k j) := by
    unfold val_main_v136
    generalize val_main_v134 (F := Ideal) x0 x1 x2 x3 x4 x5 x6 x7 x8 x9 x10 = y
    pointwise [val_main_v135]
  have e' (k j : Fin 1024) : (refW x1 x2 x3 x4 x5 x6 x7 x8 x9 x10 x11 x12).wo k j = x11 (ix2 k j) := rfl
  simp only [e', ← e]
  unfold val_main_v150 val_main_v149 val_main_v146 val_main_v145 val_main_v144 val_main_v143 val_main_v141 val_main_v139 val_main_v138 val_main_v137
  generalize val_main_v136 (F := Ideal) x0 x1 x2 x3 x4 x5 x6 x7 x8 x9 x10 x11 = y
  pointwise [val_main_cst_15, val_main_cst_16, val_main_cst_17, val_main_v140, val_main_v142, val_main_v147, val_main_v148]
  rfl

end Cert.Mixer
-- ==== Proof.Scalars.lean ====
/- The scalar functions of the layer on the extended reals: the logistic function, and a gate's logarithm. -/
module

public import proofs.«01_k».proof.Proof.TileWords
public import proofs.«01_k».proof.Proof.TileRead
public import proofs.«01_k».proof.Proof.RefRows

@[expose] public section

noncomputable section

namespace Cert.Mixer

open Idealize.ShloMosaic Cert.KernelIdeal Cert.KernelIdeal.Gen

theorem log2_pos : 0 < Real.log 2 := Real.log_pos one_lt_two

theorem negLog2e : Named.named (F := Ideal) (φ := .f32) κ "neg_log2e" 3216550459#32 = ((-(Real.log 2)⁻¹ : ℝ) : EReal) := by
  rfl

theorem log2eGate : Named.named (F := Ideal) (φ := .f32) κ "log2e_gate" 0x3DB8AA3B#32 = ((1 / 16 * (Real.log 2)⁻¹ : ℝ) : EReal) := by
  rfl

/-- A power of two is an exponential. -/
theorem p2_exp (x : ℝ) : p2 x = Real.exp (Real.log 2 * x) := Real.rpow_def_of_pos two_pos x

theorem exp2_scaled (x : EReal) : Ideal.exp2 (x * ((-(Real.log 2)⁻¹ : ℝ) : EReal)) = Ideal.exp (-x) := by
  have hn : -(Real.log 2)⁻¹ < 0 := neg_lt_zero.mpr (inv_pos.mpr log2_pos)
  induction x with
  | bot => rw [EReal.bot_mul_coe_of_neg hn, EReal.neg_bot]; rfl
  | top => rw [EReal.top_mul_coe_of_neg hn, EReal.neg_top]; rfl
  | coe r =>
    rw [← EReal.coe_mul, ← EReal.coe_neg]
    show ((p2 (r * -(Real.log 2)⁻¹) : ℝ) : EReal) = ((Real.exp (-r) : ℝ) : EReal)
    rw [p2_exp]
    congr 2
    have := log2_pos.ne'
    field_simp

theorem sigK_eq (x : EReal) : sigK x = sig x := by
  unfold sigK sig
  rw [negLog2e, exp2_scaled]

/-- The logarithm of a gate's step. -/
def stepLog (g : ℝ) : ℝ := (min g 0 - Real.log (1 + Real.exp (-|g|))) / 16

theorem stepLog_nonpos (g : ℝ) : stepLog g ≤ 0 := by
  have h1 : 0 ≤ Real.log (1 + Real.exp (-|g|)) := Real.log_nonneg (by have := Real.exp_pos (-|g|); linarith)
  have h2 : min g 0 ≤ 0 := min_le_right _ _
  unfold stepLog
  linarith

theorem coe_min (a b : ℝ) : min (a : EReal) (b : EReal) = ((min a b : ℝ) : EReal) := (EReal.coe_strictMono.monotone.map_min).symm
theorem coe_max (a b : ℝ) : max (a : EReal) (b : EReal) = ((max a b : ℝ) : EReal) := (EReal.coe_strictMono.monotone.map_max).symm

theorem log_succ (x : ℝ) (h : 0 < x) : Ideal.log (1 + ((x : ℝ) : EReal)) = ((Real.log (1 + x) : ℝ) : EReal) := by
  rw [← EReal.coe_one, ← EReal.coe_add]
  show (if 1 + x ≤ 0 then (⊥ : EReal) else _) = _
  rw [if_neg (by linarith)]

theorem gateK_real (g : ℝ) : gateK (g : EReal) = ((stepLog g / Real.log 2 : ℝ) : EReal) := by
  unfold gateK
  rw [negLog2e, log2eGate, exp2_scaled, abs_real, ← EReal.coe_neg]
  show (min (g : EReal) ((0 : ℝ) : EReal) - Ideal.log (1 + ((Real.exp (-|g|) : ℝ) : EReal))) * _ = _
  rw [log_succ _ (Real.exp_pos _), coe_min, ← EReal.coe_sub, ← EReal.coe_mul]
  congr 1
  unfold stepLog
  have := log2_pos.ne'
  field_simp

theorem sixteen : Ideal.ofBits .f32 1098907648#32 = ((16 : ℝ) : EReal) := by
  simp [Ideal.ofBits, Ideal.ieee]
  norm_num [← EReal.coe_mul]

theorem lsg_real (g : ℝ) : lsg (g : EReal) = ((stepLog g : ℝ) : EReal) := by
  unfold lsg
  rw [sixteen, ← EReal.coe_neg, abs_real, ← EReal.coe_neg]
  show Ideal.div (-(max ((-g : ℝ) : EReal) ((0 : ℝ) : EReal) + Ideal.log (1 + ((Real.exp (-|-g|) : ℝ) : EReal)))) _ = _
  rw [log_succ _ (Real.exp_pos _), coe_max, ← EReal.coe_add, ← EReal.coe_neg]
  unfold Ideal.div
  rw [if_neg (by norm_num), ← EReal.coe_inv, ← EReal.coe_mul]
  congr 1
  unfold stepLog
  rw [abs_neg, neg_add]
  have : -max (-g) 0 = min g 0 := by
    rw [← min_neg_neg, neg_neg, neg_zero]
  rw [this]
  ring

theorem n1024_eq : n1024 = ((1024 : ℝ) : EReal) := by
  simp [n1024, Ideal.ofBits, Ideal.ieee]
  norm_num [← EReal.coe_mul]

theorem qscale_real : ∃ r : ℝ, qscale = (r : EReal) := by
  show ∃ r : ℝ, Ideal.ieee 8 23 1035273459#32 = _
  unfold Ideal.ieee
  simp only []
  rw [if_neg (by decide), if_neg (by decide)]
  exact ⟨_, rfl⟩

theorem eps_pos : ∃ r : ℝ, 0 < r ∧ eps = (r : EReal) := by
  show ∃ r : ℝ, 0 < r ∧ Ideal.ieee 8 23 897988541#32 = _
  unfold Ideal.ieee
  simp only []
  rw [if_neg (by decide), if_neg (by decide)]
  refine ⟨_, ?_, rfl⟩
  rw [if_neg (by decide)]
  positivity

end Cert.Mixer
-- ==== Proof.TileOut.lean ====
/- One tile of the layer, from a sequence's rows: what it gives out, what it carries on. -/
module

public import proofs.«01_k».proof.Proof.TileCore
public import proofs.«01_k».proof.Proof.TileWords
public import proofs.«01_k».proof.Proof.Scalars

@[expose] public section

set_option maxRecDepth 16384

noncomputable section

namespace Cert.Mixer

open Idealize.ShloMosaic Cert.KernelIdeal Cert.KernelIdeal.Gen

/-- A sequence's rows whose queries, keys, values and gates are real. -/
structure Seq (W : Weights) (Y : ℕ → Fin 1024 → EReal) (Q K G : ℕ → Fin 512 → ℝ) (V : ℕ → Fin 1024 → ℝ) : Prop where
  q : ∀ n j, W.q (Y n) j = ((Q n j : ℝ) : EReal)
  k : ∀ n j, W.k (Y n) j = ((K n j : ℝ) : EReal)
  g : ∀ n j, gateK (W.gate (Y n) j) = ((G n j : ℝ) : EReal)
  v : ∀ n j, W.v (Y n) j = ((V n j : ℝ) : EReal)
  neg : ∀ n j, G n j ≤ 0

/-- The convolution's input by position from two before the sequence. -/
def up (W : Weights) (Y : ℕ → Fin 1024 → EReal) (n : ℕ) (j : Fin 1024) : EReal := if n < 2 then 0 else W.u (Y (n - 2)) j

/-- A token's heads side by side. -/
def heads (Q K G : ℕ → Fin 512 → ℝ) (V : ℕ → Fin 1024 → ℝ) (t : ℕ) (f : Fin 1024) : EReal :=
  ((outS Q K G V ⟨f.val / 256, by omega⟩ t ⟨f.val % 256, by omega⟩ : ℝ) : EReal)

/-- A token's row out of the layer. -/
def done (W : Weights) (Y : ℕ → Fin 1024 → EReal) (Q K G : ℕ → Fin 512 → ℝ) (V : ℕ → Fin 1024 → ℝ) (t : ℕ) (j : Fin 1024) : EReal :=
  W.out (Y t) (heads Q K G V t) (fun i => W.ya (Y t) (fun c => W.ycv (up W Y t) (up W Y (t + 1)) (up W Y (t + 2)) c) i) j

/-- A tile's operands: its rows from token `T` of a sequence on, its tables, and what the tiles before carried to it. -/
structure Tile (I : Ins Ideal) (W : Weights) (Y : ℕ → Fin 1024 → EReal) (Q K G : ℕ → Fin 512 → ℝ) (V : ℕ → Fin 1024 → ℝ) (T : ℕ) : Prop where
  reads : Reads I W (fun r => Y (T + r.val))
  seq : Seq W Y Q K G V
  tri : ∀ (n : ℕ) (h : n < 256) (x : ℕ) (hx : x < 512), I.tri (ix2 ⟨n, h⟩ ⟨x, hx⟩) = ((if x % 256 ≤ n then 1 else 0 : ℝ) : EReal)
  lev : Table I.lev
  c0 : ∀ j, I.c0 (ix4 0 0 0 j) = up W Y T j
  c1 : ∀ j, I.c1 (ix4 0 0 0 j) = up W Y (T + 1) j
  s : ∀ (h : Fin 4) (d : Fin 128) (e : Fin 256), I.s h (ix5 0 0 0 d e) = ((stateS K G V h T d e : ℝ) : EReal)

namespace Tile

variable {I : Ins Ideal} {W : Weights} {Y : ℕ → Fin 1024 → EReal} {Q K G : ℕ → Fin 512 → ℝ} {V : ℕ → Fin 1024 → ℝ} {T : ℕ} (H : Tile I W Y Q K G V T)
include H

theorem core : Core I Q K G V T where
  q r j := (H.reads.q_apply r j).trans (H.seq.q _ j)
  k r j := (H.reads.k_apply r j).trans (H.seq.k _ j)
  g r j := (H.reads.g_apply r j).trans (H.seq.g _ j)
  v r j := (H.reads.v_apply r j).trans (H.seq.v _ j)
  neg := H.seq.neg
  tri := H.tri
  lev := H.lev
  s := H.s

/-- The state after the tile. -/
theorem state (h : Fin 4) (d : Fin 128) (e : Fin 256) : View.canon (I.held 4) (ix5 0 0 h d e) = ((stateS K G V h (T + 512) d e : ℝ) : EReal) :=
  H.core.final h d e

/-- The carried rows after the tile. -/
theorem carry (i : Fin 2) (j : Fin 1024) : I.carry (ix4 0 0 i j) = up W Y (T + 512 + i.val) j := by
  rw [H.reads.carry_apply]
  unfold up
  rw [if_neg (by omega)]
  show W.u (Y (T + (510 + i.val))) j = _
  rw [show T + (510 + i.val) = T + 512 + i.val - 2 by omega]

theorem inputs_eq (n : ℕ) (hn : n < 514) :
    inputs W (fun r => Y (T + r.val)) (fun j => I.c0 (ix4 0 0 0 j)) (fun j => I.c1 (ix4 0 0 0 j)) n = up W Y (T + n) := by
  funext j
  unfold inputs
  by_cases h0 : n = 0
  · rw [if_pos h0, h0]
    exact H.c0 j
  by_cases h1 : n = 1
  · rw [if_neg h0, if_pos h1, h1]
    exact H.c1 j
  rw [if_neg h0, if_neg h1, dif_pos (by omega)]
  unfold up
  rw [if_neg (by omega)]
  show W.u (Y (T + (n - 2))) j = _
  rw [show T + (n - 2) = T + n - 2 by omega]

/-- The rows the tile gives out. -/
theorem out (r : Fin 512) (j : Fin 1024) : I.out (ix3 0 r j) = done W Y Q K G V (T + r.val) j := by
  rw [H.reads.out_apply (heads Q K G V (T + r.val)) r j ?_ sigK_eq]
  · unfold done
    have e : ∀ i, I.ya (ix2 r i) = W.ya (Y (T + r.val)) (fun c => W.ycv (up W Y (T + r.val)) (up W Y (T + r.val + 1)) (up W Y (T + r.val + 2)) c) i := by
      intro i
      rw [H.reads.ya_apply]
      congr 1
      funext c
      rw [H.reads.conv_apply, H.inputs_eq r.val (by omega), H.inputs_eq (r.val + 1) (by omega), H.inputs_eq (r.val + 2) (by omega)]
      rfl
    simp only [e]
  · intro h e
    rw [H.core.rows]
    unfold heads
    congr 2
    · exact Fin.ext (by simp only []; omega)
    · exact Fin.ext (by simp only []; omega)

end Tile

end Cert.Mixer
-- ==== Proof.Loads.lean ====
/- What the body loads at a point, by coordinates, from what its windows hold there. -/
module

public import proofs.«01_k».proof.Proof.RunA
public import proofs.«01_k».proof.Proof.RunB
public import proofs.«01_k».proof.Proof.TileOut
public import Idealize.ShloMosaic.Lib.Pipeline.ValueKit.Basic

@[expose] public section

set_option maxRecDepth 16384

noncomputable section

namespace Cert.Mixer

open Idealize.ShloMosaic Cert.KernelIdeal Cert.KernelIdeal.Gen

/-- A load of a whole buffer's contents. -/
theorem load_at {S : Shape} {e : EltTy} (a : Memref Cert.KernelIdeal.sig .tc .vmem S e) (ha : a.IsWhole) (x : Vec Ideal S e) (r : LoadRect S) (j : r.shape.Idx) :
    View.readAt (Elt Ideal) a.view r (ha.unread x) j = x (r.idx j) := by
  rw [View.readAt_apply, ha.read_unread]

/-- A load of columns from `o` on. -/
theorem load2 {n m n' : ℕ} {e : EltTy} (a : Memref Cert.KernelIdeal.sig .tc .vmem ⟨2, ![n, m]⟩ e) (ha : a.IsWhole) (x : Vec Ideal ⟨2, ![n, m]⟩ e) (o : ℕ)
    (inb : ∀ i, (![0, o] : Fin 2 → ℕ) i + (⟨2, ![n, n']⟩ : Shape).size i ≤ (⟨2, ![n, m]⟩ : Shape).size i) (k : Fin n) (c : Fin n') (c' : Fin m) (h : c'.val = o + c.val) :
    View.readAt (Elt Ideal) a.view (Rect.unit (s := ⟨2, ![n, m]⟩) ![0, o] (⟨2, ![n, n']⟩ : Shape).size inb).toLoadRect (ha.unread x) (ix2 k c) = x (ix2 k c') := by
  rw [load_at]
  congr 1
  funext i
  apply Fin.ext
  fin_cases i
  · show 0 + 1 * k.val = k.val
    omega
  · show o + 1 * c.val = c'.val
    omega

/-- A load of a tile's rows. -/
theorem load3 {n m : ℕ} {e : EltTy} (a : Memref Cert.KernelIdeal.sig .tc .vmem ⟨3, ![1, n, m]⟩ e) (ha : a.IsWhole) (x : Vec Ideal ⟨3, ![1, n, m]⟩ e)
    (inb : ∀ i, (![0, 0, 0] : Fin 3 → ℕ) i + (⟨3, ![1, n, m]⟩ : Shape).size i ≤ (⟨3, ![1, n, m]⟩ : Shape).size i) (k : Fin n) (c : Fin m) :
    View.readAt (Elt Ideal) a.view (Rect.unit (s := ⟨3, ![1, n, m]⟩) ![0, 0, 0] (⟨3, ![1, n, m]⟩ : Shape).size inb).toLoadRect (ha.unread x) (ix3 0 k c) = x (ix3 0 k c) := by
  rw [load_at]
  congr 1
  funext i
  apply Fin.ext
  fin_cases i
  · rfl
  · show 0 + 1 * k.val = k.val
    omega
  · show 0 + 1 * c.val = c.val
    omega

/-- A load of a carried row. -/
theorem load4 {m : ℕ} {e : EltTy} (a : Memref Cert.KernelIdeal.sig .tc .vmem ⟨4, ![1, 1, 2, m]⟩ e) (ha : a.IsWhole) (x : Vec Ideal ⟨4, ![1, 1, 2, m]⟩ e) (o : Fin 2)
    (inb : ∀ i, (![0, 0, o.val, 0] : Fin 4 → ℕ) i + (⟨4, ![1, 1, 1, m]⟩ : Shape).size i ≤ (⟨4, ![1, 1, 2, m]⟩ : Shape).size i) (c : Fin m) :
    View.readAt (Elt Ideal) a.view (Rect.unit (s := ⟨4, ![1, 1, 2, m]⟩) ![0, 0, o.val, 0] (⟨4, ![1, 1, 1, m]⟩ : Shape).size inb).toLoadRect (ha.unread x) (ix4 0 0 0 c) = x (ix4 0 0 o c) := by
  rw [load_at]
  congr 1
  funext i
  apply Fin.ext
  fin_cases i
  · rfl
  · rfl
  · show o.val + 1 * 0 = o.val
    omega
  · show 0 + 1 * c.val = c.val
    omega

theorem zero_bits : Ideal.ofBits .f32 0#32 = 0 := by
  simp [Ideal.ofBits, Ideal.ieee]

/-- No state yet in the buffer the body has cleared. -/
theorem base_a (h : Fin 4) (d : Fin 128) (e : Fin 256) : View.canon (kernelRun0_A.sl.H17_1 (F := Ideal)) (ix5 0 0 h d e) = 0 := by
  unfold kernelRun0_A.sl.H17_1
  refine (congrFun (View.canon_cons_unit_lit _ _ _ (by intro a; fin_cases a <;> rfl)) _).trans ?_
  unfold k0_pay3
  exact zero_bits

/-- No rows yet in the buffer the body has cleared. -/
theorem rows_a (arg18 : Memref Cert.KernelIdeal.sig .tc .vmem S1x1x2x1024 .f32) (r : LoadRect S1x1x2x1024) (x : r.shape.Idx) :
    arg18.view.readCov (kernelRun0_A.sl.H16_1 (F := Ideal)) r x = 0 := by
  rw [View.readCov_eq_canon']
  unfold kernelRun0_A.sl.H16_1
  refine (congrFun (View.canon_cons_unit_lit _ _ _ (by intro a; fin_cases a <;> rfl)) _).trans ?_
  unfold k0_pay2
  exact zero_bits

/-- The arrays a point's windows hold, by coordinates: rows `X`, weights `W`, and the two tables. -/
structure Loaded (W : Weights) (X : Fin 512 → Fin 1024 → EReal) (x0 : Vec Ideal S1x512x1024 .f32) (x1 : Vec Ideal S128x128 .i32) (x2 : Vec Ideal S256x512 .bf16)
    (x3 : Vec Ideal S1x1024 .f32) (x4 : Vec Ideal S1024x6144 .bf16) (x5 : Vec Ideal S1024x2048 .bf16) (x6 : Vec Ideal S1024x128 .bf16) (x7 : Vec Ideal S128x512 .bf16)
    (x8 : Vec Ideal S1x512 .f32) (x9 : Vec Ideal S3x1024 .f32) (x10 : Vec Ideal S1024x1024 .bf16) (x11 : Vec Ideal S1x256 .f32) (x12 : Vec Ideal S1024x1024 .bf16)
    (x13 : Vec Ideal S1024x1024 .bf16) (x14 : Vec Ideal S1x1024 .f32) : Prop where
  X : ∀ r j, x0 (ix3 0 r j) = X r j
  lev : Table x1
  tri : ∀ (n : ℕ) (h : n < 256) (x : ℕ) (hx : x < 512), x2 (ix2 ⟨n, h⟩ ⟨x, hx⟩) = ((if x % 256 ≤ n then 1 else 0 : ℝ) : EReal)
  wn : ∀ j, x3 (ix2 0 j) = W.wn j
  head : ∀ k c, x4 (ix2 k c) = W.head k c
  tail : ∀ k c, x5 (ix2 k c) = W.tail k c
  lr : ∀ k c, x6 (ix2 k c) = W.lr k c
  gk : ∀ k c, x7 (ix2 k c) = W.gk k c
  bgk : ∀ j, x8 (ix2 0 j) = W.bgk j
  cv : ∀ i j, x9 (ix2 i j) = W.cv i j
  wa : ∀ k c, x10 (ix2 k c) = W.wa k c
  gn : ∀ e, x11 (ix2 0 e) = W.gn e
  wyb : ∀ k c, x12 (ix2 k c) = W.wb k c
  wo : ∀ k c, x13 (ix2 k c) = W.wo k c
  post : ∀ j, x14 (ix2 0 j) = W.post j

section Later

variable (c : Dev nD) (i : grid0.Coords) (arg2 : Memref Cert.KernelIdeal.sig .tc .vmem S1x512x1024 .f32) (harg2 : arg2.IsWhole) (arg3 : Memref Cert.KernelIdeal.sig .tc .vmem S128x128 .i32) (harg3 : arg3.IsWhole) (arg4 : Memref Cert.KernelIdeal.sig .tc .vmem S256x512 .bf16) (harg4 : arg4.IsWhole) (arg5 : Memref Cert.KernelIdeal.sig .tc .vmem S1x1024 .f32) (harg5 : arg5.IsWhole) (arg6 : Memref Cert.KernelIdeal.sig .tc .vmem S1024x6144 .bf16) (harg6 : arg6.IsWhole) (arg7 : Memref Cert.KernelIdeal.sig .tc .vmem S1024x2048 .bf16) (harg7 : arg7.IsWhole) (arg8 : Memref Cert.KernelIdeal.sig .tc .vmem S1024x128 .bf16) (harg8 : arg8.IsWhole) (arg9 : Memref Cert.KernelIdeal.sig .tc .vmem S128x512 .bf16) (harg9 : arg9.IsWhole) (arg10 : Memref Cert.KernelIdeal.sig .tc .vmem S1x512 .f32) (harg10 : arg10.IsWhole) (arg11 : Memref Cert.KernelIdeal.sig .tc .vmem S3x1024 .f32) (harg11 : arg11.IsWhole) (arg12 : Memref Cert.KernelIdeal.sig .tc .vmem S1024x1024 .bf16) (harg12 : arg12.IsWhole) (arg13 : Memref Cert.KernelIdeal.sig .tc .vmem S1x256 .f32) (harg13 : arg13.IsWhole) (arg14 : Memref Cert.KernelIdeal.sig .tc .vmem S1024x1024 .bf16) (harg14 : arg14.IsWhole) (arg15 : Memref Cert.KernelIdeal.sig .tc .vmem S1024x1024 .bf16) (harg15 : arg15.IsWhole) (arg16 : Memref Cert.KernelIdeal.sig .tc .vmem S1x1024 .f32) (harg16 : arg16.IsWhole) (arg17 : Memref Cert.KernelIdeal.sig .tc .vmem S1x512x1024 .f32) (harg17 : arg17.IsWhole) (arg18 : Memref Cert.KernelIdeal.sig .tc .vmem S1x1x2x1024 .f32) (harg18 : arg18.IsWhole) (arg19 : Memref Cert.KernelIdeal.sig .tc .vmem S1x1x4x128x256 .f32) (harg19 : arg19.IsWhole) (arg20 : Memref Cert.KernelIdeal.sig .tc .vmem S2x2x256x512 .f32) (harg20 : arg20.IsWhole) (hc0 : ¬cond0_0 i)
  (x0 : Vec Ideal S1x512x1024 .f32) (x1 : Vec Ideal S128x128 .i32) (x2 : Vec Ideal S256x512 .bf16) (x3 : Vec Ideal S1x1024 .f32) (x4 : Vec Ideal S1024x6144 .bf16) (x5 : Vec Ideal S1024x2048 .bf16) (x6 : Vec Ideal S1024x128 .bf16) (x7 : Vec Ideal S128x512 .bf16) (x8 : Vec Ideal S1x512 .f32) (x9 : Vec Ideal S3x1024 .f32) (x10 : Vec Ideal S1024x1024 .bf16) (x11 : Vec Ideal S1x256 .f32) (x12 : Vec Ideal S1024x1024 .bf16) (x13 : Vec Ideal S1024x1024 .bf16) (x14 : Vec Ideal S1x1024 .f32) (xo16 : Vec Ideal S1x1x2x1024 .f32) (xo17 : Vec Ideal S1x1x4x128x256 .f32)

variable {W : Weights} {X : Fin 512 → Fin 1024 → EReal} (H : Loaded W X x0 x1 x2 x3 x4 x5 x6 x7 x8 x9 x10 x11 x12 x13 x14)
include H

set_option maxHeartbeats 3000000 in
theorem reads_b : Reads (insB arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 x0 x1 x2 x3 x4 x5 x6 x7 x8 x9 x10 x11 x12 x13 x14 xo16 xo17) W X where
  X r j := (load3 arg2 harg2 x0 _ r j).trans (H.X r j)
  wb k c := (load2 arg6 harg6 x4 0 _ k c ⟨c.val, by omega⟩ (Nat.zero_add _).symm).trans (H.head _ _)
  wc k c := (load2 arg6 harg6 x4 1024 _ k c ⟨1024 + c.val, by omega⟩ rfl).trans (H.head _ _)
  wd k c := (load2 arg6 harg6 x4 2048 _ k c ⟨2048 + c.val, by omega⟩ rfl).trans (H.head _ _)
  wq k c := (load2 arg6 harg6 x4 3072 _ k c ⟨3072 + c.val, by omega⟩ rfl).trans (H.head _ _)
  wk k c := (load2 arg6 harg6 x4 3584 _ k c ⟨3584 + c.val, by omega⟩ rfl).trans (H.head _ _)
  wv k c := (load2 arg6 harg6 x4 4096 _ k c ⟨4096 + c.val, by omega⟩ rfl).trans (H.head _ _)
  wg k c := (load2 arg6 harg6 x4 5120 _ k c ⟨5120 + c.val, by omega⟩ rfl).trans (H.head _ _)
  ta k c := (load2 arg7 harg7 x5 0 _ k c ⟨c.val, by omega⟩ (Nat.zero_add _).symm).trans (H.tail _ _)
  tb k c := (load2 arg7 harg7 x5 1024 _ k c ⟨1024 + c.val, by omega⟩ rfl).trans (H.tail _ _)
  lr k c := (load2 arg8 harg8 x6 0 _ k c c (Nat.zero_add _).symm).trans (H.lr k c)
  gk k c := (load2 arg9 harg9 x7 0 _ k c c (Nat.zero_add _).symm).trans (H.gk k c)
  cv k c := (load2 arg11 harg11 x9 0 _ k c c (Nat.zero_add _).symm).trans (H.cv k c)
  wa k c := (load2 arg12 harg12 x10 0 _ k c c (Nat.zero_add _).symm).trans (H.wa k c)
  wyb k c := (load2 arg14 harg14 x12 0 _ k c c (Nat.zero_add _).symm).trans (H.wyb k c)
  wo k c := (load2 arg15 harg15 x13 0 _ k c c (Nat.zero_add _).symm).trans (H.wo k c)
  wn j := (load2 arg5 harg5 x3 0 _ 0 j j (Nat.zero_add _).symm).trans (H.wn j)
  bgk j := (load2 arg10 harg10 x8 0 _ 0 j j (Nat.zero_add _).symm).trans (H.bgk j)
  gn j := (load2 arg13 harg13 x11 0 _ 0 j j (Nat.zero_add _).symm).trans (H.gn j)
  post j := (load2 arg16 harg16 x14 0 _ 0 j j (Nat.zero_add _).symm).trans (H.post j)

variable {Y : ℕ → Fin 1024 → EReal} {Q K G : ℕ → Fin 512 → ℝ} {V : ℕ → Fin 1024 → ℝ} {T : ℕ}

/-- A later tile of a sequence. -/
theorem tile_b (hX : X = fun r => Y (T + r.val)) (hseq : Seq W Y Q K G V) (hc : ∀ (i : Fin 2) j, xo16 (ix4 0 0 i j) = up W Y (T + i.val) j)
    (hs : ∀ (h : Fin 4) (d : Fin 128) (e : Fin 256), xo17 (ix5 0 0 h d e) = ((stateS K G V h T d e : ℝ) : EReal)) :
    Tile (insB arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 x0 x1 x2 x3 x4 x5 x6 x7 x8 x9 x10 x11 x12 x13 x14 xo16 xo17) W Y Q K G V T where
  reads := hX ▸ reads_b arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 x0 x1 x2 x3 x4 x5 x6 x7 x8 x9 x10 x11 x12 x13 x14 xo16 xo17 H
  seq := hseq
  tri n h x hx := (load2 arg4 harg4 x2 0 _ ⟨n, h⟩ ⟨x, hx⟩ ⟨x, hx⟩ (Nat.zero_add _).symm).trans (H.tri n h x hx)
  lev := by
    have e : (insB arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 x0 x1 x2 x3 x4 x5 x6 x7 x8 x9 x10 x11 x12 x13 x14 xo16 xo17).lev = x1 := by
      funext i
      rw [eq_ix2 i]
      exact load2 arg3 harg3 x1 0 _ _ _ _ (Nat.zero_add _).symm
    rw [e]
    exact H.lev
  c0 j := (load4 arg18 harg18 xo16 0 _ j).trans (hc 0 j)
  c1 j := (load4 arg18 harg18 xo16 1 _ j).trans (hc 1 j)
  s h d e := (load_at arg19 harg19 xo17 _ _).trans ((congrArg xo17 (headBox_emb h d e)).trans (hs h d e))

end Later

section First

variable (c : Dev nD) (i : grid0.Coords) (arg2 : Memref Cert.KernelIdeal.sig .tc .vmem S1x512x1024 .f32) (harg2 : arg2.IsWhole) (arg3 : Memref Cert.KernelIdeal.sig .tc .vmem S128x128 .i32) (harg3 : arg3.IsWhole) (arg4 : Memref Cert.KernelIdeal.sig .tc .vmem S256x512 .bf16) (harg4 : arg4.IsWhole) (arg5 : Memref Cert.KernelIdeal.sig .tc .vmem S1x1024 .f32) (harg5 : arg5.IsWhole) (arg6 : Memref Cert.KernelIdeal.sig .tc .vmem S1024x6144 .bf16) (harg6 : arg6.IsWhole) (arg7 : Memref Cert.KernelIdeal.sig .tc .vmem S1024x2048 .bf16) (harg7 : arg7.IsWhole) (arg8 : Memref Cert.KernelIdeal.sig .tc .vmem S1024x128 .bf16) (harg8 : arg8.IsWhole) (arg9 : Memref Cert.KernelIdeal.sig .tc .vmem S128x512 .bf16) (harg9 : arg9.IsWhole) (arg10 : Memref Cert.KernelIdeal.sig .tc .vmem S1x512 .f32) (harg10 : arg10.IsWhole) (arg11 : Memref Cert.KernelIdeal.sig .tc .vmem S3x1024 .f32) (harg11 : arg11.IsWhole) (arg12 : Memref Cert.KernelIdeal.sig .tc .vmem S1024x1024 .bf16) (harg12 : arg12.IsWhole) (arg13 : Memref Cert.KernelIdeal.sig .tc .vmem S1x256 .f32) (harg13 : arg13.IsWhole) (arg14 : Memref Cert.KernelIdeal.sig .tc .vmem S1024x1024 .bf16) (harg14 : arg14.IsWhole) (arg15 : Memref Cert.KernelIdeal.sig .tc .vmem S1024x1024 .bf16) (harg15 : arg15.IsWhole) (arg16 : Memref Cert.KernelIdeal.sig .tc .vmem S1x1024 .f32) (harg16 : arg16.IsWhole) (arg17 : Memref Cert.KernelIdeal.sig .tc .vmem S1x512x1024 .f32) (harg17 : arg17.IsWhole) (arg18 : Memref Cert.KernelIdeal.sig .tc .vmem S1x1x2x1024 .f32) (harg18 : arg18.IsWhole) (arg19 : Memref Cert.KernelIdeal.sig .tc .vmem S1x1x4x128x256 .f32) (harg19 : arg19.IsWhole) (arg20 : Memref Cert.KernelIdeal.sig .tc .vmem S2x2x256x512 .f32) (harg20 : arg20.IsWhole) (hc0 : cond0_0 i)
  (x0 : Vec Ideal S1x512x1024 .f32) (x1 : Vec Ideal S128x128 .i32) (x2 : Vec Ideal S256x512 .bf16) (x3 : Vec Ideal S1x1024 .f32) (x4 : Vec Ideal S1024x6144 .bf16) (x5 : Vec Ideal S1024x2048 .bf16) (x6 : Vec Ideal S1024x128 .bf16) (x7 : Vec Ideal S128x512 .bf16) (x8 : Vec Ideal S1x512 .f32) (x9 : Vec Ideal S3x1024 .f32) (x10 : Vec Ideal S1024x1024 .bf16) (x11 : Vec Ideal S1x256 .f32) (x12 : Vec Ideal S1024x1024 .bf16) (x13 : Vec Ideal S1024x1024 .bf16) (x14 : Vec Ideal S1x1024 .f32)

variable {W : Weights} {X : Fin 512 → Fin 1024 → EReal} (H : Loaded W X x0 x1 x2 x3 x4 x5 x6 x7 x8 x9 x10 x11 x12 x13 x14)
include H

set_option maxHeartbeats 3000000 in
theorem reads_a : Reads (insA c arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14) W X where
  X r j := (load3 arg2 harg2 x0 _ r j).trans (H.X r j)
  wb k c := (load2 arg6 harg6 x4 0 _ k c ⟨c.val, by omega⟩ (Nat.zero_add _).symm).trans (H.head _ _)
  wc k c := (load2 arg6 harg6 x4 1024 _ k c ⟨1024 + c.val, by omega⟩ rfl).trans (H.head _ _)
  wd k c := (load2 arg6 harg6 x4 2048 _ k c ⟨2048 + c.val, by omega⟩ rfl).trans (H.head _ _)
  wq k c := (load2 arg6 harg6 x4 3072 _ k c ⟨3072 + c.val, by omega⟩ rfl).trans (H.head _ _)
  wk k c := (load2 arg6 harg6 x4 3584 _ k c ⟨3584 + c.val, by omega⟩ rfl).trans (H.head _ _)
  wv k c := (load2 arg6 harg6 x4 4096 _ k c ⟨4096 + c.val, by omega⟩ rfl).trans (H.head _ _)
  wg k c := (load2 arg6 harg6 x4 5120 _ k c ⟨5120 + c.val, by omega⟩ rfl).trans (H.head _ _)
  ta k c := (load2 arg7 harg7 x5 0 _ k c ⟨c.val, by omega⟩ (Nat.zero_add _).symm).trans (H.tail _ _)
  tb k c := (load2 arg7 harg7 x5 1024 _ k c ⟨1024 + c.val, by omega⟩ rfl).trans (H.tail _ _)
  lr k c := (load2 arg8 harg8 x6 0 _ k c c (Nat.zero_add _).symm).trans (H.lr k c)
  gk k c := (load2 arg9 harg9 x7 0 _ k c c (Nat.zero_add _).symm).trans (H.gk k c)
  cv k c := (load2 arg11 harg11 x9 0 _ k c c (Nat.zero_add _).symm).trans (H.cv k c)
  wa k c := (load2 arg12 harg12 x10 0 _ k c c (Nat.zero_add _).symm).trans (H.wa k c)
  wyb k c := (load2 arg14 harg14 x12 0 _ k c c (Nat.zero_add _).symm).trans (H.wyb k c)
  wo k c := (load2 arg15 harg15 x13 0 _ k c c (Nat.zero_add _).symm).trans (H.wo k c)
  wn j := (load2 arg5 harg5 x3 0 _ 0 j j (Nat.zero_add _).symm).trans (H.wn j)
  bgk j := (load2 arg10 harg10 x8 0 _ 0 j j (Nat.zero_add _).symm).trans (H.bgk j)
  gn j := (load2 arg13 harg13 x11 0 _ 0 j j (Nat.zero_add _).symm).trans (H.gn j)
  post j := (load2 arg16 harg16 x14 0 _ 0 j j (Nat.zero_add _).symm).trans (H.post j)

variable {Y : ℕ → Fin 1024 → EReal} {Q K G : ℕ → Fin 512 → ℝ} {V : ℕ → Fin 1024 → ℝ}

set_option maxHeartbeats 3000000 in
omit H in
/-- No state yet where the body first loads one. -/
theorem state_a (h : Fin 4) (d : Fin 128) (e : Fin 256) : (insA c arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14).s h (ix5 0 0 0 d e) = ((0 : ℝ) : EReal) := by
  rw [EReal.coe_zero]
  match h with
  | 0 => exact (load_head arg19 0 _ d e).trans (base_a 0 d e)
  | 1 => exact (load_head arg19 1 _ d e).trans ((canon_other 0 1 (by decide) _ _ d e).trans (base_a 1 d e))
  | 2 => exact (load_head arg19 2 _ d e).trans ((canon_other 1 2 (by decide) _ _ d e).trans ((canon_other 0 2 (by decide) _ _ d e).trans (base_a 2 d e)))
  | 3 => exact (load_head arg19 3 _ d e).trans ((canon_other 2 3 (by decide) _ _ d e).trans ((canon_other 1 3 (by decide) _ _ d e).trans ((canon_other 0 3 (by decide) _ _ d e).trans (base_a 3 d e))))

/-- The first tile of a sequence. -/
theorem tile_a (hX : X = fun r => Y (0 + r.val)) (hseq : Seq W Y Q K G V) : Tile (insA c arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14) W Y Q K G V 0 where
  reads := hX ▸ reads_a c arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14 H
  seq := hseq
  tri n h x hx := (load2 arg4 harg4 x2 0 _ ⟨n, h⟩ ⟨x, hx⟩ ⟨x, hx⟩ (Nat.zero_add _).symm).trans (H.tri n h x hx)
  lev := by
    have e : (insA c arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14).lev = x1 := by
      funext i
      rw [eq_ix2 i]
      exact load2 arg3 harg3 x1 0 _ _ _ _ (Nat.zero_add _).symm
    rw [e]
    exact H.lev
  c0 j := (rows_a arg18 _ _).trans (if_pos (by decide)).symm
  c1 j := (rows_a arg18 _ _).trans (if_pos (by decide)).symm
  s h d e := (state_a c arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14 h d e).trans (congrArg _ (Finset.sum_range_zero _).symm)

end First

end Cert.Mixer
-- ==== Proof.Outs.lean ====
/- What a point leaves in its outputs' blocks: a tile of the sequence it belongs to. -/
module

public import proofs.«01_k».proof.Proof.Loads
public import proofs.«01_k».proof.Proof.Gen.KernelIdeal.Frame
public import Idealize.ShloMosaic.Lib.VecWindow

@[expose] public section

set_option maxRecDepth 16384

noncomputable section

namespace Cert.Mixer

open Idealize.ShloMosaic Cert.KernelIdeal Cert.KernelIdeal.Gen

/-- The blocks a tile from token `T` on leaves: its rows, the carried rows, the states. -/
structure After (W : Weights) (Y : ℕ → Fin 1024 → EReal) (Q K G : ℕ → Fin 512 → ℝ) (V : ℕ → Fin 1024 → ℝ) (T : ℕ)
    (o : Vec Ideal S1x512x1024 .f32 × Vec Ideal S1x1x2x1024 .f32 × Vec Ideal S1x1x4x128x256 .f32) : Prop where
  out : ∀ (r : Fin 512) (j : Fin 1024), o.1 (ix3 0 r j) = done W Y Q K G V (T + r.val) j
  carry : ∀ (i : Fin 2) (j : Fin 1024), o.2.1 (ix4 0 0 i j) = up W Y (T + 512 + i.val) j
  state : ∀ (h : Fin 4) (d : Fin 128) (e : Fin 256), o.2.2 (ix5 0 0 h d e) = ((stateS K G V h (T + 512) d e : ℝ) : EReal)

theorem after_of {W : Weights} {Y : ℕ → Fin 1024 → EReal} {Q K G : ℕ → Fin 512 → ℝ} {V : ℕ → Fin 1024 → ℝ} {T : ℕ} (I : Ins Ideal) (H : Tile I W Y Q K G V T)
    (o : Vec Ideal S1x1x4x128x256 .f32) (ho : View.canon (I.held 4) = o) : After W Y Q K G V T (I.out, I.carry, o) :=
  ⟨H.out, H.carry, fun h d e => by
    have t := H.state h d e
    rw [ho] at t
    exact t⟩

section A

variable (c : Dev nD) (i : grid0.Coords) (arg2 : Memref Cert.KernelIdeal.sig .tc .vmem S1x512x1024 .f32) (harg2 : arg2.IsWhole) (arg3 : Memref Cert.KernelIdeal.sig .tc .vmem S128x128 .i32) (harg3 : arg3.IsWhole) (arg4 : Memref Cert.KernelIdeal.sig .tc .vmem S256x512 .bf16) (harg4 : arg4.IsWhole) (arg5 : Memref Cert.KernelIdeal.sig .tc .vmem S1x1024 .f32) (harg5 : arg5.IsWhole) (arg6 : Memref Cert.KernelIdeal.sig .tc .vmem S1024x6144 .bf16) (harg6 : arg6.IsWhole) (arg7 : Memref Cert.KernelIdeal.sig .tc .vmem S1024x2048 .bf16) (harg7 : arg7.IsWhole) (arg8 : Memref Cert.KernelIdeal.sig .tc .vmem S1024x128 .bf16) (harg8 : arg8.IsWhole) (arg9 : Memref Cert.KernelIdeal.sig .tc .vmem S128x512 .bf16) (harg9 : arg9.IsWhole) (arg10 : Memref Cert.KernelIdeal.sig .tc .vmem S1x512 .f32) (harg10 : arg10.IsWhole) (arg11 : Memref Cert.KernelIdeal.sig .tc .vmem S3x1024 .f32) (harg11 : arg11.IsWhole) (arg12 : Memref Cert.KernelIdeal.sig .tc .vmem S1024x1024 .bf16) (harg12 : arg12.IsWhole) (arg13 : Memref Cert.KernelIdeal.sig .tc .vmem S1x256 .f32) (harg13 : arg13.IsWhole) (arg14 : Memref Cert.KernelIdeal.sig .tc .vmem S1024x1024 .bf16) (harg14 : arg14.IsWhole) (arg15 : Memref Cert.KernelIdeal.sig .tc .vmem S1024x1024 .bf16) (harg15 : arg15.IsWhole) (arg16 : Memref Cert.KernelIdeal.sig .tc .vmem S1x1024 .f32) (harg16 : arg16.IsWhole) (arg17 : Memref Cert.KernelIdeal.sig .tc .vmem S1x512x1024 .f32) (harg17 : arg17.IsWhole) (arg18 : Memref Cert.KernelIdeal.sig .tc .vmem S1x1x2x1024 .f32) (harg18 : arg18.IsWhole) (arg19 : Memref Cert.KernelIdeal.sig .tc .vmem S1x1x4x128x256 .f32) (harg19 : arg19.IsWhole) (arg20 : Memref Cert.KernelIdeal.sig .tc .vmem S2x2x256x512 .f32) (harg20 : arg20.IsWhole) (hc0 : cond0_0 i)
  (x0 : Vec Ideal S1x512x1024 .f32) (x1 : Vec Ideal S128x128 .i32) (x2 : Vec Ideal S256x512 .bf16) (x3 : Vec Ideal S1x1024 .f32) (x4 : Vec Ideal S1024x6144 .bf16) (x5 : Vec Ideal S1024x2048 .bf16) (x6 : Vec Ideal S1024x128 .bf16) (x7 : Vec Ideal S128x512 .bf16) (x8 : Vec Ideal S1x512 .f32) (x9 : Vec Ideal S3x1024 .f32) (x10 : Vec Ideal S1024x1024 .bf16) (x11 : Vec Ideal S1x256 .f32) (x12 : Vec Ideal S1024x1024 .bf16) (x13 : Vec Ideal S1024x1024 .bf16) (x14 : Vec Ideal S1x1024 .f32)

theorem o15_a : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 = (insA c arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14).out :=
  (congrArg (fun L => VO0_15.read (Elt Ideal) (VO0_15.writes (Elt Ideal) VO0_15.junk L)) (a_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14)).trans (View.read_writes_full VO0_15 VO0_15.junk _ _ _)

theorem o16_a : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 = (insA c arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14).carry :=
  (congrArg (fun L => VO0_16.read (Elt Ideal) (VO0_16.writes (Elt Ideal) VO0_16.junk L)) (a_carry c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14)).trans (View.read_writes_full VO0_16 VO0_16.junk _ _ _)

theorem o17_a : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 = View.canon ((insA c arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14).held 4) :=
  funext fun y => (congrArg (fun L => VO0_17.read (Elt Ideal) (VO0_17.writes (Elt Ideal) VO0_17.junk L) y) (a_state c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14)).trans (View.read_writes_junk_apply_eq_canon VO0_17 y _)

variable {W : Weights} {X : Fin 512 → Fin 1024 → EReal} (H : Loaded W X x0 x1 x2 x3 x4 x5 x6 x7 x8 x9 x10 x11 x12 x13 x14)
variable {Y : ℕ → Fin 1024 → EReal} {Q K G : ℕ → Fin 512 → ℝ} {V : ℕ → Fin 1024 → ℝ}
include H

theorem after_a (hX : X = fun r => Y (0 + r.val)) (hseq : Seq W Y Q K G V) :
    After W Y Q K G V 0 (out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14, out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14, out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14) := by
  have t := tile_a c arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14 H hX hseq
  rw [o15_a, o16_a, o17_a]
  generalize (insA c arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14) = I at t ⊢
  exact after_of I t _ rfl

end A

section B

variable (c : Dev nD) (i : grid0.Coords) (arg2 : Memref Cert.KernelIdeal.sig .tc .vmem S1x512x1024 .f32) (harg2 : arg2.IsWhole) (arg3 : Memref Cert.KernelIdeal.sig .tc .vmem S128x128 .i32) (harg3 : arg3.IsWhole) (arg4 : Memref Cert.KernelIdeal.sig .tc .vmem S256x512 .bf16) (harg4 : arg4.IsWhole) (arg5 : Memref Cert.KernelIdeal.sig .tc .vmem S1x1024 .f32) (harg5 : arg5.IsWhole) (arg6 : Memref Cert.KernelIdeal.sig .tc .vmem S1024x6144 .bf16) (harg6 : arg6.IsWhole) (arg7 : Memref Cert.KernelIdeal.sig .tc .vmem S1024x2048 .bf16) (harg7 : arg7.IsWhole) (arg8 : Memref Cert.KernelIdeal.sig .tc .vmem S1024x128 .bf16) (harg8 : arg8.IsWhole) (arg9 : Memref Cert.KernelIdeal.sig .tc .vmem S128x512 .bf16) (harg9 : arg9.IsWhole) (arg10 : Memref Cert.KernelIdeal.sig .tc .vmem S1x512 .f32) (harg10 : arg10.IsWhole) (arg11 : Memref Cert.KernelIdeal.sig .tc .vmem S3x1024 .f32) (harg11 : arg11.IsWhole) (arg12 : Memref Cert.KernelIdeal.sig .tc .vmem S1024x1024 .bf16) (harg12 : arg12.IsWhole) (arg13 : Memref Cert.KernelIdeal.sig .tc .vmem S1x256 .f32) (harg13 : arg13.IsWhole) (arg14 : Memref Cert.KernelIdeal.sig .tc .vmem S1024x1024 .bf16) (harg14 : arg14.IsWhole) (arg15 : Memref Cert.KernelIdeal.sig .tc .vmem S1024x1024 .bf16) (harg15 : arg15.IsWhole) (arg16 : Memref Cert.KernelIdeal.sig .tc .vmem S1x1024 .f32) (harg16 : arg16.IsWhole) (arg17 : Memref Cert.KernelIdeal.sig .tc .vmem S1x512x1024 .f32) (harg17 : arg17.IsWhole) (arg18 : Memref Cert.KernelIdeal.sig .tc .vmem S1x1x2x1024 .f32) (harg18 : arg18.IsWhole) (arg19 : Memref Cert.KernelIdeal.sig .tc .vmem S1x1x4x128x256 .f32) (harg19 : arg19.IsWhole) (arg20 : Memref Cert.KernelIdeal.sig .tc .vmem S2x2x256x512 .f32) (harg20 : arg20.IsWhole) (hc0 : ¬cond0_0 i)
  (x0 : Vec Ideal S1x512x1024 .f32) (x1 : Vec Ideal S128x128 .i32) (x2 : Vec Ideal S256x512 .bf16) (x3 : Vec Ideal S1x1024 .f32) (x4 : Vec Ideal S1024x6144 .bf16) (x5 : Vec Ideal S1024x2048 .bf16) (x6 : Vec Ideal S1024x128 .bf16) (x7 : Vec Ideal S128x512 .bf16) (x8 : Vec Ideal S1x512 .f32) (x9 : Vec Ideal S3x1024 .f32) (x10 : Vec Ideal S1024x1024 .bf16) (x11 : Vec Ideal S1x256 .f32) (x12 : Vec Ideal S1024x1024 .bf16) (x13 : Vec Ideal S1024x1024 .bf16) (x14 : Vec Ideal S1x1024 .f32) (xo16 : Vec Ideal S1x1x2x1024 .f32) (xo17 : Vec Ideal S1x1x4x128x256 .f32)

theorem o15_b : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo16 xo17 = (insB arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 x0 x1 x2 x3 x4 x5 x6 x7 x8 x9 x10 x11 x12 x13 x14 xo16 xo17).out :=
  (congrArg (fun L => VO0_15.read (Elt Ideal) (VO0_15.writes (Elt Ideal) VO0_15.junk L)) (b_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo16 xo17)).trans (View.read_writes_full VO0_15 VO0_15.junk _ _ _)

theorem o16_b : out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo16 xo17 = (insB arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 x0 x1 x2 x3 x4 x5 x6 x7 x8 x9 x10 x11 x12 x13 x14 xo16 xo17).carry :=
  (congrArg (fun L => VO0_16.read (Elt Ideal) (VO0_16.writes (Elt Ideal) VO0_16.junk L)) (b_carry c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo16 xo17)).trans (View.read_writes_full VO0_16 VO0_16.junk _ _ _)

theorem o17_b : out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo16 xo17 = View.canon ((insB arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 x0 x1 x2 x3 x4 x5 x6 x7 x8 x9 x10 x11 x12 x13 x14 xo16 xo17).held 4) :=
  funext fun y => (congrArg (fun L => VO0_17.read (Elt Ideal) (VO0_17.writes (Elt Ideal) VO0_17.junk L) y) (b_state c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo16 xo17)).trans (View.read_writes_junk_apply_eq_canon VO0_17 y _)

variable {W : Weights} {X : Fin 512 → Fin 1024 → EReal} (H : Loaded W X x0 x1 x2 x3 x4 x5 x6 x7 x8 x9 x10 x11 x12 x13 x14)
variable {Y : ℕ → Fin 1024 → EReal} {Q K G : ℕ → Fin 512 → ℝ} {V : ℕ → Fin 1024 → ℝ} {T : ℕ}
include H

theorem after_b (hX : X = fun r => Y (T + r.val)) (hseq : Seq W Y Q K G V) (hc : ∀ (i : Fin 2) j, xo16 (ix4 0 0 i j) = up W Y (T + i.val) j)
    (hs : ∀ (h : Fin 4) (d : Fin 128) (e : Fin 256), xo17 (ix5 0 0 h d e) = ((stateS K G V h T d e : ℝ) : EReal)) :
    After W Y Q K G V T (out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo16 xo17, out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo16 xo17, out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo16 xo17) := by
  have t := tile_b arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 x0 x1 x2 x3 x4 x5 x6 x7 x8 x9 x10 x11 x12 x13 x14 xo16 xo17 H hX hseq hc hs
  rw [o15_b, o16_b, o17_b]
  generalize (insB arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 x0 x1 x2 x3 x4 x5 x6 x7 x8 x9 x10 x11 x12 x13 x14 xo16 xo17) = I at t ⊢
  exact after_of I t _ rfl

end B

end Cert.Mixer
-- ==== Proof.Entry.lean ====
/- What the call's operands hold, by coordinates, in the call's arguments. -/
module

public import proofs.«01_k».proof.Proof.Outs
public import proofs.«01_k».proof.Proof.Gen.KernelIdeal.Value
public import Idealize.ShloMosaic.Lib.Pointwise
public import Idealize.ShloMosaic.Lib.Claim
public import Idealize.ShloMosaic.Lib.Pipeline.ValueKit.Geometry
public import Idealize.ShloMosaic.Lib.Pipeline.ValueKit.Point

@[expose] public section

set_option maxRecDepth 16384

noncomputable section

namespace Cert.Mixer

open Idealize.ShloMosaic Idealize.ShloMosaic.TcCoe Cert.KernelIdeal Cert.KernelIdeal.Gen

variable (m : (ℓ : Loc nD τ Cert.KernelIdeal.sig) → Buf (Elt Ideal) ℓ) (c : Dev nD)

theorem idx0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

theorem points (t : Fin cfg0.N) : t.val < 32 := t.isLt

/-- The block the first operand stages at a point: a tile of a sequence's rows. -/
theorem blk_0 (t : Fin cfg0.N) (r : Fin 512) (j : Fin 1024) :
    iblk m c 0 t (ix3 0 r j) = m ((c : Thread nD τ).loc main_arg0) (ix3 ⟨t.val / 4, by have := points t; omega⟩ ⟨512 * (t.val % 4) + r.val, by omega⟩ j) := by
  have h := idx0 t
  blk_ext [iblk, h.1, h.2.1, h.2.2]

theorem idx1 : ∀ t : Fin cfg0.N, win0_1.index t 0 = 0 ∧ win0_1.index t 1 = 0 :=
  (by decide +kernel : ∀ t : Fin grid0.N, win0_1.index t 0 = 0 ∧ win0_1.index t 1 = 0)

theorem blk_1 (t : Fin cfg0.N) (k : Fin 128) (j : Fin 128) : iblk m c 1 t (ix2 k j) = V m c main_v43 (ix2 k j) := by
  have h := idx1 t
  blk_ext [iblk, h.1, h.2]

theorem idx2 : ∀ t : Fin cfg0.N, win0_2.index t 0 = 0 ∧ win0_2.index t 1 = 0 :=
  (by decide +kernel : ∀ t : Fin grid0.N, win0_2.index t 0 = 0 ∧ win0_2.index t 1 = 0)

theorem blk_2 (t : Fin cfg0.N) (k : Fin 256) (j : Fin 512) : iblk m c 2 t (ix2 k j) = V m c main_v11 (ix2 k j) := by
  have h := idx2 t
  blk_ext [iblk, h.1, h.2]

theorem idx3 : ∀ t : Fin cfg0.N, win0_3.index t 0 = 0 ∧ win0_3.index t 1 = 0 :=
  (by decide +kernel : ∀ t : Fin grid0.N, win0_3.index t 0 = 0 ∧ win0_3.index t 1 = 0)

theorem blk_3 (t : Fin cfg0.N) (j : Fin 1024) : iblk m c 3 t (ix2 0 j) = V m c main_v2 (ix2 0 j) := by
  have h := idx3 t
  blk_ext [iblk, h.1, h.2]

theorem idx4 : ∀ t : Fin cfg0.N, win0_4.index t 0 = 0 ∧ win0_4.index t 1 = 0 :=
  (by decide +kernel : ∀ t : Fin grid0.N, win0_4.index t 0 = 0 ∧ win0_4.index t 1 = 0)

theorem blk_4 (t : Fin cfg0.N) (k : Fin 1024) (j : Fin 6144) : iblk m c 4 t (ix2 k j) = V m c main_arg2 (ix2 k j) := by
  have h := idx4 t
  blk_ext [iblk, h.1, h.2]

theorem idx5 : ∀ t : Fin cfg0.N, win0_5.index t 0 = 0 ∧ win0_5.index t 1 = 0 :=
  (by decide +kernel : ∀ t : Fin grid0.N, win0_5.index t 0 = 0 ∧ win0_5.index t 1 = 0)

theorem blk_5 (t : Fin cfg0.N) (k : Fin 1024) (j : Fin 2048) : iblk m c 5 t (ix2 k j) = V m c main_arg3 (ix2 k j) := by
  have h := idx5 t
  blk_ext [iblk, h.1, h.2]

theorem idx6 : ∀ t : Fin cfg0.N, win0_6.index t 0 = 0 ∧ win0_6.index t 1 = 0 :=
  (by decide +kernel : ∀ t : Fin grid0.N, win0_6.index t 0 = 0 ∧ win0_6.index t 1 = 0)

theorem blk_6 (t : Fin cfg0.N) (k : Fin 1024) (j : Fin 128) : iblk m c 6 t (ix2 k j) = V m c main_arg4 (ix2 k j) := by
  have h := idx6 t
  blk_ext [iblk, h.1, h.2]

theorem idx7 : ∀ t : Fin cfg0.N, win0_7.index t 0 = 0 ∧ win0_7.index t 1 = 0 :=
  (by decide +kernel : ∀ t : Fin grid0.N, win0_7.index t 0 = 0 ∧ win0_7.index t 1 = 0)

theorem blk_7 (t : Fin cfg0.N) (k : Fin 128) (j : Fin 512) : iblk m c 7 t (ix2 k j) = V m c main_v1 (ix2 k j) := by
  have h := idx7 t
  blk_ext [iblk, h.1, h.2]

theorem idx8 : ∀ t : Fin cfg0.N, win0_8.index t 0 = 0 ∧ win0_8.index t 1 = 0 :=
  (by decide +kernel : ∀ t : Fin grid0.N, win0_8.index t 0 = 0 ∧ win0_8.index t 1 = 0)

theorem blk_8 (t : Fin cfg0.N) (j : Fin 512) : iblk m c 8 t (ix2 0 j) = V m c main_v3 (ix2 0 j) := by
  have h := idx8 t
  blk_ext [iblk, h.1, h.2]

theorem idx9 : ∀ t : Fin cfg0.N, win0_9.index t 0 = 0 ∧ win0_9.index t 1 = 0 :=
  (by decide +kernel : ∀ t : Fin grid0.N, win0_9.index t 0 = 0 ∧ win0_9.index t 1 = 0)

theorem blk_9 (t : Fin cfg0.N) (k : Fin 3) (j : Fin 1024) : iblk m c 9 t (ix2 k j) = V m c main_arg7 (ix2 k j) := by
  have h := idx9 t
  blk_ext [iblk, h.1, h.2]

theorem idx10 : ∀ t : Fin cfg0.N, win0_10.index t 0 = 0 ∧ win0_10.index t 1 = 0 :=
  (by decide +kernel : ∀ t : Fin grid0.N, win0_10.index t 0 = 0 ∧ win0_10.index t 1 = 0)

theorem blk_10 (t : Fin cfg0.N) (k : Fin 1024) (j : Fin 1024) : iblk m c 10 t (ix2 k j) = V m c main_arg8 (ix2 k j) := by
  have h := idx10 t
  blk_ext [iblk, h.1, h.2]

theorem idx11 : ∀ t : Fin cfg0.N, win0_11.index t 0 = 0 ∧ win0_11.index t 1 = 0 :=
  (by decide +kernel : ∀ t : Fin grid0.N, win0_11.index t 0 = 0 ∧ win0_11.index t 1 = 0)

theorem blk_11 (t : Fin cfg0.N) (j : Fin 256) : iblk m c 11 t (ix2 0 j) = V m c main_v4 (ix2 0 j) := by
  have h := idx11 t
  blk_ext [iblk, h.1, h.2]

theorem idx12 : ∀ t : Fin cfg0.N, win0_12.index t 0 = 0 ∧ win0_12.index t 1 = 0 :=
  (by decide +kernel : ∀ t : Fin grid0.N, win0_12.index t 0 = 0 ∧ win0_12.index t 1 = 0)

theorem blk_12 (t : Fin cfg0.N) (k : Fin 1024) (j : Fin 1024) : iblk m c 12 t (ix2 k j) = V m c main_arg10 (ix2 k j) := by
  have h := idx12 t
  blk_ext [iblk, h.1, h.2]

theorem idx13 : ∀ t : Fin cfg0.N, win0_13.index t 0 = 0 ∧ win0_13.index t 1 = 0 :=
  (by decide +kernel : ∀ t : Fin grid0.N, win0_13.index t 0 = 0 ∧ win0_13.index t 1 = 0)

theorem blk_13 (t : Fin cfg0.N) (k : Fin 1024) (j : Fin 1024) : iblk m c 13 t (ix2 k j) = V m c main_arg11 (ix2 k j) := by
  have h := idx13 t
  blk_ext [iblk, h.1, h.2]

theorem idx14 : ∀ t : Fin cfg0.N, win0_14.index t 0 = 0 ∧ win0_14.index t 1 = 0 :=
  (by decide +kernel : ∀ t : Fin grid0.N, win0_14.index t 0 = 0 ∧ win0_14.index t 1 = 0)

theorem blk_14 (t : Fin cfg0.N) (j : Fin 1024) : iblk m c 14 t (ix2 0 j) = V m c main_v5 (ix2 0 j) := by
  have h := idx14 t
  blk_ext [iblk, h.1, h.2]

end Cert.Mixer
-- ==== Proof.Host.lean ====
/- The call's operands that the host prepares: reshaped weights, a padded projection, and two tables of places. -/
module

public import proofs.«01_k».proof.Proof.Entry
public import Idealize.ShloMosaic.Lib.StableHlo.RunRead
public import Idealize.ShloMosaic.Lib.WordCmp

@[expose] public section

set_option maxRecDepth 16384

noncomputable section

namespace Cert.Mixer

open Idealize.ShloMosaic Idealize.ShloMosaic.TcCoe Cert.KernelIdeal Cert.KernelIdeal.Gen

variable (m : (ℓ : Loc nD τ Cert.KernelIdeal.sig) → Buf (Elt Ideal) ℓ) (c : Dev nD)

theorem host_2 (j : Fin 1024) : V m c main_v2 (ix2 0 j) = m ((c : Thread nD τ).loc main_arg1) (ix1 j) := by
  unfold V
  simp only [hostOps0, hostOps0_1, hostOps0_2, hostOps0_3, hostOps0_4, hostOps0_5, hostOps0_6, hostOps0_7, List.flatten_cons, List.flatten_nil,
    List.append_nil, List.cons_append, List.nil_append]
  after_reads_simp
  pointwise

theorem host_3 (j : Fin 512) : V m c main_v3 (ix2 0 j) = m ((c : Thread nD τ).loc main_arg6) (ix1 j) := by
  unfold V
  simp only [hostOps0, hostOps0_1, hostOps0_2, hostOps0_3, hostOps0_4, hostOps0_5, hostOps0_6, hostOps0_7, List.flatten_cons, List.flatten_nil,
    List.append_nil, List.cons_append, List.nil_append]
  after_reads_simp
  pointwise

theorem host_4 (j : Fin 256) : V m c main_v4 (ix2 0 j) = m ((c : Thread nD τ).loc main_arg9) (ix1 j) := by
  unfold V
  simp only [hostOps0, hostOps0_1, hostOps0_2, hostOps0_3, hostOps0_4, hostOps0_5, hostOps0_6, hostOps0_7, List.flatten_cons, List.flatten_nil,
    List.append_nil, List.cons_append, List.nil_append]
  after_reads_simp
  pointwise

theorem host_5 (j : Fin 1024) : V m c main_v5 (ix2 0 j) = m ((c : Thread nD τ).loc main_arg12) (ix1 j) := by
  unfold V
  simp only [hostOps0, hostOps0_1, hostOps0_2, hostOps0_3, hostOps0_4, hostOps0_5, hostOps0_6, hostOps0_7, List.flatten_cons, List.flatten_nil,
    List.append_nil, List.cons_append, List.nil_append]
  after_reads_simp
  pointwise

/-- The gate's second projection, its sixteen rows padded to 128. -/
def padGk (w : FVec Ideal S16x512 .bf16) : FVec Ideal S128x512 .bf16 :=
  pad S128x512 ![0, 0] ![112, 0] ![0, 0] w (sitofp .bf16 (constantI S_ 32 0#32)) pads_S16x512_S128x512_01120_000 h_S_

theorem host_1' : V m c main_v1 = padGk (m ((c : Thread nD τ).loc main_arg5)) := by
  unfold V
  simp only [hostOps0, hostOps0_1, hostOps0_2, hostOps0_3, hostOps0_4, hostOps0_5, hostOps0_6, hostOps0_7, List.flatten_cons, List.flatten_nil,
    List.append_nil, List.cons_append, List.nil_append]
  after_reads_simp
  simp only [StableHlo.TRef.ofBuf_toBuf]
  rfl

theorem host_1 (r : Fin 128) (j : Fin 512) :
    V m c main_v1 (ix2 r j) = if h : r.val < 16 then (m ((c : Thread nD τ).loc main_arg5) : FVec Ideal S16x512 .bf16) (ix2 ⟨r.val, h⟩ j) else (0 : EReal) := by
  rw [host_1']
  unfold padGk
  generalize m ((c : Thread nD τ).loc main_arg5) = w
  pointwise
  have h0 : (FloatOps.sitofp (F := Ideal) FTy.bf16 0#32 : EReal) = 0 := by
    show (((0#32 : BitVec 32).toInt : ℝ) : EReal) = 0
    simp
  rw [h0]

/-- Ones on and below the diagonal, twice side by side. -/
def ones : FVec Ideal S256x256 .f32 :=
  select (cmpi CmpIPredicate.sge (addi (iotaInDim S256x256 32 0) (broadcastInDim S256x256 ![] bcast_S_S256x256 (constantI S_ 32 0#32))) (iotaInDim S256x256 32 1))
    (broadcastInDim S256x256 ![] bcast_S_S256x256 (constant S_ FTy.f32 1065353216#32)) (broadcastInDim S256x256 ![] bcast_S_S256x256 (constant S_ FTy.f32 0#32))

theorem ones_apply (t s : Fin 256) : ones (ix2 t s) = ((if s.val ≤ t.val then 1 else 0 : ℝ) : EReal) := by
  unfold ones
  pointwise
  have hc : IntOp.cmpi CmpIPredicate.sge (IntOp.addi (BitVec.ofNat 32 t.val) 0#32) (BitVec.ofNat 32 s.val) = if s.val ≤ t.val then 1#1 else 0#1 :=
    (by decide +kernel : ∀ t s : Fin 256, IntOp.cmpi CmpIPredicate.sge (IntOp.addi (BitVec.ofNat 32 t.val) 0#32) (BitVec.ofNat 32 s.val) = if s.val ≤ t.val then 1#1 else 0#1) t s
  rw [hc]
  by_cases h : s.val ≤ t.val
  · rw [if_pos h, if_pos h]; rfl
  · rw [if_neg h, if_neg h]; rfl

theorem host_11 (n : ℕ) (h : n < 256) (x : ℕ) (hx : x < 512) : V m c main_v11 (ix2 ⟨n, h⟩ ⟨x, hx⟩) = ((if x % 256 ≤ n then 1 else 0 : ℝ) : EReal) := by
  unfold V
  simp only [hostOps0, hostOps0_1, hostOps0_2, hostOps0_3, hostOps0_4, hostOps0_5, hostOps0_6, hostOps0_7, List.flatten_cons, List.flatten_nil,
    List.append_nil, List.cons_append, List.nil_append]
  after_reads_simp
  simp only [StableHlo.TRef.ofBuf_toBuf]
  pointwise
  exact ones_apply ⟨n, h⟩ ⟨x % 256, _⟩

/-- At which split two places of 128 come apart. -/
def places : IVec S128x128 32 :=
  select (cmpi CmpIPredicate.eq (iotaInDim S128x128 32 0) (iotaInDim S128x128 32 1)) (broadcastInDim S128x128 ![] bcast_S_S128x128 (id (constantI S_ 32 4294967295#32)))
    (select (cmpi CmpIPredicate.sgt (iotaInDim S128x128 32 0) (iotaInDim S128x128 32 1))
      (addi (addi (addi (addi (addi (addi (broadcastInDim S128x128 ![] bcast_S_S128x128 (constantI S_ 32 0#32)) (far 2#32)) (far 4#32)) (far 8#32)) (far 16#32)) (far 32#32)) (far 64#32))
      (broadcastInDim S128x128 ![] bcast_S_S128x128 (id (constantI S_ 32 4294967294#32))))
  where
    /-- Whether two places differ from some bit on. -/
    far (b : BitVec 32) : IVec S128x128 32 :=
      extui 32 (cmpi CmpIPredicate.sge (xori (iotaInDim S128x128 32 0) (iotaInDim S128x128 32 1)) (broadcastInDim S128x128 ![] bcast_S_S128x128 (constantI S_ 32 b))) natLt_1_32

theorem host_43 : V m c main_v43 = places := by
  unfold V
  simp only [hostOps0, hostOps0_1, hostOps0_2, hostOps0_3, hostOps0_4, hostOps0_5, hostOps0_6, hostOps0_7, List.flatten_cons, List.flatten_nil,
    List.append_nil, List.cons_append, List.nil_append]
  after_reads_simp
  simp only [StableHlo.TRef.ofBuf_toBuf]
  rfl

/-- Whether two places differ from some bit on. -/
def farAt (b : BitVec 32) (t s : ℕ) : BitVec 32 :=
  BitVec.setWidth 32 (IntOp.cmpi CmpIPredicate.sge (IntOp.xori (BitVec.ofNat 32 t) (BitVec.ofNat 32 s)) b)

/-- One entry of the table. -/
def place (t s : ℕ) : BitVec 32 :=
  Scalar.select (IntOp.cmpi CmpIPredicate.eq (BitVec.ofNat 32 t) (BitVec.ofNat 32 s)) 4294967295#32
    (Scalar.select (IntOp.cmpi CmpIPredicate.sgt (BitVec.ofNat 32 t) (BitVec.ofNat 32 s))
      (IntOp.addi (IntOp.addi (IntOp.addi (IntOp.addi (IntOp.addi (IntOp.addi 0#32 (farAt 2#32 t s)) (farAt 4#32 t s)) (farAt 8#32 t s)) (farAt 16#32 t s)) (farAt 32#32 t s)) (farAt 64#32 t s))
      4294967294#32)

theorem places_apply (t s : Fin 128) : places (ix2 t s) = place t.val s.val := by
  unfold places places.far
  pointwise
  rfl

theorem place_diag : ∀ t : Fin 128, place t.val t.val = 4294967295#32 := by decide +kernel

theorem place_above : ∀ t s : Fin 128, t < s → place t.val s.val = 4294967294#32 := by decide +kernel

theorem place_below : ∀ t s : Fin 128, ∀ i : Fin 7, s.val < t.val → t.val / 2 ^ (i.val + 1) = s.val / 2 ^ (i.val + 1) → t.val / 2 ^ i.val ≠ s.val / 2 ^ i.val →
    place t.val s.val = BitVec.ofNat 32 i.val := by decide +kernel

theorem host_lev : Table (V m c main_v43) := by
  rw [host_43]
  refine ⟨fun t => ?_, fun t s h => ?_, fun t s i h => ?_⟩
  · rw [places_apply]; exact place_diag t
  · rw [places_apply]; exact place_above t s h
  · rw [places_apply]; exact place_below t s i h.1 h.2.1 h.2.2

end Cert.Mixer
-- ==== Proof.Toks.lean ====
/- A sequence of the input as a function of any position, and the weights and data of a batch entry. -/
module

public import proofs.«01_k».proof.Proof.RefRows
public import proofs.«01_k».proof.Proof.TileOut

@[expose] public section

set_option maxRecDepth 16384

noncomputable section

namespace Cert.Mixer

open Idealize.ShloMosaic

/-- A position, held within the sequence. -/
def tok (n : ℕ) : Fin 2048 := ⟨min n 2047, by omega⟩

theorem tok_of (n : ℕ) (h : n < 2048) : tok n = ⟨n, h⟩ := Fin.ext (by simp only [tok]; omega)

/-- A sequence's rows by position. -/
def seqRow (x0 : FVec Ideal Cert.ReferenceIdeal.S8x2048x1024 .f32) (b : Fin 8) (n : ℕ) : Fin 1024 → EReal := row x0 b (tok n)

end Cert.Mixer
-- ==== Proof.Points.lean ====
/- What every point of the call leaves: the tile of the sequence it belongs to, and so the whole results. -/
module

public import proofs.«01_k».proof.Proof.Host
public import proofs.«01_k».proof.Proof.Toks

@[expose] public section

set_option maxRecDepth 16384

noncomputable section

namespace Cert.Mixer

open Idealize.ShloMosaic Idealize.ShloMosaic.TcCoe Cert.KernelIdeal Cert.KernelIdeal.Gen

variable (m : (ℓ : Loc nD τ Cert.KernelIdeal.sig) → Buf (Elt Ideal) ℓ) (c : Dev nD)

/-- The call's weights. -/
def W0 : Weights := refW (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- A batch entry's rows by position. -/
def Y0 (b : Fin 8) : ℕ → Fin 1024 → EReal := seqRow (m ((c : Thread nD τ).loc main_arg0)) b

theorem table_of {a b : Vec Ideal S128x128 .i32} (h : ∀ k j, a (ix2 k j) = b (ix2 k j)) (hb : Table b) : Table a :=
  ⟨fun t => (h t t).trans (hb.diag t), fun t s hh => (h t s).trans (hb.above t s hh), fun t s i hh => (h t s).trans (hb.below t s i hh)⟩

theorem loaded (t : Fin cfg0.N) (b : Fin 8) (hb : b.val = t.val / 4) :
    Loaded (W0 m c) (fun r => Y0 m c b (512 * (t.val % 4) + r.val)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) where
  X r j := by
    refine (blk_0 m c t r j).trans ?_
    unfold Y0 seqRow row
    rw [tok_of _ (by omega : 512 * (t.val % 4) + r.val < 2048)]
    have e : b = ⟨t.val / 4, by have := points t; omega⟩ := Fin.ext hb
    rw [e]
  lev := table_of (blk_1 m c t) (host_lev m c)
  tri n h x hx := (blk_2 m c t _ _).trans (host_11 m c n h x hx)
  wn j := (blk_3 m c t j).trans (host_2 m c j)
  head k j := (blk_4 m c t k j).trans (congrFun (V_main_arg2 m c) _)
  tail k j := (blk_5 m c t k j).trans (congrFun (V_main_arg3 m c) _)
  lr k j := (blk_6 m c t k j).trans (congrFun (V_main_arg4 m c) _)
  gk k j := (blk_7 m c t k j).trans (host_1 m c k j)
  bgk j := (blk_8 m c t j).trans (host_3 m c j)
  cv k j := (blk_9 m c t k j).trans (congrFun (V_main_arg7 m c) _)
  wa k j := (blk_10 m c t k j).trans (congrFun (V_main_arg8 m c) _)
  gn j := (blk_11 m c t j).trans (host_4 m c j)
  wyb k j := (blk_12 m c t k j).trans (congrFun (V_main_arg10 m c) _)
  wo k j := (blk_13 m c t k j).trans (congrFun (V_main_arg11 m c) _)
  post j := (blk_14 m c t j).trans (host_5 m c j)

variable {Q K G : Fin 8 → ℕ → Fin 512 → ℝ} {V : Fin 8 → ℕ → Fin 1024 → ℝ}
  (hs : ∀ b, Seq (W0 m c) (Y0 m c b) (Q b) (K b) (G b) (V b))
include hs

theorem after_points (n : ℕ) (hn : n < cfg0.N) (b : Fin 8) (hb : b.val = n / 4) :
    After (W0 m c) (Y0 m c b) (Q b) (K b) (G b) (V b) (512 * (n % 4)) (outsAt0 m c n hn) := by
  induction n with
  | zero =>
    rw [show outsAt0 m c 0 hn = _ from outsAt0_A m c ⟨0, hn⟩ rfl]
    exact after_a _ _ _ _ _ _ _ _ _ _ _ _ _ _ _ _ _ _ _ _ _ _ _ _ _ _ _ _ _ _ _ _ _ _ _ _ _ _ _ _ _ _ _ _ _ _ _ _ _ _ _ _ _ _ _ _ (loaded m c ⟨0, hn⟩ b hb) rfl (hs b)
  | succ n ih =>
    by_cases h0 : (n + 1) % 4 = 0
    · rw [show 512 * ((n + 1) % 4) = 0 by omega, show outsAt0 m c (n + 1) hn = _ from outsAt0_A m c ⟨n + 1, hn⟩ h0]
      exact after_a _ _ _ _ _ _ _ _ _ _ _ _ _ _ _ _ _ _ _ _ _ _ _ _ _ _ _ _ _ _ _ _ _ _ _ _ _ _ _ _ _ _ _ _ _ _ _ _ _ _ _ _ _ _ _ _ (loaded m c ⟨n + 1, hn⟩ b hb) (by show _ = _; simp only [h0, Nat.mul_zero]) (hs b)
    · have p := ih (by omega) (by omega)
      have e : 512 * (n % 4) + 512 = 512 * ((n + 1) % 4) := by omega
      have hc := p.carry
      have hst := p.state
      rw [e] at hc hst
      rw [show outsAt0 m c (n + 1) hn = _ from outsAt0_B m c ⟨n + 1, hn⟩ h0]
      exact after_b _ _ _ _ _ _ _ _ _ _ _ _ _ _ _ _ _ _ _ _ _ _ _ _ _ _ _ _ _ _ _ _ _ _ _ _ _ _ _ _ _ _ _ _ _ _ _ _ _ _ _ _ _ _ _ _ _ _ (loaded m c ⟨n + 1, hn⟩ b hb) rfl (hs b) hc hst

omit hs in
theorem ix3_of (y : S1x512x1024.Idx) : y = ix3 0 (y 1) (y 2) := by
  funext a; fin_cases a
  · exact Subsingleton.elim (α := Fin 1) _ _
  · rfl
  · rfl

omit hs in
theorem ix4_of (y : S1x1x2x1024.Idx) : y = ix4 0 0 (y 2) (y 3) := by
  funext a; fin_cases a
  · exact Subsingleton.elim (α := Fin 1) _ _
  · exact Subsingleton.elim (α := Fin 1) _ _
  · rfl
  · rfl

omit hs in
theorem ix5_of (y : S1x1x4x128x256.Idx) : y = ix5 0 0 (y 2) (y 3) (y 4) := by
  funext a; fin_cases a
  · exact Subsingleton.elim (α := Fin 1) _ _
  · exact Subsingleton.elim (α := Fin 1) _ _
  · rfl
  · rfl
  · rfl

omit hs in
theorem idx15 : ∀ t : Fin cfg0.N, win0_15.index t 0 = t.val / 4 ∧ win0_15.index t 1 = t.val % 4 ∧ win0_15.index t 2 = 0 :=
  (by decide +kernel : ∀ t : Fin grid0.N, win0_15.index t 0 = t.val / 4 ∧ win0_15.index t 1 = t.val % 4 ∧ win0_15.index t 2 = 0)

omit hs in
theorem idx16 : ∀ t : Fin cfg0.N, win0_16.index t 0 = 0 ∧ win0_16.index t 1 = t.val / 4 ∧ win0_16.index t 2 = 0 ∧ win0_16.index t 3 = 0 :=
  (by decide +kernel : ∀ t : Fin grid0.N, win0_16.index t 0 = 0 ∧ win0_16.index t 1 = t.val / 4 ∧ win0_16.index t 2 = 0 ∧ win0_16.index t 3 = 0)

omit hs in
theorem idx17 : ∀ t : Fin cfg0.N, win0_17.index t 0 = 0 ∧ win0_17.index t 1 = t.val / 4 ∧ win0_17.index t 2 = 0 ∧ win0_17.index t 3 = 0 ∧ win0_17.index t 4 = 0 :=
  (by decide +kernel : ∀ t : Fin grid0.N, win0_17.index t 0 = 0 ∧ win0_17.index t 1 = t.val / 4 ∧ win0_17.index t 2 = 0 ∧ win0_17.index t 3 = 0 ∧ win0_17.index t 4 = 0)

omit hs in
theorem last16 : ∀ t : Fin cfg0.N, (cfg0.win 16).flush t = true → t.val % 4 = 3 :=
  (by decide +kernel : ∀ t : Fin grid0.N, (cfg0.win 16).flush t = true → t.val % 4 = 3)

omit hs in
theorem last17 : ∀ t : Fin cfg0.N, (cfg0.win 17).flush t = true → t.val % 4 = 3 :=
  (by decide +kernel : ∀ t : Fin grid0.N, (cfg0.win 17).flush t = true → t.val % 4 = 3)

theorem arr15 : (dats m 0 c).arrAt 15 cfg0.N = fun i : S8x2048x1024.Idx =>
    done (W0 m c) (Y0 m c ⟨(i 0).val, (i 0).isLt⟩) (Q ⟨(i 0).val, (i 0).isLt⟩) (K ⟨(i 0).val, (i 0).isLt⟩) (G ⟨(i 0).val, (i 0).isLt⟩) (V ⟨(i 0).val, (i 0).isLt⟩) (i 1).val ⟨(i 2).val, (i 2).isLt⟩ := by
  refine (dats m 0 c).arrAt_eq_of_covers 15 _ (by decide +kernel) fun t hf y => ?_
  have h := idx15 t
  blk_simp [h.1, h.2.1, h.2.2]
  rw [after0_15]
  have p := (after_points m c hs t.val t.isLt ⟨t.val / 4, by have := points t; omega⟩ rfl).out ⟨(y 1).val, (y 1).isLt⟩ ⟨(y 2).val, (y 2).isLt⟩
  rw [Nat.mul_comm 512] at p
  exact (congrArg (outsAt0 m c t.val t.isLt).1 (ix3_of y)).trans p

theorem arr16 : (dats m 0 c).arrAt 16 cfg0.N = fun i : S1x8x2x1024.Idx =>
    up (W0 m c) (Y0 m c ⟨(i 1).val, (i 1).isLt⟩) (2048 + (i 2).val) ⟨(i 3).val, (i 3).isLt⟩ := by
  refine (dats m 0 c).arrAt_eq_of_covers 16 _ (by decide +kernel) fun t hf y => ?_
  have h := idx16 t
  have h3 := last16 t hf
  blk_simp [h.1, h.2.1, h.2.2.1, h.2.2.2]
  rw [after0_16]
  have p := (after_points m c hs t.val t.isLt ⟨t.val / 4, by have := points t; omega⟩ rfl).carry ⟨(y 2).val, (y 2).isLt⟩ ⟨(y 3).val, (y 3).isLt⟩
  rw [h3] at p
  exact (congrArg (outsAt0 m c t.val t.isLt).2.1 (ix4_of y)).trans p

theorem arr17 : (dats m 0 c).arrAt 17 cfg0.N = fun i : S1x8x4x128x256.Idx =>
    ((stateS (K ⟨(i 1).val, (i 1).isLt⟩) (G ⟨(i 1).val, (i 1).isLt⟩) (V ⟨(i 1).val, (i 1).isLt⟩) ⟨(i 2).val, (i 2).isLt⟩ 2048 ⟨(i 3).val, (i 3).isLt⟩ ⟨(i 4).val, (i 4).isLt⟩ : ℝ) : EReal) := by
  refine (dats m 0 c).arrAt_eq_of_covers 17 _ (by decide +kernel) fun t hf y => ?_
  have h := idx17 t
  have h3 := last17 t hf
  blk_simp [h.1, h.2.1, h.2.2.1, h.2.2.2.1, h.2.2.2.2]
  rw [after0_17]
  have p := (after_points m c hs t.val t.isLt ⟨t.val / 4, by have := points t; omega⟩ rfl).state ⟨(y 2).val, (y 2).isLt⟩ ⟨(y 3).val, (y 3).isLt⟩ ⟨(y 4).val, (y 4).isLt⟩
  rw [h3] at p
  exact (congrArg (outsAt0 m c t.val t.isLt).2.2 (ix5_of y)).trans p

end Cert.Mixer
-- ==== Proof.Reals.lean ====
/- With real operands, what the recurrence reads is real. -/
module

public import proofs.«01_k».proof.Proof.Toks
public import proofs.«01_k».proof.Proof.Scalars

@[expose] public section

set_option maxRecDepth 16384

noncomputable section

namespace Cert.Mixer

open Idealize.ShloMosaic

/-- A value that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sum {n : ℕ} {f : Fin n → EReal} (h : ∀ k, IsReal (f k)) : IsReal (∑ k, f k) := by
  choose g hg using h
  exact ⟨∑ k, g k, by rw [coe_sum]; exact Finset.sum_congr rfl fun k _ => hg k⟩

theorem IsReal.eq {x : EReal} (h : IsReal x) : x = ((x.toReal : ℝ) : EReal) := by
  obtain ⟨a, rfl⟩ := h
  rfl

theorem rms_real {x w : Fin 1024 → EReal} (hx : ∀ k, IsReal (x k)) (hw : ∀ k, IsReal (w k)) (j : Fin 1024) : IsReal (rms n1024 x w j) := by
  unfold rms
  refine IsReal.mul (IsReal.mul (hx j) ?_) (hw j)
  choose a ha using hx
  obtain ⟨e, he, hee⟩ := eps_pos
  have hs : (∑ k, x k * x k) = ((∑ k, a k * a k : ℝ) : EReal) := by
    rw [coe_sum]
    exact Finset.sum_congr rfl fun k _ => by rw [ha k, EReal.coe_mul]
  have hp : 0 ≤ ∑ k, a k * a k := Finset.sum_nonneg fun k _ => mul_self_nonneg _
  have hd : Ideal.div ((∑ k, a k * a k : ℝ) : EReal) ((1024 : ℝ) : EReal) = (((∑ k, a k * a k) / 1024 : ℝ) : EReal) := by
    unfold Ideal.div
    rw [if_neg (by norm_num), EReal.coe_div]
    rfl
  have hq : 0 < (∑ k, a k * a k) / 1024 + e := by
    have : 0 ≤ (∑ k, a k * a k) / 1024 := by positivity
    linarith
  rw [hs, n1024_eq, hee, hd, ← EReal.coe_add, Ideal.rsqrt_coe, if_neg hq.le.not_gt, if_neg hq.ne']
  exact ⟨_, rfl⟩

/-- The operands the recurrence reads, real. -/
structure RealArgs (W : Weights) (Y : ℕ → Fin 1024 → EReal) : Prop where
  y : ∀ n j, IsReal (Y n j)
  wn : ∀ j, IsReal (W.wn j)
  head : ∀ k c, IsReal (W.head k c)
  lr : ∀ k c, IsReal (W.lr k c)
  gk : ∀ k c, IsReal (W.gk k c)
  bgk : ∀ j, IsReal (W.bgk j)

namespace RealArgs

variable {W : Weights} {Y : ℕ → Fin 1024 → EReal} (h : RealArgs W Y)
include h

theorem hn (n : ℕ) (j : Fin 1024) : IsReal (W.hn (Y n) j) := rms_real (h.y n) h.wn j
theorem ph (n : ℕ) (c : Fin 6144) : IsReal (W.ph (Y n) c) := IsReal.sum fun k => (h.hn n k).mul (h.head k c)
theorem gate (n : ℕ) (j : Fin 512) : IsReal (W.gate (Y n) j) :=
  (IsReal.sum fun r => (IsReal.sum fun k => (h.hn n k).mul (h.lr k r)).mul (h.gk r j)).add (h.bgk j)

end RealArgs

variable (W : Weights) (Y : ℕ → Fin 1024 → EReal)

/-- A sequence's queries, keys, values and gates as real numbers. -/
def rQ (n : ℕ) (j : Fin 512) : ℝ := (W.q (Y n) j).toReal
def rK (n : ℕ) (j : Fin 512) : ℝ := (W.k (Y n) j).toReal
def rV (n : ℕ) (j : Fin 1024) : ℝ := (W.v (Y n) j).toReal
def rL (n : ℕ) (j : Fin 512) : ℝ := stepLog (W.gate (Y n) j).toReal
def rG (n : ℕ) (j : Fin 512) : ℝ := rL W Y n j / Real.log 2

theorem seq_real (h : RealArgs W Y) : Seq W Y (rQ W Y) (rK W Y) (rG W Y) (rV W Y) where
  q n j := ((h.ph n _).mul (qscale_real)).eq
  k n j := (h.ph n _).eq
  g n j := by
    rw [(h.gate n j).eq, gateK_real]
    rfl
  v n j := (h.ph n _).eq
  neg n j := div_nonpos_of_nonpos_of_nonneg (stepLog_nonpos _) log2_pos.le

theorem csum_log (n : ℕ) (j : Fin 512) : Real.log 2 * csum (rG W Y) n j = ∑ i ∈ Finset.range n, rL W Y i j := by
  unfold csum
  rw [Finset.mul_sum]
  exact Finset.sum_congr rfl fun i _ => by
    unfold rG
    have := log2_pos
    field_simp

theorem wi_real (h : RealArgs W Y) (n : ℕ) (j : Fin 512) : lsg (W.gate (Y n) j) = ((rL W Y n j : ℝ) : EReal) := by
  rw [(h.gate n j).eq, lsg_real]
  rfl

end Cert.Mixer
-- ==== Proof.Finite.lean ====
/- The precondition says of the operands it names that every entry is a real number. -/
module

public import proofs.«01_k».proof.Defs
public import proofs.«01_k».proof.Proof.Points
public import proofs.«01_k».proof.Proof.Reals

@[expose] public section

set_option maxRecDepth 16384

noncomputable section

namespace Cert.Mixer

open Idealize.ShloMosaic

/-- What the precondition's own text states of shapes. -/
theorem pre_facts : Cert.Pre_finite.Facts where
  bcast_S_S8x2048x1024 := by decide
  bcast_S_S1024 := by decide
  bitsLt_bf16_f32 := by decide
  bcast_S_S1024x6144 := by decide
  bcast_S_S1024x128 := by decide
  bcast_S_S16x512 := by decide
  bcast_S_S512 := by decide

theorem real_of_mask (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

theorem real_args (m : (ℓ : Loc Cert.KernelIdeal.nD Cert.KernelIdeal.τ Cert.KernelIdeal.sig) → Buf (Elt Ideal) ℓ)
    (hp : Cert.Pre_KernelIdeal_finite (hPre_finite := pre_facts) m) (c : Dev Cert.KernelIdeal.nD) (b : Fin 8) : RealArgs (W0 m c) (Y0 m c b) where
  y n j := real_of_mask _ (congrFun (hp c).1 (ix3 b (tok n) j))
  wn j := real_of_mask _ (congrFun (hp c).2.1 (ix1 j))
  head k j := real_of_mask _ (congrFun (hp c).2.2.1 (ix2 k j))
  lr k j := real_of_mask _ (congrFun (hp c).2.2.2.1 (ix2 k j))
  gk r j := by
    show IsReal (if h : r.val < 16 then _ else (0 : EReal))
    by_cases h : r.val < 16
    · rw [dif_pos h]
      exact real_of_mask _ (congrFun (hp c).2.2.2.2.1 (ix2 ⟨r.val, h⟩ j))
    · rw [dif_neg h]
      exact ⟨0, rfl⟩
  bgk j := real_of_mask _ (congrFun (hp c).2.2.2.2.2 (ix1 j))

end Cert.Mixer
-- ==== Proof.RefSeq.lean ====
/- The reference's attention and states as the sums over a sequence that the recurrence computes. -/
module

public import proofs.«01_k».proof.Proof.Reals

@[expose] public section

set_option maxRecDepth 16384

noncomputable section

namespace Cert.Mixer

open Idealize.ShloMosaic Cert.ReferenceIdeal Cert.ReferenceIdeal.Read

variable (x0 : (⟨S8x2048x1024, .f32⟩ : BufTy).Contents (Elt Ideal)) (x1 : (⟨S1024, .f32⟩ : BufTy).Contents (Elt Ideal))
  (x2 : (⟨S1024x6144, .bf16⟩ : BufTy).Contents (Elt Ideal)) (x3 : (⟨S1024x2048, .bf16⟩ : BufTy).Contents (Elt Ideal))
  (x4 : (⟨S1024x128, .bf16⟩ : BufTy).Contents (Elt Ideal)) (x5 : (⟨S16x512, .f32⟩ : BufTy).Contents (Elt Ideal))
  (x6 : (⟨S512, .f32⟩ : BufTy).Contents (Elt Ideal)) (x7 : (⟨S3x1024, .f32⟩ : BufTy).Contents (Elt Ideal))
  (x8 : (⟨S1024x1024, .bf16⟩ : BufTy).Contents (Elt Ideal)) (x9 : (⟨S256, .f32⟩ : BufTy).Contents (Elt Ideal))
  (x10 x11 : (⟨S1024x1024, .bf16⟩ : BufTy).Contents (Elt Ideal)) (x12 : (⟨S1024, .f32⟩ : BufTy).Contents (Elt Ideal))

variable (W : Weights) (hW : W = refW x1 x2 x3 x4 x5 x6 x7 x8 x9 x10 x11 x12) (ha : ∀ b, RealArgs W (seqRow x0 b))
include hW ha

omit hW ha in
theorem row_seq (b : Fin 8) (t : Fin 2048) : row x0 b t = seqRow x0 b t.val := by
  unfold seqRow
  rw [tok_of _ t.isLt]

omit hW ha in
theorem ch128 (h : Fin 4) (d : Fin 128) (hh : h.val * 128 + d.val < 512) : (⟨h.val * 128 + d.val, hh⟩ : Fin 512) = kch h d :=
  Fin.ext (by show h.val * 128 + d.val = 128 * h.val + d.val; omega)

omit hW ha in
theorem ch256 (h : Fin 4) (e : Fin 256) (hh : h.val * 256 + e.val < 1024) : (⟨h.val * 256 + e.val, hh⟩ : Fin 1024) = vch h e :=
  Fin.ext (by show h.val * 256 + e.val = 256 * h.val + e.val; omega)

theorem cum_real (b : Fin 8) (h : Fin 4) (t : Fin 2048) (d : Fin 128) :
    val_main_v75 (F := Ideal) x0 x1 x2 x3 x4 x5 x6 (ix4 b h t d) =
      ((Real.log 2 * csum (rG W (seqRow x0 b)) (t.val + 1) (kch h d) : ℝ) : EReal) := by
  rw [ref_cum, csum_log, coe_sum]
  refine Finset.sum_congr rfl fun s hs => ?_
  have hs' : s < 2048 := by have := Finset.mem_range.mp hs; omega
  rw [dif_pos hs', ref_wi x0 x1 x2 x3 x4 x5 x6 x7 x8 x9 x10 x11 x12, ← hW, row_seq, ch128]
  exact wi_real W (seqRow x0 b) (ha b) s (kch h d)

omit hW in
theorem csum_le (b : Fin 8) (j : Fin 512) {s t : ℕ} (h : s ≤ t) : csum (rG W (seqRow x0 b)) t j ≤ csum (rG W (seqRow x0 b)) s j :=
  by
    apply csum_anti
    · exact fun n j => (seq_real W (seqRow x0 b) (ha b)).neg n j
    · exact h

omit hW ha in
theorem exp_p2 (a b : ℝ) : Ideal.exp ((Real.log 2 * a : ℝ) - (Real.log 2 * b : ℝ) : EReal) = ((p2 (a - b) : ℝ) : EReal) := by
  rw [← EReal.coe_sub, ← mul_sub, p2_exp]
  rfl

theorem dec_real (b : Fin 8) (h : Fin 4) (t s : Fin 2048) (d : Fin 128) :
    val_main_v85 (F := Ideal) x0 x1 x2 x3 x4 x5 x6 (ix5 b h t s d) =
      if s.val ≤ t.val then ((p2 (csum (rG W (seqRow x0 b)) (t.val + 1) (kch h d) - csum (rG W (seqRow x0 b)) (s.val + 1) (kch h d)) : ℝ) : EReal) else 0 := by
  have c := cum_real x0 x1 x2 x3 x4 x5 x6 x7 x8 x9 x10 x11 x12 W hW ha b h
  rw [ref_dec, c t d, c s d]
  by_cases hh : s.val ≤ t.val
  · rw [if_pos hh, if_pos hh]
    have hle := csum_le x0 W ha b (kch h d) (Nat.succ_le_succ hh)
    rw [min_eq_left, exp_p2]
    rw [← EReal.coe_sub, ← mul_sub]
    exact EReal.coe_nonpos.mpr (mul_nonpos_of_nonneg_of_nonpos log2_pos.le (sub_nonpos.mpr hle))
  · rw [if_neg hh, if_neg hh]

theorem scores_real (b : Fin 8) (h : Fin 4) (t s : Fin 2048) :
    val_main_v92 (F := Ideal) x0 x1 x2 x3 x4 x5 x6 (ix4 b h t s) =
      if s.val ≤ t.val then ((scoreS (rQ W (seqRow x0 b)) (rK W (seqRow x0 b)) (rG W (seqRow x0 b)) h t.val s.val : ℝ) : EReal) else 0 := by
  have sq := seq_real W (seqRow x0 b) (ha b)
  rw [ref_scores x0 x1 x2 x3 x4 x5 x6 x7 x8 x9 x10 x11 x12, ← hW]
  simp only [dec_real x0 x1 x2 x3 x4 x5 x6 x7 x8 x9 x10 x11 x12 W hW ha, row_seq, ch128, sq.q, sq.k]
  by_cases hh : s.val ≤ t.val
  · simp only [if_pos hh]
    unfold scoreS
    rw [coe_sum]
    exact Finset.sum_congr rfl fun d _ => by rw [← EReal.coe_mul, ← EReal.coe_mul]
  · simp only [if_neg hh, mul_zero, Finset.sum_const_zero]

omit hW ha in
theorem sum_upto (f : ℕ → EReal) (t : Fin 2048) : (∑ s : Fin 2048, if s.val ≤ t.val then f s.val else 0) = ∑ s ∈ Finset.range (t.val + 1), f s := by
  rw [Fin.sum_univ_eq_sum_range (fun s => if s ≤ t.val then f s else 0) 2048, ← Finset.sum_filter]
  refine Finset.sum_congr (Finset.ext fun s => ?_) fun _ _ => rfl
  simp only [Finset.mem_filter, Finset.mem_range]
  omega

theorem o_real (b : Fin 8) (h : Fin 4) (t : Fin 2048) (e : Fin 256) :
    val_main_v93 (F := Ideal) x0 x1 x2 x3 x4 x5 x6 (ix4 b h t e) =
      ((outS (rQ W (seqRow x0 b)) (rK W (seqRow x0 b)) (rG W (seqRow x0 b)) (rV W (seqRow x0 b)) h t.val e : ℝ) : EReal) := by
  have sq := seq_real W (seqRow x0 b) (ha b)
  rw [ref_o x0 x1 x2 x3 x4 x5 x6 x7 x8 x9 x10 x11 x12, ← hW]
  simp only [scores_real x0 x1 x2 x3 x4 x5 x6 x7 x8 x9 x10 x11 x12 W hW ha, row_seq, ch256, sq.v, ite_mul, zero_mul, ← EReal.coe_mul]
  rw [sum_upto (fun s => ((scoreS (rQ W (seqRow x0 b)) (rK W (seqRow x0 b)) (rG W (seqRow x0 b)) h t.val s * rV W (seqRow x0 b) s (vch h e) : ℝ) : EReal)) t, ← coe_sum]
  rfl

theorem s_real (b : Fin 8) (h : Fin 4) (d : Fin 128) (e : Fin 256) :
    val_main_v152 (F := Ideal) x0 x1 x2 x3 x4 x5 x6 (ix5 0 b h d e) =
      ((stateS (rK W (seqRow x0 b)) (rG W (seqRow x0 b)) (rV W (seqRow x0 b)) h 2048 d e : ℝ) : EReal) := by
  have sq := seq_real W (seqRow x0 b) (ha b)
  rw [ref_s x0 x1 x2 x3 x4 x5 x6 x7 x8 x9 x10 x11 x12, ← hW]
  simp only [cum_real x0 x1 x2 x3 x4 x5 x6 x7 x8 x9 x10 x11 x12 W hW ha, row_seq, ch128, ch256, sq.v, sq.k, exp_p2, ← EReal.coe_mul, ← coe_sum]
  unfold stateS
  rw [show ((2047 : Fin 2048) : ℕ) = 2047 from rfl, Fin.sum_univ_eq_sum_range (fun s => rK W (seqRow x0 b) s (kch h d) * p2 (csum (rG W (seqRow x0 b)) (2047 + 1) (kch h d) - csum (rG W (seqRow x0 b)) (s + 1) (kch h d)) * rV W (seqRow x0 b) s (vch h e)) 2048]

omit hW ha in
theorem ups_up (b : Fin 8) (n : ℕ) (hn : n < 2050) : ups W (row x0 b) n = up W (seqRow x0 b) n := by
  funext j
  unfold ups up
  by_cases h : n < 2
  · rw [if_pos h, dif_neg (by omega)]
  · rw [if_neg h, dif_pos ⟨by omega, hn⟩, row_seq]

theorem buf_real (b : Fin 8) (i : Fin 2) (j : Fin 1024) :
    val_main_v151 (F := Ideal) x0 x1 x2 x3 x4 (ix4 0 b i j) = up W (seqRow x0 b) (2048 + i.val) j := by
  rw [ref_buf x0 x1 x2 x3 x4 x5 x6 x7 x8 x9 x10 x11 x12, ← hW, ups_up _ _ _ _ (by omega)]

theorem h_real (b : Fin 8) (t : Fin 2048) (j : Fin 1024) :
    val_main_v150 (F := Ideal) x0 x1 x2 x3 x4 x5 x6 x7 x8 x9 x10 x11 x12 (ix3 b t j) =
      done W (seqRow x0 b) (rQ W (seqRow x0 b)) (rK W (seqRow x0 b)) (rG W (seqRow x0 b)) (rV W (seqRow x0 b)) t.val j := by
  have ho : refO x0 x1 x2 x3 x4 x5 x6 b t = heads (rQ W (seqRow x0 b)) (rK W (seqRow x0 b)) (rG W (seqRow x0 b)) (rV W (seqRow x0 b)) t.val :=
    funext fun f => o_real x0 x1 x2 x3 x4 x5 x6 x7 x8 x9 x10 x11 x12 W hW ha b _ t _
  rw [ref_h]
  simp only [ref_ya x0 x1 x2 x3 x4 x5 x6 x7 x8 x9 x10 x11 x12]
  rw [← hW, ho, ups_up _ _ _ _ (by omega), ups_up _ _ _ _ (by omega), ups_up _ _ _ _ (by omega), row_seq, Nat.add_comm 1, Nat.add_comm 2]
  rfl

end Cert.Mixer
-- ==== Proof.Results.lean ====
/- The call's results are the reference's. -/
module

public import proofs.«01_k».proof.Proof.Finite
public import proofs.«01_k».proof.Proof.RefSeq

@[expose] public section

set_option maxRecDepth 16384

noncomputable section

namespace Cert.Mixer

open Idealize.ShloMosaic Cert.ReferenceIdeal.Read

variable (m : (ℓ : Loc Cert.KernelIdeal.nD Cert.KernelIdeal.τ Cert.KernelIdeal.sig) → Buf (Elt Ideal) ℓ)
  (hp : Cert.Pre_KernelIdeal_finite (hPre_finite := pre_facts) m) (c : Dev Cert.KernelIdeal.nD)
include hp

theorem same_h : (Cert.KernelIdeal.Gen.dats m 0 c).arrAt 15 Cert.KernelIdeal.cfg0.N =
    val_main_v150 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  refine (arr15 m c fun b => seq_real _ _ (real_args m hp c b)).trans (funext fun i => ?_)
  obtain ⟨b, t, j, rfl⟩ : ∃ (b : Fin 8) (t : Fin 2048) (j : Fin 1024), i = ix3 b t j :=
    ⟨i 0, i 1, i 2, by funext a; fin_cases a <;> rfl⟩
  exact (h_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (W0 m c) rfl (real_args m hp c) b t j).symm

theorem same_buf : (Cert.KernelIdeal.Gen.dats m 0 c).arrAt 16 Cert.KernelIdeal.cfg0.N =
    val_main_v151 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  refine (arr16 m c fun b => seq_real _ _ (real_args m hp c b)).trans (funext fun i => ?_)
  obtain ⟨b, t, j, rfl⟩ : ∃ (b : Fin 8) (t : Fin 2) (j : Fin 1024), i = ix4 0 b t j :=
    ⟨i 1, i 2, i 3, by
      funext a; fin_cases a
      · exact Subsingleton.elim (α := Fin 1) _ _
      · rfl
      · rfl
      · rfl⟩
  exact (buf_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (W0 m c) rfl (real_args m hp c) b t j).symm

theorem same_state : (Cert.KernelIdeal.Gen.dats m 0 c).arrAt 17 Cert.KernelIdeal.cfg0.N =
    val_main_v152 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  refine (arr17 m c fun b => seq_real _ _ (real_args m hp c b)).trans (funext fun i => ?_)
  obtain ⟨b, h, d, e, rfl⟩ : ∃ (b : Fin 8) (h : Fin 4) (d : Fin 128) (e : Fin 256), i = ix5 0 b h d e :=
    ⟨i 1, i 2, i 3, i 4, by
      funext a; fin_cases a
      · exact Subsingleton.elim (α := Fin 1) _ _
      · rfl
      · rfl
      · rfl
      · rfl⟩
  exact (s_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (W0 m c) rfl (real_args m hp c) b h d e).symm

end Cert.Mixer
-- ==== Proof.SampleRun.lean ====
/- The run of the samples' call: each result array is what the points' blocks leave in it, and the arguments are as they were. -/
module

public import proofs.«01_k».proof.Proof.Gen.SampleIdeal.Frame
public import Idealize.ShloMosaic.Lib.Pipeline.Value

@[expose] public section

noncomputable section

namespace Cert.Samples

open Idealize.ShloMosaic Idealize.ShloMosaic.TcCoe Idealize.SL.Sem Cert.SampleIdeal Cert.SampleIdeal.Gen

variable (m : (ℓ : Loc nD τ Cert.SampleIdeal.sig) → Buf (Elt Ideal) ℓ) (ρ : Dev nD → PrngReg)

theorem run_arrays : θ_run (defs (F := Ideal)) (onTc (τ := τ) (main (F := Ideal))) ⟨m, fun _ => 0, ρ⟩ fun r => ∀ c : Dev nD,
      r.2.mem ((c : Thread nD τ).loc main_v4_0) = (dats m 0 c).arrAt 11 cfg0.N
      ∧ r.2.mem ((c : Thread nD τ).loc main_v4_1) = (dats m 0 c).arrAt 12 cfg0.N
      ∧ r.2.mem ((c : Thread nD τ).loc main_v4_2) = (dats m 0 c).arrAt 13 cfg0.N
      ∧ r.2.mem ((c : Thread nD τ).loc main_v4_3) = (dats m 0 c).arrAt 14 cfg0.N
      ∧ r.2.mem ((c : Thread nD τ).loc main_v4_4) = (dats m 0 c).arrAt 15 cfg0.N
      ∧ r.2.mem ((c : Thread nD τ).loc main_v4_5) = (dats m 0 c).arrAt 16 cfg0.N
      ∧ r.2.mem ((c : Thread nD τ).loc main_v4_6) = (dats m 0 c).arrAt 17 cfg0.N
      ∧ r.2.mem ((c : Thread nD τ).loc main_v4_7) = (dats m 0 c).arrAt 18 cfg0.N
      ∧ r.2.mem ((c : Thread nD τ).loc main_v4_8) = (dats m 0 c).arrAt 19 cfg0.N
      ∧ r.2.mem ((c : Thread nD τ).loc main_v4_9) = (dats m 0 c).arrAt 20 cfg0.N
      ∧ r.2.mem ((c : Thread nD τ).loc main_v4_10) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1 11,
      (h c).1 12,
      (h c).1 13,
      (h c).1 14,
      (h c).1 15,
      (h c).1 16,
      (h c).1 17,
      (h c).1 18,
      (h c).1 19,
      (h c).1 20,
      (h c).1 21,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 10).trans (((dats m 0 c).arrAt_in 10 rfl _).trans ((A_eq m c 10).trans (V_main_arg2 m c))),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c)))⟩)
    (run_main m ρ)

end Cert.Samples
-- ==== Proof.SampleTile.lean ====
/- What the body of the samples' call computes from the arrays it loads, by coordinates. -/
module

public import proofs.«01_k».proof.Proof.Scalars
public import proofs.«01_k».proof.Proof.Gen.SampleIdeal.Frame
public import Idealize.ShloMosaic.Lib.Pointwise

@[expose] public section

set_option maxRecDepth 16384

noncomputable section

namespace Cert.Samples

open Idealize.ShloMosaic Cert.Mixer Cert.SampleIdeal Cert.SampleIdeal.Gen

/-- The normed rows. -/
theorem hn_apply {W : Weights} (X : Vec Ideal S128x1x1024 .f32) (wn : Vec Ideal S1x1024 .f32) (hw : ∀ j, wn (ix2 0 j) = W.wn j)
    (r : Fin 128) (j : Fin 1024) : k0_pay6 X wn (ix2 r j) = W.hn (fun j => X (ix3 r 0 j)) j := by
  unfold Weights.hn rms
  simp only [← hw]
  pointwise [k0_pay6, k0_pay4]
  rfl

variable (h : FVec Ideal S128x1024 .bf16)

theorem pay1_apply (w : Vec Ideal S1024x1024 .bf16) (r : Fin 128) (j : Fin 1024) :
    k0_pay1 h w (ix2 r j) = ∑ k, h (ix2 r k) * w (ix2 k j) := by
  pointwise [k0_pay1]

theorem pay2_apply (w : Vec Ideal S1024x1024 .bf16) (r : Fin 128) (j : Fin 1024) :
    k0_pay2 h w (ix2 r j) = ∑ k, h (ix2 r k) * w (ix2 k j) := by
  pointwise [k0_pay2]

theorem pay3_apply (w : Vec Ideal S1024x1024 .bf16) (r : Fin 128) (j : Fin 1024) :
    k0_pay3 h w (ix2 r j) = ∑ k, h (ix2 r k) * w (ix2 k j) := by
  pointwise [k0_pay3]

theorem pay4_apply (x : Vec Ideal S128x1x1024 .f32) (r : Fin 128) (j : Fin 1024) :
    k0_pay4 x (ix2 r j) = x (ix3 r 0 j) := by
  pointwise [k0_pay4]

theorem pay5_apply (x : Vec Ideal S128x1x256 .f32) (r : Fin 128) (j : Fin 256) :
    k0_pay5 x (ix2 r j) = x (ix3 r 0 j) := by
  pointwise [k0_pay5]

theorem pay10_apply (w w' : Vec Ideal S1024x1024 .bf16) (r : Fin 128) (j : Fin 1024) :
    k0_pay10 h w w' (ix2 r j) = (∑ k, h (ix2 r k) * w (ix2 k j)) * ∑ k, h (ix2 r k) * w' (ix2 k j) := by
  pointwise [k0_pay10]

theorem pay12_apply (w w' : Vec Ideal S1024x1024 .bf16) (b0 b1 : Vec Ideal S128x1x1024 .f32) (cv : Vec Ideal S3x1024 .f32)
    (r : Fin 128) (j : Fin 1024) :
    k0_pay12 h w w' b0 b1 cv (ix2 r j) =
      cv (ix2 0 j) * b0 (ix3 r 0 j) + cv (ix2 1 j) * b1 (ix3 r 0 j) + cv (ix2 2 j) * k0_pay10 h w w' (ix2 r j) := by
  unfold k0_pay12
  generalize k0_pay10 h w w' = u
  pointwise [k0_pay11]

theorem pay13_apply (x : Vec Ideal S128x1x1024 .f32) (r : Fin 128) (j : Fin 1024) :
    k0_pay13 x (ix3 r 0 j) = x (ix3 r 0 j) := by
  pointwise [k0_pay13, k0_pay11]

theorem pay14_apply (x : FVec Ideal S128x1024 .f32) (r : Fin 128) (j : Fin 1024) :
    k0_pay14 x (ix3 r 0 j) = x (ix2 r j) := by
  pointwise [k0_pay14]

theorem pay15_apply (y : FVec Ideal S128x1024 .f32) (w wa : Vec Ideal S1024x1024 .bf16) (r : Fin 128) (j : Fin 1024) :
    k0_pay15 h y w wa (ix2 r j) = ∑ c, ((∑ k, h (ix2 r k) * w (ix2 k c)) * y (ix2 r c)) * wa (ix2 c j) := by
  pointwise [k0_pay15]

theorem pay16_apply (w : Vec Ideal S1024x512 .bf16) (i : Fin 16) (a : Fin 8) (j : Fin 512) :
    k0_pay16 h w (ix3 i a j) = (∑ k, h (ix2 ⟨i.val * 8 + a.val, by omega⟩ k) * w (ix2 k j)) * qscale := by
  pointwise [k0_pay16]
  rfl

theorem pay17_apply (w : Vec Ideal S1024x512 .bf16) (i : Fin 16) (a : Fin 8) (j : Fin 512) :
    k0_pay17 h w (ix3 i a j) = ∑ k, h (ix2 ⟨i.val * 8 + a.val, by omega⟩ k) * w (ix2 k j) := by
  pointwise [k0_pay17]

theorem pay19_apply (w : Vec Ideal S1024x1024 .bf16) (i : Fin 16) (a : Fin 8) (j : Fin 1024) :
    k0_pay19 h w (ix3 i a j) = ∑ k, h (ix2 ⟨i.val * 8 + a.val, by omega⟩ k) * w (ix2 k j) := by
  pointwise [k0_pay19]

theorem pay7_apply (X : Vec Ideal S128x1x1024 .f32) (wn : Vec Ideal S1x1024 .f32) (lr : Vec Ideal S1024x128 .bf16)
    (gk : Vec Ideal S128x512 .bf16) (bgk : Vec Ideal S1x512 .f32) (r : Fin 128) (j : Fin 512) :
    k0_pay7 X wn lr gk bgk (ix2 r j) = (∑ s, (∑ k, k0_pay6 X wn (ix2 r k) * lr (ix2 k s)) * gk (ix2 s j)) + bgk (ix2 0 j) := by
  unfold k0_pay7
  generalize k0_pay6 X wn = u
  pointwise

/-- The decay: two to the power of the gate's logarithm to the base 2. -/
theorem pay18_apply (X : Vec Ideal S128x1x1024 .f32) (wn : Vec Ideal S1x1024 .f32) (lr : Vec Ideal S1024x128 .bf16)
    (gk : Vec Ideal S128x512 .bf16) (bgk : Vec Ideal S1x512 .f32) (i : Fin 16) (a : Fin 8) (j : Fin 512) :
    k0_pay18 (k0_pay9 (k0_pay7 X wn lr gk bgk) (k0_pay8 X wn lr gk bgk)) (ix3 i a j) =
      Ideal.exp2 (gateK (k0_pay7 X wn lr gk bgk (ix2 ⟨i.val * 8 + a.val, by omega⟩ j))) := by
  unfold k0_pay8
  generalize k0_pay7 X wn lr gk bgk = u
  unfold gateK
  pointwise [k0_pay18, k0_pay9]
  rfl

theorem abs_bot : FloatOps.absf (F := Ideal) (φ := .f32) (⊥ : EReal) = (⊤ : EReal) := by
  show max (⊥ : EReal) (-⊥) = ⊤
  simp

theorem abs_top : FloatOps.absf (F := Ideal) (φ := .f32) (⊤ : EReal) = (⊤ : EReal) := by
  show max (⊤ : EReal) (-⊤) = ⊤
  simp

/-- At either end the softplus correction vanishes. -/
theorem log_end : Ideal.log (1 + Ideal.exp (-(⊤ : EReal))) = 0 := by
  rw [EReal.neg_top, show Ideal.exp (⊥ : EReal) = ((0 : ℝ) : EReal) from rfl, ← EReal.coe_one, ← EReal.coe_add]
  show (if (1 + 0 : ℝ) ≤ 0 then (⊥ : EReal) else ((Real.log (1 + 0) : ℝ) : EReal)) = 0
  rw [if_neg (by norm_num), add_zero, Real.log_one]
  rfl

theorem log1p_end : Ideal.log1p (Ideal.exp (-(⊤ : EReal))) = 0 := log_end

/-- Two to the power of the gate's logarithm to the base 2 is the exponential of its natural logarithm, also at the two ends. -/
theorem decay_eq (g : EReal) : Ideal.exp2 (gateK g) = Ideal.exp (lsg g) := by
  induction g with
  | coe g =>
    rw [gateK_real, lsg_real]
    show ((p2 _ : ℝ) : EReal) = ((Real.exp _ : ℝ) : EReal)
    rw [p2_exp, mul_div_cancel₀ _ log2_pos.ne']
  | bot =>
    have h1 : gateK ⊥ = ⊥ := by
      unfold gateK
      rw [negLog2e, log2eGate, exp2_scaled, abs_bot, log_end, sub_zero, min_eq_left bot_le]
      exact EReal.bot_mul_coe_of_pos (mul_pos (by norm_num) (inv_pos.mpr log2_pos))
    have h2 : lsg ⊥ = ⊥ := by
      unfold lsg
      rw [sixteen, EReal.neg_bot, abs_top, log1p_end, add_zero, max_eq_left le_top, EReal.neg_top]
      unfold Ideal.div
      rw [if_neg (by norm_num)]
      exact EReal.bot_div_of_pos_ne_top (by norm_num) (EReal.coe_ne_top _)
    rw [h1, h2]
    rfl
  | top =>
    have h1 : gateK ⊤ = 0 := by
      unfold gateK
      rw [negLog2e, log2eGate, exp2_scaled, abs_top, log_end, sub_zero, min_eq_right le_top, zero_mul]
    have h2 : lsg ⊤ = 0 := by
      unfold lsg
      rw [sixteen, EReal.neg_top, abs_bot, log1p_end, add_zero, max_eq_right bot_le, neg_zero]
      unfold Ideal.div
      rw [if_neg (by norm_num)]
      exact zero_mul _
    rw [h1, h2]
    show ((p2 0 : ℝ) : EReal) = ((Real.exp 0 : ℝ) : EReal)
    rw [p2_exp, mul_zero]

end Cert.Samples
-- ==== Proof.SampleOut.lean ====
/- What the body of the samples' call leaves in its result blocks, in the words of `Words`. -/
module

public import proofs.«01_k».proof.Proof.SampleTile
public import Idealize.ShloMosaic.Lib.Pipeline.Value

@[expose] public section

set_option maxRecDepth 16384

noncomputable section

namespace Cert.Samples

open Idealize.ShloMosaic Cert.Mixer Cert.SampleIdeal Cert.SampleIdeal.Gen

/-- A load of a two-dimensional array's columns from `o` on. -/
theorem ld2 {n m n' : ℕ} {e : EltTy} (x : Vec Ideal ⟨2, ![n, m]⟩ e) (o : ℕ)
    (inb : ∀ i, (![0, o] : Fin 2 → ℕ) i + (⟨2, ![n, n']⟩ : Shape).size i ≤ (⟨2, ![n, m]⟩ : Shape).size i) (k : Fin n) (c : Fin n') (c' : Fin m) (h : c'.val = o + c.val) :
    View.ld x (Rect.unit (s := ⟨2, ![n, m]⟩) ![0, o] (⟨2, ![n, n']⟩ : Shape).size inb) (ix2 k c) = x (ix2 k c') := by
  refine congrArg x (funext fun i => Fin.ext ?_)
  fin_cases i
  · show 0 + 1 * k.val = k.val
    omega
  · show o + 1 * c.val = c'.val
    omega

/-- A load of a three-dimensional array's middle row `o`. -/
theorem ld3 {n p m : ℕ} {e : EltTy} (x : Vec Ideal ⟨3, ![n, p, m]⟩ e) (o : Fin p)
    (inb : ∀ i, (![0, o.val, 0] : Fin 3 → ℕ) i + (⟨3, ![n, 1, m]⟩ : Shape).size i ≤ (⟨3, ![n, p, m]⟩ : Shape).size i) (k : Fin n) (c : Fin m) :
    View.ld x (Rect.unit (s := ⟨3, ![n, p, m]⟩) ![0, o.val, 0] (⟨3, ![n, 1, m]⟩ : Shape).size inb) (ix3 k 0 c) = x (ix3 k o c) := by
  refine congrArg x (funext fun i => Fin.ext ?_)
  fin_cases i
  · show 0 + 1 * k.val = k.val
    omega
  · show o.val + 1 * 0 = o.val
    omega
  · show 0 + 1 * c.val = c.val
    omega

/-- What the body's operands hold: the samples' rows `X`, their two last inputs `B` of the convolution, rows `P`, weights `W`. -/
structure Staged (W : Weights) (X : Fin 128 → Fin 1024 → EReal) (B : Fin 128 → Fin 2 → Fin 1024 → EReal) (P : Fin 128 → Fin 256 → EReal)
    (x0 : Vec Ideal S128x1x1024 .f32) (x1 : Vec Ideal S128x2x1024 .f32) (x2 : Vec Ideal S1x1024 .f32) (x3 : Vec Ideal S1024x6144 .bf16) (x4 : Vec Ideal S1024x2048 .bf16)
    (x5 : Vec Ideal S1024x128 .bf16) (x6 : Vec Ideal S128x512 .bf16) (x7 : Vec Ideal S1x512 .f32) (x8 : Vec Ideal S3x1024 .f32) (x9 : Vec Ideal S1024x1024 .bf16) (x10 : Vec Ideal S128x1x256 .f32) : Prop where
  X : ∀ r j, x0 (ix3 r 0 j) = X r j
  B : ∀ r i j, x1 (ix3 r i j) = B r i j
  P : ∀ r j, x10 (ix3 r 0 j) = P r j
  wn : ∀ j, x2 (ix2 0 j) = W.wn j
  head : ∀ k j, x3 (ix2 k j) = W.head k j
  tail : ∀ k j, x4 (ix2 k j) = W.tail k j
  lr : ∀ k j, x5 (ix2 k j) = W.lr k j
  gk : ∀ k j, x6 (ix2 k j) = W.gk k j
  bgk : ∀ j, x7 (ix2 0 j) = W.bgk j
  cv : ∀ k j, x8 (ix2 k j) = W.cv k j
  wa : ∀ k j, x9 (ix2 k j) = W.wa k j

theorem canon_a (p : Vec Ideal S128x1024 .f32) (y : S128x1024.Idx) : View.canon [⟨r0_1, p⟩] y = p y := by
  refine View.canon_apply_of_pieces p _ ?_ y (cover0_16 p y)
  intro pc hpc
  rcases List.mem_cons.mp hpc with rfl | hpc
  · intro x
    refine congrArg p (funext fun a => Fin.ext ?_)
    fin_cases a
    · show (x 0).val = 0 + 1 * (x 0).val
      omega
    · show (x 1).val = 0 + 1 * (x 1).val
      omega
  · nomatch hpc

theorem canon_p (p : Vec Ideal S128x256 .f32) (y : S128x256.Idx) : View.canon [⟨r0_3, p⟩] y = p y := by
  refine View.canon_apply_of_pieces p _ ?_ y (cover0_21 p y)
  intro pc hpc
  rcases List.mem_cons.mp hpc with rfl | hpc
  · intro x
    refine congrArg p (funext fun a => Fin.ext ?_)
    fin_cases a
    · show (x 0).val = 0 + 1 * (x 0).val
      omega
    · show (x 1).val = 0 + 1 * (x 1).val
      omega
  · nomatch hpc

theorem canon_h (p : Vec Ideal S16x8x512 .f32) (y : S16x8x512.Idx) : View.canon [⟨r0_16, p⟩] y = p y := by
  refine View.canon_apply_of_pieces p _ ?_ y (cover0_12 p y)
  intro pc hpc
  rcases List.mem_cons.mp hpc with rfl | hpc
  · intro x
    refine congrArg p (funext fun a => Fin.ext ?_)
    fin_cases a
    · show (x 0).val = 0 + 1 * (x 0).val
      omega
    · show (x 1).val = 0 + 1 * (x 1).val
      omega
    · show (x 2).val = 0 + 1 * (x 2).val
      omega
  · nomatch hpc

theorem canon_w (p : Vec Ideal S16x8x1024 .f32) (y : S16x8x1024.Idx) : View.canon [⟨r0_19, p⟩] y = p y := by
  refine View.canon_apply_of_pieces p _ ?_ y (cover0_15 p y)
  intro pc hpc
  rcases List.mem_cons.mp hpc with rfl | hpc
  · intro x
    refine congrArg p (funext fun a => Fin.ext ?_)
    fin_cases a
    · show (x 0).val = 0 + 1 * (x 0).val
      omega
    · show (x 1).val = 0 + 1 * (x 1).val
      omega
    · show (x 2).val = 0 + 1 * (x 2).val
      omega
  · nomatch hpc

/-- The two rows of the convolution's buffer, each stored for itself. -/
theorem canon_b (p q : Vec Ideal S128x1x1024 .f32) (y : S128x2x1024.Idx) :
    View.canon [⟨r0_11, q⟩, ⟨r0_10, p⟩] y = if (y 1).val = 0 then p (ix3 (y 0) 0 (y 2)) else q (ix3 (y 0) 0 (y 2)) := by
  refine View.canon_apply_of_pieces (fun y : S128x2x1024.Idx => if (y 1).val = 0 then p (ix3 (y 0) 0 (y 2)) else q (ix3 (y 0) 0 (y 2))) _ ?_ y (cover0_11 q p y)
  intro pc hpc
  rcases List.mem_cons.mp hpc with rfl | hpc
  · intro x
    have h1 : (x 1).val < 1 := (x 1).isLt
    show q x = if 1 + 1 * (x 1).val = 0 then _ else q _
    rw [if_neg (by omega)]
    refine congrArg q (funext fun a => Fin.ext ?_)
    fin_cases a
    · show (x 0).val = 0 + 1 * (x 0).val
      omega
    · show (x 1).val = 0
      omega
    · show (x 2).val = 0 + 1 * (x 2).val
      omega
  rcases List.mem_cons.mp hpc with rfl | hpc
  · intro x
    have h1 : (x 1).val < 1 := (x 1).isLt
    show p x = if 0 + 1 * (x 1).val = 0 then p _ else _
    rw [if_pos (by omega)]
    refine congrArg p (funext fun a => Fin.ext ?_)
    fin_cases a
    · show (x 0).val = 0 + 1 * (x 0).val
      omega
    · show (x 1).val = 0
      omega
    · show (x 2).val = 0 + 1 * (x 2).val
      omega
  · nomatch hpc

variable {W : Weights} {X : Fin 128 → Fin 1024 → EReal} {B : Fin 128 → Fin 2 → Fin 1024 → EReal} {P : Fin 128 → Fin 256 → EReal}
  {x0 : Vec Ideal S128x1x1024 .f32} {x1 : Vec Ideal S128x2x1024 .f32} {x2 : Vec Ideal S1x1024 .f32} {x3 : Vec Ideal S1024x6144 .bf16} {x4 : Vec Ideal S1024x2048 .bf16}
  {x5 : Vec Ideal S1024x128 .bf16} {x6 : Vec Ideal S128x512 .bf16} {x7 : Vec Ideal S1x512 .f32} {x8 : Vec Ideal S3x1024 .f32} {x9 : Vec Ideal S1024x1024 .bf16} {x10 : Vec Ideal S128x1x256 .f32}

namespace Staged

variable (H : Staged W X B P x0 x1 x2 x3 x4 x5 x6 x7 x8 x9 x10)
include H

theorem ldX (r : Fin 128) (j : Fin 1024) : View.ld x0 r0_0 (ix3 r 0 j) = X r j := (ld3 x0 0 _ r j).trans (H.X r j)
theorem ldP (r : Fin 128) (j : Fin 256) : View.ld x10 r0_2 (ix3 r 0 j) = P r j := (ld3 x10 0 _ r j).trans (H.P r j)
theorem ldB0 (r : Fin 128) (j : Fin 1024) : View.ld x1 r0_10 (ix3 r 0 j) = B r 0 j := (ld3 x1 0 _ r j).trans (H.B r 0 j)
theorem ldB1 (r : Fin 128) (j : Fin 1024) : View.ld x1 r0_11 (ix3 r 0 j) = B r 1 j := (ld3 x1 1 _ r j).trans (H.B r 1 j)
theorem ldWn (j : Fin 1024) : View.ld x2 r0_4 (ix2 0 j) = W.wn j := (ld2 x2 0 _ 0 j j (Nat.zero_add _).symm).trans (H.wn j)
theorem ldLr (k : Fin 1024) (j : Fin 128) : View.ld x5 r0_5 (ix2 k j) = W.lr k j := (ld2 x5 0 _ k j j (Nat.zero_add _).symm).trans (H.lr k j)
theorem ldGk (k : Fin 128) (j : Fin 512) : View.ld x6 r0_6 (ix2 k j) = W.gk k j := (ld2 x6 0 _ k j j (Nat.zero_add _).symm).trans (H.gk k j)
theorem ldBgk (j : Fin 512) : View.ld x7 r0_7 (ix2 0 j) = W.bgk j := (ld2 x7 0 _ 0 j j (Nat.zero_add _).symm).trans (H.bgk j)
theorem ldCv (k : Fin 3) (j : Fin 1024) : View.ld x8 r0_12 (ix2 k j) = W.cv k j := (ld2 x8 0 _ k j j (Nat.zero_add _).symm).trans (H.cv k j)
theorem ldWa (k : Fin 1024) (j : Fin 1024) : View.ld x9 r0_14 (ix2 k j) = W.wa k j := (ld2 x9 0 _ k j j (Nat.zero_add _).symm).trans (H.wa k j)
theorem ldA (k : Fin 1024) (j : Fin 1024) : View.ld x3 r0_13 (ix2 k j) = W.head k ⟨j.val, by omega⟩ := (ld2 x3 0 _ k j ⟨j.val, by omega⟩ (Nat.zero_add _).symm).trans (H.head _ _)
theorem ldC (k : Fin 1024) (j : Fin 1024) : View.ld x3 r0_8 (ix2 k j) = W.head k ⟨1024 + j.val, by omega⟩ := (ld2 x3 1024 _ k j ⟨1024 + j.val, by omega⟩ rfl).trans (H.head _ _)
theorem ldD (k : Fin 1024) (j : Fin 1024) : View.ld x3 r0_9 (ix2 k j) = W.head k ⟨2048 + j.val, by omega⟩ := (ld2 x3 2048 _ k j ⟨2048 + j.val, by omega⟩ rfl).trans (H.head _ _)
theorem ldQ (k : Fin 1024) (j : Fin 512) : View.ld x3 r0_15 (ix2 k j) = W.head k ⟨3072 + j.val, by omega⟩ := (ld2 x3 3072 _ k j ⟨3072 + j.val, by omega⟩ rfl).trans (H.head _ _)
theorem ldK (k : Fin 1024) (j : Fin 512) : View.ld x3 r0_17 (ix2 k j) = W.head k ⟨3584 + j.val, by omega⟩ := (ld2 x3 3584 _ k j ⟨3584 + j.val, by omega⟩ rfl).trans (H.head _ _)
theorem ldV (k : Fin 1024) (j : Fin 1024) : View.ld x3 r0_18 (ix2 k j) = W.head k ⟨4096 + j.val, by omega⟩ := (ld2 x3 4096 _ k j ⟨4096 + j.val, by omega⟩ rfl).trans (H.head _ _)
theorem ldG (k : Fin 1024) (j : Fin 1024) : View.ld x3 r0_20 (ix2 k j) = W.head k ⟨5120 + j.val, by omega⟩ := (ld2 x3 5120 _ k j ⟨5120 + j.val, by omega⟩ rfl).trans (H.head _ _)
theorem ldTa (k : Fin 1024) (j : Fin 1024) : View.ld x4 r0_21 (ix2 k j) = W.tail k ⟨j.val, by omega⟩ := (ld2 x4 0 _ k j ⟨j.val, by omega⟩ (Nat.zero_add _).symm).trans (H.tail _ _)
theorem ldTb (k : Fin 1024) (j : Fin 1024) : View.ld x4 r0_22 (ix2 k j) = W.tail k ⟨1024 + j.val, by omega⟩ := (ld2 x4 1024 _ k j ⟨1024 + j.val, by omega⟩ rfl).trans (H.tail _ _)

/-- The normed rows as every projection reads them. -/
theorem hn (r : Fin 128) (j : Fin 1024) : k0_pay6 (View.ld x0 r0_0) (View.ld x2 r0_4) (ix2 r j) = W.hn (X r) j := by
  rw [hn_apply _ _ H.ldWn]
  exact congrArg (fun x => W.hn x j) (funext fun j => H.ldX r j)

theorem hn20 (r : Fin 128) (j : Fin 1024) : k0_pay20 x0 x1 x2 x3 x4 x5 x6 x7 x8 x9 x10 (ix2 r j) = W.hn (X r) j := by
  unfold k0_pay20
  exact H.hn r j

theorem conv (r : Fin 128) (i : Fin 2) (j : Fin 1024) : out0_11 x0 x1 x2 x3 x4 x5 x6 x7 x8 x9 x10 (ix3 r i j) = if i.val = 0 then B r 1 j else W.u (X r) j := by
  unfold out0_11
  rw [canon_b]
  show (if i.val = 0 then k0_pay13 _ (ix3 r 0 j) else k0_pay14 _ (ix3 r 0 j)) = _
  rw [pay13_apply, pay14_apply, pay10_apply, H.ldB1]
  simp only [H.hn20, H.ldC, H.ldD]
  rfl

theorem q (i : Fin 16) (a : Fin 8) (j : Fin 512) : out0_12 x0 x1 x2 x3 x4 x5 x6 x7 x8 x9 x10 (ix3 i a j) = W.q (X ⟨i.val * 8 + a.val, by omega⟩) j := by
  unfold out0_12
  rw [canon_h, pay16_apply]
  simp only [H.hn20, H.ldQ]
  rfl

theorem k (i : Fin 16) (a : Fin 8) (j : Fin 512) : out0_13 x0 x1 x2 x3 x4 x5 x6 x7 x8 x9 x10 (ix3 i a j) = W.k (X ⟨i.val * 8 + a.val, by omega⟩) j := by
  unfold out0_13
  rw [canon_h, pay17_apply]
  simp only [H.hn20, H.ldK]
  rfl

theorem decay (i : Fin 16) (a : Fin 8) (j : Fin 512) :
    out0_14 x0 x1 x2 x3 x4 x5 x6 x7 x8 x9 x10 (ix3 i a j) = Ideal.exp (lsg (W.gate (X ⟨i.val * 8 + a.val, by omega⟩) j)) := by
  unfold out0_14
  rw [canon_h, pay18_apply, decay_eq, pay7_apply]
  simp only [H.hn, H.ldLr, H.ldGk, H.ldBgk]
  rfl

theorem v (i : Fin 16) (a : Fin 8) (j : Fin 1024) : out0_15 x0 x1 x2 x3 x4 x5 x6 x7 x8 x9 x10 (ix3 i a j) = W.v (X ⟨i.val * 8 + a.val, by omega⟩) j := by
  unfold out0_15
  rw [canon_w, pay19_apply]
  simp only [H.hn20, H.ldV]
  rfl

theorem ya (r : Fin 128) (j : Fin 1024) : out0_16 x0 x1 x2 x3 x4 x5 x6 x7 x8 x9 x10 (ix2 r j) = W.ya (X r) (W.ycv (B r 0) (B r 1) (W.u (X r))) j := by
  unfold out0_16
  rw [canon_a, pay15_apply]
  simp only [pay12_apply, pay10_apply, H.hn20, H.ldA, H.ldC, H.ldD, H.ldB0, H.ldB1, H.ldCv, H.ldWa]
  rfl

theorem g (r : Fin 128) (j : Fin 1024) : out0_17 x0 x1 x2 x3 x4 x5 x6 x7 x8 x9 x10 (ix2 r j) = W.g (X r) j := by
  unfold out0_17
  rw [canon_a, pay1_apply]
  simp only [H.hn20, H.ldG]
  rfl

theorem ga (r : Fin 128) (j : Fin 1024) : out0_18 x0 x1 x2 x3 x4 x5 x6 x7 x8 x9 x10 (ix2 r j) = W.pt (X r) ⟨j.val, by omega⟩ := by
  unfold out0_18
  rw [canon_a, pay2_apply]
  simp only [H.hn20, H.ldTa]
  rfl

theorem gb (r : Fin 128) (j : Fin 1024) : out0_19 x0 x1 x2 x3 x4 x5 x6 x7 x8 x9 x10 (ix2 r j) = W.pt (X r) ⟨1024 + j.val, by omega⟩ := by
  unfold out0_19
  rw [canon_a, pay3_apply]
  simp only [H.hn20, H.ldTb]
  rfl

theorem xs (r : Fin 128) (j : Fin 1024) : out0_20 x0 x1 x2 x3 x4 x5 x6 x7 x8 x9 x10 (ix2 r j) = X r j := by
  unfold out0_20
  rw [canon_a, pay4_apply, H.ldX]

theorem ps (r : Fin 128) (j : Fin 256) : out0_21 x0 x1 x2 x3 x4 x5 x6 x7 x8 x9 x10 (ix2 r j) = P r j := by
  unfold out0_21
  rw [canon_p, pay5_apply, H.ldP]

end Staged

end Cert.Samples
-- ==== Proof.SampleRef.lean ====
/- What the reference of the samples' projections computes, in the words of `Words`. -/
module

public import proofs.«01_k».proof.Proof.RefRows
public import proofs.«01_k».proof.Proof.Gen.SampleRefIdeal.Read

@[expose] public section

set_option maxRecDepth 16384

noncomputable section

namespace Cert.Samples

open Idealize.ShloMosaic Cert.Mixer Cert.SampleRefIdeal Cert.SampleRefIdeal.Read

variable (x0 : (⟨S128x1x1024, .f32⟩ : BufTy).Contents (Elt Ideal)) (x1 : (⟨S128x2x1024, .f32⟩ : BufTy).Contents (Elt Ideal))
  (x2 : (⟨S128x1x256, .f32⟩ : BufTy).Contents (Elt Ideal)) (x3 : (⟨S1024, .f32⟩ : BufTy).Contents (Elt Ideal))
  (x4 : (⟨S1024x6144, .bf16⟩ : BufTy).Contents (Elt Ideal)) (x5 : (⟨S1024x2048, .bf16⟩ : BufTy).Contents (Elt Ideal))
  (x6 : (⟨S1024x128, .bf16⟩ : BufTy).Contents (Elt Ideal)) (x7 : (⟨S16x512, .f32⟩ : BufTy).Contents (Elt Ideal))
  (x8 : (⟨S512, .f32⟩ : BufTy).Contents (Elt Ideal)) (x9 : (⟨S3x1024, .f32⟩ : BufTy).Contents (Elt Ideal))
  (x10 : (⟨S1024x1024, .bf16⟩ : BufTy).Contents (Elt Ideal))

/-- The weights from the call's arguments; those that this call does not take are zero. -/
def sampW : Weights where
  wn j := x3 (ix1 j)
  head k c := x4 (ix2 k c)
  tail k c := x5 (ix2 k c)
  lr k c := x6 (ix2 k c)
  gk r j := if h : r.val < 16 then x7 (ix2 ⟨r.val, h⟩ j) else 0
  bgk j := x8 (ix1 j)
  cv i j := x9 (ix2 i j)
  wa k c := x10 (ix2 k c)
  gn _ := 0
  wb _ _ := 0
  wo _ _ := 0
  post _ := 0

/-- A sample's row of `x`. -/
def srow (b : Fin 128) (j : Fin 1024) : EReal := x0 (ix3 b 0 j)

theorem ref_hn (b : Fin 128) (j : Fin 1024) :
    val_main_v17 (F := Ideal) x0 x3 (ix3 b 0 j) = (sampW x3 x4 x5 x6 x7 x8 x9 x10).hn (srow x0 b) j := by
  pointwise [val_main_v17, val_main_v16, val_main_v15, val_main_v14, val_main_v13, val_main_v12, val_main_v11,
    val_main_v10, val_main_v9, val_main_v8, val_main_v7, val_main_v6, val_main_v5, val_main_cst, val_main_cst_0,
    val_main_cst_1]
  rfl

theorem ref_win (k : Fin 1024) (c : Fin 8208) :
    val_main_v4 (F := Ideal) x4 x5 x6 (ix2 k c) =
      if h : c.val < 6144 then x4 (ix2 k ⟨c.val, h⟩)
      else if h' : c.val - 6144 < 16 then x6 (ix2 k ⟨c.val - 6144, by omega⟩)
      else x5 (ix2 k ⟨c.val - 6144 - 16, by omega⟩) := by
  pointwise [val_main_v4, val_main_v3, val_main_v2, val_main_v1, val_main_v0]

theorem ref_z (b : Fin 128) (c : Fin 8208) :
    val_main_v18 (F := Ideal) x0 x3 x4 x5 x6 (ix3 b 0 c) =
      ∑ k, (sampW x3 x4 x5 x6 x7 x8 x9 x10).hn (srow x0 b) k * val_main_v4 (F := Ideal) x4 x5 x6 (ix2 k c) := by
  simp only [← ref_hn]
  unfold val_main_v18
  generalize val_main_v17 (F := Ideal) x0 x3 = y
  generalize val_main_v4 (F := Ideal) x4 x5 x6 = z
  pointwise

theorem ref_ph (b : Fin 128) (c : Nat) (h : c < 6144) (h' : c < 8208) :
    val_main_v18 (F := Ideal) x0 x3 x4 x5 x6 (ix3 b 0 ⟨c, h'⟩) = (sampW x3 x4 x5 x6 x7 x8 x9 x10).ph (srow x0 b) ⟨c, h⟩ := by
  rw [ref_z (x7 := x7) (x8 := x8) (x9 := x9) (x10 := x10)]
  simp only [ref_win, dif_pos h]
  rfl

theorem ref_lr (b : Fin 128) (r : Nat) (h : r < 16) (h' : 6144 + r < 8208) :
    val_main_v18 (F := Ideal) x0 x3 x4 x5 x6 (ix3 b 0 ⟨6144 + r, h'⟩) =
      ∑ k, (sampW x3 x4 x5 x6 x7 x8 x9 x10).hn (srow x0 b) k * (sampW x3 x4 x5 x6 x7 x8 x9 x10).lr k ⟨r, by omega⟩ := by
  rw [ref_z (x7 := x7) (x8 := x8) (x9 := x9) (x10 := x10)]
  refine Finset.sum_congr rfl fun k _ => ?_
  rw [ref_win, dif_neg (by simp), dif_pos (by simp only []; omega)]
  refine congrArg (fun c => (sampW x3 x4 x5 x6 x7 x8 x9 x10).hn (srow x0 b) k * x6 (ix2 k c)) (Fin.ext ?_)
  show 6144 + r - 6144 = r
  omega

theorem ref_pt (b : Fin 128) (c : Nat) (h : c < 2048) (h' : 6160 + c < 8208) :
    val_main_v18 (F := Ideal) x0 x3 x4 x5 x6 (ix3 b 0 ⟨6160 + c, h'⟩) = (sampW x3 x4 x5 x6 x7 x8 x9 x10).pt (srow x0 b) ⟨c, h⟩ := by
  rw [ref_z (x7 := x7) (x8 := x8) (x9 := x9) (x10 := x10)]
  unfold Weights.pt
  refine Finset.sum_congr rfl fun k _ => ?_
  rw [ref_win, dif_neg (by simp only []; omega), dif_neg (by simp only []; omega)]
  refine congrArg (fun c => (sampW x3 x4 x5 x6 x7 x8 x9 x10).hn (srow x0 b) k * x5 (ix2 k c)) (Fin.ext ?_)
  show 6160 + c - 6144 - 16 = c
  omega

theorem ref_u (b : Fin 128) (j : Fin 1024) :
    val_main_v29 (F := Ideal) x0 x3 x4 x5 x6 (ix3 b 0 j) = (sampW x3 x4 x5 x6 x7 x8 x9 x10).u (srow x0 b) j := by
  unfold Weights.u
  rw [← ref_ph (h' := by omega), ← ref_ph (h' := by omega)]
  pointwise [val_main_v29, val_main_v20, val_main_v21]

theorem ref_up0 (b : Fin 128) (i : Fin 2) (j : Fin 1024) :
    val_main_v30 (F := Ideal) x0 x1 x3 x4 x5 x6 (ix3 b ⟨i.val, by omega⟩ j) = x1 (ix3 b i j) := by
  have hl : val_main_v30 (F := Ideal) x0 x1 x3 x4 x5 x6 (ix3 b ⟨i.val, by omega⟩ j) = if h : i.val < 2 then x1 (ix3 b ⟨i.val, h⟩ j)
      else val_main_v29 (F := Ideal) x0 x3 x4 x5 x6 (ix3 b ⟨i.val - 2, by omega⟩ j) := by
    unfold val_main_v30
    generalize val_main_v29 (F := Ideal) x0 x3 x4 x5 x6 = y
    pointwise
  rw [hl, dif_pos i.isLt]

theorem ref_up2 (b : Fin 128) (j : Fin 1024) :
    val_main_v30 (F := Ideal) x0 x1 x3 x4 x5 x6 (ix3 b 2 j) = (sampW x3 x4 x5 x6 x7 x8 x9 x10).u (srow x0 b) j := by
  rw [← ref_u]
  unfold val_main_v30
  generalize val_main_v29 (F := Ideal) x0 x3 x4 x5 x6 = y
  pointwise

theorem ref_ycv (b : Fin 128) (j : Fin 1024) :
    val_main_v50 (F := Ideal) x0 x1 x3 x4 x5 x6 x9 (ix3 b 0 j) =
      (sampW x3 x4 x5 x6 x7 x8 x9 x10).ycv (fun j => x1 (ix3 b 0 j)) (fun j => x1 (ix3 b 1 j)) ((sampW x3 x4 x5 x6 x7 x8 x9 x10).u (srow x0 b)) j := by
  unfold Weights.ycv
  rw [← ref_up2 (x1 := x1)]
  have e0 := ref_up0 x0 x1 x3 x4 x5 x6 b 0 j
  have e1 := ref_up0 x0 x1 x3 x4 x5 x6 b 1 j
  simp only [] at e0 e1 ⊢
  rw [← e0, ← e1]
  unfold val_main_v50 val_main_v49 val_main_v43 val_main_v42 val_main_v36 val_main_v33 val_main_v39 val_main_v46
  generalize val_main_v30 (F := Ideal) x0 x1 x3 x4 x5 x6 = y
  pointwise [val_main_v48, val_main_v47, val_main_v45, val_main_v44, val_main_v41, val_main_v40, val_main_v38, val_main_v37,
    val_main_v35, val_main_v34, val_main_v32, val_main_v31]
  rfl

theorem ref_ya (b : Fin 128) (j : Fin 1024) :
    val_main_v69 (F := Ideal) x0 x1 x3 x4 x5 x6 x9 x10 (ix2 b j) =
      (sampW x3 x4 x5 x6 x7 x8 x9 x10).ya (srow x0 b) ((sampW x3 x4 x5 x6 x7 x8 x9 x10).ycv (fun j => x1 (ix3 b 0 j)) (fun j => x1 (ix3 b 1 j)) ((sampW x3 x4 x5 x6 x7 x8 x9 x10).u (srow x0 b))) j := by
  unfold Weights.ya
  simp only [← ref_ycv]
  have e (c : Fin 1024) := ref_ph x0 x3 x4 x5 x6 x7 x8 x9 x10 b c.val (by omega) (by omega)
  simp only [← e]
  unfold val_main_v69 val_main_v54 val_main_v52
  generalize val_main_v50 (F := Ideal) x0 x1 x3 x4 x5 x6 x9 = y
  pointwise [val_main_v19, val_main_v53]
  rfl

theorem ref_buf0 (b : Fin 128) (j : Fin 1024) :
    val_main_v51 (F := Ideal) x0 x1 x3 x4 x5 x6 (ix3 b 0 j) = x1 (ix3 b 1 j) := by
  rw [← ref_up0 x0 x1 x3 x4 x5 x6 b 1 j]
  unfold val_main_v51
  generalize val_main_v30 (F := Ideal) x0 x1 x3 x4 x5 x6 = y
  pointwise

theorem ref_buf1 (b : Fin 128) (j : Fin 1024) :
    val_main_v51 (F := Ideal) x0 x1 x3 x4 x5 x6 (ix3 b 1 j) = (sampW x3 x4 x5 x6 x7 x8 x9 x10).u (srow x0 b) j := by
  rw [← ref_up2 (x1 := x1)]
  unfold val_main_v51
  generalize val_main_v30 (F := Ideal) x0 x1 x3 x4 x5 x6 = y
  pointwise

/-- The sample at a place of the grouping into sixteen by eight. -/
abbrev at8 (i : Fin 16) (a : Fin 8) : Fin 128 := ⟨i.val * 8 + a.val, by omega⟩

theorem ref_q (i : Fin 16) (a : Fin 8) (j : Fin 512) :
    val_main_v65 (F := Ideal) x0 x3 x4 x5 x6 (ix3 i a j) = (sampW x3 x4 x5 x6 x7 x8 x9 x10).q (srow x0 (at8 i a)) j := by
  unfold Weights.q
  rw [← ref_ph (h' := by omega)]
  pointwise [val_main_v65, val_main_v64, val_main_v63, val_main_v22, val_main_cst_3]
  rfl

theorem ref_k (i : Fin 16) (a : Fin 8) (j : Fin 512) :
    val_main_v66 (F := Ideal) x0 x3 x4 x5 x6 (ix3 i a j) = (sampW x3 x4 x5 x6 x7 x8 x9 x10).k (srow x0 (at8 i a)) j := by
  unfold Weights.k
  rw [← ref_ph (h' := by omega)]
  pointwise [val_main_v66, val_main_v23]

theorem ref_v (i : Fin 16) (a : Fin 8) (j : Fin 1024) :
    val_main_v68 (F := Ideal) x0 x3 x4 x5 x6 (ix3 i a j) = (sampW x3 x4 x5 x6 x7 x8 x9 x10).v (srow x0 (at8 i a)) j := by
  unfold Weights.v
  rw [← ref_ph (h' := by omega)]
  pointwise [val_main_v68, val_main_v24]

theorem ref_g (b : Fin 128) (j : Fin 1024) :
    val_main_v70 (F := Ideal) x0 x3 x4 x5 x6 (ix2 b j) = (sampW x3 x4 x5 x6 x7 x8 x9 x10).g (srow x0 b) j := by
  unfold Weights.g
  rw [← ref_ph (h' := by omega)]
  pointwise [val_main_v70, val_main_v25]

theorem ref_ga (b : Fin 128) (j : Fin 1024) :
    val_main_v71 (F := Ideal) x0 x3 x4 x5 x6 (ix2 b j) = (sampW x3 x4 x5 x6 x7 x8 x9 x10).pt (srow x0 b) ⟨j.val, by omega⟩ := by
  rw [← ref_pt (h' := by omega)]
  pointwise [val_main_v71, val_main_v27]

theorem ref_gb (b : Fin 128) (j : Fin 1024) :
    val_main_v72 (F := Ideal) x0 x3 x4 x5 x6 (ix2 b j) = (sampW x3 x4 x5 x6 x7 x8 x9 x10).pt (srow x0 b) ⟨1024 + j.val, by omega⟩ := by
  rw [← ref_pt (h' := by omega)]
  pointwise [val_main_v72, val_main_v28]
  have e1 : (⟨6160 + (1024 + j.val), by omega⟩ : Fin 8208) = ⟨7184 + j.val, by omega⟩ := Fin.ext (by show 6160 + (1024 + j.val) = 7184 + j.val; omega)
  rw [e1]

theorem ref_x (b : Fin 128) (j : Fin 1024) : val_main_v73 (F := Ideal) x0 (ix2 b j) = x0 (ix3 b 0 j) := by
  pointwise [val_main_v73]

theorem ref_p (b : Fin 128) (j : Fin 256) : val_main_v74 (F := Ideal) x2 (ix2 b j) = x2 (ix3 b 0 j) := by
  pointwise [val_main_v74]

theorem ref_gate (b : Fin 128) (j : Fin 512) :
    val_main_v58 (F := Ideal) x0 x3 x4 x5 x6 x7 x8 (ix3 b 0 j) = (sampW x3 x4 x5 x6 x7 x8 x9 x10).gate (srow x0 b) j := by
  have hs : ∀ f : Fin 128 → EReal, (∀ r : Fin 128, 16 ≤ r.val → f r = 0) →
      (∑ r, f r) = ∑ r : Fin 16, f ⟨r.val, by omega⟩ := by
    intro f hf
    rw [show (∑ r, f r) = ∑ r : Fin (16 + 112), f (Fin.cast (by norm_num) r) from rfl, Fin.sum_univ_add]
    rw [Finset.sum_eq_zero (s := (Finset.univ : Finset (Fin 112))), add_zero]
    · rfl
    · intro r _
      exact hf _ (by simp)
  unfold Weights.gate
  rw [hs _ (by
    intro r hr
    show _ * (dite _ _ _) = _
    rw [dif_neg (by omega), mul_zero])]
  have e (r : Fin 16) := ref_lr x0 x3 x4 x5 x6 x7 x8 x9 x10 b r.val (by omega) (by omega)
  simp only [← e]
  have e' (r : Fin 16) : (sampW x3 x4 x5 x6 x7 x8 x9 x10).gk ⟨r.val, by omega⟩ j = x7 (ix2 r j) := by
    show dite _ _ _ = _
    rw [dif_pos r.isLt]
  simp only [e']
  pointwise [val_main_v58, val_main_v57, val_main_v56, val_main_v55, val_main_v26]
  rfl

theorem ref_decay (i : Fin 16) (a : Fin 8) (j : Fin 512) :
    val_main_v67 (F := Ideal) x0 x3 x4 x5 x6 x7 x8 (ix3 i a j) = Ideal.exp (lsg ((sampW x3 x4 x5 x6 x7 x8 x9 x10).gate (srow x0 (at8 i a)) j)) := by
  rw [← ref_gate]
  pointwise [val_main_v67, val_main_v62, val_main_v61, val_main_v60, val_main_v59, val_main_cst_2,
    val_main_call0_v1, val_main_call0_v0, val_main_call0_call0_cst, val_main_call0_call0_v0, val_main_call0_call0_v1,
    val_main_call0_call0_v2, val_main_call0_call0_v3, val_main_call0_call0_v4, val_main_call0_call0_v5, val_main_call0_call0_v6,
    val_main_call0_call0_v7, val_main_call0_call0_v8, val_main_call0_call0_v9, val_main_call0_call0_v10,
    val_main_call0_call0_v11]
  rw [if_neg (by simp)]
  rfl

end Cert.Samples
-- ==== Proof.SampleArgs.lean ====
/- What the operands of the samples' call hold, by coordinates, in the call's arguments. -/
module

public import proofs.«01_k».proof.Proof.SampleOut
public import proofs.«01_k».proof.Proof.SampleRef
public import Idealize.ShloMosaic.Lib.StableHlo.RunRead
public import Idealize.ShloMosaic.Lib.Claim
public import Idealize.ShloMosaic.Lib.Pipeline.ValueKit.Geometry
public import Idealize.ShloMosaic.Lib.Pipeline.ValueKit.Point

@[expose] public section

set_option maxRecDepth 16384

noncomputable section

namespace Cert.Samples

open Idealize.ShloMosaic Idealize.ShloMosaic.TcCoe Cert.Mixer Cert.SampleIdeal Cert.SampleIdeal.Gen

variable (m : (ℓ : Loc nD τ Cert.SampleIdeal.sig) → Buf (Elt Ideal) ℓ) (c : Dev nD)

theorem idx0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)

theorem blk_0 (t : Fin cfg0.N) (k : Fin 128) (j : Fin 1024) : iblk m c 0 t (ix3 k 0 j) = V m c main_arg0 (ix3 k 0 j) := by
  have h := idx0 t
  blk_ext [iblk, h.1, h.2.1, h.2.2]

theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)

theorem blk_1 (t : Fin cfg0.N) (k : Fin 128) (i : Fin 2) (j : Fin 1024) : iblk m c 1 t (ix3 k i j) = V m c main_arg1 (ix3 k i j) := by
  have h := idx1 t
  blk_ext [iblk, h.1, h.2.1, h.2.2]

theorem idx2 : ∀ t : Fin cfg0.N, win0_2.index t 0 = 0 ∧ win0_2.index t 1 = 0 :=
  (by decide +kernel : ∀ t : Fin grid0.N, win0_2.index t 0 = 0 ∧ win0_2.index t 1 = 0)

theorem blk_2 (t : Fin cfg0.N) (j : Fin 1024) : iblk m c 2 t (ix2 0 j) = V m c main_v2 (ix2 0 j) := by
  have h := idx2 t
  blk_ext [iblk, h.1, h.2]

theorem idx3 : ∀ t : Fin cfg0.N, win0_3.index t 0 = 0 ∧ win0_3.index t 1 = 0 :=
  (by decide +kernel : ∀ t : Fin grid0.N, win0_3.index t 0 = 0 ∧ win0_3.index t 1 = 0)

theorem blk_3 (t : Fin cfg0.N) (k : Fin 1024) (j : Fin 6144) : iblk m c 3 t (ix2 k j) = V m c main_arg4 (ix2 k j) := by
  have h := idx3 t
  blk_ext [iblk, h.1, h.2]

theorem idx4 : ∀ t : Fin cfg0.N, win0_4.index t 0 = 0 ∧ win0_4.index t 1 = 0 :=
  (by decide +kernel : ∀ t : Fin grid0.N, win0_4.index t 0 = 0 ∧ win0_4.index t 1 = 0)

theorem blk_4 (t : Fin cfg0.N) (k : Fin 1024) (j : Fin 2048) : iblk m c 4 t (ix2 k j) = V m c main_arg5 (ix2 k j) := by
  have h := idx4 t
  blk_ext [iblk, h.1, h.2]

theorem idx5 : ∀ t : Fin cfg0.N, win0_5.index t 0 = 0 ∧ win0_5.index t 1 = 0 :=
  (by decide +kernel : ∀ t : Fin grid0.N, win0_5.index t 0 = 0 ∧ win0_5.index t 1 = 0)

theorem blk_5 (t : Fin cfg0.N) (k : Fin 1024) (j : Fin 128) : iblk m c 5 t (ix2 k j) = V m c main_arg6 (ix2 k j) := by
  have h := idx5 t
  blk_ext [iblk, h.1, h.2]

theorem idx6 : ∀ t : Fin cfg0.N, win0_6.index t 0 = 0 ∧ win0_6.index t 1 = 0 :=
  (by decide +kernel : ∀ t : Fin grid0.N, win0_6.index t 0 = 0 ∧ win0_6.index t 1 = 0)

theorem blk_6 (t : Fin cfg0.N) (k : Fin 128) (j : Fin 512) : iblk m c 6 t (ix2 k j) = V m c main_v1 (ix2 k j) := by
  have h := idx6 t
  blk_ext [iblk, h.1, h.2]

theorem idx7 : ∀ t : Fin cfg0.N, win0_7.index t 0 = 0 ∧ win0_7.index t 1 = 0 :=
  (by decide +kernel : ∀ t : Fin grid0.N, win0_7.index t 0 = 0 ∧ win0_7.index t 1 = 0)

theorem blk_7 (t : Fin cfg0.N) (j : Fin 512) : iblk m c 7 t (ix2 0 j) = V m c main_v3 (ix2 0 j) := by
  have h := idx7 t
  blk_ext [iblk, h.1, h.2]

theorem idx8 : ∀ t : Fin cfg0.N, win0_8.index t 0 = 0 ∧ win0_8.index t 1 = 0 :=
  (by decide +kernel : ∀ t : Fin grid0.N, win0_8.index t 0 = 0 ∧ win0_8.index t 1 = 0)

theorem blk_8 (t : Fin cfg0.N) (k : Fin 3) (j : Fin 1024) : iblk m c 8 t (ix2 k j) = V m c main_arg9 (ix2 k j) := by
  have h := idx8 t
  blk_ext [iblk, h.1, h.2]

theorem idx9 : ∀ t : Fin cfg0.N, win0_9.index t 0 = 0 ∧ win0_9.index t 1 = 0 :=
  (by decide +kernel : ∀ t : Fin grid0.N, win0_9.index t 0 = 0 ∧ win0_9.index t 1 = 0)

theorem blk_9 (t : Fin cfg0.N) (k : Fin 1024) (j : Fin 1024) : iblk m c 9 t (ix2 k j) = V m c main_arg10 (ix2 k j) := by
  have h := idx9 t
  blk_ext [iblk, h.1, h.2]

theorem idx10 : ∀ t : Fin cfg0.N, win0_10.index t 0 = 0 ∧ win0_10.index t 1 = 0 ∧ win0_10.index t 2 = 0 :=
  (by decide +kernel : ∀ t : Fin grid0.N, win0_10.index t 0 = 0 ∧ win0_10.index t 1 = 0 ∧ win0_10.index t 2 = 0)

theorem blk_10 (t : Fin cfg0.N) (k : Fin 128) (j : Fin 256) : iblk m c 10 t (ix3 k 0 j) = V m c main_arg2 (ix3 k 0 j) := by
  have h := idx10 t
  blk_ext [iblk, h.1, h.2.1, h.2.2]

theorem host_wn (j : Fin 1024) : V m c main_v2 (ix2 0 j) = m ((c : Thread nD τ).loc main_arg3) (ix1 j) := by
  unfold V
  simp only [hostOps0, hostOps0_1, hostOps0_2, List.flatten_cons, List.flatten_nil, List.append_nil, List.cons_append, List.nil_append]
  after_reads_simp
  pointwise

theorem host_bgk (j : Fin 512) : V m c main_v3 (ix2 0 j) = m ((c : Thread nD τ).loc main_arg8) (ix1 j) := by
  unfold V
  simp only [hostOps0, hostOps0_1, hostOps0_2, List.flatten_cons, List.flatten_nil, List.append_nil, List.cons_append, List.nil_append]
  after_reads_simp
  pointwise

/-- The gate's second projection, its sixteen rows padded to 128. -/
def padGk (w : FVec Ideal S16x512 .f32) : FVec Ideal S128x512 .bf16 :=
  truncf .bf16 (pad S128x512 ![0, 0] ![112, 0] ![0, 0] w (sitofp .f32 (constantI S_ 32 0#32)) pads_S16x512_S128x512_01120_000 h_S_)

theorem host_gk' : V m c main_v1 = padGk (m ((c : Thread nD τ).loc main_arg7)) := by
  unfold V
  simp only [hostOps0, hostOps0_1, hostOps0_2, List.flatten_cons, List.flatten_nil, List.append_nil, List.cons_append, List.nil_append]
  after_reads_simp
  simp only [StableHlo.TRef.ofBuf_toBuf]
  rfl

theorem host_gk (r : Fin 128) (j : Fin 512) :
    V m c main_v1 (ix2 r j) = if h : r.val < 16 then (m ((c : Thread nD τ).loc main_arg7) : FVec Ideal S16x512 .f32) (ix2 ⟨r.val, h⟩ j) else (0 : EReal) := by
  rw [host_gk']
  unfold padGk
  generalize m ((c : Thread nD τ).loc main_arg7) = w
  pointwise
  have h0 : (FloatOps.sitofp (F := Ideal) FTy.f32 0#32 : EReal) = 0 := by
    show (((0#32 : BitVec 32).toInt : ℝ) : EReal) = 0
    simp
  rw [h0]

/-- The call's weights. -/
def W0 : Weights := sampW (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem staged (t : Fin cfg0.N) : Staged (W0 m c) (srow (m ((c : Thread nD τ).loc main_arg0))) (fun r i j => m ((c : Thread nD τ).loc main_arg1) (ix3 r i j)) (fun r j => m ((c : Thread nD τ).loc main_arg2) (ix3 r 0 j))
    (iblk m c 0 t) (iblk m c 1 t) (iblk m c 2 t) (iblk m c 3 t) (iblk m c 4 t) (iblk m c 5 t) (iblk m c 6 t) (iblk m c 7 t) (iblk m c 8 t) (iblk m c 9 t) (iblk m c 10 t) where
  X r j := (blk_0 m c t r j).trans (congrFun (V_main_arg0 m c) _)
  B r i j := (blk_1 m c t r i j).trans (congrFun (V_main_arg1 m c) _)
  P r j := (blk_10 m c t r j).trans (congrFun (V_main_arg2 m c) _)
  wn j := (blk_2 m c t j).trans (host_wn m c j)
  head k j := (blk_3 m c t k j).trans (congrFun (V_main_arg4 m c) _)
  tail k j := (blk_4 m c t k j).trans (congrFun (V_main_arg5 m c) _)
  lr k j := (blk_5 m c t k j).trans (congrFun (V_main_arg6 m c) _)
  gk k j := (blk_6 m c t k j).trans (host_gk m c k j)
  bgk j := (blk_7 m c t j).trans (host_bgk m c j)
  cv k j := (blk_8 m c t k j).trans (congrFun (V_main_arg9 m c) _)
  wa k j := (blk_9 m c t k j).trans (congrFun (V_main_arg10 m c) _)

end Cert.Samples
-- ==== Proof.SampleArrs.lean ====
/- The samples' call's result arrays, by coordinates. -/
module

public import proofs.«01_k».proof.Proof.SampleArgs

@[expose] public section

set_option maxRecDepth 16384

noncomputable section

namespace Cert.Samples

open Idealize.ShloMosaic Idealize.ShloMosaic.TcCoe Cert.Mixer Cert.SampleIdeal Cert.SampleIdeal.Gen

variable (m : (ℓ : Loc nD τ Cert.SampleIdeal.sig) → Buf (Elt Ideal) ℓ) (c : Dev nD)

theorem ix2_of {n p : ℕ} (y : (⟨2, ![n, p]⟩ : Shape).Idx) : y = ix2 ⟨(y 0).val, (y 0).isLt⟩ ⟨(y 1).val, (y 1).isLt⟩ := by
  funext a
  fin_cases a <;> rfl

theorem ix3_of {n p q : ℕ} (y : (⟨3, ![n, p, q]⟩ : Shape).Idx) :
    y = ix3 ⟨(y 0).val, (y 0).isLt⟩ ⟨(y 1).val, (y 1).isLt⟩ ⟨(y 2).val, (y 2).isLt⟩ := by
  funext a
  fin_cases a <;> rfl

/-- The samples' rows. -/
abbrev X0 : Fin 128 → Fin 1024 → EReal := srow (m ((c : Thread nD τ).loc main_arg0))

theorem idx11 : ∀ t : Fin cfg0.N, win0_11.index t 0 = 0 ∧ win0_11.index t 1 = 0 ∧ win0_11.index t 2 = 0 :=
  (by decide +kernel : ∀ t : Fin grid0.N, win0_11.index t 0 = 0 ∧ win0_11.index t 1 = 0 ∧ win0_11.index t 2 = 0)

theorem arr_conv : (dats m 0 c).arrAt 11 cfg0.N = fun i : S128x2x1024.Idx =>
    if (i 1).val = 0 then m ((c : Thread nD τ).loc main_arg1) (ix3 ⟨(i 0).val, (i 0).isLt⟩ 1 ⟨(i 2).val, (i 2).isLt⟩) else (W0 m c).u (X0 m c ⟨(i 0).val, (i 0).isLt⟩) ⟨(i 2).val, (i 2).isLt⟩ := by
  refine (dats m 0 c).arrAt_eq_of_covers 11 _ (by decide +kernel) fun t hf y => ?_
  have h := idx11 t
  blk_simp [h.1, h.2.1, h.2.2]
  rw [after0_11]
  exact (congrArg (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3_of y)).trans ((staged m c t).conv ⟨(y 0).val, (y 0).isLt⟩ ⟨(y 1).val, (y 1).isLt⟩ ⟨(y 2).val, (y 2).isLt⟩)

theorem idx12 : ∀ t : Fin cfg0.N, win0_12.index t 0 = 0 ∧ win0_12.index t 1 = 0 ∧ win0_12.index t 2 = 0 :=
  (by decide +kernel : ∀ t : Fin grid0.N, win0_12.index t 0 = 0 ∧ win0_12.index t 1 = 0 ∧ win0_12.index t 2 = 0)

theorem arr_q : (dats m 0 c).arrAt 12 cfg0.N = fun i : S16x8x512.Idx =>
    (W0 m c).q (X0 m c (at8 ⟨(i 0).val, (i 0).isLt⟩ ⟨(i 1).val, (i 1).isLt⟩)) ⟨(i 2).val, (i 2).isLt⟩ := by
  refine (dats m 0 c).arrAt_eq_of_covers 12 _ (by decide +kernel) fun t hf y => ?_
  have h := idx12 t
  blk_simp [h.1, h.2.1, h.2.2]
  rw [after0_12]
  exact (congrArg (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3_of y)).trans ((staged m c t).q ⟨(y 0).val, (y 0).isLt⟩ ⟨(y 1).val, (y 1).isLt⟩ ⟨(y 2).val, (y 2).isLt⟩)

theorem idx13 : ∀ t : Fin cfg0.N, win0_13.index t 0 = 0 ∧ win0_13.index t 1 = 0 ∧ win0_13.index t 2 = 0 :=
  (by decide +kernel : ∀ t : Fin grid0.N, win0_13.index t 0 = 0 ∧ win0_13.index t 1 = 0 ∧ win0_13.index t 2 = 0)

theorem arr_k : (dats m 0 c).arrAt 13 cfg0.N = fun i : S16x8x512.Idx =>
    (W0 m c).k (X0 m c (at8 ⟨(i 0).val, (i 0).isLt⟩ ⟨(i 1).val, (i 1).isLt⟩)) ⟨(i 2).val, (i 2).isLt⟩ := by
  refine (dats m 0 c).arrAt_eq_of_covers 13 _ (by decide +kernel) fun t hf y => ?_
  have h := idx13 t
  blk_simp [h.1, h.2.1, h.2.2]
  rw [after0_13]
  exact (congrArg (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3_of y)).trans ((staged m c t).k ⟨(y 0).val, (y 0).isLt⟩ ⟨(y 1).val, (y 1).isLt⟩ ⟨(y 2).val, (y 2).isLt⟩)

theorem idx14 : ∀ t : Fin cfg0.N, win0_14.index t 0 = 0 ∧ win0_14.index t 1 = 0 ∧ win0_14.index t 2 = 0 :=
  (by decide +kernel : ∀ t : Fin grid0.N, win0_14.index t 0 = 0 ∧ win0_14.index t 1 = 0 ∧ win0_14.index t 2 = 0)

theorem arr_decay : (dats m 0 c).arrAt 14 cfg0.N = fun i : S16x8x512.Idx =>
    Ideal.exp (lsg ((W0 m c).gate (X0 m c (at8 ⟨(i 0).val, (i 0).isLt⟩ ⟨(i 1).val, (i 1).isLt⟩)) ⟨(i 2).val, (i 2).isLt⟩)) := by
  refine (dats m 0 c).arrAt_eq_of_covers 14 _ (by decide +kernel) fun t hf y => ?_
  have h := idx14 t
  blk_simp [h.1, h.2.1, h.2.2]
  rw [after0_14]
  exact (congrArg (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3_of y)).trans ((staged m c t).decay ⟨(y 0).val, (y 0).isLt⟩ ⟨(y 1).val, (y 1).isLt⟩ ⟨(y 2).val, (y 2).isLt⟩)

theorem idx15 : ∀ t : Fin cfg0.N, win0_15.index t 0 = 0 ∧ win0_15.index t 1 = 0 ∧ win0_15.index t 2 = 0 :=
  (by decide +kernel : ∀ t : Fin grid0.N, win0_15.index t 0 = 0 ∧ win0_15.index t 1 = 0 ∧ win0_15.index t 2 = 0)

theorem arr_v : (dats m 0 c).arrAt 15 cfg0.N = fun i : S16x8x1024.Idx =>
    (W0 m c).v (X0 m c (at8 ⟨(i 0).val, (i 0).isLt⟩ ⟨(i 1).val, (i 1).isLt⟩)) ⟨(i 2).val, (i 2).isLt⟩ := by
  refine (dats m 0 c).arrAt_eq_of_covers 15 _ (by decide +kernel) fun t hf y => ?_
  have h := idx15 t
  blk_simp [h.1, h.2.1, h.2.2]
  rw [after0_15]
  exact (congrArg (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3_of y)).trans ((staged m c t).v ⟨(y 0).val, (y 0).isLt⟩ ⟨(y 1).val, (y 1).isLt⟩ ⟨(y 2).val, (y 2).isLt⟩)

theorem idx16 : ∀ t : Fin cfg0.N, win0_16.index t 0 = 0 ∧ win0_16.index t 1 = 0 :=
  (by decide +kernel : ∀ t : Fin grid0.N, win0_16.index t 0 = 0 ∧ win0_16.index t 1 = 0)

theorem arr_ya : (dats m 0 c).arrAt 16 cfg0.N = fun i : S128x1024.Idx =>
    (W0 m c).ya (X0 m c ⟨(i 0).val, (i 0).isLt⟩) ((W0 m c).ycv (fun j => m ((c : Thread nD τ).loc main_arg1) (ix3 ⟨(i 0).val, (i 0).isLt⟩ 0 j)) (fun j => m ((c : Thread nD τ).loc main_arg1) (ix3 ⟨(i 0).val, (i 0).isLt⟩ 1 j)) ((W0 m c).u (X0 m c ⟨(i 0).val, (i 0).isLt⟩))) ⟨(i 1).val, (i 1).isLt⟩ := by
  refine (dats m 0 c).arrAt_eq_of_covers 16 _ (by decide +kernel) fun t hf y => ?_
  have h := idx16 t
  blk_simp [h.1, h.2]
  rw [after0_16]
  exact (congrArg (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2_of y)).trans ((staged m c t).ya ⟨(y 0).val, (y 0).isLt⟩ ⟨(y 1).val, (y 1).isLt⟩)

theorem idx17 : ∀ t : Fin cfg0.N, win0_17.index t 0 = 0 ∧ win0_17.index t 1 = 0 :=
  (by decide +kernel : ∀ t : Fin grid0.N, win0_17.index t 0 = 0 ∧ win0_17.index t 1 = 0)

theorem arr_g : (dats m 0 c).arrAt 17 cfg0.N = fun i : S128x1024.Idx =>
    (W0 m c).g (X0 m c ⟨(i 0).val, (i 0).isLt⟩) ⟨(i 1).val, (i 1).isLt⟩ := by
  refine (dats m 0 c).arrAt_eq_of_covers 17 _ (by decide +kernel) fun t hf y => ?_
  have h := idx17 t
  blk_simp [h.1, h.2]
  rw [after0_17]
  exact (congrArg (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2_of y)).trans ((staged m c t).g ⟨(y 0).val, (y 0).isLt⟩ ⟨(y 1).val, (y 1).isLt⟩)

theorem idx18 : ∀ t : Fin cfg0.N, win0_18.index t 0 = 0 ∧ win0_18.index t 1 = 0 :=
  (by decide +kernel : ∀ t : Fin grid0.N, win0_18.index t 0 = 0 ∧ win0_18.index t 1 = 0)

theorem arr_ga : (dats m 0 c).arrAt 18 cfg0.N = fun i : S128x1024.Idx =>
    (W0 m c).pt (X0 m c ⟨(i 0).val, (i 0).isLt⟩) ⟨(i 1).val, lt_of_lt_of_le (i 1).isLt (show 1024 ≤ 2048 by omega)⟩ := by
  refine (dats m 0 c).arrAt_eq_of_covers 18 _ (by decide +kernel) fun t hf y => ?_
  have h := idx18 t
  blk_simp [h.1, h.2]
  rw [after0_18]
  exact (congrArg (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2_of y)).trans ((staged m c t).ga ⟨(y 0).val, (y 0).isLt⟩ ⟨(y 1).val, (y 1).isLt⟩)

theorem idx19 : ∀ t : Fin cfg0.N, win0_19.index t 0 = 0 ∧ win0_19.index t 1 = 0 :=
  (by decide +kernel : ∀ t : Fin grid0.N, win0_19.index t 0 = 0 ∧ win0_19.index t 1 = 0)

theorem arr_gb : (dats m 0 c).arrAt 19 cfg0.N = fun i : S128x1024.Idx =>
    (W0 m c).pt (X0 m c ⟨(i 0).val, (i 0).isLt⟩) ⟨1024 + (i 1).val, Nat.add_lt_add_left (i 1).isLt 1024⟩ := by
  refine (dats m 0 c).arrAt_eq_of_covers 19 _ (by decide +kernel) fun t hf y => ?_
  have h := idx19 t
  blk_simp [h.1, h.2]
  rw [after0_19]
  exact (congrArg (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2_of y)).trans ((staged m c t).gb ⟨(y 0).val, (y 0).isLt⟩ ⟨(y 1).val, (y 1).isLt⟩)

theorem idx20 : ∀ t : Fin cfg0.N, win0_20.index t 0 = 0 ∧ win0_20.index t 1 = 0 :=
  (by decide +kernel : ∀ t : Fin grid0.N, win0_20.index t 0 = 0 ∧ win0_20.index t 1 = 0)

theorem arr_xs : (dats m 0 c).arrAt 20 cfg0.N = fun i : S128x1024.Idx =>
    X0 m c ⟨(i 0).val, (i 0).isLt⟩ ⟨(i 1).val, (i 1).isLt⟩ := by
  refine (dats m 0 c).arrAt_eq_of_covers 20 _ (by decide +kernel) fun t hf y => ?_
  have h := idx20 t
  blk_simp [h.1, h.2]
  rw [after0_20]
  exact (congrArg (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2_of y)).trans ((staged m c t).xs ⟨(y 0).val, (y 0).isLt⟩ ⟨(y 1).val, (y 1).isLt⟩)

theorem idx21 : ∀ t : Fin cfg0.N, win0_21.index t 0 = 0 ∧ win0_21.index t 1 = 0 :=
  (by decide +kernel : ∀ t : Fin grid0.N, win0_21.index t 0 = 0 ∧ win0_21.index t 1 = 0)

theorem arr_ps : (dats m 0 c).arrAt 21 cfg0.N = fun i : S128x256.Idx =>
    m ((c : Thread nD τ).loc main_arg2) (ix3 ⟨(i 0).val, (i 0).isLt⟩ 0 ⟨(i 1).val, (i 1).isLt⟩) := by
  refine (dats m 0 c).arrAt_eq_of_covers 21 _ (by decide +kernel) fun t hf y => ?_
  have h := idx21 t
  blk_simp [h.1, h.2]
  rw [after0_21]
  exact (congrArg (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2_of y)).trans ((staged m c t).ps ⟨(y 0).val, (y 0).isLt⟩ ⟨(y 1).val, (y 1).isLt⟩)

end Cert.Samples
-- ==== Proof.SampleResults.lean ====
/- The samples' call's results are the reference's. -/
module

public import proofs.«01_k».proof.Proof.SampleArrs

@[expose] public section

set_option maxRecDepth 16384

noncomputable section

namespace Cert.Samples

open Idealize.ShloMosaic Cert.Mixer Cert.SampleRefIdeal.Read

variable (m : (ℓ : Loc Cert.SampleIdeal.nD Cert.SampleIdeal.τ Cert.SampleIdeal.sig) → Buf (Elt Ideal) ℓ) (c : Dev Cert.SampleIdeal.nD)

theorem same_conv : (Cert.SampleIdeal.Gen.dats m 0 c).arrAt 11 Cert.SampleIdeal.cfg0.N =
    val_main_v51 (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) := by
  refine (arr_conv m c).trans (funext fun i => ?_)
  obtain ⟨b, t, j, rfl⟩ : ∃ (b : Fin 128) (t : Fin 2) (j : Fin 1024), i = ix3 b t j :=
    ⟨i 0, i 1, i 2, by funext a; fin_cases a <;> rfl⟩
  fin_cases t
  · exact (ref_buf0 (x0 := (m ((c.tc : Thread Cert.SampleIdeal.nD Cert.SampleIdeal.τ).loc Cert.SampleIdeal.main_arg0))) (x1 := (m ((c.tc : Thread Cert.SampleIdeal.nD Cert.SampleIdeal.τ).loc Cert.SampleIdeal.main_arg1))) (x3 := (m ((c.tc : Thread Cert.SampleIdeal.nD Cert.SampleIdeal.τ).loc Cert.SampleIdeal.main_arg3))) (x4 := (m ((c.tc : Thread Cert.SampleIdeal.nD Cert.SampleIdeal.τ).loc Cert.SampleIdeal.main_arg4))) (x5 := (m ((c.tc : Thread Cert.SampleIdeal.nD Cert.SampleIdeal.τ).loc Cert.SampleIdeal.main_arg5))) (x6 := (m ((c.tc : Thread Cert.SampleIdeal.nD Cert.SampleIdeal.τ).loc Cert.SampleIdeal.main_arg6))) b j).symm
  · exact (ref_buf1 (x0 := (m ((c.tc : Thread Cert.SampleIdeal.nD Cert.SampleIdeal.τ).loc Cert.SampleIdeal.main_arg0))) (x1 := (m ((c.tc : Thread Cert.SampleIdeal.nD Cert.SampleIdeal.τ).loc Cert.SampleIdeal.main_arg1))) (x3 := (m ((c.tc : Thread Cert.SampleIdeal.nD Cert.SampleIdeal.τ).loc Cert.SampleIdeal.main_arg3))) (x4 := (m ((c.tc : Thread Cert.SampleIdeal.nD Cert.SampleIdeal.τ).loc Cert.SampleIdeal.main_arg4))) (x5 := (m ((c.tc : Thread Cert.SampleIdeal.nD Cert.SampleIdeal.τ).loc Cert.SampleIdeal.main_arg5))) (x6 := (m ((c.tc : Thread Cert.SampleIdeal.nD Cert.SampleIdeal.τ).loc Cert.SampleIdeal.main_arg6))) (x7 := (m ((c.tc : Thread Cert.SampleIdeal.nD Cert.SampleIdeal.τ).loc Cert.SampleIdeal.main_arg7))) (x8 := (m ((c.tc : Thread Cert.SampleIdeal.nD Cert.SampleIdeal.τ).loc Cert.SampleIdeal.main_arg8))) (x9 := (m ((c.tc : Thread Cert.SampleIdeal.nD Cert.SampleIdeal.τ).loc Cert.SampleIdeal.main_arg9))) (x10 := (m ((c.tc : Thread Cert.SampleIdeal.nD Cert.SampleIdeal.τ).loc Cert.SampleIdeal.main_arg10))) b j).symm

theorem same_q : (Cert.SampleIdeal.Gen.dats m 0 c).arrAt 12 Cert.SampleIdeal.cfg0.N =
    val_main_v65 (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) := by
  refine (arr_q m c).trans (funext fun i => ?_)
  obtain ⟨b, t, j, rfl⟩ : ∃ (b : Fin 16) (t : Fin 8) (j : Fin 512), i = ix3 b t j :=
    ⟨i 0, i 1, i 2, by funext a; fin_cases a <;> rfl⟩
  exact (ref_q (x0 := (m ((c.tc : Thread Cert.SampleIdeal.nD Cert.SampleIdeal.τ).loc Cert.SampleIdeal.main_arg0))) (x3 := (m ((c.tc : Thread Cert.SampleIdeal.nD Cert.SampleIdeal.τ).loc Cert.SampleIdeal.main_arg3))) (x4 := (m ((c.tc : Thread Cert.SampleIdeal.nD Cert.SampleIdeal.τ).loc Cert.SampleIdeal.main_arg4))) (x5 := (m ((c.tc : Thread Cert.SampleIdeal.nD Cert.SampleIdeal.τ).loc Cert.SampleIdeal.main_arg5))) (x6 := (m ((c.tc : Thread Cert.SampleIdeal.nD Cert.SampleIdeal.τ).loc Cert.SampleIdeal.main_arg6))) (x7 := (m ((c.tc : Thread Cert.SampleIdeal.nD Cert.SampleIdeal.τ).loc Cert.SampleIdeal.main_arg7))) (x8 := (m ((c.tc : Thread Cert.SampleIdeal.nD Cert.SampleIdeal.τ).loc Cert.SampleIdeal.main_arg8))) (x9 := (m ((c.tc : Thread Cert.SampleIdeal.nD Cert.SampleIdeal.τ).loc Cert.SampleIdeal.main_arg9))) (x10 := (m ((c.tc : Thread Cert.SampleIdeal.nD Cert.SampleIdeal.τ).loc Cert.SampleIdeal.main_arg10))) b t j).symm

theorem same_k : (Cert.SampleIdeal.Gen.dats m 0 c).arrAt 13 Cert.SampleIdeal.cfg0.N =
    val_main_v66 (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) := by
  refine (arr_k m c).trans (funext fun i => ?_)
  obtain ⟨b, t, j, rfl⟩ : ∃ (b : Fin 16) (t : Fin 8) (j : Fin 512), i = ix3 b t j :=
    ⟨i 0, i 1, i 2, by funext a; fin_cases a <;> rfl⟩
  exact (ref_k (x0 := (m ((c.tc : Thread Cert.SampleIdeal.nD Cert.SampleIdeal.τ).loc Cert.SampleIdeal.main_arg0))) (x3 := (m ((c.tc : Thread Cert.SampleIdeal.nD Cert.SampleIdeal.τ).loc Cert.SampleIdeal.main_arg3))) (x4 := (m ((c.tc : Thread Cert.SampleIdeal.nD Cert.SampleIdeal.τ).loc Cert.SampleIdeal.main_arg4))) (x5 := (m ((c.tc : Thread Cert.SampleIdeal.nD Cert.SampleIdeal.τ).loc Cert.SampleIdeal.main_arg5))) (x6 := (m ((c.tc : Thread Cert.SampleIdeal.nD Cert.SampleIdeal.τ).loc Cert.SampleIdeal.main_arg6))) (x7 := (m ((c.tc : Thread Cert.SampleIdeal.nD Cert.SampleIdeal.τ).loc Cert.SampleIdeal.main_arg7))) (x8 := (m ((c.tc : Thread Cert.SampleIdeal.nD Cert.SampleIdeal.τ).loc Cert.SampleIdeal.main_arg8))) (x9 := (m ((c.tc : Thread Cert.SampleIdeal.nD Cert.SampleIdeal.τ).loc Cert.SampleIdeal.main_arg9))) (x10 := (m ((c.tc : Thread Cert.SampleIdeal.nD Cert.SampleIdeal.τ).loc Cert.SampleIdeal.main_arg10))) b t j).symm

theorem same_decay : (Cert.SampleIdeal.Gen.dats m 0 c).arrAt 14 Cert.SampleIdeal.cfg0.N =
    val_main_v67 (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) := by
  refine (arr_decay m c).trans (funext fun i => ?_)
  obtain ⟨b, t, j, rfl⟩ : ∃ (b : Fin 16) (t : Fin 8) (j : Fin 512), i = ix3 b t j :=
    ⟨i 0, i 1, i 2, by funext a; fin_cases a <;> rfl⟩
  exact (ref_decay (x0 := (m ((c.tc : Thread Cert.SampleIdeal.nD Cert.SampleIdeal.τ).loc Cert.SampleIdeal.main_arg0))) (x3 := (m ((c.tc : Thread Cert.SampleIdeal.nD Cert.SampleIdeal.τ).loc Cert.SampleIdeal.main_arg3))) (x4 := (m ((c.tc : Thread Cert.SampleIdeal.nD Cert.SampleIdeal.τ).loc Cert.SampleIdeal.main_arg4))) (x5 := (m ((c.tc : Thread Cert.SampleIdeal.nD Cert.SampleIdeal.τ).loc Cert.SampleIdeal.main_arg5))) (x6 := (m ((c.tc : Thread Cert.SampleIdeal.nD Cert.SampleIdeal.τ).loc Cert.SampleIdeal.main_arg6))) (x7 := (m ((c.tc : Thread Cert.SampleIdeal.nD Cert.SampleIdeal.τ).loc Cert.SampleIdeal.main_arg7))) (x8 := (m ((c.tc : Thread Cert.SampleIdeal.nD Cert.SampleIdeal.τ).loc Cert.SampleIdeal.main_arg8))) (x9 := (m ((c.tc : Thread Cert.SampleIdeal.nD Cert.SampleIdeal.τ).loc Cert.SampleIdeal.main_arg9))) (x10 := (m ((c.tc : Thread Cert.SampleIdeal.nD Cert.SampleIdeal.τ).loc Cert.SampleIdeal.main_arg10))) b t j).symm

theorem same_v : (Cert.SampleIdeal.Gen.dats m 0 c).arrAt 15 Cert.SampleIdeal.cfg0.N =
    val_main_v68 (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) := by
  refine (arr_v m c).trans (funext fun i => ?_)
  obtain ⟨b, t, j, rfl⟩ : ∃ (b : Fin 16) (t : Fin 8) (j : Fin 1024), i = ix3 b t j :=
    ⟨i 0, i 1, i 2, by funext a; fin_cases a <;> rfl⟩
  exact (ref_v (x0 := (m ((c.tc : Thread Cert.SampleIdeal.nD Cert.SampleIdeal.τ).loc Cert.SampleIdeal.main_arg0))) (x3 := (m ((c.tc : Thread Cert.SampleIdeal.nD Cert.SampleIdeal.τ).loc Cert.SampleIdeal.main_arg3))) (x4 := (m ((c.tc : Thread Cert.SampleIdeal.nD Cert.SampleIdeal.τ).loc Cert.SampleIdeal.main_arg4))) (x5 := (m ((c.tc : Thread Cert.SampleIdeal.nD Cert.SampleIdeal.τ).loc Cert.SampleIdeal.main_arg5))) (x6 := (m ((c.tc : Thread Cert.SampleIdeal.nD Cert.SampleIdeal.τ).loc Cert.SampleIdeal.main_arg6))) (x7 := (m ((c.tc : Thread Cert.SampleIdeal.nD Cert.SampleIdeal.τ).loc Cert.SampleIdeal.main_arg7))) (x8 := (m ((c.tc : Thread Cert.SampleIdeal.nD Cert.SampleIdeal.τ).loc Cert.SampleIdeal.main_arg8))) (x9 := (m ((c.tc : Thread Cert.SampleIdeal.nD Cert.SampleIdeal.τ).loc Cert.SampleIdeal.main_arg9))) (x10 := (m ((c.tc : Thread Cert.SampleIdeal.nD Cert.SampleIdeal.τ).loc Cert.SampleIdeal.main_arg10))) b t j).symm

theorem same_ya : (Cert.SampleIdeal.Gen.dats m 0 c).arrAt 16 Cert.SampleIdeal.cfg0.N =
    val_main_v69 (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) := by
  refine (arr_ya m c).trans (funext fun i => ?_)
  obtain ⟨b, j, rfl⟩ : ∃ (b : Fin 128) (j : Fin 1024), i = ix2 b j :=
    ⟨i 0, i 1, by funext a; fin_cases a <;> rfl⟩
  exact (ref_ya (x0 := (m ((c.tc : Thread Cert.SampleIdeal.nD Cert.SampleIdeal.τ).loc Cert.SampleIdeal.main_arg0))) (x1 := (m ((c.tc : Thread Cert.SampleIdeal.nD Cert.SampleIdeal.τ).loc Cert.SampleIdeal.main_arg1))) (x3 := (m ((c.tc : Thread Cert.SampleIdeal.nD Cert.SampleIdeal.τ).loc Cert.SampleIdeal.main_arg3))) (x4 := (m ((c.tc : Thread Cert.SampleIdeal.nD Cert.SampleIdeal.τ).loc Cert.SampleIdeal.main_arg4))) (x5 := (m ((c.tc : Thread Cert.SampleIdeal.nD Cert.SampleIdeal.τ).loc Cert.SampleIdeal.main_arg5))) (x6 := (m ((c.tc : Thread Cert.SampleIdeal.nD Cert.SampleIdeal.τ).loc Cert.SampleIdeal.main_arg6))) (x7 := (m ((c.tc : Thread Cert.SampleIdeal.nD Cert.SampleIdeal.τ).loc Cert.SampleIdeal.main_arg7))) (x8 := (m ((c.tc : Thread Cert.SampleIdeal.nD Cert.SampleIdeal.τ).loc Cert.SampleIdeal.main_arg8))) (x9 := (m ((c.tc : Thread Cert.SampleIdeal.nD Cert.SampleIdeal.τ).loc Cert.SampleIdeal.main_arg9))) (x10 := (m ((c.tc : Thread Cert.SampleIdeal.nD Cert.SampleIdeal.τ).loc Cert.SampleIdeal.main_arg10))) b j).symm

theorem same_g : (Cert.SampleIdeal.Gen.dats m 0 c).arrAt 17 Cert.SampleIdeal.cfg0.N =
    val_main_v70 (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) := by
  refine (arr_g m c).trans (funext fun i => ?_)
  obtain ⟨b, j, rfl⟩ : ∃ (b : Fin 128) (j : Fin 1024), i = ix2 b j :=
    ⟨i 0, i 1, by funext a; fin_cases a <;> rfl⟩
  exact (ref_g (x0 := (m ((c.tc : Thread Cert.SampleIdeal.nD Cert.SampleIdeal.τ).loc Cert.SampleIdeal.main_arg0))) (x3 := (m ((c.tc : Thread Cert.SampleIdeal.nD Cert.SampleIdeal.τ).loc Cert.SampleIdeal.main_arg3))) (x4 := (m ((c.tc : Thread Cert.SampleIdeal.nD Cert.SampleIdeal.τ).loc Cert.SampleIdeal.main_arg4))) (x5 := (m ((c.tc : Thread Cert.SampleIdeal.nD Cert.SampleIdeal.τ).loc Cert.SampleIdeal.main_arg5))) (x6 := (m ((c.tc : Thread Cert.SampleIdeal.nD Cert.SampleIdeal.τ).loc Cert.SampleIdeal.main_arg6))) (x7 := (m ((c.tc : Thread Cert.SampleIdeal.nD Cert.SampleIdeal.τ).loc Cert.SampleIdeal.main_arg7))) (x8 := (m ((c.tc : Thread Cert.SampleIdeal.nD Cert.SampleIdeal.τ).loc Cert.SampleIdeal.main_arg8))) (x9 := (m ((c.tc : Thread Cert.SampleIdeal.nD Cert.SampleIdeal.τ).loc Cert.SampleIdeal.main_arg9))) (x10 := (m ((c.tc : Thread Cert.SampleIdeal.nD Cert.SampleIdeal.τ).loc Cert.SampleIdeal.main_arg10))) b j).symm

theorem same_ga : (Cert.SampleIdeal.Gen.dats m 0 c).arrAt 18 Cert.SampleIdeal.cfg0.N =
    val_main_v71 (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) := by
  refine (arr_ga m c).trans (funext fun i => ?_)
  obtain ⟨b, j, rfl⟩ : ∃ (b : Fin 128) (j : Fin 1024), i = ix2 b j :=
    ⟨i 0, i 1, by funext a; fin_cases a <;> rfl⟩
  exact (ref_ga (x0 := (m ((c.tc : Thread Cert.SampleIdeal.nD Cert.SampleIdeal.τ).loc Cert.SampleIdeal.main_arg0))) (x3 := (m ((c.tc : Thread Cert.SampleIdeal.nD Cert.SampleIdeal.τ).loc Cert.SampleIdeal.main_arg3))) (x4 := (m ((c.tc : Thread Cert.SampleIdeal.nD Cert.SampleIdeal.τ).loc Cert.SampleIdeal.main_arg4))) (x5 := (m ((c.tc : Thread Cert.SampleIdeal.nD Cert.SampleIdeal.τ).loc Cert.SampleIdeal.main_arg5))) (x6 := (m ((c.tc : Thread Cert.SampleIdeal.nD Cert.SampleIdeal.τ).loc Cert.SampleIdeal.main_arg6))) (x7 := (m ((c.tc : Thread Cert.SampleIdeal.nD Cert.SampleIdeal.τ).loc Cert.SampleIdeal.main_arg7))) (x8 := (m ((c.tc : Thread Cert.SampleIdeal.nD Cert.SampleIdeal.τ).loc Cert.SampleIdeal.main_arg8))) (x9 := (m ((c.tc : Thread Cert.SampleIdeal.nD Cert.SampleIdeal.τ).loc Cert.SampleIdeal.main_arg9))) (x10 := (m ((c.tc : Thread Cert.SampleIdeal.nD Cert.SampleIdeal.τ).loc Cert.SampleIdeal.main_arg10))) b j).symm

theorem same_gb : (Cert.SampleIdeal.Gen.dats m 0 c).arrAt 19 Cert.SampleIdeal.cfg0.N =
    val_main_v72 (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) := by
  refine (arr_gb m c).trans (funext fun i => ?_)
  obtain ⟨b, j, rfl⟩ : ∃ (b : Fin 128) (j : Fin 1024), i = ix2 b j :=
    ⟨i 0, i 1, by funext a; fin_cases a <;> rfl⟩
  exact (ref_gb (x0 := (m ((c.tc : Thread Cert.SampleIdeal.nD Cert.SampleIdeal.τ).loc Cert.SampleIdeal.main_arg0))) (x3 := (m ((c.tc : Thread Cert.SampleIdeal.nD Cert.SampleIdeal.τ).loc Cert.SampleIdeal.main_arg3))) (x4 := (m ((c.tc : Thread Cert.SampleIdeal.nD Cert.SampleIdeal.τ).loc Cert.SampleIdeal.main_arg4))) (x5 := (m ((c.tc : Thread Cert.SampleIdeal.nD Cert.SampleIdeal.τ).loc Cert.SampleIdeal.main_arg5))) (x6 := (m ((c.tc : Thread Cert.SampleIdeal.nD Cert.SampleIdeal.τ).loc Cert.SampleIdeal.main_arg6))) (x7 := (m ((c.tc : Thread Cert.SampleIdeal.nD Cert.SampleIdeal.τ).loc Cert.SampleIdeal.main_arg7))) (x8 := (m ((c.tc : Thread Cert.SampleIdeal.nD Cert.SampleIdeal.τ).loc Cert.SampleIdeal.main_arg8))) (x9 := (m ((c.tc : Thread Cert.SampleIdeal.nD Cert.SampleIdeal.τ).loc Cert.SampleIdeal.main_arg9))) (x10 := (m ((c.tc : Thread Cert.SampleIdeal.nD Cert.SampleIdeal.τ).loc Cert.SampleIdeal.main_arg10))) b j).symm

theorem same_xs : (Cert.SampleIdeal.Gen.dats m 0 c).arrAt 20 Cert.SampleIdeal.cfg0.N =
    val_main_v73 (F := Ideal) (m ((c.tc : Thread Cert.SampleIdeal.nD Cert.SampleIdeal.τ).loc Cert.SampleIdeal.main_arg0)) := by
  refine (arr_xs m c).trans (funext fun i => ?_)
  obtain ⟨b, j, rfl⟩ : ∃ (b : Fin 128) (j : Fin 1024), i = ix2 b j :=
    ⟨i 0, i 1, by funext a; fin_cases a <;> rfl⟩
  exact (ref_x (x0 := (m ((c.tc : Thread Cert.SampleIdeal.nD Cert.SampleIdeal.τ).loc Cert.SampleIdeal.main_arg0))) b j).symm

theorem same_ps : (Cert.SampleIdeal.Gen.dats m 0 c).arrAt 21 Cert.SampleIdeal.cfg0.N =
    val_main_v74 (F := Ideal) (m ((c.tc : Thread Cert.SampleIdeal.nD Cert.SampleIdeal.τ).loc Cert.SampleIdeal.main_arg2)) := by
  refine (arr_ps m c).trans (funext fun i => ?_)
  obtain ⟨b, j, rfl⟩ : ∃ (b : Fin 128) (j : Fin 256), i = ix2 b j :=
    ⟨i 0, i 1, by funext a; fin_cases a <;> rfl⟩
  exact (ref_p (x2 := (m ((c.tc : Thread Cert.SampleIdeal.nD Cert.SampleIdeal.τ).loc Cert.SampleIdeal.main_arg2))) b j).symm

end Cert.Samples
-- ==== Proof.FfnWords.lean ====
/- The words for the dense block with the embedding's branch: what it computes from one token's rows. -/
module

public import proofs.«01_k».proof.Proof.Words

@[expose] public section

noncomputable section

namespace Cert.Ffns

open Idealize.ShloMosaic Cert.Mixer

/-- The weights of the block. -/
structure FfnW where
  /-- The gain before the block. -/
  pre : Fin 1024 → EReal
  gate : Fin 1024 → Fin 2816 → EReal
  up : Fin 1024 → Fin 2816 → EReal
  down : Fin 2816 → Fin 1024 → EReal
  /-- The gain after the block. -/
  post : Fin 1024 → EReal
  /-- The embedding's projection. -/
  pp : Fin 256 → Fin 1024 → EReal
  /-- The gate of the embedding's projection. -/
  pg : Fin 1024 → Fin 1024 → EReal
  /-- The gain of the embedding's branch. -/
  ple : Fin 1024 → EReal

namespace FfnW

variable (W : FfnW) (x : Fin 1024 → EReal) (p : Fin 256 → EReal)

/-- The normed row. -/
def fn (k : Fin 1024) : EReal := rms n1024 x W.pre k

def g (c : Fin 2816) : EReal := ∑ k, W.fn x k * W.gate k c

def u (c : Fin 2816) : EReal := ∑ k, W.fn x k * W.up k c

/-- The gated activation. -/
def act (c : Fin 2816) : EReal := W.g x c * sig (W.g x c) * W.u x c

def dn (j : Fin 1024) : EReal := ∑ c, W.act x c * W.down c j

/-- The row after the dense block. -/
def mid (j : Fin 1024) : EReal := x j + rms n1024 (W.dn x) W.post j

/-- The gated embedding. -/
def emb (j : Fin 1024) : EReal := (∑ k, p k * W.pp k j) * sig (∑ k, W.mid x k * W.pg k j)

/-- The row after the embedding's branch. -/
def row (j : Fin 1024) : EReal := W.mid x j + rms n1024 (W.emb x p) W.ple j

end FfnW

end Cert.Ffns

end

end
-- ==== Proof.FfnTile.lean ====
/- What the body of the block's call computes from the arrays it loads, by coordinates. -/
module

public import proofs.«01_k».proof.Proof.Scalars
public import proofs.«01_k».proof.Proof.FfnWords
public import proofs.«01_k».proof.Proof.Gen.FfnIdeal.Frame
public import proofs.«01_k».proof.Proof.Gen.FfnIdeal.Skeleton
public import Idealize.ShloMosaic.Lib.Pointwise

@[expose] public section

set_option maxRecDepth 16384

noncomputable section

namespace Cert.Ffns

open Idealize.ShloMosaic Cert.Mixer Cert.FfnIdeal Cert.FfnIdeal.Gen

/-- The logistic function as the body takes it, through a power of two. -/
def sigF (x : EReal) : EReal :=
  Ideal.div 1 (1 + Ideal.exp2 (x * Named.named (F := Ideal) (φ := .f32) Cert.FfnIdeal.κ "neg_log2e" 3216550459#32))

theorem sigF_eq (x : EReal) : sigF x = Mixer.sig x := sigK_eq x

/-- The weights a tile reads. -/
def tileW (wn : Vec Ideal S1x1024 .f32) (wg wu : Vec Ideal S1024x2816 .bf16) (wd : Vec Ideal S2816x1024 .bf16) (wp : Vec Ideal S1x1024 .f32)
    (pp : Vec Ideal S256x1024 .bf16) (pg : Vec Ideal S1024x1024 .bf16) (pl : Vec Ideal S1x1024 .f32) : FfnW where
  pre := fun j => wn (ix2 0 j)
  gate := fun k c => wg (ix2 k c)
  up := fun k c => wu (ix2 k c)
  down := fun k c => wd (ix2 k c)
  post := fun j => wp (ix2 0 j)
  pp := fun k c => pp (ix2 k c)
  pg := fun k c => pg (ix2 k c)
  ple := fun j => pl (ix2 0 j)

variable (x : Vec Ideal S512x1024 .f32) (p : Vec Ideal S512x256 .f32)
variable (wn : Vec Ideal S1x1024 .f32) (wg wu : Vec Ideal S1024x2816 .bf16) (wd : Vec Ideal S2816x1024 .bf16) (wp : Vec Ideal S1x1024 .f32)
variable (pp : Vec Ideal S256x1024 .bf16) (pg : Vec Ideal S1024x1024 .bf16) (pl : Vec Ideal S1x1024 .f32)

theorem pay4_apply (r : Fin 512) (j : Fin 1024) :
    k0_pay4 x wn wg wu wd (ix2 r j) = (tileW wn wg wu wd wp pp pg pl).dn (fun j => x (ix2 r j)) j := by
  unfold FfnW.dn FfnW.act
  simp only [← sigF_eq]
  unfold sigF FfnW.g FfnW.u FfnW.fn rms tileW
  pointwise [k0_pay4]
  rfl

theorem pay7_apply (d : FVec Ideal S512x1024 .f32) (W : FfnW) (hW : W = tileW wn wg wu wd wp pp pg pl) (r : Fin 512)
    (hd : ∀ j, d (ix2 r j) = W.dn (fun j => x (ix2 r j)) j) (j : Fin 1024) :
    k0_pay7 x p d (k0_pay5 wp) (mulf d d) pp pg pl (ix2 r j) = W.row (fun j => x (ix2 r j)) (fun k => p (ix2 r k)) j := by
  unfold FfnW.row FfnW.emb
  simp only [← sigF_eq]
  unfold FfnW.mid sigF rms
  simp only [← hd]
  subst hW
  unfold tileW
  pointwise [k0_pay7, k0_pay5]
  rfl

/-- The tile the body stores. -/
theorem tile_apply (r : Fin 512) (j : Fin 1024) :
    k0_pay7 x p (k0_pay4 x wn wg wu wd) (k0_pay5 wp) (k0_pay6 x wn wg wu wd) pp pg pl (ix2 r j) =
      (tileW wn wg wu wd wp pp pg pl).row (fun j => x (ix2 r j)) (fun k => p (ix2 r k)) j :=
  pay7_apply x p wn wg wu wd wp pp pg pl _ _ rfl r (fun j => pay4_apply x wn wg wu wd wp pp pg pl r j) j

end Cert.Ffns

end

end
-- ==== Proof.FfnRef.lean ====
/- The reference of the block, by coordinates, in the words of `FfnWords`. -/
module

public import proofs.«01_k».proof.Proof.FfnWords
public import proofs.«01_k».proof.Proof.Gen.FfnRefIdeal.Read
public import Idealize.ShloMosaic.Lib.Pointwise

@[expose] public section

set_option maxRecDepth 16384

noncomputable section

namespace Cert.Ffns

open Idealize.ShloMosaic Cert.Mixer Cert.FfnRefIdeal Cert.FfnRefIdeal.Read

variable (x0 : (⟨S16384x1024, .f32⟩ : BufTy).Contents (Elt Ideal)) (x1 : (⟨S16384x256, .f32⟩ : BufTy).Contents (Elt Ideal)) (x2 : (⟨S1024, .f32⟩ : BufTy).Contents (Elt Ideal))
variable (x3 x4 : (⟨S1024x2816, .bf16⟩ : BufTy).Contents (Elt Ideal)) (x5 : (⟨S2816x1024, .bf16⟩ : BufTy).Contents (Elt Ideal)) (x6 : (⟨S1024, .f32⟩ : BufTy).Contents (Elt Ideal))
variable (x7 : (⟨S256x1024, .bf16⟩ : BufTy).Contents (Elt Ideal)) (x8 : (⟨S1024x1024, .bf16⟩ : BufTy).Contents (Elt Ideal)) (x9 : (⟨S1024, .f32⟩ : BufTy).Contents (Elt Ideal))

/-- The weights of the arguments. -/
def refW : FfnW where
  pre := fun j => x2 (ix1 j)
  gate := fun k c => x3 (ix2 k c)
  up := fun k c => x4 (ix2 k c)
  down := fun k c => x5 (ix2 k c)
  post := fun j => x6 (ix1 j)
  pp := fun k c => x7 (ix2 k c)
  pg := fun k c => x8 (ix2 k c)
  ple := fun j => x9 (ix1 j)

/-- A token's row. -/
abbrev xrow (r : Fin 16384) : Fin 1024 → EReal := fun j => x0 (ix2 r j)

/-- A token's embedding. -/
abbrev prow (r : Fin 16384) : Fin 256 → EReal := fun j => x1 (ix2 r j)

theorem ref_fn (r : Fin 16384) (j : Fin 1024) : val_main_v12 (F := Ideal) x0 x2 (ix2 r j) = (refW x2 x3 x4 x5 x6 x7 x8 x9).fn (xrow x0 r) j := by
  unfold FfnW.fn rms refW
  pointwise [val_main_v12, val_main_v11, val_main_v10, val_main_v9, val_main_v8, val_main_v7, val_main_v6, val_main_v5, val_main_v4, val_main_v3, val_main_v2, val_main_v1, val_main_v0,
    val_main_cst, val_main_cst_0, val_main_cst_1]
  rfl

theorem ref_g (r : Fin 16384) (c : Fin 2816) : val_main_v14 (F := Ideal) x0 x2 x3 (ix2 r c) = (refW x2 x3 x4 x5 x6 x7 x8 x9).g (xrow x0 r) c := by
  unfold FfnW.g
  simp only [← ref_fn x0 x2 x3 x4 x5 x6 x7 x8 x9]
  unfold val_main_v14
  generalize val_main_v12 (F := Ideal) x0 x2 = h
  unfold refW
  pointwise [val_main_v13]

theorem ref_u (r : Fin 16384) (c : Fin 2816) : val_main_v17 (F := Ideal) x0 x2 x4 (ix2 r c) = (refW x2 x3 x4 x5 x6 x7 x8 x9).u (xrow x0 r) c := by
  unfold FfnW.u
  simp only [← ref_fn x0 x2 x3 x4 x5 x6 x7 x8 x9]
  unfold val_main_v17
  generalize val_main_v12 (F := Ideal) x0 x2 = h
  unfold refW
  pointwise [val_main_v16]

theorem ref_act (r : Fin 16384) (c : Fin 2816) : val_main_v18 (F := Ideal) x0 x2 x3 x4 (ix2 r c) = (refW x2 x3 x4 x5 x6 x7 x8 x9).act (xrow x0 r) c := by
  unfold FfnW.act Mixer.sig
  simp only [← ref_g x0 x2 x3 x4 x5 x6 x7 x8 x9, ← ref_u x0 x2 x3 x4 x5 x6 x7 x8 x9]
  unfold val_main_v18 val_main_v15 val_main_call0_v5 val_main_call0_v3 val_main_call0_v1 val_main_call0_v0
  generalize val_main_v14 (F := Ideal) x0 x2 x3 = g
  generalize val_main_v17 (F := Ideal) x0 x2 x4 = u
  pointwise [val_main_call0_v4, val_main_call0_v2, val_main_call0_cst, val_main_call0_cst_0]
  try rfl

theorem ref_dn (r : Fin 16384) (j : Fin 1024) : val_main_v20 (F := Ideal) x0 x2 x3 x4 x5 (ix2 r j) = (refW x2 x3 x4 x5 x6 x7 x8 x9).dn (xrow x0 r) j := by
  unfold FfnW.dn
  simp only [← ref_act x0 x2 x3 x4 x5 x6 x7 x8 x9]
  unfold val_main_v20
  generalize val_main_v18 (F := Ideal) x0 x2 x3 x4 = h
  unfold refW
  pointwise [val_main_v19]

theorem ref_mid (r : Fin 16384) (j : Fin 1024) : val_main_v34 (F := Ideal) x0 x2 x3 x4 x5 x6 (ix2 r j) = (refW x2 x3 x4 x5 x6 x7 x8 x9).mid (xrow x0 r) j := by
  unfold FfnW.mid rms
  simp only [← ref_dn x0 x2 x3 x4 x5 x6 x7 x8 x9]
  unfold val_main_v34 val_main_v33 val_main_v30 val_main_v29 val_main_v28 val_main_v27 val_main_v25 val_main_v23 val_main_v22 val_main_v21
  generalize val_main_v20 (F := Ideal) x0 x2 x3 x4 x5 = d
  unfold refW
  pointwise [val_main_v32, val_main_v31, val_main_v26, val_main_v24, val_main_cst_2, val_main_cst_3, val_main_cst_4]
  rfl

theorem ref_emb (r : Fin 16384) (j : Fin 1024) : val_main_v45 (F := Ideal) x0 x1 x2 x3 x4 x5 x6 x7 x8 (ix2 r j) = (refW x2 x3 x4 x5 x6 x7 x8 x9).emb (xrow x0 r) (prow x1 r) j := by
  unfold FfnW.emb Mixer.sig
  simp only [← ref_mid x0 x2 x3 x4 x5 x6 x7 x8 x9]
  unfold val_main_v45 val_main_v44 val_main_v42 val_main_v40 val_main_v39 val_main_v38
  generalize val_main_v34 (F := Ideal) x0 x2 x3 x4 x5 x6 = h
  unfold refW
  pointwise [val_main_v43, val_main_v41, val_main_v37, val_main_v36, val_main_v35, val_main_cst_5, val_main_cst_6]
  try rfl

/-- The reference's result. -/
theorem ref_row (r : Fin 16384) (j : Fin 1024) :
    val_main_v59 (F := Ideal) x0 x1 x2 x3 x4 x5 x6 x7 x8 x9 (ix2 r j) = (refW x2 x3 x4 x5 x6 x7 x8 x9).row (xrow x0 r) (prow x1 r) j := by
  unfold FfnW.row rms
  simp only [← ref_mid x0 x2 x3 x4 x5 x6 x7 x8 x9, ← ref_emb x0 x1 x2 x3 x4 x5 x6 x7 x8 x9]
  unfold val_main_v59 val_main_v58 val_main_v55 val_main_v54 val_main_v53 val_main_v52 val_main_v50 val_main_v48 val_main_v47 val_main_v46
  generalize val_main_v34 (F := Ideal) x0 x2 x3 x4 x5 x6 = h
  generalize val_main_v45 (F := Ideal) x0 x1 x2 x3 x4 x5 x6 x7 x8 = e
  unfold refW
  pointwise [val_main_v57, val_main_v56, val_main_v51, val_main_v49, val_main_cst_7, val_main_cst_8, val_main_cst_9]
  rfl

end Cert.Ffns

end

end
-- ==== Proof.FfnArgs.lean ====
/- What the operands of the block's call hold, by coordinates, in the call's arguments. -/
module

public import proofs.«01_k».proof.Proof.FfnTile
public import proofs.«01_k».proof.Proof.FfnRef
public import Idealize.ShloMosaic.Lib.StableHlo.RunRead
public import Idealize.ShloMosaic.Lib.Claim
public import Idealize.ShloMosaic.Lib.Pipeline.Value
public import Idealize.ShloMosaic.Lib.Pipeline.ValueKit.Geometry
public import Idealize.ShloMosaic.Lib.Pipeline.ValueKit.Point

@[expose] public section

set_option maxRecDepth 16384

noncomputable section

namespace Cert.Ffns

open Idealize.ShloMosaic Idealize.ShloMosaic.TcCoe Cert.Mixer Cert.FfnIdeal Cert.FfnIdeal.Gen

variable (m : (ℓ : Loc nD τ Cert.FfnIdeal.sig) → Buf (Elt Ideal) ℓ) (c : Dev nD)

/-- The token whose row is row `k` of the tile at point `t`; the last point stays at the last tile. -/
abbrev tok (t : ℕ) (k : Fin 512) : Fin 16384 := ⟨min t 31 * 512 + k.val, by omega⟩

theorem idx0 : ∀ t : Fin cfg0.N, win0_0.index t 0 = min t.val 31 ∧ win0_0.index t 1 = 0 :=
  (by decide +kernel : ∀ t : Fin grid0.N, win0_0.index t 0 = min t.val 31 ∧ win0_0.index t 1 = 0)

theorem blk_0 (t : Fin cfg0.N) (k : Fin 512) (j : Fin 1024) : iblk m c 0 t (ix2 k j) = V m c main_arg0 (ix2 (tok t.val k) j) := by
  have h := idx0 t
  blk_ext [iblk, h.1, h.2]

theorem idx1 : ∀ t : Fin cfg0.N, win0_1.index t 0 = min t.val 31 ∧ win0_1.index t 1 = 0 :=
  (by decide +kernel : ∀ t : Fin grid0.N, win0_1.index t 0 = min t.val 31 ∧ win0_1.index t 1 = 0)

theorem blk_1 (t : Fin cfg0.N) (k : Fin 512) (j : Fin 256) : iblk m c 1 t (ix2 k j) = V m c main_arg1 (ix2 (tok t.val k) j) := by
  have h := idx1 t
  blk_ext [iblk, h.1, h.2]

theorem idx2 : ∀ t : Fin cfg0.N, win0_2.index t 0 = 0 ∧ win0_2.index t 1 = 0 :=
  (by decide +kernel : ∀ t : Fin grid0.N, win0_2.index t 0 = 0 ∧ win0_2.index t 1 = 0)

theorem blk_2 (t : Fin cfg0.N) (j : Fin 1024) : iblk m c 2 t (ix2 0 j) = V m c main_v0 (ix2 0 j) := by
  have h := idx2 t
  blk_ext [iblk, h.1, h.2]

theorem idx3 : ∀ t : Fin cfg0.N, win0_3.index t 0 = 0 ∧ win0_3.index t 1 = 0 :=
  (by decide +kernel : ∀ t : Fin grid0.N, win0_3.index t 0 = 0 ∧ win0_3.index t 1 = 0)

theorem blk_3 (t : Fin cfg0.N) (k : Fin 1024) (j : Fin 2816) : iblk m c 3 t (ix2 k j) = V m c main_arg3 (ix2 k j) := by
  have h := idx3 t
  blk_ext [iblk, h.1, h.2]

theorem idx4 : ∀ t : Fin cfg0.N, win0_4.index t 0 = 0 ∧ win0_4.index t 1 = 0 :=
  (by decide +kernel : ∀ t : Fin grid0.N, win0_4.index t 0 = 0 ∧ win0_4.index t 1 = 0)

theorem blk_4 (t : Fin cfg0.N) (k : Fin 1024) (j : Fin 2816) : iblk m c 4 t (ix2 k j) = V m c main_arg4 (ix2 k j) := by
  have h := idx4 t
  blk_ext [iblk, h.1, h.2]

theorem idx5 : ∀ t : Fin cfg0.N, win0_5.index t 0 = 0 ∧ win0_5.index t 1 = 0 :=
  (by decide +kernel : ∀ t : Fin grid0.N, win0_5.index t 0 = 0 ∧ win0_5.index t 1 = 0)

theorem blk_5 (t : Fin cfg0.N) (k : Fin 2816) (j : Fin 1024) : iblk m c 5 t (ix2 k j) = V m c main_arg5 (ix2 k j) := by
  have h := idx5 t
  blk_ext [iblk, h.1, h.2]

theorem idx6 : ∀ t : Fin cfg0.N, win0_6.index t 0 = 0 ∧ win0_6.index t 1 = 0 :=
  (by decide +kernel : ∀ t : Fin grid0.N, win0_6.index t 0 = 0 ∧ win0_6.index t 1 = 0)

theorem blk_6 (t : Fin cfg0.N) (j : Fin 1024) : iblk m c 6 t (ix2 0 j) = V m c main_v1 (ix2 0 j) := by
  have h := idx6 t
  blk_ext [iblk, h.1, h.2]

theorem idx7 : ∀ t : Fin cfg0.N, win0_7.index t 0 = 0 ∧ win0_7.index t 1 = 0 :=
  (by decide +kernel : ∀ t : Fin grid0.N, win0_7.index t 0 = 0 ∧ win0_7.index t 1 = 0)

theorem blk_7 (t : Fin cfg0.N) (k : Fin 256) (j : Fin 1024) : iblk m c 7 t (ix2 k j) = V m c main_arg7 (ix2 k j) := by
  have h := idx7 t
  blk_ext [iblk, h.1, h.2]

theorem idx8 : ∀ t : Fin cfg0.N, win0_8.index t 0 = 0 ∧ win0_8.index t 1 = 0 :=
  (by decide +kernel : ∀ t : Fin grid0.N, win0_8.index t 0 = 0 ∧ win0_8.index t 1 = 0)

theorem blk_8 (t : Fin cfg0.N) (k : Fin 1024) (j : Fin 1024) : iblk m c 8 t (ix2 k j) = V m c main_arg8 (ix2 k j) := by
  have h := idx8 t
  blk_ext [iblk, h.1, h.2]

theorem idx9 : ∀ t : Fin cfg0.N, win0_9.index t 0 = 0 ∧ win0_9.index t 1 = 0 :=
  (by decide +kernel : ∀ t : Fin grid0.N, win0_9.index t 0 = 0 ∧ win0_9.index t 1 = 0)

theorem blk_9 (t : Fin cfg0.N) (j : Fin 1024) : iblk m c 9 t (ix2 0 j) = V m c main_v2 (ix2 0 j) := by
  have h := idx9 t
  blk_ext [iblk, h.1, h.2]

theorem host_pre (j : Fin 1024) : V m c main_v0 (ix2 0 j) = m ((c : Thread nD τ).loc main_arg2) (ix1 j) := by
  unfold V
  simp only [hostOps0, List.flatten_cons, List.flatten_nil, List.append_nil, List.cons_append, List.nil_append]
  after_reads_simp
  pointwise

theorem host_post (j : Fin 1024) : V m c main_v1 (ix2 0 j) = m ((c : Thread nD τ).loc main_arg6) (ix1 j) := by
  unfold V
  simp only [hostOps0, List.flatten_cons, List.flatten_nil, List.append_nil, List.cons_append, List.nil_append]
  after_reads_simp
  pointwise

theorem host_ple (j : Fin 1024) : V m c main_v2 (ix2 0 j) = m ((c : Thread nD τ).loc main_arg9) (ix1 j) := by
  unfold V
  simp only [hostOps0, List.flatten_cons, List.flatten_nil, List.append_nil, List.cons_append, List.nil_append]
  after_reads_simp
  pointwise

/-- The call's weights. -/
def W0 : FfnW := refW (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem tileW_eq (t : Fin cfg0.N) :
    tileW (iblk m c 2 t) (iblk m c 3 t) (iblk m c 4 t) (iblk m c 5 t) (iblk m c 6 t) (iblk m c 7 t) (iblk m c 8 t) (iblk m c 9 t) = W0 m c := by
  unfold tileW W0 refW
  congr 1
  · exact funext fun j => (blk_2 m c t j).trans (host_pre m c j)
  · exact funext fun k => funext fun j => (blk_3 m c t k j).trans (congrFun (V_main_arg3 m c) _)
  · exact funext fun k => funext fun j => (blk_4 m c t k j).trans (congrFun (V_main_arg4 m c) _)
  · exact funext fun k => funext fun j => (blk_5 m c t k j).trans (congrFun (V_main_arg5 m c) _)
  · exact funext fun j => (blk_6 m c t j).trans (host_post m c j)
  · exact funext fun k => funext fun j => (blk_7 m c t k j).trans (congrFun (V_main_arg7 m c) _)
  · exact funext fun k => funext fun j => (blk_8 m c t k j).trans (congrFun (V_main_arg8 m c) _)
  · exact funext fun j => (blk_9 m c t j).trans (host_ple m c j)

/-- The rows the tile at point `t` holds, from the blocks it reads. -/
theorem tile_rows (t : Fin cfg0.N) (r : Fin 512) (j : Fin 1024) :
    k0_pay7 (iblk m c 0 t) (iblk m c 1 t) (k0_pay4 (iblk m c 0 t) (iblk m c 2 t) (iblk m c 3 t) (iblk m c 4 t) (iblk m c 5 t)) (k0_pay5 (iblk m c 6 t))
        (k0_pay6 (iblk m c 0 t) (iblk m c 2 t) (iblk m c 3 t) (iblk m c 4 t) (iblk m c 5 t)) (iblk m c 7 t) (iblk m c 8 t) (iblk m c 9 t) (ix2 r j) =
      (W0 m c).row (xrow (m ((c : Thread nD τ).loc main_arg0)) (tok t.val r)) (prow (m ((c : Thread nD τ).loc main_arg1)) (tok t.val r)) j := by
  refine (tile_apply _ _ _ _ _ _ _ _ _ _ r j).trans ?_
  rw [tileW_eq m c t]
  congr 1
  · exact funext fun j => (blk_0 m c t r j).trans (congrFun (V_main_arg0 m c) _)
  · exact funext fun j => (blk_1 m c t r j).trans (congrFun (V_main_arg1 m c) _)

end Cert.Ffns

end

end
-- ==== Proof.FfnIdealCond.lean ====
module

public import proofs.«01_k».proof.Proof.Gen.FfnIdeal.Frame
public import proofs.«01_k».proof.Proof.Gen.FfnIdeal.Skeleton

set_option maxRecDepth 16384

@[expose] public section

noncomputable section

namespace Cert.FfnIdeal.Own

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition under which the body clears its scratch: the first point. -/
abbrev cond0_0 (i : grid0.Coords) : Prop := (Scalar.cmpi .ne (Scalar.extui (Scalar.cmpi .eq (BitVec.ofNat 32 (i 0).val) 0#32)) 0#32) = 1#1

/-- The group of eight samples a point works on, in closed form: four samples a point, eight a group. -/
theorem off1_eq (i : grid0.Coords) : k0_off1 i = ![(i 0).val / 2, 0, 0] := by
  have hn : (i 0).val < 33 := (i 0).isLt
  unfold k0_off1
  generalize (i 0).val = n at hn
  interval_cases n <;> rfl

instance closedOff1 (i : grid0.Coords) : ClosedOff (k0_off1 i) := ⟨![(i 0).val / 2, 0, 0], off1_eq i⟩

end Cert.FfnIdeal.Own

end

end
-- ==== Proof.FfnIdealRunA.lean ====
module

public import proofs.«01_k».proof.Proof.Gen.FfnIdeal.Frame
public import proofs.«01_k».proof.Proof.Gen.FfnIdeal.Skeleton
public import proofs.«01_k».proof.Proof.FfnIdealCond

set_option maxRecDepth 16384

@[expose] public section

noncomputable section

namespace Cert.FfnIdeal.Own

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in set_option sl_exec.squeezeSlice true in
/-- The body at the first point: the scratch is cleared, then the tile of the rows and four samples are done. On whole staging buffers, the inputs' at their contents, it runs to the
    continuation with the inputs' as they were, the rows' tile with the pieces `L25` written, and the other outputs' and the scratch at some contents. -/
noncomputable def ffnRun_A (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S4x4x128x256 .f32) (harg11 : arg11.IsWhole) (arg12 : Memref sig .tc .vmem S16x8x512 .f32) (harg12 : arg12.IsWhole) (arg13 : Memref sig .tc .vmem S16x8x512 .f32) (harg13 : arg13.IsWhole) (arg14 : Memref sig .tc .vmem S16x8x512 .f32) (harg14 : arg14.IsWhole) (arg15 : Memref sig .tc .vmem S16x8x1024 .f32) (harg15 : arg15.IsWhole) (arg16 : Memref sig .tc .vmem S128x1024 .f32) (harg16 : arg16.IsWhole) (arg17 : Memref sig .tc .vmem S128x256 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S128x1024 .f32) (harg21 : arg21.IsWhole) (arg22 : Memref sig .tc .vmem S1x256 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S1x1024 .f32) (harg25 : arg25.IsWhole) (arg26 : Memref sig .tc .vmem S512x1024 .f32) (harg26 : arg26.IsWhole) (arg27 : Memref sig .tc .vmem S4x4x128x256 .f32) (harg27 : arg27.IsWhole) (arg28 : Memref sig .tc .vmem S128x1024 .f32) (harg28 : arg28.IsWhole) (arg29 : Memref sig .tc .vmem S16x8x1024 .f32) (harg29 : arg29.IsWhole) (hc0 : cond0_0 i) (hc1 : k0_cond2 i = 1#1) (hc2 : ¬k0_cond3 i = 1#1)
    (x0 : Vec F S512x1024 .f32) (x1 : Vec F S512x256 .f32) (x2 : Vec F S1x1024 .f32) (x3 : Vec F S1024x2816 .bf16) (x4 : Vec F S1024x2816 .bf16) (x5 : Vec F S2816x1024 .bf16) (x6 : Vec F S1x1024 .f32) (x7 : Vec F S256x1024 .bf16) (x8 : Vec F S1024x1024 .bf16) (x9 : Vec F S1x1024 .f32) (x10 : Vec F S4x4x128x256 .f32) (x11 : Vec F S16x8x512 .f32) (x12 : Vec F S16x8x512 .f32) (x13 : Vec F S16x8x512 .f32) (x14 : Vec F S16x8x1024 .f32) (x15 : Vec F S128x1024 .f32) (x16 : Vec F S128x256 .f32) (x17 : Vec F S128x1024 .f32) (x18 : Vec F S128x1024 .f32) (x19 : Vec F S128x1024 .f32) (x20 : Vec F S128x1024 .f32) (x21 : Vec F S1x256 .f32) (x22 : Vec F S1024x1024 .bf16) (x23 : Vec F S1024x1024 .bf16) (x24 : Vec F S1x1024 .f32) :
    { L25 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ f, arg26.view.loc (c : Thread nD τ) ↦[arg26.view.set]{fullShare} arg26.view.writes (Elt F) f L25) ∗ (∃ d, owns (c : Thread nD τ) arg27 fullShare d) ∗ (∃ d, owns (c : Thread nD τ) arg28 fullShare d) ∗ (∃ d, owns (c : Thread nD τ) arg29 fullShare d)) -∗ K ⟨⟩))
          ⊢ wp frame (wpE (defs₀ (F := F)) Variants.none c none) E (cc0_ffn_ple i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, fun E K => ?run⟩
  case run =>
    simp only [cc0_ffn_ple_eq_skeleton]; unfold cc0_ffn_ple_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]; unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]; · iexists _; iexact H25
    isplitl [H26]
    · iexists _, _; isplitr; swap; · iexact H26
      ipureintro; rfl
    isplitl [H27]
    · iexists _, _; isplitr; swap; · iexact H27
      ipureintro; rfl
    iexists _, _; isplitr; swap; · iexact HS0
    ipureintro; rfl

end Cert.FfnIdeal.Own

end

end
-- ==== Proof.FfnIdealRunB.lean ====
module

public import proofs.«01_k».proof.Proof.Gen.FfnIdeal.Frame
public import proofs.«01_k».proof.Proof.Gen.FfnIdeal.Skeleton
public import proofs.«01_k».proof.Proof.FfnIdealCond

set_option maxRecDepth 16384

@[expose] public section

noncomputable section

namespace Cert.FfnIdeal.Own

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in set_option sl_exec.squeezeSlice true in
/-- The body at the points between: the tile of the rows and four samples are done. On whole staging buffers, the inputs' at their contents, it runs to the
    continuation with the inputs' as they were, the rows' tile with the pieces `L25` written, and the other outputs' and the scratch at some contents. -/
noncomputable def ffnRun_B (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S4x4x128x256 .f32) (harg11 : arg11.IsWhole) (arg12 : Memref sig .tc .vmem S16x8x512 .f32) (harg12 : arg12.IsWhole) (arg13 : Memref sig .tc .vmem S16x8x512 .f32) (harg13 : arg13.IsWhole) (arg14 : Memref sig .tc .vmem S16x8x512 .f32) (harg14 : arg14.IsWhole) (arg15 : Memref sig .tc .vmem S16x8x1024 .f32) (harg15 : arg15.IsWhole) (arg16 : Memref sig .tc .vmem S128x1024 .f32) (harg16 : arg16.IsWhole) (arg17 : Memref sig .tc .vmem S128x256 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S128x1024 .f32) (harg21 : arg21.IsWhole) (arg22 : Memref sig .tc .vmem S1x256 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S1x1024 .f32) (harg25 : arg25.IsWhole) (arg26 : Memref sig .tc .vmem S512x1024 .f32) (harg26 : arg26.IsWhole) (arg27 : Memref sig .tc .vmem S4x4x128x256 .f32) (harg27 : arg27.IsWhole) (arg28 : Memref sig .tc .vmem S128x1024 .f32) (harg28 : arg28.IsWhole) (arg29 : Memref sig .tc .vmem S16x8x1024 .f32) (harg29 : arg29.IsWhole) (hc0 : ¬cond0_0 i) (hc1 : k0_cond2 i = 1#1) (hc2 : ¬k0_cond3 i = 1#1)
    (x0 : Vec F S512x1024 .f32) (x1 : Vec F S512x256 .f32) (x2 : Vec F S1x1024 .f32) (x3 : Vec F S1024x2816 .bf16) (x4 : Vec F S1024x2816 .bf16) (x5 : Vec F S2816x1024 .bf16) (x6 : Vec F S1x1024 .f32) (x7 : Vec F S256x1024 .bf16) (x8 : Vec F S1024x1024 .bf16) (x9 : Vec F S1x1024 .f32) (x10 : Vec F S4x4x128x256 .f32) (x11 : Vec F S16x8x512 .f32) (x12 : Vec F S16x8x512 .f32) (x13 : Vec F S16x8x512 .f32) (x14 : Vec F S16x8x1024 .f32) (x15 : Vec F S128x1024 .f32) (x16 : Vec F S128x256 .f32) (x17 : Vec F S128x1024 .f32) (x18 : Vec F S128x1024 .f32) (x19 : Vec F S128x1024 .f32) (x20 : Vec F S128x1024 .f32) (x21 : Vec F S1x256 .f32) (x22 : Vec F S1024x1024 .bf16) (x23 : Vec F S1024x1024 .bf16) (x24 : Vec F S1x1024 .f32) :
    { L25 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ f, arg26.view.loc (c : Thread nD τ) ↦[arg26.view.set]{fullShare} arg26.view.writes (Elt F) f L25) ∗ (∃ d, owns (c : Thread nD τ) arg27 fullShare d) ∗ (∃ d, owns (c : Thread nD τ) arg28 fullShare d) ∗ (∃ d, owns (c : Thread nD τ) arg29 fullShare d)) -∗ K ⟨⟩))
          ⊢ wp frame (wpE (defs₀ (F := F)) Variants.none c none) E (cc0_ffn_ple i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, fun E K => ?run⟩
  case run =>
    simp only [cc0_ffn_ple_eq_skeleton]; unfold cc0_ffn_ple_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]; unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]; · iexists _; iexact H25
    isplitl [H26]
    · iexists _, _; isplitr; swap; · iexact H26
      ipureintro; rfl
    isplitl [H27]
    · iexists _, _; isplitr; swap; · iexact H27
      ipureintro; rfl
    iexists _, _; isplitr; swap; · iexact HS0
    ipureintro; rfl

end Cert.FfnIdeal.Own

end

end
-- ==== Proof.FfnIdealRunC.lean ====
module

public import proofs.«01_k».proof.Proof.Gen.FfnIdeal.Frame
public import proofs.«01_k».proof.Proof.Gen.FfnIdeal.Skeleton
public import proofs.«01_k».proof.Proof.FfnIdealCond

set_option maxRecDepth 16384

@[expose] public section

noncomputable section

namespace Cert.FfnIdeal.Own

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in set_option sl_exec.squeezeSlice true in
/-- The body at the last point: the samples' rows are done and the tile of the rows is left as it is. On whole staging buffers, the inputs' at their contents, it runs to the
    continuation with the inputs' as they were, the rows' tile as it was, and the other outputs' and the scratch at some contents. -/
theorem ffnRun_C (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S4x4x128x256 .f32) (harg11 : arg11.IsWhole) (arg12 : Memref sig .tc .vmem S16x8x512 .f32) (harg12 : arg12.IsWhole) (arg13 : Memref sig .tc .vmem S16x8x512 .f32) (harg13 : arg13.IsWhole) (arg14 : Memref sig .tc .vmem S16x8x512 .f32) (harg14 : arg14.IsWhole) (arg15 : Memref sig .tc .vmem S16x8x1024 .f32) (harg15 : arg15.IsWhole) (arg16 : Memref sig .tc .vmem S128x1024 .f32) (harg16 : arg16.IsWhole) (arg17 : Memref sig .tc .vmem S128x256 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S128x1024 .f32) (harg21 : arg21.IsWhole) (arg22 : Memref sig .tc .vmem S1x256 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S1x1024 .f32) (harg25 : arg25.IsWhole) (arg26 : Memref sig .tc .vmem S512x1024 .f32) (harg26 : arg26.IsWhole) (arg27 : Memref sig .tc .vmem S4x4x128x256 .f32) (harg27 : arg27.IsWhole) (arg28 : Memref sig .tc .vmem S128x1024 .f32) (harg28 : arg28.IsWhole) (arg29 : Memref sig .tc .vmem S16x8x1024 .f32) (harg29 : arg29.IsWhole) (hc0 : ¬cond0_0 i) (hc1 : ¬k0_cond2 i = 1#1) (hc2 : k0_cond3 i = 1#1)
    (x0 : Vec F S512x1024 .f32) (x1 : Vec F S512x256 .f32) (x2 : Vec F S1x1024 .f32) (x3 : Vec F S1024x2816 .bf16) (x4 : Vec F S1024x2816 .bf16) (x5 : Vec F S2816x1024 .bf16) (x6 : Vec F S1x1024 .f32) (x7 : Vec F S256x1024 .bf16) (x8 : Vec F S1024x1024 .bf16) (x9 : Vec F S1x1024 .f32) (x10 : Vec F S4x4x128x256 .f32) (x11 : Vec F S16x8x512 .f32) (x12 : Vec F S16x8x512 .f32) (x13 : Vec F S16x8x512 .f32) (x14 : Vec F S16x8x1024 .f32) (x15 : Vec F S128x1024 .f32) (x16 : Vec F S128x256 .f32) (x17 : Vec F S128x1024 .f32) (x18 : Vec F S128x1024 .f32) (x19 : Vec F S128x1024 .f32) (x20 : Vec F S128x1024 .f32) (x21 : Vec F S1x256 .f32) (x22 : Vec F S1024x1024 .bf16) (x23 : Vec F S1024x1024 .bf16) (x24 : Vec F S1x1024 .f32) (xo : Vec F S512x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare xo ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare xo ∗ (∃ d, owns (c : Thread nD τ) arg27 fullShare d) ∗ (∃ d, owns (c : Thread nD τ) arg28 fullShare d) ∗ (∃ d, owns (c : Thread nD τ) arg29 fullShare d)) -∗ K ⟨⟩))
          ⊢ wp frame (wpE (defs₀ (F := F)) Variants.none c none) E (cc0_ffn_ple i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  intro E K
  simp only [cc0_ffn_ple_eq_skeleton]; unfold cc0_ffn_ple_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]; unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%d27, %f27, -, H27⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; · ipureintro; exact harg20.read_unread _
    iexact H19
  isplitl [H20]
  · iexists _; isplitr; · ipureintro; exact harg21.read_unread _
    iexact H20
  isplitl [H21]
  · iexists _; isplitr; · ipureintro; exact harg22.read_unread _
    iexact H21
  isplitl [H22]
  · iexists _; isplitr; · ipureintro; exact harg23.read_unread _
    iexact H22
  isplitl [H23]
  · iexists _; isplitr; · ipureintro; exact harg24.read_unread _
    iexact H23
  isplitl [H24]
  · iexists _; isplitr; · ipureintro; exact harg25.read_unread _
    iexact H24
  isplitl [H25]
  · iexists _; isplitr; · ipureintro; exact harg26.read_unread _
    iexact H25
  isplitl [H26]
  · iexists _, _; isplitr; swap; · iexact H26
    ipureintro; rfl
  isplitl [H27]
  · iexists _, _; isplitr; swap; · iexact H27
    ipureintro; rfl
  iexists _, _; isplitr; swap; · iexact HS0
  ipureintro; rfl

end Cert.FfnIdeal.Own

end

end
-- ==== Proof.FfnIdealFrame.lean ====
/- The run of the call of the channel mixer, the embeddings and the samples' state. The tile of the rows is tracked point by
   point; the samples' state and rows are left at some contents. -/
module

public import proofs.«01_k».proof.Proof.Gen.FfnIdeal.Frame
public import proofs.«01_k».proof.Proof.Gen.FfnIdeal.Skeleton
public import proofs.«01_k».proof.Proof.FfnIdealRunA
public import proofs.«01_k».proof.Proof.FfnIdealRunB
public import proofs.«01_k».proof.Proof.FfnIdealRunC
public import Idealize.ShloMosaic.Lib.Claim

set_option maxRecDepth 16384

@[expose] public section

noncomputable section

namespace Cert.FfnIdeal.Own

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2816 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2816 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2816x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x4x128x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x8x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16x8x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S16x8x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S16x8x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S128x1024 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S128x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S128x1024 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S128x1024 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x256 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1024x1024 .bf16 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1024x1024 .bf16 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x1024 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S512x1024 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S4x4x128x256 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S128x1024 .f32 := win0_27.stage (cfg0.slots t 27)
abbrev hs0_27 (t : Fin cfg0.N) : (ms0_27 t).IsWhole := hstage0_27 ((cfg0.slots t 27).cast nbuf0_27)
abbrev scM0_0 : Memref sig .tc .vmem S16x8x1024 .f32 := Memref.whole cc0_scratch0
abbrev VO0_25 : View sig .tc .vmem S512x1024 .f32 := (Memref.whole cc0_stg25_0 : Memref sig .tc .vmem S512x1024 .f32).view

/-- The scratch is cleared at the first point, -/
theorem hcond0 : ∀ t : Fin cfg0.N, cond0_0 (grid0.coords t) ↔ t.val = 0 :=
  (by decide +kernel : ∀ t : Fin grid0.N, cond0_0 (grid0.coords t) ↔ t.val = 0)
/-- the rows' tile and four samples are done at every point but the last, -/
theorem hcond1 : ∀ t : Fin cfg0.N, k0_cond2 (grid0.coords t) = 1#1 ↔ t.val < 32 :=
  (by decide +kernel : ∀ t : Fin grid0.N, k0_cond2 (grid0.coords t) = 1#1 ↔ t.val < 32)
/-- and the samples' rows at the last. -/
theorem hcond2 : ∀ t : Fin cfg0.N, k0_cond3 (grid0.coords t) = 1#1 ↔ t.val = 32 :=
  (by decide +kernel : ∀ t : Fin grid0.N, k0_cond3 (grid0.coords t) = 1#1 ↔ t.val = 32)

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The pieces of the rows' tile stored at the first point, -/
def pcs_A (c : Dev nD) (t : Fin cfg0.N) (h0 : t.val = 0) : List (View.Piece (Elt F) S512x1024 .f32) :=
  (ffnRun_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) ((hcond0 t).mpr h0) ((hcond1 t).mpr (by omega)) (fun h => by have := (hcond2 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).1

/-- which cover the tile. -/
theorem cover_A (c : Dev nD) (t : Fin cfg0.N) (h0 : t.val = 0) (y : S512x1024.Idx) : ∃ pc ∈ pcs_A m c t h0, y ∈ pc.1.set :=
  View.cover_of_tiledL _ S512x1024.size (by unfold pcs_A; sl_kernel_rfl) y

/-- The pieces of the rows' tile stored at a point between, -/
def pcs_B (c : Dev nD) (t : Fin cfg0.N) (h0 : ¬t.val = 0) (h1 : t.val < 32) : List (View.Piece (Elt F) S512x1024 .f32) :=
  (ffnRun_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (fun h => h0 ((hcond0 t).mp h)) ((hcond1 t).mpr h1) (fun h => by have := (hcond2 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).1

/-- which cover the tile. -/
theorem cover_B (c : Dev nD) (t : Fin cfg0.N) (h0 : ¬t.val = 0) (h1 : t.val < 32) (y : S512x1024.Idx) : ∃ pc ∈ pcs_B m c t h0 h1, y ∈ pc.1.set :=
  View.cover_of_tiledL _ S512x1024.size (by unfold pcs_B; sl_kernel_rfl) y

/-- The rows' tile after point `t`: what the point stores, and at the last point what the one before stored. -/
def tileAt (c : Dev nD) (t : Fin cfg0.N) : Vec F S512x1024 .f32 :=
  if h0 : t.val = 0 then VO0_25.read (Elt F) (VO0_25.writes (Elt F) VO0_25.junk (pcs_A m c t h0))
  else if h1 : t.val < 32 then VO0_25.read (Elt F) (VO0_25.writes (Elt F) VO0_25.junk (pcs_B m c t h0 h1))
  else VO0_25.read (Elt F) (VO0_25.writes (Elt F) VO0_25.junk (pcs_B m c ⟨31, by rw [show cfg0.N = 33 from N_0]; omega⟩ (by simp) (by simp)))

theorem tileAt_A (c : Dev nD) (t : Fin cfg0.N) (h0 : t.val = 0) :
    tileAt m c t = VO0_25.read (Elt F) (VO0_25.writes (Elt F) VO0_25.junk (pcs_A m c t h0)) := dif_pos h0

theorem tileAt_B (c : Dev nD) (t : Fin cfg0.N) (h0 : ¬t.val = 0) (h1 : t.val < 32) :
    tileAt m c t = VO0_25.read (Elt F) (VO0_25.writes (Elt F) VO0_25.junk (pcs_B m c t h0 h1)) := (dif_neg h0).trans (dif_pos h1)

theorem tileAt_C (c : Dev nD) (t : Fin cfg0.N) (h2 : t.val = 32) :
    tileAt m c t = tileAt m c ⟨t.val - 1, Nat.lt_of_le_of_lt (Nat.sub_le _ _) t.isLt⟩ := by
  obtain ⟨n, hn⟩ := t
  dsimp only at h2
  subst h2
  refine ((dif_neg (show ¬(32 : ℕ) = 0 by omega)).trans (dif_neg (show ¬(32 : ℕ) < 32 by omega))).trans ?_
  exact (tileAt_B m c ⟨31, _⟩ (show ¬(31 : ℕ) = 0 by omega) (show (31 : ℕ) < 32 by omega)).symm

/-- The windows whose contents are not followed: the samples' state and rows. -/
def fgt : Fin cfg0.W → Bool := fun w => Nat.ble 26 w.val

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => tileAt m c t
    | ⟨26, _⟩ => iblk m c 26 t
    | ⟨27, _⟩ => iblk m c 27 t
    | ⟨_ + 28, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = tileAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d

theorem idle25 : ∀ t : Fin cfg0.N, t.val < 32 → cfg0.idle 25 (cfg0.grid.coords t) = false :=
  (by decide +kernel : ∀ t : Fin grid0.N, t.val < 32 → cfg0.idle 25 (cfg0.grid.coords t) = false)

theorem flush25 : ∀ t : Fin cfg0.N, (cfg0.win 25).flush t = true ↔ ¬t.val = 31 :=
  (by decide +kernel : ∀ t : Fin grid0.N, (cfg0.win 25).flush t = true ↔ ¬t.val = 31)

/-- At the last point the rows' tile is what the point before left. -/
theorem before0_25_C (c : Dev nD) (t : Fin cfg0.N) (h2 : t.val = 32) (d) : (dats m 0 c).before 25 t d = tileAt m c t := by
  rw [tileAt_C m c t h2, (dats m 0 c).before_of_pos 25 t (by omega) ((cfg0.win 25).fetch_out rfl t),
    if_neg (fun h => (flush25 _).mp h (by dsimp only; omega))]
  unfold Dat.left
  rw [idle25 ⟨t.val - 1, _⟩ (by dsimp only; omega)]
  dsimp only
  unfold Dat.kept
  rw [Pipeline.fill_of_clip_none (cfg := cfg0) 25 _ (fun _ => rfl) d ((dats m 0 c).after 25 _), Window.fill_cut, after0_25]

/-- The rows' tile at what is written back is what the point leaves. -/
theorem leaves25 (c : Dev nD) (t : Fin cfg0.N) :
    (owns (c : Thread nD τ) (ms0_25 t) fullShare ((dats m 0 c).after 25 t) : sProp 𝕄) ⊢ (dats m 0 c).leavesExact 25 t := by
  have hN : t.val < 33 := lt_of_lt_of_eq t.isLt (show cfg0.N = 33 from N_0)
  unfold Dat.leavesExact
  by_cases h : t.val < 32
  · rw [idle25 t h]
  · rw [(flush25 t).mpr (by omega)]
    split <;> exact .rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ X, owns (c : Thread nD τ) (ms0_26 t) fullShare X)
    ∗ (∃ X, owns (c : Thread nD τ) (ms0_27 t) fullShare X))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ (dats m 0 c).leavesExact 25 t
    ∗ (∃ X, owns (c : Thread nD τ) (ms0_26 t) fullShare X)
    ∗ (∃ X, owns (c : Thread nD τ) (ms0_27 t) fullShare X))

set_option maxHeartbeats 6400000 in
/-- The body at any point: one of the three runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  rw [show (dats m 0 c).Φ t.castSucc = Pipeline.ΦA spec0 c from rfl, PhiA0_eq]
  have hN : t.val < 33 := lt_of_lt_of_eq t.isLt (show cfg0.N = 33 from N_0)
  have h25 := leaves25 m c t
  rw [after0_25] at h25
  by_cases h0 : t.val = 0
  · rw [tileAt_A m c t h0] at h25
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
    iapply ((ffnRun_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ ((hcond0 t).mpr h0) ((hcond1 t).mpr (by omega)) (fun h => by have := (hcond2 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexists _; iexact H25
    isplitl [H26]; · iexists _; iexact H26
    isplitl [H27]; · iexists _; iexact H27
    isplitl [HS0]; · iexact HS0
    iintro ⟨H0, H1, H2, H3, H4, H5, H6, H7, H8, H9, H10, H11, H12, H13, H14, H15, H16, H17, H18, H19, H20, H21, H22, H23, H24, ⟨%e25, H25⟩, H26, H27, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]
    · iapply h25; unfold owns; iexists _; isplitr
      swap; · iexact H25
      ipureintro; exact View.read_writes_of_cover _ _ _ _ _ (cover_A m c t h0)
    isplitl [H26]; · iexact H26
    iexact H27
  by_cases h1 : t.val < 32
  · rw [tileAt_B m c t h0 h1] at h25
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
    iapply ((ffnRun_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0 t).mp h)) ((hcond1 t).mpr h1) (fun h => by have := (hcond2 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexists _; iexact H25
    isplitl [H26]; · iexists _; iexact H26
    isplitl [H27]; · iexists _; iexact H27
    isplitl [HS0]; · iexact HS0
    iintro ⟨H0, H1, H2, H3, H4, H5, H6, H7, H8, H9, H10, H11, H12, H13, H14, H15, H16, H17, H18, H19, H20, H21, H22, H23, H24, ⟨%e25, H25⟩, H26, H27, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]
    · iapply h25; unfold owns; iexists _; isplitr
      swap; · iexact H25
      ipureintro; exact View.read_writes_of_cover _ _ _ _ _ (cover_B m c t h0 h1)
    isplitl [H26]; · iexact H26
    iexact H27
  · have h2 : t.val = 32 := by omega
    simp only [before0_25_C m c t h2]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
    iapply ((ffnRun_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (fun h => by have := (hcond0 t).mp h; omega) (fun h => by have := (hcond1 t).mp h; omega) ((hcond2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (tileAt m c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexists _; iexact H26
    isplitl [H27]; · iexists _; iexact H27
    isplitl [HS0]; · iexact HS0
    iintro ⟨H0, H1, H2, H3, H4, H5, H6, H7, H8, H9, H10, H11, H12, H13, H14, H15, H16, H17, H18, H19, H20, H21, H22, H23, H24, H25, H26, H27, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]
    · iapply h25; iexact H25
    isplitl [H26]; · iexact H26
    iexact H27

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run: every array the call stages, and no counter raised. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 1680000 in
/-- The call ends with the rows at what the points' tiles leave, its arguments as they were and no counter raised. -/
theorem run_rows : θ_run defs (onTc (τ := τ) (main (F := F))) ⟨m, fun _ => 0, ρ⟩ (fun r => (∀ c : Dev nD,
      r.2.mem ((c.tc : Thread nD τ).loc main_v5_0) = (dats m 0 c).arrAt 25 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) ∧ r.2.sem = fun _ => 0) :=
  (θ_run defs _ _).mono (fun r h => ⟨fun c => ⟨((dats m 0 c).toRForget_arrAt_iff (fgt := fgt) (w := 25) (by rfl) _ _).mp ((h.1 c).1 25),
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      ((h.1 c).2 main_arg6 (Pipeline.mem_restRefs_of main_arg6 (by decide) (by decide))).trans (V_main_arg6 m c),
      (Pipeline.RDat.FramePost.arr_in h.1 c 7 rfl).trans ((A_eq m c 7).trans (V_main_arg7 m c)),
      (Pipeline.RDat.FramePost.arr_in h.1 c 8 rfl).trans ((A_eq m c 8).trans (V_main_arg8 m c)),
      ((h.1 c).2 main_arg9 (Pipeline.mem_restRefs_of main_arg9 (by decide) (by decide))).trans (V_main_arg9 m c),
      (Pipeline.RDat.FramePost.arr_in h.1 c 10 rfl).trans ((A_eq m c 10).trans (V_main_arg10 m c)),
      (Pipeline.RDat.FramePost.arr_in h.1 c 11 rfl).trans ((A_eq m c 11).trans (V_main_arg11 m c)),
      (Pipeline.RDat.FramePost.arr_in h.1 c 12 rfl).trans ((A_eq m c 12).trans (V_main_arg12 m c)),
      (Pipeline.RDat.FramePost.arr_in h.1 c 13 rfl).trans ((A_eq m c 13).trans (V_main_arg13 m c)),
      (Pipeline.RDat.FramePost.arr_in h.1 c 14 rfl).trans ((A_eq m c 14).trans (V_main_arg14 m c)),
      (Pipeline.RDat.FramePost.arr_in h.1 c 15 rfl).trans ((A_eq m c 15).trans (V_main_arg15 m c)),
      (Pipeline.RDat.FramePost.arr_in h.1 c 16 rfl).trans ((A_eq m c 16).trans (V_main_arg16 m c)),
      (Pipeline.RDat.FramePost.arr_in h.1 c 17 rfl).trans ((A_eq m c 17).trans (V_main_arg17 m c)),
      (Pipeline.RDat.FramePost.arr_in h.1 c 18 rfl).trans ((A_eq m c 18).trans (V_main_arg18 m c)),
      (Pipeline.RDat.FramePost.arr_in h.1 c 19 rfl).trans ((A_eq m c 19).trans (V_main_arg19 m c)),
      (Pipeline.RDat.FramePost.arr_in h.1 c 20 rfl).trans ((A_eq m c 20).trans (V_main_arg20 m c)),
      ((h.1 c).2 main_arg21 (Pipeline.mem_restRefs_of main_arg21 (by decide) (by decide))).trans (V_main_arg21 m c),
      (Pipeline.RDat.FramePost.arr_in h.1 c 22 rfl).trans ((A_eq m c 22).trans (V_main_arg22 m c)),
      (Pipeline.RDat.FramePost.arr_in h.1 c 23 rfl).trans ((A_eq m c 23).trans (V_main_arg23 m c)),
      ((h.1 c).2 main_arg24 (Pipeline.mem_restRefs_of main_arg24 (by decide) (by decide))).trans (V_main_arg24 m c)⟩, h.2⟩)
    (run_main_quiescent m ρ)

/-- The arguments end as they were, and no counter raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) ∧ r.2.sem = fun _ => 0) :=
  (θ_run defs _ _).mono (fun _ h => ⟨fun c => (h.1 c).2, h.2⟩) (run_rows m ρ)

end Cert.FfnIdeal.Own

end

end
-- ==== Proof.FfnArrs.lean ====
/- The block's call's rows, by coordinates. -/
module

public import proofs.«01_k».proof.Proof.FfnArgs
public import proofs.«01_k».proof.Proof.FfnIdealFrame
public import Idealize.ShloMosaic.Lib.VecWindow

@[expose] public section

set_option maxRecDepth 16384

noncomputable section

namespace Cert.Ffns

open Idealize.ShloMosaic Idealize.ShloMosaic.TcCoe Cert.Mixer Cert.FfnIdeal Cert.FfnIdeal.Gen Cert.FfnIdeal.Own

variable (m : (ℓ : Loc nD τ Cert.FfnIdeal.sig) → Buf (Elt Ideal) ℓ) (c : Dev nD)

theorem ix2_of {n p : ℕ} (y : (⟨2, ![n, p]⟩ : Shape).Idx) : y = ix2 ⟨(y 0).val, (y 0).isLt⟩ ⟨(y 1).val, (y 1).isLt⟩ := by
  funext a
  fin_cases a <;> rfl

/-- A whole memref's load of its own sizes reads its contents. -/
theorem ldw {sp : Space} {s : Shape} {e : EltTy} (mm : Memref Cert.FfnIdeal.sig .tc sp s e) (h : mm.IsWhole) (X : Vec Ideal s e) {off : Fin s.rank → ℕ}
    (inb : ∀ a, off a + s.size a ≤ s.size a) : View.readAt (Elt Ideal) mm.view (Rect.unit off s.size inb).toLoadRect (h.unread X) = X :=
  (View.readAt_full mm.view _ inb).trans (h.read_unread X)

theorem ld_0 (t : Fin cfg0.N) (X : Vec Ideal S512x1024 .f32) :
    View.readAt (Elt Ideal) (ms0_0 t).view (Rect.unit ![0, 0] ![512, 1024] inb_S512x1024_S512x1024_0_0).toLoadRect ((hs0_0 t).unread X) = X := ldw _ _ X _

theorem ld_1 (t : Fin cfg0.N) (X : Vec Ideal S512x256 .f32) :
    View.readAt (Elt Ideal) (ms0_1 t).view (Rect.unit ![0, 0] ![512, 256] inb_S512x256_S512x256_0_0).toLoadRect ((hs0_1 t).unread X) = X := ldw _ _ X _

theorem ld_2 (t : Fin cfg0.N) (X : Vec Ideal S1x1024 .f32) :
    View.readAt (Elt Ideal) (ms0_2 t).view (Rect.unit ![0, 0] ![1, 1024] inb_S1x1024_S1x1024_0_0).toLoadRect ((hs0_2 t).unread X) = X := ldw _ _ X _

theorem ld_3 (t : Fin cfg0.N) (X : Vec Ideal S1024x2816 .bf16) :
    View.readAt (Elt Ideal) (ms0_3 t).view (Rect.unit ![0, 0] ![1024, 2816] inb_S1024x2816_S1024x2816_0_0).toLoadRect ((hs0_3 t).unread X) = X := ldw _ _ X _

theorem ld_4 (t : Fin cfg0.N) (X : Vec Ideal S1024x2816 .bf16) :
    View.readAt (Elt Ideal) (ms0_4 t).view (Rect.unit ![0, 0] ![1024, 2816] inb_S1024x2816_S1024x2816_0_0).toLoadRect ((hs0_4 t).unread X) = X := ldw _ _ X _

theorem ld_5 (t : Fin cfg0.N) (X : Vec Ideal S2816x1024 .bf16) :
    View.readAt (Elt Ideal) (ms0_5 t).view (Rect.unit ![0, 0] ![2816, 1024] inb_S2816x1024_S2816x1024_0_0).toLoadRect ((hs0_5 t).unread X) = X := ldw _ _ X _

theorem ld_6 (t : Fin cfg0.N) (X : Vec Ideal S1x1024 .f32) :
    View.readAt (Elt Ideal) (ms0_6 t).view (Rect.unit ![0, 0] ![1, 1024] inb_S1x1024_S1x1024_0_0).toLoadRect ((hs0_6 t).unread X) = X := ldw _ _ X _

theorem ld_7 (t : Fin cfg0.N) (X : Vec Ideal S256x1024 .bf16) :
    View.readAt (Elt Ideal) (ms0_7 t).view (Rect.unit ![0, 0] ![256, 1024] inb_S256x1024_S256x1024_0_0).toLoadRect ((hs0_7 t).unread X) = X := ldw _ _ X _

theorem ld_8 (t : Fin cfg0.N) (X : Vec Ideal S1024x1024 .bf16) :
    View.readAt (Elt Ideal) (ms0_8 t).view (Rect.unit ![0, 0] ![1024, 1024] inb_S1024x1024_S1024x1024_0_0).toLoadRect ((hs0_8 t).unread X) = X := ldw _ _ X _

theorem ld_9 (t : Fin cfg0.N) (X : Vec Ideal S1x1024 .f32) :
    View.readAt (Elt Ideal) (ms0_9 t).view (Rect.unit ![0, 0] ![1, 1024] inb_S1x1024_S1x1024_0_0).toLoadRect ((hs0_9 t).unread X) = X := ldw _ _ X _

/-- The tile stored at the first point. -/
theorem tile_A (t : Fin cfg0.N) (h0 : t.val = 0) : tileAt m c t =
    k0_pay7 (iblk m c 0 t) (iblk m c 1 t) (k0_pay4 (iblk m c 0 t) (iblk m c 2 t) (iblk m c 3 t) (iblk m c 4 t) (iblk m c 5 t)) (k0_pay5 (iblk m c 6 t))
        (k0_pay6 (iblk m c 0 t) (iblk m c 2 t) (iblk m c 3 t) (iblk m c 4 t) (iblk m c 5 t)) (iblk m c 7 t) (iblk m c 8 t) (iblk m c 9 t) := by
  rw [tileAt_A m c t h0]
  unfold pcs_A ffnRun_A
  refine (View.read_writes_full _ _ _ _ _).trans ?_
  dsimp only
  simp only [ld_0, ld_1, ld_2, ld_3, ld_4, ld_5, ld_6, ld_7, ld_8, ld_9]

/-- The tile stored at a point between. -/
theorem tile_B (t : Fin cfg0.N) (h0 : ¬t.val = 0) (h1 : t.val < 32) : tileAt m c t =
    k0_pay7 (iblk m c 0 t) (iblk m c 1 t) (k0_pay4 (iblk m c 0 t) (iblk m c 2 t) (iblk m c 3 t) (iblk m c 4 t) (iblk m c 5 t)) (k0_pay5 (iblk m c 6 t))
        (k0_pay6 (iblk m c 0 t) (iblk m c 2 t) (iblk m c 3 t) (iblk m c 4 t) (iblk m c 5 t)) (iblk m c 7 t) (iblk m c 8 t) (iblk m c 9 t) := by
  rw [tileAt_B m c t h0 h1]
  unfold pcs_B ffnRun_B
  refine (View.read_writes_full _ _ _ _ _).trans ?_
  dsimp only
  simp only [ld_0, ld_1, ld_2, ld_3, ld_4, ld_5, ld_6, ld_7, ld_8, ld_9]

/-- The tile after a point, by coordinates. -/
theorem tile_at (t : Fin cfg0.N) (r : Fin 512) (j : Fin 1024) : tileAt m c t (ix2 r j) =
    (W0 m c).row (xrow (m ((c : Thread nD τ).loc main_arg0)) (tok t.val r)) (prow (m ((c : Thread nD τ).loc main_arg1)) (tok t.val r)) j := by
  have hN : t.val < 33 := lt_of_lt_of_eq t.isLt (show cfg0.N = 33 from N_0)
  by_cases h0 : t.val = 0
  · rw [tile_A m c t h0]; exact tile_rows m c t r j
  · by_cases h1 : t.val < 32
    · rw [tile_B m c t h0 h1]; exact tile_rows m c t r j
    · have h2 : t.val = 32 := by omega
      rw [tileAt_C m c t h2, tile_B m c _ (by show ¬t.val - 1 = 0; omega) (by show t.val - 1 < 32; omega), tile_rows]
      have e : tok (t.val - 1) r = tok t.val r := Fin.ext (by show min (t.val - 1) 31 * 512 + r.val = min t.val 31 * 512 + r.val; omega)
      show (W0 m c).row (xrow _ (tok (t.val - 1) r)) (prow _ (tok (t.val - 1) r)) j = _
      rw [e]

theorem idx25 : ∀ t : Fin cfg0.N, win0_25.index t 0 = min t.val 31 ∧ win0_25.index t 1 = 0 :=
  (by decide +kernel : ∀ t : Fin grid0.N, win0_25.index t 0 = min t.val 31 ∧ win0_25.index t 1 = 0)

/-- The rows, by coordinates. -/
theorem arr_rows : (Own.dats m 0 c).arrAt 25 cfg0.N = fun i : S16384x1024.Idx =>
    (W0 m c).row (xrow (m ((c : Thread nD τ).loc main_arg0)) ⟨(i 0).val, (i 0).isLt⟩) (prow (m ((c : Thread nD τ).loc main_arg1)) ⟨(i 0).val, (i 0).isLt⟩) ⟨(i 1).val, (i 1).isLt⟩ := by
  refine (Own.dats m 0 c).arrAt_eq_of_covers 25 _ (by decide +kernel) fun t hf y => ?_
  have h := idx25 t
  blk_simp [h.1, h.2]
  rw [Own.after0_25]
  refine (congrArg (tileAt m c t) (ix2_of y)).trans ((tile_at m c t _ _).trans ?_)
  rfl

end Cert.Ffns

end

end
-- ==== Proof.FfnResults.lean ====
/- The block's call's rows are the reference's. -/
module

public import proofs.«01_k».proof.Proof.FfnArrs

@[expose] public section

set_option maxRecDepth 16384

noncomputable section

namespace Cert.Ffns

open Idealize.ShloMosaic Cert.Mixer Cert.FfnRefIdeal.Read

variable (m : (ℓ : Loc Cert.FfnIdeal.nD Cert.FfnIdeal.τ Cert.FfnIdeal.sig) → Buf (Elt Ideal) ℓ) (c : Dev Cert.FfnIdeal.nD)

theorem same_rows : (Cert.FfnIdeal.Own.dats m 0 c).arrAt 25 Cert.FfnIdeal.cfg0.N =
    val_main_v59 (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) := by
  refine (arr_rows m c).trans (funext fun i => ?_)
  obtain ⟨r, j, rfl⟩ : ∃ (r : Fin 16384) (j : Fin 1024), i = ix2 r j :=
    ⟨i 0, i 1, by funext a; fin_cases a <;> rfl⟩
  exact (ref_row (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) r j).symm

end Cert.Ffns

end

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Sample
public import proofs.«01_k».proof.Proof.Gen.Sample.Frame
public import proofs.«01_k».proof.Proof.Gen.SampleIdeal
public import proofs.«01_k».proof.Proof.Gen.SampleIdeal.Frame
public import proofs.«01_k».proof.Proof.Gen.SampleRefIdeal
public import proofs.«01_k».proof.Proof.Gen.SampleRefIdeal.Run
public import proofs.«01_k».proof.Proof.Gen.SampleRefIdeal.Read
public import proofs.«01_k».proof.Proof.Gen.FfnIdeal
public import proofs.«01_k».proof.Proof.Gen.FfnIdeal.Frame
public import proofs.«01_k».proof.Proof.Gen.FfnIdeal.Skeleton
public import proofs.«01_k».proof.Proof.Gen.Ffn.Skeleton
public import proofs.«01_k».proof.Proof.Gen.Ffn
public import proofs.«01_k».proof.Proof.Gen.Ffn.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Results
public import proofs.«01_k».proof.Proof.SampleRun
public import proofs.«01_k».proof.Proof.SampleResults
public import proofs.«01_k».proof.Proof.FfnFrame
public import proofs.«01_k».proof.Proof.FfnResults
public import Idealize.ShloMosaic.Adequacy
public import Idealize.ShloMosaic.Init

@[expose] public section

set_option maxRecDepth 16384

noncomputable section

namespace Cert.Proof

open Idealize.ShloMosaic Idealize.SL.Sem

/-- The reference ends without fault, with its arguments as they were and no counter raised. -/
theorem frame_reference : Cert.quiescent_ReferenceIdeal := fun m g _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m g)

/-- The two named constants are the reals that their words round. -/
theorem preserves : Cert.preserves_Kernel_KernelIdeal :=
  ⟨IdealRules.named_const.statement Cert.KernelIdeal.κ "neg_log2e" .f32 0xBFB8AA3B#32 ((-((Real.log 2)⁻¹) : ℝ) : EReal) rfl,
    IdealRules.named_const.statement Cert.KernelIdeal.κ "log2e_gate" .f32 0x3DB8AA3B#32 (((1 / 16) * (Real.log 2)⁻¹ : ℝ) : EReal) rfl⟩

/-- On finite arguments the call's three results are the reference's. -/
theorem algebraic : Cert.algebraic_KernelIdeal_ReferenceIdeal_pre_finite (hPre_finite := Cert.Mixer.pre_facts) := by
  intro m g m' g' hp hagree
  refine ⟨_, _, _, Cert.KernelIdeal.Value.run_blocks (F := Ideal) m g, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' g')
  · refine (Cert.ReferenceIdeal.Read.val_main_v150_eq _).trans ?_
    obtain ⟨h0, h1, h2, h3, h4, h5, h6, h7, h8, h9, h10, h11, h12⟩ := hagree c
    refine Eq.trans ?_ (Cert.Mixer.same_h m hp c).symm
    rw [← h0, ← h1, ← h2, ← h3, ← h4, ← h5, ← h6, ← h7, ← h8, ← h9, ← h10, ← h11, ← h12]
  · refine (Cert.ReferenceIdeal.Read.val_main_v151_eq _).trans ?_
    obtain ⟨h0, h1, h2, h3, h4, -⟩ := hagree c
    refine Eq.trans ?_ (Cert.Mixer.same_buf m hp c).symm
    rw [← h0, ← h1, ← h2, ← h3, ← h4]
  · refine (Cert.ReferenceIdeal.Read.val_main_v152_eq _).trans ?_
    obtain ⟨h0, h1, h2, h3, h4, h5, h6, -⟩ := hagree c
    refine Eq.trans ?_ (Cert.Mixer.same_state m hp c).symm
    rw [← h0, ← h1, ← h2, ← h3, ← h4, ← h5, ← h6]

/-- The samples' reference leaves its arguments as they were. -/
theorem frame_sample_ref : Cert.quiescent_SampleRefIdeal := fun m g _ =>
  (θ_run Cert.SampleRefIdeal.defs _ _).mono (fun r h => ⟨fun c => (h c).2.2.2.2.2.2.2.2.2.2.2,
      Idealize.ShloMosaic.sem_eq_zero_of_no_sems (by decide) r.2⟩)
    (Cert.SampleRefIdeal.Value.run (F := Ideal) m g)

/-- The samples' call names the same two constants. -/
theorem preserves_sample : Cert.preserves_Sample_SampleIdeal :=
  ⟨IdealRules.named_const.statement Cert.SampleIdeal.κ "neg_log2e" .f32 0xBFB8AA3B#32 ((-((Real.log 2)⁻¹) : ℝ) : EReal) rfl,
    IdealRules.named_const.statement Cert.SampleIdeal.κ "log2e_gate" .f32 0x3DB8AA3B#32 (((1 / 16) * (Real.log 2)⁻¹ : ℝ) : EReal) rfl⟩

set_option maxHeartbeats 2000000 in
/-- On any arguments the samples' call's eleven results are the reference's. -/
theorem algebraic_sample : Cert.algebraic_SampleIdeal_SampleRefIdeal := by
  intro m g m' g' _ hagree
  refine ⟨_, _, _, _, _, _, _, _, _, _, _, Cert.Samples.run_arrays m g, ?_⟩
  refine (θ_run Cert.SampleRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2⟩)
    (Cert.SampleRefIdeal.Value.run (F := Ideal) m' g')
  · refine (Cert.SampleRefIdeal.Read.val_main_v51_eq (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg3)) (m' ((c.tc : Thread Cert.SampleRefIdeal.nD Cert.SampleRefIdeal.τ).loc Cert.SampleRefIdeal.main_arg4)) (m' ((c.tc : Thread Cert.SampleRefIdeal.nD Cert.SampleRefIdeal.τ).loc Cert.SampleRefIdeal.main_arg5)) (m' ((c.tc : Thread Cert.SampleRefIdeal.nD Cert.SampleRefIdeal.τ).loc Cert.SampleRefIdeal.main_arg6))).trans ?_
    obtain ⟨h0, h1, -, h3, h4, h5, h6, -, -, -, -⟩ := hagree c
    refine Eq.trans ?_ (Cert.Samples.same_conv m c).symm
    rw [← h0, ← h1, ← h3, ← h4, ← h5, ← h6]
  · refine (Cert.SampleRefIdeal.Read.val_main_v65_eq (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg3)) (m' ((c.tc : Thread Cert.SampleRefIdeal.nD Cert.SampleRefIdeal.τ).loc Cert.SampleRefIdeal.main_arg4)) (m' ((c.tc : Thread Cert.SampleRefIdeal.nD Cert.SampleRefIdeal.τ).loc Cert.SampleRefIdeal.main_arg5)) (m' ((c.tc : Thread Cert.SampleRefIdeal.nD Cert.SampleRefIdeal.τ).loc Cert.SampleRefIdeal.main_arg6))).trans ?_
    obtain ⟨h0, -, -, h3, h4, h5, h6, -, -, -, -⟩ := hagree c
    refine Eq.trans ?_ (Cert.Samples.same_q m c).symm
    rw [← h0, ← h3, ← h4, ← h5, ← h6]
  · refine (Cert.SampleRefIdeal.Read.val_main_v66_eq (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg3)) (m' ((c.tc : Thread Cert.SampleRefIdeal.nD Cert.SampleRefIdeal.τ).loc Cert.SampleRefIdeal.main_arg4)) (m' ((c.tc : Thread Cert.SampleRefIdeal.nD Cert.SampleRefIdeal.τ).loc Cert.SampleRefIdeal.main_arg5)) (m' ((c.tc : Thread Cert.SampleRefIdeal.nD Cert.SampleRefIdeal.τ).loc Cert.SampleRefIdeal.main_arg6))).trans ?_
    obtain ⟨h0, -, -, h3, h4, h5, h6, -, -, -, -⟩ := hagree c
    refine Eq.trans ?_ (Cert.Samples.same_k m c).symm
    rw [← h0, ← h3, ← h4, ← h5, ← h6]
  · refine (Cert.SampleRefIdeal.Read.val_main_v67_eq m' c).trans ?_
    obtain ⟨h0, -, -, h3, h4, h5, h6, h7, h8, -, -⟩ := hagree c
    refine Eq.trans ?_ (Cert.Samples.same_decay m c).symm
    rw [← h0, ← h3, ← h4, ← h5, ← h6, ← h7, ← h8]
  · refine (Cert.SampleRefIdeal.Read.val_main_v68_eq (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg3)) (m' ((c.tc : Thread Cert.SampleRefIdeal.nD Cert.SampleRefIdeal.τ).loc Cert.SampleRefIdeal.main_arg4)) (m' ((c.tc : Thread Cert.SampleRefIdeal.nD Cert.SampleRefIdeal.τ).loc Cert.SampleRefIdeal.main_arg5)) (m' ((c.tc : Thread Cert.SampleRefIdeal.nD Cert.SampleRefIdeal.τ).loc Cert.SampleRefIdeal.main_arg6))).trans ?_
    obtain ⟨h0, -, -, h3, h4, h5, h6, -, -, -, -⟩ := hagree c
    refine Eq.trans ?_ (Cert.Samples.same_v m c).symm
    rw [← h0, ← h3, ← h4, ← h5, ← h6]
  · refine (Cert.SampleRefIdeal.Read.val_main_v69_eq m' c).trans ?_
    obtain ⟨h0, h1, -, h3, h4, h5, h6, -, -, h9, h10⟩ := hagree c
    refine Eq.trans ?_ (Cert.Samples.same_ya m c).symm
    rw [← h0, ← h1, ← h3, ← h4, ← h5, ← h6, ← h9, ← h10]
  · refine (Cert.SampleRefIdeal.Read.val_main_v70_eq (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg3)) (m' ((c.tc : Thread Cert.SampleRefIdeal.nD Cert.SampleRefIdeal.τ).loc Cert.SampleRefIdeal.main_arg4)) (m' ((c.tc : Thread Cert.SampleRefIdeal.nD Cert.SampleRefIdeal.τ).loc Cert.SampleRefIdeal.main_arg5)) (m' ((c.tc : Thread Cert.SampleRefIdeal.nD Cert.SampleRefIdeal.τ).loc Cert.SampleRefIdeal.main_arg6))).trans ?_
    obtain ⟨h0, -, -, h3, h4, h5, h6, -, -, -, -⟩ := hagree c
    refine Eq.trans ?_ (Cert.Samples.same_g m c).symm
    rw [← h0, ← h3, ← h4, ← h5, ← h6]
  · refine (Cert.SampleRefIdeal.Read.val_main_v71_eq (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg3)) (m' ((c.tc : Thread Cert.SampleRefIdeal.nD Cert.SampleRefIdeal.τ).loc Cert.SampleRefIdeal.main_arg4)) (m' ((c.tc : Thread Cert.SampleRefIdeal.nD Cert.SampleRefIdeal.τ).loc Cert.SampleRefIdeal.main_arg5)) (m' ((c.tc : Thread Cert.SampleRefIdeal.nD Cert.SampleRefIdeal.τ).loc Cert.SampleRefIdeal.main_arg6))).trans ?_
    obtain ⟨h0, -, -, h3, h4, h5, h6, -, -, -, -⟩ := hagree c
    refine Eq.trans ?_ (Cert.Samples.same_ga m c).symm
    rw [← h0, ← h3, ← h4, ← h5, ← h6]
  · refine (Cert.SampleRefIdeal.Read.val_main_v72_eq (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg3)) (m' ((c.tc : Thread Cert.SampleRefIdeal.nD Cert.SampleRefIdeal.τ).loc Cert.SampleRefIdeal.main_arg4)) (m' ((c.tc : Thread Cert.SampleRefIdeal.nD Cert.SampleRefIdeal.τ).loc Cert.SampleRefIdeal.main_arg5)) (m' ((c.tc : Thread Cert.SampleRefIdeal.nD Cert.SampleRefIdeal.τ).loc Cert.SampleRefIdeal.main_arg6))).trans ?_
    obtain ⟨h0, -, -, h3, h4, h5, h6, -, -, -, -⟩ := hagree c
    refine Eq.trans ?_ (Cert.Samples.same_gb m c).symm
    rw [← h0, ← h3, ← h4, ← h5, ← h6]
  · refine (Cert.SampleRefIdeal.Read.val_main_v73_eq (m' ((c.tc : Thread Cert.SampleRefIdeal.nD Cert.SampleRefIdeal.τ).loc Cert.SampleRefIdeal.main_arg0))).trans ?_
    obtain ⟨h0, -, -, -, -, -, -, -, -, -, -⟩ := hagree c
    refine Eq.trans ?_ (Cert.Samples.same_xs m c).symm
    rw [← h0]
  · refine (Cert.SampleRefIdeal.Read.val_main_v74_eq (m' ((c.tc : Thread Cert.SampleRefIdeal.nD Cert.SampleRefIdeal.τ).loc Cert.SampleRefIdeal.main_arg2))).trans ?_
    obtain ⟨-, -, h2, -, -, -, -, -, -, -, -⟩ := hagree c
    refine Eq.trans ?_ (Cert.Samples.same_ps m c).symm
    rw [← h2]

/-- The block's reference leaves its arguments as they were. -/
theorem frame_ffn_ref : Cert.quiescent_FfnRefIdeal := fun m g _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m g)

/-- The block's call names one of the two constants. -/
theorem preserves_ffn : Cert.preserves_Ffn_FfnIdeal :=
  IdealRules.named_const.statement Cert.FfnIdeal.κ "neg_log2e" .f32 0xBFB8AA3B#32 ((-((Real.log 2)⁻¹) : ℝ) : EReal) rfl

set_option maxHeartbeats 2000000 in
/-- On any arguments the rows that the block's call returns are the reference's. -/
theorem algebraic_ffn : Cert.algebraic_FfnIdeal_FfnRefIdeal := by
  intro m g m' g' _ hagree
  refine ⟨_, (θ_run Cert.FfnIdeal.defs _ _).mono (fun r h => h.1) (Cert.FfnIdeal.Own.run_rows m g), ?_⟩
  refine (θ_run Cert.FfnRefIdeal.defs _ _).mono (fun _ h c => ⟨(h c).1.trans ?_, (h c).2⟩)
    (Cert.FfnRefIdeal.Value.run (F := Ideal) m' g')
  refine (Cert.FfnRefIdeal.Read.val_main_v59_eq m' c).trans ?_
  obtain ⟨h0, h1, h2, h3, h4, h5, h6, h7, h8, h9, -⟩ := hagree c
  refine Eq.trans ?_ (Cert.Ffns.same_rows m c).symm
  rw [← h0, ← h1, ← h2, ← h3, ← h4, ← h5, ← h6, ← h7, ← h8, ← h9]

/-- All the claims of the certificate. -/
theorem claim : Cert.Claim :=
  ⟨Cert.Kernel.Gen.facts, Cert.KernelIdeal.Gen.facts, Cert.ReferenceIdeal.Gen.facts, Cert.Sample.Gen.facts, Cert.SampleIdeal.Gen.facts,
    Cert.SampleRefIdeal.Gen.facts, Cert.Ffn.Gen.facts, Cert.FfnIdeal.Gen.facts, Cert.FfnRefIdeal.Gen.facts, Cert.Mixer.pre_facts,
    fun m g _ => Cert.Kernel.Gen.frame m g, fun m g _ => Cert.KernelIdeal.Gen.frame m g, fun m g _ => Cert.KernelIdeal.Gen.frame m g,
    frame_reference, fun m g _ => frame_reference m g trivial,
    fun m g _ => Cert.Sample.Gen.frame m g, fun m g _ => Cert.SampleIdeal.Gen.frame m g, frame_sample_ref,
    fun m g _ => Cert.Ffn.Own.frame m g, fun m g _ => Cert.FfnIdeal.Own.frame m g, frame_ffn_ref,
    preserves, algebraic, preserves_sample, algebraic_sample, preserves_ffn, algebraic_ffn⟩

end Cert.Proof

end
